-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_finite_rows [hPre_finite_rows : Cert.Pre_finite_rows.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_finite_rows_and_scales [hPre_finite_rows_and_scales : Cert.Pre_finite_rows_and_scales.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_rows [hPre_finite_rows : Cert.Pre_finite_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_ReferenceIdeal_finite_rows_and_scales [hPre_finite_rows_and_scales : Cert.Pre_finite_rows_and_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows_and_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_rows [hKernelIdeal : Cert.KernelIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_rows_and_scales [hKernelIdeal : Cert.KernelIdeal.Facts] [hPre_finite_rows_and_scales : Cert.Pre_finite_rows_and_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows_and_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_rows [hReferenceIdeal : Cert.ReferenceIdeal.Facts] [hPre_finite_rows : Cert.Pre_finite_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_rows_and_scales [hReferenceIdeal : Cert.ReferenceIdeal.Facts] [hPre_finite_rows_and_scales : Cert.Pre_finite_rows_and_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows_and_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_nn" .f32 0x354A4588#32 ((1 / 1327104 : ℝ) : EReal)
  ∧ IdealRules.named_const.Statement Cert.KernelIdeal.κ "inv_n" .f32 0x3A638E39#32 ((1 / 1152 : ℝ) : EReal)

def algebraic_KernelIdeal_ReferenceIdeal_on_block_sums_pre_finite_rows [hKernelIdeal : Cert.KernelIdeal.Facts] [hReferenceIdeal : Cert.ReferenceIdeal.Facts] [hPre_finite_rows : Cert.Pre_finite_rows.Facts] [hOn_block_sums : Cert.On_block_sums.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![163840, 1152]⟩ : Shape).Idx, (Cert.On_block_sums.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v6_0) i = v0 c i)
          ∧ (∀ i : (⟨3, ![5, 3, 1152]⟩ : Shape).Idx, (Cert.On_block_sums.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v6_1) i = v1 c i)
          ∧ (∀ i : (⟨3, ![1280, 3, 1152]⟩ : Shape).Idx, (Cert.On_block_sums.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 i = 1#1 → r.2.mem ((c.tc : Thread Cert.KernelIdeal.nD Cert.KernelIdeal.τ).loc Cert.KernelIdeal.main_v6_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![163840, 1152]⟩ : Shape).Idx, (Cert.On_block_sums.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.ReferenceIdeal.nD Cert.ReferenceIdeal.τ).loc Cert.ReferenceIdeal.main_v6_0) i = v0 c i)
          ∧ (∀ i : (⟨3, ![5, 3, 1152]⟩ : Shape).Idx, (Cert.On_block_sums.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.ReferenceIdeal.nD Cert.ReferenceIdeal.τ).loc Cert.ReferenceIdeal.main_v6_1) i = v1 c i)
          ∧ (∀ i : (⟨3, ![1280, 3, 1152]⟩ : Shape).Idx, (Cert.On_block_sums.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 i = 1#1 → r.2.mem ((c.tc : Thread Cert.ReferenceIdeal.nD Cert.ReferenceIdeal.τ).loc Cert.ReferenceIdeal.main_v6_2) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def algebraic_KernelIdeal_ReferenceIdeal_on_one_sample_rows_pre_finite_rows_and_scales [hKernelIdeal : Cert.KernelIdeal.Facts] [hReferenceIdeal : Cert.ReferenceIdeal.Facts] [hPre_finite_rows_and_scales : Cert.Pre_finite_rows_and_scales.Facts] [hOn_one_sample_rows : Cert.On_one_sample_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows_and_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![163840, 1152]⟩ : Shape).Idx, (Cert.On_one_sample_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v6_0) i = v0 c i)
          ∧ (∀ i : (⟨3, ![5, 3, 1152]⟩ : Shape).Idx, (Cert.On_one_sample_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v6_1) i = v1 c i)
          ∧ (∀ i : (⟨3, ![1280, 3, 1152]⟩ : Shape).Idx, (Cert.On_one_sample_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 i = 1#1 → r.2.mem ((c.tc : Thread Cert.KernelIdeal.nD Cert.KernelIdeal.τ).loc Cert.KernelIdeal.main_v6_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![163840, 1152]⟩ : Shape).Idx, (Cert.On_one_sample_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.ReferenceIdeal.nD Cert.ReferenceIdeal.τ).loc Cert.ReferenceIdeal.main_v6_0) i = v0 c i)
          ∧ (∀ i : (⟨3, ![5, 3, 1152]⟩ : Shape).Idx, (Cert.On_one_sample_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.ReferenceIdeal.nD Cert.ReferenceIdeal.τ).loc Cert.ReferenceIdeal.main_v6_1) i = v1 c i)
          ∧ (∀ i : (⟨3, ![1280, 3, 1152]⟩ : Shape).Idx, (Cert.On_one_sample_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 i = 1#1 → r.2.mem ((c.tc : Thread Cert.ReferenceIdeal.nD Cert.ReferenceIdeal.τ).loc Cert.ReferenceIdeal.main_v6_2) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts) (hPre_finite_rows : Cert.Pre_finite_rows.Facts) (hPre_finite_rows_and_scales : Cert.Pre_finite_rows_and_scales.Facts) (hOn_block_sums : Cert.On_block_sums.Facts) (hOn_one_sample_rows : Cert.On_one_sample_rows.Facts),
    quiescent_Kernel (hKernel := hKernel) (hPre_in_range := hPre_in_range)
    ∧ quiescent_KernelIdeal (hKernelIdeal := hKernelIdeal) (hPre_in_range := hPre_in_range)
    ∧ quiescent_KernelIdeal_pre_finite_rows (hKernelIdeal := hKernelIdeal) (hPre_finite_rows := hPre_finite_rows)
    ∧ quiescent_KernelIdeal_pre_finite_rows_and_scales (hKernelIdeal := hKernelIdeal) (hPre_finite_rows_and_scales := hPre_finite_rows_and_scales)
    ∧ quiescent_ReferenceIdeal (hReferenceIdeal := hReferenceIdeal)
    ∧ quiescent_ReferenceIdeal_pre_finite_rows (hReferenceIdeal := hReferenceIdeal) (hPre_finite_rows := hPre_finite_rows)
    ∧ quiescent_ReferenceIdeal_pre_finite_rows_and_scales (hReferenceIdeal := hReferenceIdeal) (hPre_finite_rows_and_scales := hPre_finite_rows_and_scales)
    ∧ preserves_Kernel_KernelIdeal
    ∧ algebraic_KernelIdeal_ReferenceIdeal_on_block_sums_pre_finite_rows (hKernelIdeal := hKernelIdeal) (hReferenceIdeal := hReferenceIdeal) (hPre_finite_rows := hPre_finite_rows) (hOn_block_sums := hOn_block_sums)
    ∧ algebraic_KernelIdeal_ReferenceIdeal_on_one_sample_rows_pre_finite_rows_and_scales (hKernelIdeal := hKernelIdeal) (hReferenceIdeal := hReferenceIdeal) (hPre_finite_rows_and_scales := hPre_finite_rows_and_scales) (hOn_one_sample_rows := hOn_one_sample_rows)
-- ==== On_block_sums.lean ====
abbrev S163840x1152 : Shape := ⟨2, ![163840, 1152]⟩
abbrev S163840 : Shape := ⟨1, ![163840]⟩
abbrev S5x1152 : Shape := ⟨2, ![5, 1152]⟩
abbrev S_ : Shape := ⟨0, ![]⟩
abbrev S5x3x1152 : Shape := ⟨3, ![5, 3, 1152]⟩
abbrev S1280x3x1152 : Shape := ⟨3, ![1280, 3, 1152]⟩

class Facts : Prop where
  bcast_S_S163840x1152 : S_.BroadcastsInDim S163840x1152 (![] : Fin 0 → Fin S163840x1152.rank)
  bcast_S_S5x3x1152 : S_.BroadcastsInDim S5x3x1152 (![] : Fin 0 → Fin S5x3x1152.rank)
  bcast_S_S1280x3x1152 : S_.BroadcastsInDim S1280x3x1152 (![] : Fin 0 → Fin S1280x3x1152.rank)

variable [Facts]

def fn {F : FTy → Type} [FloatOps F] (main_arg0 : IVec S163840x1152 8) (main_arg1 : FVec F S163840 .f32) (main_arg2 : FVec F S163840x1152 .bf16) (main_arg3 : FVec F S163840x1152 .fp8e5m2) (main_arg4 : FVec F S163840 .f32) (main_arg5 : IVec S163840x1152 8) (main_arg6 : FVec F S163840 .f32) (main_arg7 : IVec S163840 32) (main_arg8 : FVec F S5x1152 .f32) : IVec S163840x1152 1 × IVec S5x3x1152 1 × IVec S1280x3x1152 1 :=
  let main_c : IVec S_ 1 := constantI S_ 1 0#1
  let main_v0 : IVec S163840x1152 1 := broadcastInDim S163840x1152 ![] bcast_S_S163840x1152 main_c
  let main_c_0 : IVec S_ 1 := constantI S_ 1 0#1
  let main_v1 : IVec S5x3x1152 1 := broadcastInDim S5x3x1152 ![] bcast_S_S5x3x1152 main_c_0
  let main_c_1 : IVec S_ 1 := constantI S_ 1 1#1
  let main_v2 : IVec S1280x3x1152 1 := broadcastInDim S1280x3x1152 ![] bcast_S_S1280x3x1152 main_c_1
  (main_v0, main_v1, main_v2)
-- ==== On_one_sample_rows.lean ====
abbrev S163840x1152 : Shape := ⟨2, ![163840, 1152]⟩
abbrev S163840 : Shape := ⟨1, ![163840]⟩
abbrev S5x1152 : Shape := ⟨2, ![5, 1152]⟩
abbrev S160x4x256 : Shape := ⟨3, ![160, 4, 256]⟩
abbrev S160x1x1 : Shape := ⟨3, ![160, 1, 1]⟩
abbrev S160x4x1 : Shape := ⟨3, ![160, 4, 1]⟩
abbrev S163840x1 : Shape := ⟨2, ![163840, 1]⟩
abbrev S_ : Shape := ⟨0, ![]⟩
abbrev S5x3x1152 : Shape := ⟨3, ![5, 3, 1152]⟩
abbrev S1280x3x1152 : Shape := ⟨3, ![1280, 3, 1152]⟩

class Facts : Prop where
  shapeCasts_S163840_S160x4x256 : S163840.ShapeCasts S160x4x256
  slices_S160x4x256_S160x1x1_0_0_0 : S160x4x256.Slices ![0, 0, 0] S160x1x1
  slices_S160x4x256_S160x1x1_0_3_255 : S160x4x256.Slices ![0, 3, 255] S160x1x1
  slices_S160x4x256_S160x4x1_0_0_0 : S160x4x256.Slices ![0, 0, 0] S160x4x1
  bcast_S160x4x1_S160x4x256_0_1_2 : S160x4x1.BroadcastsInDim S160x4x256 (![0, 1, 2] : Fin 3 → Fin S160x4x256.rank)
  bcast_S160x1x1_S160x4x256_0_1_2 : S160x1x1.BroadcastsInDim S160x4x256 (![0, 1, 2] : Fin 3 → Fin S160x4x256.rank)
  shapeCasts_S160x4x256_S163840x1 : S160x4x256.ShapeCasts S163840x1
  bcast_S163840x1_S163840x1152_0_1 : S163840x1.BroadcastsInDim S163840x1152 (![0, 1] : Fin 2 → Fin S163840x1152.rank)
  bcast_S_S5x3x1152 : S_.BroadcastsInDim S5x3x1152 (![] : Fin 0 → Fin S5x3x1152.rank)
  bcast_S_S1280x3x1152 : S_.BroadcastsInDim S1280x3x1152 (![] : Fin 0 → Fin S1280x3x1152.rank)

variable [Facts]

def fn {F : FTy → Type} [FloatOps F] (main_arg0 : IVec S163840x1152 8) (main_arg1 : FVec F S163840 .f32) (main_arg2 : FVec F S163840x1152 .bf16) (main_arg3 : FVec F S163840x1152 .fp8e5m2) (main_arg4 : FVec F S163840 .f32) (main_arg5 : IVec S163840x1152 8) (main_arg6 : FVec F S163840 .f32) (main_arg7 : IVec S163840 32) (main_arg8 : FVec F S5x1152 .f32) : IVec S163840x1152 1 × IVec S5x3x1152 1 × IVec S1280x3x1152 1 :=
  let main_v0 : IVec S160x4x256 32 := shapeCast S160x4x256 main_arg7 shapeCasts_S163840_S160x4x256
  let main_v1 : IVec S160x1x1 32 := (extractStridedSlice S160x1x1 ![0, 0, 0] · slices_S160x4x256_S160x1x1_0_0_0) main_v0
  let main_v2 : IVec S160x1x1 32 := (extractStridedSlice S160x1x1 ![0, 3, 255] · slices_S160x4x256_S160x1x1_0_3_255) main_v0
  let main_v3 : IVec S160x1x1 1 := cmpi .eq main_v1 main_v2
  let main_v4 : IVec S160x4x1 32 := (extractStridedSlice S160x4x1 ![0, 0, 0] · slices_S160x4x256_S160x4x1_0_0_0) main_v0
  let main_v5 : IVec S160x4x256 32 := broadcastInDim S160x4x256 ![0, 1, 2] bcast_S160x4x1_S160x4x256_0_1_2 main_v4
  let main_v6 : IVec S160x4x256 1 := cmpi .eq main_v0 main_v5
  let main_v7 : IVec S160x4x256 1 := broadcastInDim S160x4x256 ![0, 1, 2] bcast_S160x1x1_S160x4x256_0_1_2 main_v3
  let main_v8 : IVec S160x4x256 1 := andi main_v7 main_v6
  let main_v9 : IVec S163840x1 1 := shapeCast S163840x1 main_v8 shapeCasts_S160x4x256_S163840x1
  let main_v10 : IVec S163840x1152 1 := broadcastInDim S163840x1152 ![0, 1] bcast_S163840x1_S163840x1152_0_1 main_v9
  let main_c : IVec S_ 1 := constantI S_ 1 0#1
  let main_v11 : IVec S5x3x1152 1 := broadcastInDim S5x3x1152 ![] bcast_S_S5x3x1152 main_c
  let main_c_0 : IVec S_ 1 := constantI S_ 1 0#1
  let main_v12 : IVec S1280x3x1152 1 := broadcastInDim S1280x3x1152 ![] bcast_S_S1280x3x1152 main_c_0
  (main_v10, main_v11, main_v12)
-- ==== Pre_finite_rows.lean ====
abbrev S163840x1152 : Shape := ⟨2, ![163840, 1152]⟩
abbrev S163840 : Shape := ⟨1, ![163840]⟩
abbrev S5x1152 : Shape := ⟨2, ![5, 1152]⟩
abbrev S_ : Shape := ⟨0, ![]⟩

class Facts : Prop where
  bcast_S_S163840 : S_.BroadcastsInDim S163840 (![] : Fin 0 → Fin S163840.rank)
  reducesTo_S163840_S_d0 : S163840.ReducesTo [0] S_
  h_S_ : 0 < S_.numel
  natLt_8_32 : 8 < 32
  bcast_S_S163840x1152 : S_.BroadcastsInDim S163840x1152 (![] : Fin 0 → Fin S163840x1152.rank)
  reducesTo_S163840x1152_S_d0_1 : S163840x1152.ReducesTo [0, 1] S_

variable [Facts]

def fn_part1 {F : FTy → Type} [FloatOps F] (main_arg1 : FVec F S163840 .f32) (main_arg6 : FVec F S163840 .f32) (main_v13 : IVec S_ 1) (main_v14 : IVec S163840x1152 32) (main_v15 : IVec S163840x1152 32) : IVec S_ 1 :=
  let main_v16 : IVec S163840x1152 32 := andi main_v14 main_v15
  let main_c_7 : IVec S_ 32 := constantI S_ 32 124#32
  let main_v17 : IVec S163840x1152 32 := broadcastInDim S163840x1152 ![] bcast_S_S163840x1152 main_c_7
  let main_v18 : IVec S163840x1152 1 := cmpi .ne main_v16 main_v17
  let main_c_8 : IVec S_ 1 := constantI S_ 1 1#1
  let main_v19 : IVec S_ 1 := (fun x v => Host.reduce IntOp.andi x v reducesTo_S163840x1152_S_d0_1 h_S_) main_v18 main_c_8
  let main_v20 : IVec S_ 1 := andi main_v13 main_v19
  let main_v21 : FVec F S163840 .f32 := Host.absf main_arg1
  let main_cst : FVec F S_ .f32 := constant S_ .f32 0x7F800000#32
  let main_v22 : FVec F S163840 .f32 := broadcastInDim S163840 ![] bcast_S_S163840 main_cst
  let main_v23 : IVec S163840 1 := cmpf .olt main_v21 main_v22
  let main_c_9 : IVec S_ 1 := constantI S_ 1 1#1
  let main_v24 : IVec S_ 1 := (fun x v => Host.reduce IntOp.andi x v reducesTo_S163840_S_d0 h_S_) main_v23 main_c_9
  let main_v25 : IVec S_ 1 := andi main_v20 main_v24
  let main_v26 : FVec F S163840 .f32 := Host.absf main_arg6
  let main_cst_10 : FVec F S_ .f32 := constant S_ .f32 0x7F800000#32
  let main_v27 : FVec F S163840 .f32 := broadcastInDim S163840 ![] bcast_S_S163840 main_cst_10
  let main_v28 : IVec S163840 1 := cmpf .olt main_v26 main_v27
  let main_c_11 : IVec S_ 1 := constantI S_ 1 1#1
  let main_v29 : IVec S_ 1 := (fun x v => Host.reduce IntOp.andi x v reducesTo_S163840_S_d0 h_S_) main_v28 main_c_11
  let main_v30 : IVec S_ 1 := andi main_v25 main_v29
  main_v30

def fn {F : FTy → Type} [FloatOps F] (main_arg0 : IVec S163840x1152 8) (main_arg1 : FVec F S163840 .f32) (main_arg2 : FVec F S163840x1152 .bf16) (main_arg3 : FVec F S163840x1152 .fp8e5m2) (main_arg4 : FVec F S163840 .f32) (main_arg5 : IVec S163840x1152 8) (main_arg6 : FVec F S163840 .f32) (main_arg7 : IVec S163840 32) (main_arg8 : FVec F S5x1152 .f32) : IVec S_ 1 :=
  let main_c : IVec S_ 32 := constantI S_ 32 0#32
  let main_v0 : IVec S163840 32 := broadcastInDim S163840 ![] bcast_S_S163840 main_c
  let main_v1 : IVec S163840 1 := cmpi .sge main_arg7 main_v0
  let main_c_0 : IVec S_ 1 := constantI S_ 1 1#1
  let main_v2 : IVec S_ 1 := (fun x v => Host.reduce IntOp.andi x v reducesTo_S163840_S_d0 h_S_) main_v1 main_c_0
  let main_c_1 : IVec S_ 32 := constantI S_ 32 5#32
  let main_v3 : IVec S163840 32 := broadcastInDim S163840 ![] bcast_S_S163840 main_c_1
  let main_v4 : IVec S163840 1 := cmpi .slt main_arg7 main_v3
  let main_c_2 : IVec S_ 1 := constantI S_ 1 1#1
  let main_v5 : IVec S_ 1 := (fun x v => Host.reduce IntOp.andi x v reducesTo_S163840_S_d0 h_S_) main_v4 main_c_2
  let main_v6 : IVec S_ 1 := andi main_v2 main_v5
  let main_v7 : IVec S163840x1152 32 := (extui 32 · natLt_8_32) main_arg0
  let main_c_3 : IVec S_ 32 := constantI S_ 32 127#32
  let main_v8 : IVec S163840x1152 32 := broadcastInDim S163840x1152 ![] bcast_S_S163840x1152 main_c_3
  let main_v9 : IVec S163840x1152 32 := andi main_v7 main_v8
  let main_c_4 : IVec S_ 32 := constantI S_ 32 127#32
  let main_v10 : IVec S163840x1152 32 := broadcastInDim S163840x1152 ![] bcast_S_S163840x1152 main_c_4
  let main_v11 : IVec S163840x1152 1 := cmpi .ne main_v9 main_v10
  let main_c_5 : IVec S_ 1 := constantI S_ 1 1#1
  let main_v12 : IVec S_ 1 := (fun x v => Host.reduce IntOp.andi x v reducesTo_S163840x1152_S_d0_1 h_S_) main_v11 main_c_5
  let main_v13 : IVec S_ 1 := andi main_v6 main_v12
  let main_v14 : IVec S163840x1152 32 := (extui 32 · natLt_8_32) main_arg5
  let main_c_6 : IVec S_ 32 := constantI S_ 32 124#32
  let main_v15 : IVec S163840x1152 32 := broadcastInDim S163840x1152 ![] bcast_S_S163840x1152 main_c_6
  fn_part1 (F := F) main_arg1 main_arg6 main_v13 main_v14 main_v15
-- ==== Pre_finite_rows_and_scales.lean ====
abbrev S163840x1152 : Shape := ⟨2, ![163840, 1152]⟩
abbrev S163840 : Shape := ⟨1, ![163840]⟩
abbrev S5x1152 : Shape := ⟨2, ![5, 1152]⟩
abbrev S_ : Shape := ⟨0, ![]⟩

class Facts : Prop where
  bcast_S_S163840 : S_.BroadcastsInDim S163840 (![] : Fin 0 → Fin S163840.rank)
  reducesTo_S163840_S_d0 : S163840.ReducesTo [0] S_
  h_S_ : 0 < S_.numel
  natLt_8_32 : 8 < 32
  bcast_S_S163840x1152 : S_.BroadcastsInDim S163840x1152 (![] : Fin 0 → Fin S163840x1152.rank)
  reducesTo_S163840x1152_S_d0_1 : S163840x1152.ReducesTo [0, 1] S_
  bcast_S_S5x1152 : S_.BroadcastsInDim S5x1152 (![] : Fin 0 → Fin S5x1152.rank)
  reducesTo_S5x1152_S_d0_1 : S5x1152.ReducesTo [0, 1] S_

variable [Facts]

def fn_part2 {F : FTy → Type} [FloatOps F] (main_v30 : IVec S_ 1) (main_v31 : FVec F S5x1152 .f32) (main_v32 : FVec F S5x1152 .f32) : IVec S_ 1 :=
  let main_v33 : IVec S5x1152 1 := cmpf .olt main_v31 main_v32
  let main_c_13 : IVec S_ 1 := constantI S_ 1 1#1
  let main_v34 : IVec S_ 1 := (fun x v => Host.reduce IntOp.andi x v reducesTo_S5x1152_S_d0_1 h_S_) main_v33 main_c_13
  let main_v35 : IVec S_ 1 := andi main_v30 main_v34
  main_v35

def fn_part1 {F : FTy → Type} [FloatOps F] (main_arg1 : FVec F S163840 .f32) (main_arg6 : FVec F S163840 .f32) (main_arg8 : FVec F S5x1152 .f32) (main_v13 : IVec S_ 1) (main_v14 : IVec S163840x1152 32) (main_v15 : IVec S163840x1152 32) : IVec S_ 1 :=
  let main_v16 : IVec S163840x1152 32 := andi main_v14 main_v15
  let main_c_7 : IVec S_ 32 := constantI S_ 32 124#32
  let main_v17 : IVec S163840x1152 32 := broadcastInDim S163840x1152 ![] bcast_S_S163840x1152 main_c_7
  let main_v18 : IVec S163840x1152 1 := cmpi .ne main_v16 main_v17
  let main_c_8 : IVec S_ 1 := constantI S_ 1 1#1
  let main_v19 : IVec S_ 1 := (fun x v => Host.reduce IntOp.andi x v reducesTo_S163840x1152_S_d0_1 h_S_) main_v18 main_c_8
  let main_v20 : IVec S_ 1 := andi main_v13 main_v19
  let main_v21 : FVec F S163840 .f32 := Host.absf main_arg1
  let main_cst : FVec F S_ .f32 := constant S_ .f32 0x7F800000#32
  let main_v22 : FVec F S163840 .f32 := broadcastInDim S163840 ![] bcast_S_S163840 main_cst
  let main_v23 : IVec S163840 1 := cmpf .olt main_v21 main_v22
  let main_c_9 : IVec S_ 1 := constantI S_ 1 1#1
  let main_v24 : IVec S_ 1 := (fun x v => Host.reduce IntOp.andi x v reducesTo_S163840_S_d0 h_S_) main_v23 main_c_9
  let main_v25 : IVec S_ 1 := andi main_v20 main_v24
  let main_v26 : FVec F S163840 .f32 := Host.absf main_arg6
  let main_cst_10 : FVec F S_ .f32 := constant S_ .f32 0x7F800000#32
  let main_v27 : FVec F S163840 .f32 := broadcastInDim S163840 ![] bcast_S_S163840 main_cst_10
  let main_v28 : IVec S163840 1 := cmpf .olt main_v26 main_v27
  let main_c_11 : IVec S_ 1 := constantI S_ 1 1#1
  let main_v29 : IVec S_ 1 := (fun x v => Host.reduce IntOp.andi x v reducesTo_S163840_S_d0 h_S_) main_v28 main_c_11
  let main_v30 : IVec S_ 1 := andi main_v25 main_v29
  let main_v31 : FVec F S5x1152 .f32 := Host.absf main_arg8
  let main_cst_12 : FVec F S_ .f32 := constant S_ .f32 0x7F800000#32
  let main_v32 : FVec F S5x1152 .f32 := broadcastInDim S5x1152 ![] bcast_S_S5x1152 main_cst_12
  fn_part2 (F := F) main_v30 main_v31 main_v32

def fn {F : FTy → Type} [FloatOps F] (main_arg0 : IVec S163840x1152 8) (main_arg1 : FVec F S163840 .f32) (main_arg2 : FVec F S163840x1152 .bf16) (main_arg3 : FVec F S163840x1152 .fp8e5m2) (main_arg4 : FVec F S163840 .f32) (main_arg5 : IVec S163840x1152 8) (main_arg6 : FVec F S163840 .f32) (main_arg7 : IVec S163840 32) (main_arg8 : FVec F S5x1152 .f32) : IVec S_ 1 :=
  let main_c : IVec S_ 32 := constantI S_ 32 0#32
  let main_v0 : IVec S163840 32 := broadcastInDim S163840 ![] bcast_S_S163840 main_c
  let main_v1 : IVec S163840 1 := cmpi .sge main_arg7 main_v0
  let main_c_0 : IVec S_ 1 := constantI S_ 1 1#1
  let main_v2 : IVec S_ 1 := (fun x v => Host.reduce IntOp.andi x v reducesTo_S163840_S_d0 h_S_) main_v1 main_c_0
  let main_c_1 : IVec S_ 32 := constantI S_ 32 5#32
  let main_v3 : IVec S163840 32 := broadcastInDim S163840 ![] bcast_S_S163840 main_c_1
  let main_v4 : IVec S163840 1 := cmpi .slt main_arg7 main_v3
  let main_c_2 : IVec S_ 1 := constantI S_ 1 1#1
  let main_v5 : IVec S_ 1 := (fun x v => Host.reduce IntOp.andi x v reducesTo_S163840_S_d0 h_S_) main_v4 main_c_2
  let main_v6 : IVec S_ 1 := andi main_v2 main_v5
  let main_v7 : IVec S163840x1152 32 := (extui 32 · natLt_8_32) main_arg0
  let main_c_3 : IVec S_ 32 := constantI S_ 32 127#32
  let main_v8 : IVec S163840x1152 32 := broadcastInDim S163840x1152 ![] bcast_S_S163840x1152 main_c_3
  let main_v9 : IVec S163840x1152 32 := andi main_v7 main_v8
  let main_c_4 : IVec S_ 32 := constantI S_ 32 127#32
  let main_v10 : IVec S163840x1152 32 := broadcastInDim S163840x1152 ![] bcast_S_S163840x1152 main_c_4
  let main_v11 : IVec S163840x1152 1 := cmpi .ne main_v9 main_v10
  let main_c_5 : IVec S_ 1 := constantI S_ 1 1#1
  let main_v12 : IVec S_ 1 := (fun x v => Host.reduce IntOp.andi x v reducesTo_S163840x1152_S_d0_1 h_S_) main_v11 main_c_5
  let main_v13 : IVec S_ 1 := andi main_v6 main_v12
  let main_v14 : IVec S163840x1152 32 := (extui 32 · natLt_8_32) main_arg5
  let main_c_6 : IVec S_ 32 := constantI S_ 32 124#32
  let main_v15 : IVec S163840x1152 32 := broadcastInDim S163840x1152 ![] bcast_S_S163840x1152 main_c_6
  fn_part1 (F := F) main_arg1 main_arg6 main_arg8 main_v13 main_v14 main_v15
-- ==== Pre_in_range.lean ====
abbrev S163840x1152 : Shape := ⟨2, ![163840, 1152]⟩
abbrev S163840 : Shape := ⟨1, ![163840]⟩
abbrev S5x1152 : Shape := ⟨2, ![5, 1152]⟩
abbrev S_ : Shape := ⟨0, ![]⟩

class Facts : Prop where
  bcast_S_S163840 : S_.BroadcastsInDim S163840 (![] : Fin 0 → Fin S163840.rank)
  reducesTo_S163840_S_d0 : S163840.ReducesTo [0] S_
  h_S_ : 0 < S_.numel

variable [Facts]

def fn {F : FTy → Type} [FloatOps F] (main_arg0 : IVec S163840x1152 8) (main_arg1 : FVec F S163840 .f32) (main_arg2 : FVec F S163840x1152 .bf16) (main_arg3 : FVec F S163840x1152 .fp8e5m2) (main_arg4 : FVec F S163840 .f32) (main_arg5 : IVec S163840x1152 8) (main_arg6 : FVec F S163840 .f32) (main_arg7 : IVec S163840 32) (main_arg8 : FVec F S5x1152 .f32) : IVec S_ 1 :=
  let main_c : IVec S_ 32 := constantI S_ 32 0#32
  let main_v0 : IVec S163840 32 := broadcastInDim S163840 ![] bcast_S_S163840 main_c
  let main_v1 : IVec S163840 1 := cmpi .sge main_arg7 main_v0
  let main_c_0 : IVec S_ 1 := constantI S_ 1 1#1
  let main_v2 : IVec S_ 1 := (fun x v => Host.reduce IntOp.andi x v reducesTo_S163840_S_d0 h_S_) main_v1 main_c_0
  let main_c_1 : IVec S_ 32 := constantI S_ 32 5#32
  let main_v3 : IVec S163840 32 := broadcastInDim S163840 ![] bcast_S_S163840 main_c_1
  let main_v4 : IVec S163840 1 := cmpi .slt main_arg7 main_v3
  let main_c_2 : IVec S_ 1 := constantI S_ 1 1#1
  let main_v5 : IVec S_ 1 := (fun x v => Host.reduce IntOp.andi x v reducesTo_S163840_S_d0 h_S_) main_v4 main_c_2
  let main_v6 : IVec S_ 1 := andi main_v2 main_v5
  main_v6
-- ==== Kernel.lean ====
abbrev S163840x1152 : Shape := ⟨2, ![163840, 1152]⟩
abbrev S163840 : Shape := ⟨1, ![163840]⟩
abbrev S5x1152 : Shape := ⟨2, ![5, 1152]⟩
abbrev S1280x128 : Shape := ⟨2, ![1280, 128]⟩
abbrev S5x3x1152 : Shape := ⟨3, ![5, 3, 1152]⟩
abbrev S1280x3x1152 : Shape := ⟨3, ![1280, 3, 1152]⟩
abbrev S8x128 : Shape := ⟨2, ![8, 128]⟩
abbrev S1024x1152 : Shape := ⟨2, ![1024, 1152]⟩
abbrev S8x3x1152 : Shape := ⟨3, ![8, 3, 1152]⟩
abbrev S5x16x1152 : Shape := ⟨3, ![5, 16, 1152]⟩
abbrev S5x8x1152 : Shape := ⟨3, ![5, 8, 1152]⟩
abbrev S2x256x1152 : Shape := ⟨3, ![2, 256, 1152]⟩
abbrev S256x8 : Shape := ⟨2, ![256, 8]⟩
abbrev S2x8x1152 : Shape := ⟨3, ![2, 8, 1152]⟩
abbrev S6x3x1152 : Shape := ⟨3, ![6, 3, 1152]⟩
abbrev S1x1152 : Shape := ⟨2, ![1, 1152]⟩
abbrev S12x1152 : Shape := ⟨2, ![12, 1152]⟩
abbrev S16x1152 : Shape := ⟨2, ![16, 1152]⟩
abbrev S1x16x1152 : Shape := ⟨3, ![1, 16, 1152]⟩
abbrev S8x1152 : Shape := ⟨2, ![8, 1152]⟩
abbrev S1x8x1152 : Shape := ⟨3, ![1, 8, 1152]⟩
abbrev S1x1 : Shape := ⟨2, ![1, 1]⟩
abbrev S1x16x256 : Shape := ⟨3, ![1, 16, 256]⟩
abbrev S16x256 : Shape := ⟨2, ![16, 256]⟩
abbrev S256x256 : Shape := ⟨2, ![256, 256]⟩
abbrev S1x256x256 : Shape := ⟨3, ![1, 256, 256]⟩
abbrev S1x16x128 : Shape := ⟨3, ![1, 16, 128]⟩
abbrev S16x128 : Shape := ⟨2, ![16, 128]⟩
abbrev S256x128 : Shape := ⟨2, ![256, 128]⟩
abbrev S1x256x128 : Shape := ⟨3, ![1, 256, 128]⟩
abbrev S1x256 : Shape := ⟨2, ![1, 256]⟩
abbrev S1x128 : Shape := ⟨2, ![1, 128]⟩
abbrev S4x256 : Shape := ⟨2, ![4, 256]⟩
abbrev S8x256 : Shape := ⟨2, ![8, 256]⟩
abbrev S32x8 : Shape := ⟨2, ![32, 8]⟩
abbrev S32x1 : Shape := ⟨2, ![32, 1]⟩
abbrev S32x128 : Shape := ⟨2, ![32, 128]⟩
abbrev S1x1x128 : Shape := ⟨3, ![1, 1, 128]⟩
abbrev S1x8x128 : Shape := ⟨3, ![1, 8, 128]⟩
abbrev S256x1152 : Shape := ⟨2, ![256, 1152]⟩
abbrev S1x256x1152 : Shape := ⟨3, ![1, 256, 1152]⟩
abbrev S4x1152 : Shape := ⟨2, ![4, 1152]⟩
abbrev S2x1152 : Shape := ⟨2, ![2, 1152]⟩
abbrev S1152 : Shape := ⟨1, ![1152]⟩
abbrev S3x1152 : Shape := ⟨2, ![3, 1152]⟩
abbrev S1x3x1152 : Shape := ⟨3, ![1, 3, 1152]⟩
abbrev S3x256 : Shape := ⟨2, ![3, 256]⟩

abbrev nBuf : Space → Nat
  | .hbm => 18
  | .vmem => 28
  | .smem => 2
  | _ => 0

abbrev bufTy : (tb : Table) → Fin (tcTables nBuf tb) → BufTy
  | .hbm, ⟨0, _⟩ => ⟨S163840x1152, .i8⟩
  | .hbm, ⟨1, _⟩ => ⟨S163840, .f32⟩
  | .hbm, ⟨2, _⟩ => ⟨S163840x1152, .bf16⟩
  | .hbm, ⟨3, _⟩ => ⟨S163840x1152, .fp8e5m2⟩
  | .hbm, ⟨4, _⟩ => ⟨S163840, .f32⟩
  | .hbm, ⟨5, _⟩ => ⟨S163840x1152, .i8⟩
  | .hbm, ⟨6, _⟩ => ⟨S163840, .f32⟩
  | .hbm, ⟨7, _⟩ => ⟨S163840, .i32⟩
  | .hbm, ⟨8, _⟩ => ⟨S5x1152, .f32⟩
  | .hbm, ⟨9, _⟩ => ⟨S163840x1152, .fp8e4m3⟩
  | .hbm, ⟨10, _⟩ => ⟨S163840x1152, .fp8e5m2⟩
  | .hbm, ⟨11, _⟩ => ⟨S1280x128, .i32⟩
  | .hbm, ⟨12, _⟩ => ⟨S1280x128, .f32⟩
  | .hbm, ⟨13, _⟩ => ⟨S1280x128, .f32⟩
  | .hbm, ⟨14, _⟩ => ⟨S1280x128, .f32⟩
  | .hbm, ⟨15, _⟩ => ⟨S163840x1152, .bf16⟩
  | .hbm, ⟨16, _⟩ => ⟨S5x3x1152, .f32⟩
  | .hbm, ⟨17, _⟩ => ⟨S1280x3x1152, .f32⟩
  | .local _ .vmem, ⟨0, _⟩ => ⟨S8x128, .i32⟩
  | .local _ .vmem, ⟨1, _⟩ => ⟨S8x128, .i32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S5x1152, .f32⟩
  | .local _ .vmem, ⟨9, _⟩ => ⟨S1024x1152, .fp8e4m3⟩
  | .local _ .vmem, ⟨10, _⟩ => ⟨S1024x1152, .fp8e4m3⟩
  | .local _ .vmem, ⟨11, _⟩ => ⟨S1024x1152, .bf16⟩
  | .local _ .vmem, ⟨12, _⟩ => ⟨S1024x1152, .bf16⟩
  | .local _ .vmem, ⟨13, _⟩ => ⟨S1024x1152, .fp8e5m2⟩
  | .local _ .vmem, ⟨14, _⟩ => ⟨S1024x1152, .fp8e5m2⟩
  | .local _ .vmem, ⟨15, _⟩ => ⟨S1024x1152, .fp8e5m2⟩
  | .local _ .vmem, ⟨16, _⟩ => ⟨S1024x1152, .fp8e5m2⟩
  | .local _ .vmem, ⟨17, _⟩ => ⟨S1024x1152, .bf16⟩
  | .local _ .vmem, ⟨18, _⟩ => ⟨S1024x1152, .bf16⟩
  | .local _ .vmem, ⟨19, _⟩ => ⟨S5x3x1152, .f32⟩
  | .local _ .vmem, ⟨20, _⟩ => ⟨S8x3x1152, .f32⟩
  | .local _ .vmem, ⟨21, _⟩ => ⟨S8x3x1152, .f32⟩
  | .local _ .vmem, ⟨22, _⟩ => ⟨S5x16x1152, .bf16⟩
  | .local _ .vmem, ⟨23, _⟩ => ⟨S5x8x1152, .f32⟩
  | .local _ .vmem, ⟨24, _⟩ => ⟨S2x256x1152, .bf16⟩
  | .local _ .vmem, ⟨25, _⟩ => ⟨S256x8, .f32⟩
  | .local _ .vmem, ⟨26, _⟩ => ⟨S2x8x1152, .f32⟩
  | .local _ .vmem, ⟨27, _⟩ => ⟨S6x3x1152, .f32⟩
  | .local _ .smem, ⟨0, _⟩ => ⟨S8x128, .i32⟩
  | .local _ .smem, ⟨1, _⟩ => ⟨S8x128, .i32⟩
  | _, _ => ⟨S163840x1152, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![160], ![false]⟩

def k0_off1 (v3 : BitVec 32) : Fin 3 → Nat :=
  let v4 : Index := Scalar.indexCast v3
  let c0_2 : Index := 0#32
  let c0_3 : Index := 0#32
  ![v4.toNat, 0, 0]

def k0_off2 (v3 : BitVec 32) : Fin 3 → Nat :=
  let v22 : Index := Scalar.indexCast v3
  let c0_14 : Index := 0#32
  let c256 : Index := 256#32
  ![v22.toNat, 0, 256]
def k0_off3 (v3 : BitVec 32) : Fin 3 → Nat :=
  let v44 : Index := Scalar.indexCast v3
  let c0_26 : Index := 0#32
  let c512 : Index := 512#32
  ![v44.toNat, 0, 512]
def k0_off4 (v3 : BitVec 32) : Fin 3 → Nat :=
  let v66 : Index := Scalar.indexCast v3
  let c0_38 : Index := 0#32
  let c768 : Index := 768#32
  ![v66.toNat, 0, 768]
def k0_off5 (v3 : BitVec 32) : Fin 3 → Nat :=
  let v88 : Index := Scalar.indexCast v3
  let c0_50 : Index := 0#32
  let c1024 : Index := 1024#32
  ![v88.toNat, 0, 1024]

def k0_chk1 (v3 : BitVec 32) : Prop :=
  (∀ a, (k0_off1 v3) a + S1x16x256.size a ≤ S5x16x1152.size a) ∧
  (∀ a, (k0_off2 v3) a + S1x16x256.size a ≤ S5x16x1152.size a) ∧
  (∀ a, (k0_off3 v3) a + S1x16x256.size a ≤ S5x16x1152.size a) ∧
  (∀ a, (k0_off4 v3) a + S1x16x256.size a ≤ S5x16x1152.size a) ∧
  (∀ a, (k0_off5 v3) a + S1x16x128.size a ≤ S5x16x1152.size a)
theorem k0_off1_inb : ∀ (v3 : BitVec 32) (k0_hw1 : k0_chk1 v3), ∀ a, (k0_off1 v3) a + S1x16x256.size a ≤ S5x16x1152.size a := fun v3 k0_hw1 => k0_hw1.1
theorem k0_off2_inb : ∀ (v3 : BitVec 32) (k0_hw1 : k0_chk1 v3), ∀ a, (k0_off2 v3) a + S1x16x256.size a ≤ S5x16x1152.size a := fun v3 k0_hw1 => k0_hw1.2.1
theorem k0_off3_inb : ∀ (v3 : BitVec 32) (k0_hw1 : k0_chk1 v3), ∀ a, (k0_off3 v3) a + S1x16x256.size a ≤ S5x16x1152.size a := fun v3 k0_hw1 => k0_hw1.2.2.1
theorem k0_off4_inb : ∀ (v3 : BitVec 32) (k0_hw1 : k0_chk1 v3), ∀ a, (k0_off4 v3) a + S1x16x256.size a ≤ S5x16x1152.size a := fun v3 k0_hw1 => k0_hw1.2.2.2.1
theorem k0_off5_inb : ∀ (v3 : BitVec 32) (k0_hw1 : k0_chk1 v3), ∀ a, (k0_off5 v3) a + S1x16x128.size a ≤ S5x16x1152.size a := fun v3 k0_hw1 => k0_hw1.2.2.2.2

def k0_off6 (v215 : BitVec 32) : Fin 3 → Nat :=
  let v216 : Index := Scalar.indexCast v215
  let c0_95 : Index := 0#32
  let c0_96 : Index := 0#32
  ![v216.toNat, 0, 0]

def k0_off7 (v215 : BitVec 32) : Fin 3 → Nat :=
  let v234 : Index := Scalar.indexCast v215
  let c0_108 : Index := 0#32
  let c256_109 : Index := 256#32
  ![v234.toNat, 0, 256]
def k0_off8 (v215 : BitVec 32) : Fin 3 → Nat :=
  let v256 : Index := Scalar.indexCast v215
  let c0_121 : Index := 0#32
  let c512_122 : Index := 512#32
  ![v256.toNat, 0, 512]
def k0_off9 (v215 : BitVec 32) : Fin 3 → Nat :=
  let v278 : Index := Scalar.indexCast v215
  let c0_134 : Index := 0#32
  let c768_135 : Index := 768#32
  ![v278.toNat, 0, 768]
def k0_off10 (v215 : BitVec 32) : Fin 3 → Nat :=
  let v300 : Index := Scalar.indexCast v215
  let c0_147 : Index := 0#32
  let c1024_148 : Index := 1024#32
  ![v300.toNat, 0, 1024]

def k0_chk2 (v215 : BitVec 32) : Prop :=
  (∀ a, (k0_off6 v215) a + S1x16x256.size a ≤ S5x16x1152.size a) ∧
  (∀ a, (k0_off7 v215) a + S1x16x256.size a ≤ S5x16x1152.size a) ∧
  (∀ a, (k0_off8 v215) a + S1x16x256.size a ≤ S5x16x1152.size a) ∧
  (∀ a, (k0_off9 v215) a + S1x16x256.size a ≤ S5x16x1152.size a) ∧
  (∀ a, (k0_off10 v215) a + S1x16x128.size a ≤ S5x16x1152.size a)
theorem k0_off6_inb : ∀ (v215 : BitVec 32) (k0_hw2 : k0_chk2 v215), ∀ a, (k0_off6 v215) a + S1x16x256.size a ≤ S5x16x1152.size a := fun v215 k0_hw2 => k0_hw2.1
theorem k0_off7_inb : ∀ (v215 : BitVec 32) (k0_hw2 : k0_chk2 v215), ∀ a, (k0_off7 v215) a + S1x16x256.size a ≤ S5x16x1152.size a := fun v215 k0_hw2 => k0_hw2.2.1
theorem k0_off8_inb : ∀ (v215 : BitVec 32) (k0_hw2 : k0_chk2 v215), ∀ a, (k0_off8 v215) a + S1x16x256.size a ≤ S5x16x1152.size a := fun v215 k0_hw2 => k0_hw2.2.2.1
theorem k0_off9_inb : ∀ (v215 : BitVec 32) (k0_hw2 : k0_chk2 v215), ∀ a, (k0_off9 v215) a + S1x16x256.size a ≤ S5x16x1152.size a := fun v215 k0_hw2 => k0_hw2.2.2.2.1
theorem k0_off10_inb : ∀ (v215 : BitVec 32) (k0_hw2 : k0_chk2 v215), ∀ a, (k0_off10 v215) a + S1x16x128.size a ≤ S5x16x1152.size a := fun v215 k0_hw2 => k0_hw2.2.2.2.2

def k0_off11 (v122 : BitVec 32) : Fin 3 → Nat :=
  let v356 : Index := Scalar.indexCast v122
  let c0_168 : Index := 0#32
  let c0_169 : Index := 0#32
  ![v356.toNat, 0, 0]

def k0_off12 (v122 : BitVec 32) : Fin 3 → Nat :=
  let v387 : Index := Scalar.indexCast v122
  let c0_179 : Index := 0#32
  let c128_180 : Index := 128#32
  ![v387.toNat, 0, 128]
def k0_off13 (v122 : BitVec 32) : Fin 3 → Nat :=
  let v418 : Index := Scalar.indexCast v122
  let c0_191 : Index := 0#32
  let c256_192 : Index := 256#32
  ![v418.toNat, 0, 256]
def k0_off14 (v122 : BitVec 32) : Fin 3 → Nat :=
  let v449 : Index := Scalar.indexCast v122
  let c0_202 : Index := 0#32
  let c384_203 : Index := 384#32
  ![v449.toNat, 0, 384]
def k0_off15 (v122 : BitVec 32) : Fin 3 → Nat :=
  let v480 : Index := Scalar.indexCast v122
  let c0_214 : Index := 0#32
  let c512_215 : Index := 512#32
  ![v480.toNat, 0, 512]
def k0_off16 (v122 : BitVec 32) : Fin 3 → Nat :=
  let v511 : Index := Scalar.indexCast v122
  let c0_225 : Index := 0#32
  let c640_226 : Index := 640#32
  ![v511.toNat, 0, 640]
def k0_off17 (v122 : BitVec 32) : Fin 3 → Nat :=
  let v542 : Index := Scalar.indexCast v122
  let c0_237 : Index := 0#32
  let c768_238 : Index := 768#32
  ![v542.toNat, 0, 768]
def k0_off18 (v122 : BitVec 32) : Fin 3 → Nat :=
  let v573 : Index := Scalar.indexCast v122
  let c0_248 : Index := 0#32
  let c896_249 : Index := 896#32
  ![v573.toNat, 0, 896]
def k0_off19 (v122 : BitVec 32) : Fin 3 → Nat :=
  let v604 : Index := Scalar.indexCast v122
  let c0_260 : Index := 0#32
  let c1024_261 : Index := 1024#32
  ![v604.toNat, 0, 1024]

def k0_chk3 (v122 : BitVec 32) : Prop :=
  (∀ a, (k0_off11 v122) a + S1x1x128.size a ≤ S5x8x1152.size a) ∧
  (∀ a, (k0_off12 v122) a + S1x1x128.size a ≤ S5x8x1152.size a) ∧
  (∀ a, (k0_off13 v122) a + S1x1x128.size a ≤ S5x8x1152.size a) ∧
  (∀ a, (k0_off14 v122) a + S1x1x128.size a ≤ S5x8x1152.size a) ∧
  (∀ a, (k0_off15 v122) a + S1x1x128.size a ≤ S5x8x1152.size a) ∧
  (∀ a, (k0_off16 v122) a + S1x1x128.size a ≤ S5x8x1152.size a) ∧
  (∀ a, (k0_off17 v122) a + S1x1x128.size a ≤ S5x8x1152.size a) ∧
  (∀ a, (k0_off18 v122) a + S1x1x128.size a ≤ S5x8x1152.size a) ∧
  (∀ a, (k0_off19 v122) a + S1x1x128.size a ≤ S5x8x1152.size a)
theorem k0_off11_inb : ∀ (v122 : BitVec 32) (k0_hw3 : k0_chk3 v122), ∀ a, (k0_off11 v122) a + S1x1x128.size a ≤ S5x8x1152.size a := fun v122 k0_hw3 => k0_hw3.1
theorem k0_off12_inb : ∀ (v122 : BitVec 32) (k0_hw3 : k0_chk3 v122), ∀ a, (k0_off12 v122) a + S1x1x128.size a ≤ S5x8x1152.size a := fun v122 k0_hw3 => k0_hw3.2.1
theorem k0_off13_inb : ∀ (v122 : BitVec 32) (k0_hw3 : k0_chk3 v122), ∀ a, (k0_off13 v122) a + S1x1x128.size a ≤ S5x8x1152.size a := fun v122 k0_hw3 => k0_hw3.2.2.1
theorem k0_off14_inb : ∀ (v122 : BitVec 32) (k0_hw3 : k0_chk3 v122), ∀ a, (k0_off14 v122) a + S1x1x128.size a ≤ S5x8x1152.size a := fun v122 k0_hw3 => k0_hw3.2.2.2.1
theorem k0_off15_inb : ∀ (v122 : BitVec 32) (k0_hw3 : k0_chk3 v122), ∀ a, (k0_off15 v122) a + S1x1x128.size a ≤ S5x8x1152.size a := fun v122 k0_hw3 => k0_hw3.2.2.2.2.1
theorem k0_off16_inb : ∀ (v122 : BitVec 32) (k0_hw3 : k0_chk3 v122), ∀ a, (k0_off16 v122) a + S1x1x128.size a ≤ S5x8x1152.size a := fun v122 k0_hw3 => k0_hw3.2.2.2.2.2.1
theorem k0_off17_inb : ∀ (v122 : BitVec 32) (k0_hw3 : k0_chk3 v122), ∀ a, (k0_off17 v122) a + S1x1x128.size a ≤ S5x8x1152.size a := fun v122 k0_hw3 => k0_hw3.2.2.2.2.2.2.1
theorem k0_off18_inb : ∀ (v122 : BitVec 32) (k0_hw3 : k0_chk3 v122), ∀ a, (k0_off18 v122) a + S1x1x128.size a ≤ S5x8x1152.size a := fun v122 k0_hw3 => k0_hw3.2.2.2.2.2.2.2.1
theorem k0_off19_inb : ∀ (v122 : BitVec 32) (k0_hw3 : k0_chk3 v122), ∀ a, (k0_off19 v122) a + S1x1x128.size a ≤ S5x8x1152.size a := fun v122 k0_hw3 => k0_hw3.2.2.2.2.2.2.2.2

def k0_off20 (v122 : BitVec 32) (v123 : BitVec 32) : Fin 3 → Nat :=
  let v2864 : BitVec 1 := Scalar.cmpi .eq v122 v123
  let c5_i32 : BitVec 32 := 5#32
  let v2865 : BitVec 32 := Scalar.select v2864 v122 c5_i32
  let v2866 : Index := Scalar.indexCast v2865
  let c0_1112 : Index := 0#32
  let c0_1113 : Index := 0#32
  ![v2866.toNat, 0, 0]

def k0_chk4 (v122 : BitVec 32) (v123 : BitVec 32) : Prop :=
  (∀ a, (k0_off20 v122 v123) a + S1x3x1152.size a ≤ S6x3x1152.size a)
theorem k0_off20_inb : ∀ (v122 : BitVec 32) (v123 : BitVec 32) (k0_hw4 : k0_chk4 v122 v123), ∀ a, (k0_off20 v122 v123) a + S1x3x1152.size a ≤ S6x3x1152.size a := fun v122 v123 k0_hw4 => k0_hw4

def k0_off21 (v2968 : BitVec 32) : Fin 3 → Nat :=
  let v2969 : Index := Scalar.indexCast v2968
  let c0_1150 : Index := 0#32
  let c0_1151 : Index := 0#32
  ![v2969.toNat, 0, 0]

def k0_off22 (v2968 : BitVec 32) : Fin 3 → Nat :=
  let v2987 : Index := Scalar.indexCast v2968
  let c0_1163 : Index := 0#32
  let c256_1164 : Index := 256#32
  ![v2987.toNat, 0, 256]
def k0_off23 (v2968 : BitVec 32) : Fin 3 → Nat :=
  let v3009 : Index := Scalar.indexCast v2968
  let c0_1176 : Index := 0#32
  let c512_1177 : Index := 512#32
  ![v3009.toNat, 0, 512]
def k0_off24 (v2968 : BitVec 32) : Fin 3 → Nat :=
  let v3031 : Index := Scalar.indexCast v2968
  let c0_1189 : Index := 0#32
  let c768_1190 : Index := 768#32
  ![v3031.toNat, 0, 768]
def k0_off25 (v2968 : BitVec 32) : Fin 3 → Nat :=
  let v3053 : Index := Scalar.indexCast v2968
  let c0_1202 : Index := 0#32
  let c1024_1203 : Index := 1024#32
  ![v3053.toNat, 0, 1024]

def k0_chk5 (v2968 : BitVec 32) : Prop :=
  (∀ a, (k0_off21 v2968) a + S1x16x256.size a ≤ S5x16x1152.size a) ∧
  (∀ a, (k0_off22 v2968) a + S1x16x256.size a ≤ S5x16x1152.size a) ∧
  (∀ a, (k0_off23 v2968) a + S1x16x256.size a ≤ S5x16x1152.size a) ∧
  (∀ a, (k0_off24 v2968) a + S1x16x256.size a ≤ S5x16x1152.size a) ∧
  (∀ a, (k0_off25 v2968) a + S1x16x128.size a ≤ S5x16x1152.size a)
theorem k0_off21_inb : ∀ (v2968 : BitVec 32) (k0_hw5 : k0_chk5 v2968), ∀ a, (k0_off21 v2968) a + S1x16x256.size a ≤ S5x16x1152.size a := fun v2968 k0_hw5 => k0_hw5.1
theorem k0_off22_inb : ∀ (v2968 : BitVec 32) (k0_hw5 : k0_chk5 v2968), ∀ a, (k0_off22 v2968) a + S1x16x256.size a ≤ S5x16x1152.size a := fun v2968 k0_hw5 => k0_hw5.2.1
theorem k0_off23_inb : ∀ (v2968 : BitVec 32) (k0_hw5 : k0_chk5 v2968), ∀ a, (k0_off23 v2968) a + S1x16x256.size a ≤ S5x16x1152.size a := fun v2968 k0_hw5 => k0_hw5.2.2.1
theorem k0_off24_inb : ∀ (v2968 : BitVec 32) (k0_hw5 : k0_chk5 v2968), ∀ a, (k0_off24 v2968) a + S1x16x256.size a ≤ S5x16x1152.size a := fun v2968 k0_hw5 => k0_hw5.2.2.2.1
theorem k0_off25_inb : ∀ (v2968 : BitVec 32) (k0_hw5 : k0_chk5 v2968), ∀ a, (k0_off25 v2968) a + S1x16x128.size a ≤ S5x16x1152.size a := fun v2968 k0_hw5 => k0_hw5.2.2.2.2

def k0_off26 (v2875 : BitVec 32) : Fin 3 → Nat :=
  let v3109 : Index := Scalar.indexCast v2875
  let c0_1223 : Index := 0#32
  let c0_1224 : Index := 0#32
  ![v3109.toNat, 0, 0]

def k0_off27 (v2875 : BitVec 32) : Fin 3 → Nat :=
  let v3140 : Index := Scalar.indexCast v2875
  let c0_1235 : Index := 0#32
  let c128_1236 : Index := 128#32
  ![v3140.toNat, 0, 128]
def k0_off28 (v2875 : BitVec 32) : Fin 3 → Nat :=
  let v3171 : Index := Scalar.indexCast v2875
  let c0_1247 : Index := 0#32
  let c256_1248 : Index := 256#32
  ![v3171.toNat, 0, 256]
def k0_off29 (v2875 : BitVec 32) : Fin 3 → Nat :=
  let v3202 : Index := Scalar.indexCast v2875
  let c0_1259 : Index := 0#32
  let c384_1260 : Index := 384#32
  ![v3202.toNat, 0, 384]
def k0_off30 (v2875 : BitVec 32) : Fin 3 → Nat :=
  let v3233 : Index := Scalar.indexCast v2875
  let c0_1271 : Index := 0#32
  let c512_1272 : Index := 512#32
  ![v3233.toNat, 0, 512]
def k0_off31 (v2875 : BitVec 32) : Fin 3 → Nat :=
  let v3264 : Index := Scalar.indexCast v2875
  let c0_1283 : Index := 0#32
  let c640_1284 : Index := 640#32
  ![v3264.toNat, 0, 640]
def k0_off32 (v2875 : BitVec 32) : Fin 3 → Nat :=
  let v3295 : Index := Scalar.indexCast v2875
  let c0_1295 : Index := 0#32
  let c768_1296 : Index := 768#32
  ![v3295.toNat, 0, 768]
def k0_off33 (v2875 : BitVec 32) : Fin 3 → Nat :=
  let v3326 : Index := Scalar.indexCast v2875
  let c0_1307 : Index := 0#32
  let c896_1308 : Index := 896#32
  ![v3326.toNat, 0, 896]
def k0_off34 (v2875 : BitVec 32) : Fin 3 → Nat :=
  let v3357 : Index := Scalar.indexCast v2875
  let c0_1319 : Index := 0#32
  let c1024_1320 : Index := 1024#32
  ![v3357.toNat, 0, 1024]

def k0_chk6 (v2875 : BitVec 32) : Prop :=
  (∀ a, (k0_off26 v2875) a + S1x1x128.size a ≤ S5x8x1152.size a) ∧
  (∀ a, (k0_off27 v2875) a + S1x1x128.size a ≤ S5x8x1152.size a) ∧
  (∀ a, (k0_off28 v2875) a + S1x1x128.size a ≤ S5x8x1152.size a) ∧
  (∀ a, (k0_off29 v2875) a + S1x1x128.size a ≤ S5x8x1152.size a) ∧
  (∀ a, (k0_off30 v2875) a + S1x1x128.size a ≤ S5x8x1152.size a) ∧
  (∀ a, (k0_off31 v2875) a + S1x1x128.size a ≤ S5x8x1152.size a) ∧
  (∀ a, (k0_off32 v2875) a + S1x1x128.size a ≤ S5x8x1152.size a) ∧
  (∀ a, (k0_off33 v2875) a + S1x1x128.size a ≤ S5x8x1152.size a) ∧
  (∀ a, (k0_off34 v2875) a + S1x1x128.size a ≤ S5x8x1152.size a)
theorem k0_off26_inb : ∀ (v2875 : BitVec 32) (k0_hw6 : k0_chk6 v2875), ∀ a, (k0_off26 v2875) a + S1x1x128.size a ≤ S5x8x1152.size a := fun v2875 k0_hw6 => k0_hw6.1
theorem k0_off27_inb : ∀ (v2875 : BitVec 32) (k0_hw6 : k0_chk6 v2875), ∀ a, (k0_off27 v2875) a + S1x1x128.size a ≤ S5x8x1152.size a := fun v2875 k0_hw6 => k0_hw6.2.1
theorem k0_off28_inb : ∀ (v2875 : BitVec 32) (k0_hw6 : k0_chk6 v2875), ∀ a, (k0_off28 v2875) a + S1x1x128.size a ≤ S5x8x1152.size a := fun v2875 k0_hw6 => k0_hw6.2.2.1
theorem k0_off29_inb : ∀ (v2875 : BitVec 32) (k0_hw6 : k0_chk6 v2875), ∀ a, (k0_off29 v2875) a + S1x1x128.size a ≤ S5x8x1152.size a := fun v2875 k0_hw6 => k0_hw6.2.2.2.1
theorem k0_off30_inb : ∀ (v2875 : BitVec 32) (k0_hw6 : k0_chk6 v2875), ∀ a, (k0_off30 v2875) a + S1x1x128.size a ≤ S5x8x1152.size a := fun v2875 k0_hw6 => k0_hw6.2.2.2.2.1
theorem k0_off31_inb : ∀ (v2875 : BitVec 32) (k0_hw6 : k0_chk6 v2875), ∀ a, (k0_off31 v2875) a + S1x1x128.size a ≤ S5x8x1152.size a := fun v2875 k0_hw6 => k0_hw6.2.2.2.2.2.1
theorem k0_off32_inb : ∀ (v2875 : BitVec 32) (k0_hw6 : k0_chk6 v2875), ∀ a, (k0_off32 v2875) a + S1x1x128.size a ≤ S5x8x1152.size a := fun v2875 k0_hw6 => k0_hw6.2.2.2.2.2.2.1
theorem k0_off33_inb : ∀ (v2875 : BitVec 32) (k0_hw6 : k0_chk6 v2875), ∀ a, (k0_off33 v2875) a + S1x1x128.size a ≤ S5x8x1152.size a := fun v2875 k0_hw6 => k0_hw6.2.2.2.2.2.2.2.1
theorem k0_off34_inb : ∀ (v2875 : BitVec 32) (k0_hw6 : k0_chk6 v2875), ∀ a, (k0_off34 v2875) a + S1x1x128.size a ≤ S5x8x1152.size a := fun v2875 k0_hw6 => k0_hw6.2.2.2.2.2.2.2.2

def k0_off35 (v2875 : BitVec 32) (v2876 : BitVec 32) : Fin 3 → Nat :=
  let v5617 : BitVec 1 := Scalar.cmpi .eq v2875 v2876
  let c5_i32_2172 : BitVec 32 := 5#32
  let v5618 : BitVec 32 := Scalar.select v5617 v2875 c5_i32_2172
  let v5619 : Index := Scalar.indexCast v5618
  let c0_2173 : Index := 0#32
  let c0_2174 : Index := 0#32
  ![v5619.toNat, 0, 0]

def k0_chk7 (v2875 : BitVec 32) (v2876 : BitVec 32) : Prop :=
  (∀ a, (k0_off35 v2875 v2876) a + S1x3x1152.size a ≤ S6x3x1152.size a)
theorem k0_off35_inb : ∀ (v2875 : BitVec 32) (v2876 : BitVec 32) (k0_hw7 : k0_chk7 v2875 v2876), ∀ a, (k0_off35 v2875 v2876) a + S1x3x1152.size a ≤ S6x3x1152.size a := fun v2875 v2876 k0_hw7 => k0_hw7

def k0_off36 (v5721 : BitVec 32) : Fin 3 → Nat :=
  let v5722 : Index := Scalar.indexCast v5721
  let c0_2211 : Index := 0#32
  let c0_2212 : Index := 0#32
  ![v5722.toNat, 0, 0]

def k0_off37 (v5721 : BitVec 32) : Fin 3 → Nat :=
  let v5740 : Index := Scalar.indexCast v5721
  let c0_2224 : Index := 0#32
  let c256_2225 : Index := 256#32
  ![v5740.toNat, 0, 256]
def k0_off38 (v5721 : BitVec 32) : Fin 3 → Nat :=
  let v5762 : Index := Scalar.indexCast v5721
  let c0_2237 : Index := 0#32
  let c512_2238 : Index := 512#32
  ![v5762.toNat, 0, 512]
def k0_off39 (v5721 : BitVec 32) : Fin 3 → Nat :=
  let v5784 : Index := Scalar.indexCast v5721
  let c0_2250 : Index := 0#32
  let c768_2251 : Index := 768#32
  ![v5784.toNat, 0, 768]
def k0_off40 (v5721 : BitVec 32) : Fin 3 → Nat :=
  let v5806 : Index := Scalar.indexCast v5721
  let c0_2263 : Index := 0#32
  let c1024_2264 : Index := 1024#32
  ![v5806.toNat, 0, 1024]

def k0_chk8 (v5721 : BitVec 32) : Prop :=
  (∀ a, (k0_off36 v5721) a + S1x16x256.size a ≤ S5x16x1152.size a) ∧
  (∀ a, (k0_off37 v5721) a + S1x16x256.size a ≤ S5x16x1152.size a) ∧
  (∀ a, (k0_off38 v5721) a + S1x16x256.size a ≤ S5x16x1152.size a) ∧
  (∀ a, (k0_off39 v5721) a + S1x16x256.size a ≤ S5x16x1152.size a) ∧
  (∀ a, (k0_off40 v5721) a + S1x16x128.size a ≤ S5x16x1152.size a)
theorem k0_off36_inb : ∀ (v5721 : BitVec 32) (k0_hw8 : k0_chk8 v5721), ∀ a, (k0_off36 v5721) a + S1x16x256.size a ≤ S5x16x1152.size a := fun v5721 k0_hw8 => k0_hw8.1
theorem k0_off37_inb : ∀ (v5721 : BitVec 32) (k0_hw8 : k0_chk8 v5721), ∀ a, (k0_off37 v5721) a + S1x16x256.size a ≤ S5x16x1152.size a := fun v5721 k0_hw8 => k0_hw8.2.1
theorem k0_off38_inb : ∀ (v5721 : BitVec 32) (k0_hw8 : k0_chk8 v5721), ∀ a, (k0_off38 v5721) a + S1x16x256.size a ≤ S5x16x1152.size a := fun v5721 k0_hw8 => k0_hw8.2.2.1
theorem k0_off39_inb : ∀ (v5721 : BitVec 32) (k0_hw8 : k0_chk8 v5721), ∀ a, (k0_off39 v5721) a + S1x16x256.size a ≤ S5x16x1152.size a := fun v5721 k0_hw8 => k0_hw8.2.2.2.1
theorem k0_off40_inb : ∀ (v5721 : BitVec 32) (k0_hw8 : k0_chk8 v5721), ∀ a, (k0_off40 v5721) a + S1x16x128.size a ≤ S5x16x1152.size a := fun v5721 k0_hw8 => k0_hw8.2.2.2.2

def k0_off41 (v5628 : BitVec 32) : Fin 3 → Nat :=
  let v5862 : Index := Scalar.indexCast v5628
  let c0_2284 : Index := 0#32
  let c0_2285 : Index := 0#32
  ![v5862.toNat, 0, 0]

def k0_off42 (v5628 : BitVec 32) : Fin 3 → Nat :=
  let v5893 : Index := Scalar.indexCast v5628
  let c0_2296 : Index := 0#32
  let c128_2297 : Index := 128#32
  ![v5893.toNat, 0, 128]
def k0_off43 (v5628 : BitVec 32) : Fin 3 → Nat :=
  let v5924 : Index := Scalar.indexCast v5628
  let c0_2308 : Index := 0#32
  let c256_2309 : Index := 256#32
  ![v5924.toNat, 0, 256]
def k0_off44 (v5628 : BitVec 32) : Fin 3 → Nat :=
  let v5955 : Index := Scalar.indexCast v5628
  let c0_2320 : Index := 0#32
  let c384_2321 : Index := 384#32
  ![v5955.toNat, 0, 384]
def k0_off45 (v5628 : BitVec 32) : Fin 3 → Nat :=
  let v5986 : Index := Scalar.indexCast v5628
  let c0_2332 : Index := 0#32
  let c512_2333 : Index := 512#32
  ![v5986.toNat, 0, 512]
def k0_off46 (v5628 : BitVec 32) : Fin 3 → Nat :=
  let v6017 : Index := Scalar.indexCast v5628
  let c0_2344 : Index := 0#32
  let c640_2345 : Index := 640#32
  ![v6017.toNat, 0, 640]
def k0_off47 (v5628 : BitVec 32) : Fin 3 → Nat :=
  let v6048 : Index := Scalar.indexCast v5628
  let c0_2356 : Index := 0#32
  let c768_2357 : Index := 768#32
  ![v6048.toNat, 0, 768]
def k0_off48 (v5628 : BitVec 32) : Fin 3 → Nat :=
  let v6079 : Index := Scalar.indexCast v5628
  let c0_2368 : Index := 0#32
  let c896_2369 : Index := 896#32
  ![v6079.toNat, 0, 896]
def k0_off49 (v5628 : BitVec 32) : Fin 3 → Nat :=
  let v6110 : Index := Scalar.indexCast v5628
  let c0_2380 : Index := 0#32
  let c1024_2381 : Index := 1024#32
  ![v6110.toNat, 0, 1024]

def k0_chk9 (v5628 : BitVec 32) : Prop :=
  (∀ a, (k0_off41 v5628) a + S1x1x128.size a ≤ S5x8x1152.size a) ∧
  (∀ a, (k0_off42 v5628) a + S1x1x128.size a ≤ S5x8x1152.size a) ∧
  (∀ a, (k0_off43 v5628) a + S1x1x128.size a ≤ S5x8x1152.size a) ∧
  (∀ a, (k0_off44 v5628) a + S1x1x128.size a ≤ S5x8x1152.size a) ∧
  (∀ a, (k0_off45 v5628) a + S1x1x128.size a ≤ S5x8x1152.size a) ∧
  (∀ a, (k0_off46 v5628) a + S1x1x128.size a ≤ S5x8x1152.size a) ∧
  (∀ a, (k0_off47 v5628) a + S1x1x128.size a ≤ S5x8x1152.size a) ∧
  (∀ a, (k0_off48 v5628) a + S1x1x128.size a ≤ S5x8x1152.size a) ∧
  (∀ a, (k0_off49 v5628) a + S1x1x128.size a ≤ S5x8x1152.size a)
theorem k0_off41_inb : ∀ (v5628 : BitVec 32) (k0_hw9 : k0_chk9 v5628), ∀ a, (k0_off41 v5628) a + S1x1x128.size a ≤ S5x8x1152.size a := fun v5628 k0_hw9 => k0_hw9.1
theorem k0_off42_inb : ∀ (v5628 : BitVec 32) (k0_hw9 : k0_chk9 v5628), ∀ a, (k0_off42 v5628) a + S1x1x128.size a ≤ S5x8x1152.size a := fun v5628 k0_hw9 => k0_hw9.2.1
theorem k0_off43_inb : ∀ (v5628 : BitVec 32) (k0_hw9 : k0_chk9 v5628), ∀ a, (k0_off43 v5628) a + S1x1x128.size a ≤ S5x8x1152.size a := fun v5628 k0_hw9 => k0_hw9.2.2.1
theorem k0_off44_inb : ∀ (v5628 : BitVec 32) (k0_hw9 : k0_chk9 v5628), ∀ a, (k0_off44 v5628) a + S1x1x128.size a ≤ S5x8x1152.size a := fun v5628 k0_hw9 => k0_hw9.2.2.2.1
theorem k0_off45_inb : ∀ (v5628 : BitVec 32) (k0_hw9 : k0_chk9 v5628), ∀ a, (k0_off45 v5628) a + S1x1x128.size a ≤ S5x8x1152.size a := fun v5628 k0_hw9 => k0_hw9.2.2.2.2.1
theorem k0_off46_inb : ∀ (v5628 : BitVec 32) (k0_hw9 : k0_chk9 v5628), ∀ a, (k0_off46 v5628) a + S1x1x128.size a ≤ S5x8x1152.size a := fun v5628 k0_hw9 => k0_hw9.2.2.2.2.2.1
theorem k0_off47_inb : ∀ (v5628 : BitVec 32) (k0_hw9 : k0_chk9 v5628), ∀ a, (k0_off47 v5628) a + S1x1x128.size a ≤ S5x8x1152.size a := fun v5628 k0_hw9 => k0_hw9.2.2.2.2.2.2.1
theorem k0_off48_inb : ∀ (v5628 : BitVec 32) (k0_hw9 : k0_chk9 v5628), ∀ a, (k0_off48 v5628) a + S1x1x128.size a ≤ S5x8x1152.size a := fun v5628 k0_hw9 => k0_hw9.2.2.2.2.2.2.2.1
theorem k0_off49_inb : ∀ (v5628 : BitVec 32) (k0_hw9 : k0_chk9 v5628), ∀ a, (k0_off49 v5628) a + S1x1x128.size a ≤ S5x8x1152.size a := fun v5628 k0_hw9 => k0_hw9.2.2.2.2.2.2.2.2

def k0_off50 (v5628 : BitVec 32) (v5629 : BitVec 32) : Fin 3 → Nat :=
  let v8370 : BitVec 1 := Scalar.cmpi .eq v5628 v5629
  let c5_i32_3233 : BitVec 32 := 5#32
  let v8371 : BitVec 32 := Scalar.select v8370 v5628 c5_i32_3233
  let v8372 : Index := Scalar.indexCast v8371
  let c0_3234 : Index := 0#32
  let c0_3235 : Index := 0#32
  ![v8372.toNat, 0, 0]

def k0_chk10 (v5628 : BitVec 32) (v5629 : BitVec 32) : Prop :=
  (∀ a, (k0_off50 v5628 v5629) a + S1x3x1152.size a ≤ S6x3x1152.size a)
theorem k0_off50_inb : ∀ (v5628 : BitVec 32) (v5629 : BitVec 32) (k0_hw10 : k0_chk10 v5628 v5629), ∀ a, (k0_off50 v5628 v5629) a + S1x3x1152.size a ≤ S6x3x1152.size a := fun v5628 v5629 k0_hw10 => k0_hw10

def k0_off51 (v8381 : BitVec 32) : Fin 3 → Nat :=
  let v8496 : Index := Scalar.indexCast v8381
  let c0_3279 : Index := 0#32
  let c0_3280 : Index := 0#32
  ![v8496.toNat, 0, 0]

def k0_off52 (v8381 : BitVec 32) : Fin 3 → Nat :=
  let v8527 : Index := Scalar.indexCast v8381
  let c0_3291 : Index := 0#32
  let c128_3292 : Index := 128#32
  ![v8527.toNat, 0, 128]
def k0_off53 (v8381 : BitVec 32) : Fin 3 → Nat :=
  let v8558 : Index := Scalar.indexCast v8381
  let c0_3303 : Index := 0#32
  let c256_3304 : Index := 256#32
  ![v8558.toNat, 0, 256]
def k0_off54 (v8381 : BitVec 32) : Fin 3 → Nat :=
  let v8589 : Index := Scalar.indexCast v8381
  let c0_3315 : Index := 0#32
  let c384_3316 : Index := 384#32
  ![v8589.toNat, 0, 384]
def k0_off55 (v8381 : BitVec 32) : Fin 3 → Nat :=
  let v8620 : Index := Scalar.indexCast v8381
  let c0_3327 : Index := 0#32
  let c512_3328 : Index := 512#32
  ![v8620.toNat, 0, 512]
def k0_off56 (v8381 : BitVec 32) : Fin 3 → Nat :=
  let v8651 : Index := Scalar.indexCast v8381
  let c0_3339 : Index := 0#32
  let c640_3340 : Index := 640#32
  ![v8651.toNat, 0, 640]
def k0_off57 (v8381 : BitVec 32) : Fin 3 → Nat :=
  let v8682 : Index := Scalar.indexCast v8381
  let c0_3351 : Index := 0#32
  let c768_3352 : Index := 768#32
  ![v8682.toNat, 0, 768]
def k0_off58 (v8381 : BitVec 32) : Fin 3 → Nat :=
  let v8713 : Index := Scalar.indexCast v8381
  let c0_3363 : Index := 0#32
  let c896_3364 : Index := 896#32
  ![v8713.toNat, 0, 896]
def k0_off59 (v8381 : BitVec 32) : Fin 3 → Nat :=
  let v8744 : Index := Scalar.indexCast v8381
  let c0_3375 : Index := 0#32
  let c1024_3376 : Index := 1024#32
  ![v8744.toNat, 0, 1024]

def k0_chk11 (v8381 : BitVec 32) : Prop :=
  (∀ a, (k0_off51 v8381) a + S1x1x128.size a ≤ S5x8x1152.size a) ∧
  (∀ a, (k0_off52 v8381) a + S1x1x128.size a ≤ S5x8x1152.size a) ∧
  (∀ a, (k0_off53 v8381) a + S1x1x128.size a ≤ S5x8x1152.size a) ∧
  (∀ a, (k0_off54 v8381) a + S1x1x128.size a ≤ S5x8x1152.size a) ∧
  (∀ a, (k0_off55 v8381) a + S1x1x128.size a ≤ S5x8x1152.size a) ∧
  (∀ a, (k0_off56 v8381) a + S1x1x128.size a ≤ S5x8x1152.size a) ∧
  (∀ a, (k0_off57 v8381) a + S1x1x128.size a ≤ S5x8x1152.size a) ∧
  (∀ a, (k0_off58 v8381) a + S1x1x128.size a ≤ S5x8x1152.size a) ∧
  (∀ a, (k0_off59 v8381) a + S1x1x128.size a ≤ S5x8x1152.size a)
theorem k0_off51_inb : ∀ (v8381 : BitVec 32) (k0_hw11 : k0_chk11 v8381), ∀ a, (k0_off51 v8381) a + S1x1x128.size a ≤ S5x8x1152.size a := fun v8381 k0_hw11 => k0_hw11.1
theorem k0_off52_inb : ∀ (v8381 : BitVec 32) (k0_hw11 : k0_chk11 v8381), ∀ a, (k0_off52 v8381) a + S1x1x128.size a ≤ S5x8x1152.size a := fun v8381 k0_hw11 => k0_hw11.2.1
theorem k0_off53_inb : ∀ (v8381 : BitVec 32) (k0_hw11 : k0_chk11 v8381), ∀ a, (k0_off53 v8381) a + S1x1x128.size a ≤ S5x8x1152.size a := fun v8381 k0_hw11 => k0_hw11.2.2.1
theorem k0_off54_inb : ∀ (v8381 : BitVec 32) (k0_hw11 : k0_chk11 v8381), ∀ a, (k0_off54 v8381) a + S1x1x128.size a ≤ S5x8x1152.size a := fun v8381 k0_hw11 => k0_hw11.2.2.2.1
theorem k0_off55_inb : ∀ (v8381 : BitVec 32) (k0_hw11 : k0_chk11 v8381), ∀ a, (k0_off55 v8381) a + S1x1x128.size a ≤ S5x8x1152.size a := fun v8381 k0_hw11 => k0_hw11.2.2.2.2.1
theorem k0_off56_inb : ∀ (v8381 : BitVec 32) (k0_hw11 : k0_chk11 v8381), ∀ a, (k0_off56 v8381) a + S1x1x128.size a ≤ S5x8x1152.size a := fun v8381 k0_hw11 => k0_hw11.2.2.2.2.2.1
theorem k0_off57_inb : ∀ (v8381 : BitVec 32) (k0_hw11 : k0_chk11 v8381), ∀ a, (k0_off57 v8381) a + S1x1x128.size a ≤ S5x8x1152.size a := fun v8381 k0_hw11 => k0_hw11.2.2.2.2.2.2.1
theorem k0_off58_inb : ∀ (v8381 : BitVec 32) (k0_hw11 : k0_chk11 v8381), ∀ a, (k0_off58 v8381) a + S1x1x128.size a ≤ S5x8x1152.size a := fun v8381 k0_hw11 => k0_hw11.2.2.2.2.2.2.2.1
theorem k0_off59_inb : ∀ (v8381 : BitVec 32) (k0_hw11 : k0_chk11 v8381), ∀ a, (k0_off59 v8381) a + S1x1x128.size a ≤ S5x8x1152.size a := fun v8381 k0_hw11 => k0_hw11.2.2.2.2.2.2.2.2

def k0_off60 (v8381 : BitVec 32) (v8382 : BitVec 32) : Fin 3 → Nat :=
  let v11004 : BitVec 1 := Scalar.cmpi .eq v8381 v8382
  let c5_i32_4228 : BitVec 32 := 5#32
  let v11005 : BitVec 32 := Scalar.select v11004 v8381 c5_i32_4228
  let v11006 : Index := Scalar.indexCast v11005
  let c0_4229 : Index := 0#32
  let c0_4230 : Index := 0#32
  ![v11006.toNat, 0, 0]

def k0_chk12 (v8381 : BitVec 32) (v8382 : BitVec 32) : Prop :=
  (∀ a, (k0_off60 v8381 v8382) a + S1x3x1152.size a ≤ S6x3x1152.size a)
theorem k0_off60_inb : ∀ (v8381 : BitVec 32) (v8382 : BitVec 32) (k0_hw12 : k0_chk12 v8381 v8382), ∀ a, (k0_off60 v8381 v8382) a + S1x3x1152.size a ≤ S6x3x1152.size a := fun v8381 v8382 k0_hw12 => k0_hw12

@[reducible] def k0_t1_loop : Scf.Loop 32 :=
  let c0_i32_4239 : BitVec 32 := 0#32
  let c4_i32 : BitVec 32 := 4#32
  let v11023 : BitVec 32 := Scalar.addi c0_i32_4239 c4_i32
  let c1_i32 : BitVec 32 := 1#32
  ⟨c0_i32_4239, v11023, c1_i32⟩
def k0_off61 (k0_t1 : Fin k0_t1_loop.trips) : Fin 2 → Nat :=
  let c2_i32 : BitVec 32 := 2#32
  let c0_i32_4239 : BitVec 32 := 0#32
  let c1_i32 : BitVec 32 := 1#32
  let arg20 : BitVec 32 := Scf.iv c0_i32_4239 c1_i32 k0_t1
  let v11024 : BitVec 32 := Scalar.muli c2_i32 arg20
  let v11025 : Index := Scalar.indexCast v11024
  let c0_4241 : Index := 0#32
  ![v11025.toNat, 0]
def k0_off62 (k0_t1 : Fin k0_t1_loop.trips) : Fin 2 → Nat :=
  let c2_i32_4242 : BitVec 32 := 2#32
  let c0_i32_4239 : BitVec 32 := 0#32
  let c1_i32 : BitVec 32 := 1#32
  let arg20 : BitVec 32 := Scf.iv c0_i32_4239 c1_i32 k0_t1
  let v11027 : BitVec 32 := Scalar.muli c2_i32_4242 arg20
  let c1_i32_4243 : BitVec 32 := 1#32
  let v11028 : BitVec 32 := Scalar.addi v11027 c1_i32_4243
  let v11029 : Index := Scalar.indexCast v11028
  let c127_4244 : Index := 127#32
  ![v11029.toNat, 127]
@[reducible] def k0_t2_loop (v11026 : BitVec 32) (v11030 : BitVec 32) : Scf.Loop 32 :=
  let c1_i32_4246 : BitVec 32 := 1#32
  let v11034 : BitVec 32 := Scalar.addi v11030 c1_i32_4246
  let v11035 : BitVec 32 := Scalar.subi v11034 v11026
  let c1_i32_4248 : BitVec 32 := 1#32
  let v11037 : BitVec 32 := Scalar.divsi v11035 c1_i32_4248
  let v11038 : BitVec 32 := Scalar.muli v11037 c1_i32_4248
  let v11039 : BitVec 32 := Scalar.addi v11026 v11038
  let c1_i32_4249 : BitVec 32 := 1#32
  ⟨v11026, v11039, c1_i32_4249⟩
def k0_cond2 (v11015 : BitVec 32) (v11016 : BitVec 32) : BitVec 1 :=
  let v11017 : BitVec 1 := Scalar.cmpi .ne v11015 v11016
  let v11018 : BitVec 32 := Scalar.extui v11017
  let c0_i32_4237 : BitVec 32 := 0#32
  let v11019 : BitVec 1 := Scalar.cmpi .ne v11018 c0_i32_4237
  v11019

def k0_cond3 (v11026 : BitVec 32) (v11030 : BitVec 32) : BitVec 1 :=
  let v11031 : BitVec 1 := Scalar.cmpi .ne v11026 v11030
  let v11032 : BitVec 32 := Scalar.extui v11031
  let c0_i32_4245 : BitVec 32 := 0#32
  let v11033 : BitVec 1 := Scalar.cmpi .ne v11032 c0_i32_4245
  v11033

def k0_off63 (k0_t1 : Fin k0_t1_loop.trips) : Fin 2 → Nat :=
  let c2_i32_4251 : BitVec 32 := 2#32
  let c0_i32_4239 : BitVec 32 := 0#32
  let c1_i32 : BitVec 32 := 1#32
  let arg20 : BitVec 32 := Scf.iv c0_i32_4239 c1_i32 k0_t1
  let v11040 : BitVec 32 := Scalar.muli c2_i32_4251 arg20
  let v11041 : Index := Scalar.indexCast v11040
  let c0_4252 : Index := 0#32
  ![v11041.toNat, 0]
def k0_off64 (k0_t1 : Fin k0_t1_loop.trips) : Fin 2 → Nat :=
  let c2_i32_4253 : BitVec 32 := 2#32
  let c0_i32_4239 : BitVec 32 := 0#32
  let c1_i32 : BitVec 32 := 1#32
  let arg20 : BitVec 32 := Scf.iv c0_i32_4239 c1_i32 k0_t1
  let v11044 : BitVec 32 := Scalar.muli c2_i32_4253 arg20
  let c1_i32_4254 : BitVec 32 := 1#32
  let v11045 : BitVec 32 := Scalar.addi v11044 c1_i32_4254
  let v11046 : Index := Scalar.indexCast v11045
  let c0_4255 : Index := 0#32
  ![v11046.toNat, 0]
def k0_off65 (v11026 : BitVec 32) (v11030 : BitVec 32) (k0_t2 : Fin (k0_t2_loop v11026 v11030).trips) : Fin 3 → Nat :=
  let c1_i32_4249 : BitVec 32 := 1#32
  let arg21 : BitVec 32 := Scf.iv v11026 c1_i32_4249 k0_t2
  let v11055 : Index := Scalar.indexCast arg21
  let c0_4256 : Index := 0#32
  let c0_4257 : Index := 0#32
  ![v11055.toNat, 0, 0]
def k0_off66 (k0_t1 : Fin k0_t1_loop.trips) : Fin 2 → Nat :=
  let c0_i32_4239 : BitVec 32 := 0#32
  let c1_i32 : BitVec 32 := 1#32
  let arg20 : BitVec 32 := Scf.iv c0_i32_4239 c1_i32 k0_t1
  let c256_i32 : BitVec 32 := 256#32
  let v11054 : BitVec 32 := Scalar.muli arg20 c256_i32
  let v11058 : Index := Scalar.indexCast v11054
  let c0_4258 : Index := 0#32
  ![v11058.toNat, 0]
def k0_off67 (v11026 : BitVec 32) (v11030 : BitVec 32) (k0_t2 : Fin (k0_t2_loop v11026 v11030).trips) : Fin 3 → Nat :=
  let c1_i32_4249 : BitVec 32 := 1#32
  let arg21 : BitVec 32 := Scf.iv v11026 c1_i32_4249 k0_t2
  let v11075 : Index := Scalar.indexCast arg21
  let c0_4267 : Index := 0#32
  let c256_4268 : Index := 256#32
  ![v11075.toNat, 0, 256]
def k0_off68 (k0_t1 : Fin k0_t1_loop.trips) : Fin 2 → Nat :=
  let c0_i32_4239 : BitVec 32 := 0#32
  let c1_i32 : BitVec 32 := 1#32
  let arg20 : BitVec 32 := Scf.iv c0_i32_4239 c1_i32 k0_t1
  let c256_i32 : BitVec 32 := 256#32
  let v11054 : BitVec 32 := Scalar.muli arg20 c256_i32
  let v11078 : Index := Scalar.indexCast v11054
  let c256_4269 : Index := 256#32
  ![v11078.toNat, 256]
def k0_off69 (v11026 : BitVec 32) (v11030 : BitVec 32) (k0_t2 : Fin (k0_t2_loop v11026 v11030).trips) : Fin 3 → Nat :=
  let c1_i32_4249 : BitVec 32 := 1#32
  let arg21 : BitVec 32 := Scf.iv v11026 c1_i32_4249 k0_t2
  let v11099 : Index := Scalar.indexCast arg21
  let c0_4278 : Index := 0#32
  let c512_4279 : Index := 512#32
  ![v11099.toNat, 0, 512]
def k0_off70 (k0_t1 : Fin k0_t1_loop.trips) : Fin 2 → Nat :=
  let c0_i32_4239 : BitVec 32 := 0#32
  let c1_i32 : BitVec 32 := 1#32
  let arg20 : BitVec 32 := Scf.iv c0_i32_4239 c1_i32 k0_t1
  let c256_i32 : BitVec 32 := 256#32
  let v11054 : BitVec 32 := Scalar.muli arg20 c256_i32
  let v11102 : Index := Scalar.indexCast v11054
  let c512_4280 : Index := 512#32
  ![v11102.toNat, 512]
def k0_off71 (v11026 : BitVec 32) (v11030 : BitVec 32) (k0_t2 : Fin (k0_t2_loop v11026 v11030).trips) : Fin 3 → Nat :=
  let c1_i32_4249 : BitVec 32 := 1#32
  let arg21 : BitVec 32 := Scf.iv v11026 c1_i32_4249 k0_t2
  let v11123 : Index := Scalar.indexCast arg21
  let c0_4289 : Index := 0#32
  let c768_4290 : Index := 768#32
  ![v11123.toNat, 0, 768]
def k0_off72 (k0_t1 : Fin k0_t1_loop.trips) : Fin 2 → Nat :=
  let c0_i32_4239 : BitVec 32 := 0#32
  let c1_i32 : BitVec 32 := 1#32
  let arg20 : BitVec 32 := Scf.iv c0_i32_4239 c1_i32 k0_t1
  let c256_i32 : BitVec 32 := 256#32
  let v11054 : BitVec 32 := Scalar.muli arg20 c256_i32
  let v11126 : Index := Scalar.indexCast v11054
  let c768_4291 : Index := 768#32
  ![v11126.toNat, 768]
def k0_off73 (v11026 : BitVec 32) (v11030 : BitVec 32) (k0_t2 : Fin (k0_t2_loop v11026 v11030).trips) : Fin 3 → Nat :=
  let c1_i32_4249 : BitVec 32 := 1#32
  let arg21 : BitVec 32 := Scf.iv v11026 c1_i32_4249 k0_t2
  let v11147 : Index := Scalar.indexCast arg21
  let c0_4300 : Index := 0#32
  let c1024_4301 : Index := 1024#32
  ![v11147.toNat, 0, 1024]
def k0_off74 (k0_t1 : Fin k0_t1_loop.trips) : Fin 2 → Nat :=
  let c0_i32_4239 : BitVec 32 := 0#32
  let c1_i32 : BitVec 32 := 1#32
  let arg20 : BitVec 32 := Scf.iv c0_i32_4239 c1_i32 k0_t1
  let c256_i32 : BitVec 32 := 256#32
  let v11054 : BitVec 32 := Scalar.muli arg20 c256_i32
  let v11150 : Index := Scalar.indexCast v11054
  let c1024_4302 : Index := 1024#32
  ![v11150.toNat, 1024]
@[reducible] def k0_t3_loop : Scf.Loop 32 :=
  let c0_i32_4349 : BitVec 32 := 0#32
  let c8_i32 : BitVec 32 := 8#32
  let v11293 : BitVec 32 := Scalar.addi c0_i32_4349 c8_i32
  let c1_i32_4350 : BitVec 32 := 1#32
  ⟨c0_i32_4349, v11293, c1_i32_4350⟩
def k0_mult1 (k0_t3 : Fin k0_t3_loop.trips) : BitVec 32 :=
  let c0_i32_4349 : BitVec 32 := 0#32
  let c1_i32_4350 : BitVec 32 := 1#32
  let arg22 : BitVec 32 := Scf.iv c0_i32_4349 c1_i32_4350 k0_t3
  let c32_i32 : BitVec 32 := 32#32
  let v11388 : BitVec 32 := Scalar.muli arg22 c32_i32
  v11388
def k0_off75 (k0_t3 : Fin k0_t3_loop.trips) : Fin 2 → Nat :=
  let c0_i32_4349 : BitVec 32 := 0#32
  let c1_i32_4350 : BitVec 32 := 1#32
  let arg22 : BitVec 32 := Scf.iv c0_i32_4349 c1_i32_4350 k0_t3
  let c32_i32 : BitVec 32 := 32#32
  let v11388 : BitVec 32 := Scalar.muli arg22 c32_i32
  let v11389 : BitVec 32 := v11388
  let v11392 : Index := Scalar.indexCast v11389
  let c0_4380 : Index := 0#32
  ![v11392.toNat, 0]
def k0_off76 (k0_t1 : Fin k0_t1_loop.trips) (k0_t3 : Fin k0_t3_loop.trips) : Fin 2 → Nat :=
  let c0_i32_4239 : BitVec 32 := 0#32
  let c1_i32 : BitVec 32 := 1#32
  let arg20 : BitVec 32 := Scf.iv c0_i32_4239 c1_i32 k0_t1
  let c256_i32_4379 : BitVec 32 := 256#32
  let v11390 : BitVec 32 := Scalar.muli arg20 c256_i32_4379
  let c0_i32_4349 : BitVec 32 := 0#32
  let c1_i32_4350 : BitVec 32 := 1#32
  let arg22 : BitVec 32 := Scf.iv c0_i32_4349 c1_i32_4350 k0_t3
  let c32_i32 : BitVec 32 := 32#32
  let v11388 : BitVec 32 := Scalar.muli arg22 c32_i32
  let v11389 : BitVec 32 := v11388
  let v11391 : BitVec 32 := Scalar.addi v11390 v11389
  let v11412 : Index := Scalar.indexCast v11391
  let c0_4381 : Index := 0#32
  ![v11412.toNat, 0]
def k0_off77 (v11026 : BitVec 32) (v11030 : BitVec 32) (k0_t2 : Fin (k0_t2_loop v11026 v11030).trips) : Fin 3 → Nat :=
  let c1_i32_4249 : BitVec 32 := 1#32
  let arg21 : BitVec 32 := Scf.iv v11026 c1_i32_4249 k0_t2
  let v11424 : Index := Scalar.indexCast arg21
  let c0_4384 : Index := 0#32
  let c0_4385 : Index := 0#32
  ![v11424.toNat, 0, 0]
def k0_off78 (k0_t1 : Fin k0_t1_loop.trips) (k0_t3 : Fin k0_t3_loop.trips) : Fin 2 → Nat :=
  let c0_i32_4239 : BitVec 32 := 0#32
  let c1_i32 : BitVec 32 := 1#32
  let arg20 : BitVec 32 := Scf.iv c0_i32_4239 c1_i32 k0_t1
  let c256_i32_4379 : BitVec 32 := 256#32
  let v11390 : BitVec 32 := Scalar.muli arg20 c256_i32_4379
  let c0_i32_4349 : BitVec 32 := 0#32
  let c1_i32_4350 : BitVec 32 := 1#32
  let arg22 : BitVec 32 := Scf.iv c0_i32_4349 c1_i32_4350 k0_t3
  let c32_i32 : BitVec 32 := 32#32
  let v11388 : BitVec 32 := Scalar.muli arg22 c32_i32
  let v11389 : BitVec 32 := v11388
  let v11391 : BitVec 32 := Scalar.addi v11390 v11389
  let v11459 : Index := Scalar.indexCast v11391
  let c128_4392 : Index := 128#32
  ![v11459.toNat, 128]
def k0_off79 (v11026 : BitVec 32) (v11030 : BitVec 32) (k0_t2 : Fin (k0_t2_loop v11026 v11030).trips) : Fin 3 → Nat :=
  let c1_i32_4249 : BitVec 32 := 1#32
  let arg21 : BitVec 32 := Scf.iv v11026 c1_i32_4249 k0_t2
  let v11471 : Index := Scalar.indexCast arg21
  let c0_4395 : Index := 0#32
  let c128_4396 : Index := 128#32
  ![v11471.toNat, 0, 128]
def k0_off80 (k0_t1 : Fin k0_t1_loop.trips) (k0_t3 : Fin k0_t3_loop.trips) : Fin 2 → Nat :=
  let c0_i32_4239 : BitVec 32 := 0#32
  let c1_i32 : BitVec 32 := 1#32
  let arg20 : BitVec 32 := Scf.iv c0_i32_4239 c1_i32 k0_t1
  let c256_i32_4379 : BitVec 32 := 256#32
  let v11390 : BitVec 32 := Scalar.muli arg20 c256_i32_4379
  let c0_i32_4349 : BitVec 32 := 0#32
  let c1_i32_4350 : BitVec 32 := 1#32
  let arg22 : BitVec 32 := Scf.iv c0_i32_4349 c1_i32_4350 k0_t3
  let c32_i32 : BitVec 32 := 32#32
  let v11388 : BitVec 32 := Scalar.muli arg22 c32_i32
  let v11389 : BitVec 32 := v11388
  let v11391 : BitVec 32 := Scalar.addi v11390 v11389
  let v11506 : Index := Scalar.indexCast v11391
  let c256_4403 : Index := 256#32
  ![v11506.toNat, 256]
def k0_off81 (v11026 : BitVec 32) (v11030 : BitVec 32) (k0_t2 : Fin (k0_t2_loop v11026 v11030).trips) : Fin 3 → Nat :=
  let c1_i32_4249 : BitVec 32 := 1#32
  let arg21 : BitVec 32 := Scf.iv v11026 c1_i32_4249 k0_t2
  let v11518 : Index := Scalar.indexCast arg21
  let c0_4406 : Index := 0#32
  let c256_4407 : Index := 256#32
  ![v11518.toNat, 0, 256]
def k0_off82 (k0_t1 : Fin k0_t1_loop.trips) (k0_t3 : Fin k0_t3_loop.trips) : Fin 2 → Nat :=
  let c0_i32_4239 : BitVec 32 := 0#32
  let c1_i32 : BitVec 32 := 1#32
  let arg20 : BitVec 32 := Scf.iv c0_i32_4239 c1_i32 k0_t1
  let c256_i32_4379 : BitVec 32 := 256#32
  let v11390 : BitVec 32 := Scalar.muli arg20 c256_i32_4379
  let c0_i32_4349 : BitVec 32 := 0#32
  let c1_i32_4350 : BitVec 32 := 1#32
  let arg22 : BitVec 32 := Scf.iv c0_i32_4349 c1_i32_4350 k0_t3
  let c32_i32 : BitVec 32 := 32#32
  let v11388 : BitVec 32 := Scalar.muli arg22 c32_i32
  let v11389 : BitVec 32 := v11388
  let v11391 : BitVec 32 := Scalar.addi v11390 v11389
  let v11553 : Index := Scalar.indexCast v11391
  let c384_4414 : Index := 384#32
  ![v11553.toNat, 384]
def k0_off83 (v11026 : BitVec 32) (v11030 : BitVec 32) (k0_t2 : Fin (k0_t2_loop v11026 v11030).trips) : Fin 3 → Nat :=
  let c1_i32_4249 : BitVec 32 := 1#32
  let arg21 : BitVec 32 := Scf.iv v11026 c1_i32_4249 k0_t2
  let v11565 : Index := Scalar.indexCast arg21
  let c0_4417 : Index := 0#32
  let c384_4418 : Index := 384#32
  ![v11565.toNat, 0, 384]
def k0_off84 (k0_t1 : Fin k0_t1_loop.trips) (k0_t3 : Fin k0_t3_loop.trips) : Fin 2 → Nat :=
  let c0_i32_4239 : BitVec 32 := 0#32
  let c1_i32 : BitVec 32 := 1#32
  let arg20 : BitVec 32 := Scf.iv c0_i32_4239 c1_i32 k0_t1
  let c256_i32_4379 : BitVec 32 := 256#32
  let v11390 : BitVec 32 := Scalar.muli arg20 c256_i32_4379
  let c0_i32_4349 : BitVec 32 := 0#32
  let c1_i32_4350 : BitVec 32 := 1#32
  let arg22 : BitVec 32 := Scf.iv c0_i32_4349 c1_i32_4350 k0_t3
  let c32_i32 : BitVec 32 := 32#32
  let v11388 : BitVec 32 := Scalar.muli arg22 c32_i32
  let v11389 : BitVec 32 := v11388
  let v11391 : BitVec 32 := Scalar.addi v11390 v11389
  let v11600 : Index := Scalar.indexCast v11391
  let c512_4425 : Index := 512#32
  ![v11600.toNat, 512]
def k0_off85 (v11026 : BitVec 32) (v11030 : BitVec 32) (k0_t2 : Fin (k0_t2_loop v11026 v11030).trips) : Fin 3 → Nat :=
  let c1_i32_4249 : BitVec 32 := 1#32
  let arg21 : BitVec 32 := Scf.iv v11026 c1_i32_4249 k0_t2
  let v11612 : Index := Scalar.indexCast arg21
  let c0_4428 : Index := 0#32
  let c512_4429 : Index := 512#32
  ![v11612.toNat, 0, 512]
def k0_off86 (k0_t1 : Fin k0_t1_loop.trips) (k0_t3 : Fin k0_t3_loop.trips) : Fin 2 → Nat :=
  let c0_i32_4239 : BitVec 32 := 0#32
  let c1_i32 : BitVec 32 := 1#32
  let arg20 : BitVec 32 := Scf.iv c0_i32_4239 c1_i32 k0_t1
  let c256_i32_4379 : BitVec 32 := 256#32
  let v11390 : BitVec 32 := Scalar.muli arg20 c256_i32_4379
  let c0_i32_4349 : BitVec 32 := 0#32
  let c1_i32_4350 : BitVec 32 := 1#32
  let arg22 : BitVec 32 := Scf.iv c0_i32_4349 c1_i32_4350 k0_t3
  let c32_i32 : BitVec 32 := 32#32
  let v11388 : BitVec 32 := Scalar.muli arg22 c32_i32
  let v11389 : BitVec 32 := v11388
  let v11391 : BitVec 32 := Scalar.addi v11390 v11389
  let v11647 : Index := Scalar.indexCast v11391
  let c640_4436 : Index := 640#32
  ![v11647.toNat, 640]
def k0_off87 (v11026 : BitVec 32) (v11030 : BitVec 32) (k0_t2 : Fin (k0_t2_loop v11026 v11030).trips) : Fin 3 → Nat :=
  let c1_i32_4249 : BitVec 32 := 1#32
  let arg21 : BitVec 32 := Scf.iv v11026 c1_i32_4249 k0_t2
  let v11659 : Index := Scalar.indexCast arg21
  let c0_4439 : Index := 0#32
  let c640_4440 : Index := 640#32
  ![v11659.toNat, 0, 640]
def k0_off88 (k0_t1 : Fin k0_t1_loop.trips) (k0_t3 : Fin k0_t3_loop.trips) : Fin 2 → Nat :=
  let c0_i32_4239 : BitVec 32 := 0#32
  let c1_i32 : BitVec 32 := 1#32
  let arg20 : BitVec 32 := Scf.iv c0_i32_4239 c1_i32 k0_t1
  let c256_i32_4379 : BitVec 32 := 256#32
  let v11390 : BitVec 32 := Scalar.muli arg20 c256_i32_4379
  let c0_i32_4349 : BitVec 32 := 0#32
  let c1_i32_4350 : BitVec 32 := 1#32
  let arg22 : BitVec 32 := Scf.iv c0_i32_4349 c1_i32_4350 k0_t3
  let c32_i32 : BitVec 32 := 32#32
  let v11388 : BitVec 32 := Scalar.muli arg22 c32_i32
  let v11389 : BitVec 32 := v11388
  let v11391 : BitVec 32 := Scalar.addi v11390 v11389
  let v11694 : Index := Scalar.indexCast v11391
  let c768_4447 : Index := 768#32
  ![v11694.toNat, 768]
def k0_off89 (v11026 : BitVec 32) (v11030 : BitVec 32) (k0_t2 : Fin (k0_t2_loop v11026 v11030).trips) : Fin 3 → Nat :=
  let c1_i32_4249 : BitVec 32 := 1#32
  let arg21 : BitVec 32 := Scf.iv v11026 c1_i32_4249 k0_t2
  let v11706 : Index := Scalar.indexCast arg21
  let c0_4450 : Index := 0#32
  let c768_4451 : Index := 768#32
  ![v11706.toNat, 0, 768]
def k0_off90 (k0_t1 : Fin k0_t1_loop.trips) (k0_t3 : Fin k0_t3_loop.trips) : Fin 2 → Nat :=
  let c0_i32_4239 : BitVec 32 := 0#32
  let c1_i32 : BitVec 32 := 1#32
  let arg20 : BitVec 32 := Scf.iv c0_i32_4239 c1_i32 k0_t1
  let c256_i32_4379 : BitVec 32 := 256#32
  let v11390 : BitVec 32 := Scalar.muli arg20 c256_i32_4379
  let c0_i32_4349 : BitVec 32 := 0#32
  let c1_i32_4350 : BitVec 32 := 1#32
  let arg22 : BitVec 32 := Scf.iv c0_i32_4349 c1_i32_4350 k0_t3
  let c32_i32 : BitVec 32 := 32#32
  let v11388 : BitVec 32 := Scalar.muli arg22 c32_i32
  let v11389 : BitVec 32 := v11388
  let v11391 : BitVec 32 := Scalar.addi v11390 v11389
  let v11741 : Index := Scalar.indexCast v11391
  let c896_4458 : Index := 896#32
  ![v11741.toNat, 896]
def k0_off91 (v11026 : BitVec 32) (v11030 : BitVec 32) (k0_t2 : Fin (k0_t2_loop v11026 v11030).trips) : Fin 3 → Nat :=
  let c1_i32_4249 : BitVec 32 := 1#32
  let arg21 : BitVec 32 := Scf.iv v11026 c1_i32_4249 k0_t2
  let v11753 : Index := Scalar.indexCast arg21
  let c0_4461 : Index := 0#32
  let c896_4462 : Index := 896#32
  ![v11753.toNat, 0, 896]
def k0_off92 (k0_t1 : Fin k0_t1_loop.trips) (k0_t3 : Fin k0_t3_loop.trips) : Fin 2 → Nat :=
  let c0_i32_4239 : BitVec 32 := 0#32
  let c1_i32 : BitVec 32 := 1#32
  let arg20 : BitVec 32 := Scf.iv c0_i32_4239 c1_i32 k0_t1
  let c256_i32_4379 : BitVec 32 := 256#32
  let v11390 : BitVec 32 := Scalar.muli arg20 c256_i32_4379
  let c0_i32_4349 : BitVec 32 := 0#32
  let c1_i32_4350 : BitVec 32 := 1#32
  let arg22 : BitVec 32 := Scf.iv c0_i32_4349 c1_i32_4350 k0_t3
  let c32_i32 : BitVec 32 := 32#32
  let v11388 : BitVec 32 := Scalar.muli arg22 c32_i32
  let v11389 : BitVec 32 := v11388
  let v11391 : BitVec 32 := Scalar.addi v11390 v11389
  let v11788 : Index := Scalar.indexCast v11391
  let c1024_4469 : Index := 1024#32
  ![v11788.toNat, 1024]
def k0_off93 (v11026 : BitVec 32) (v11030 : BitVec 32) (k0_t2 : Fin (k0_t2_loop v11026 v11030).trips) : Fin 3 → Nat :=
  let c1_i32_4249 : BitVec 32 := 1#32
  let arg21 : BitVec 32 := Scf.iv v11026 c1_i32_4249 k0_t2
  let v11800 : Index := Scalar.indexCast arg21
  let c0_4472 : Index := 0#32
  let c1024_4473 : Index := 1024#32
  ![v11800.toNat, 0, 1024]
def k0_off94 (k0_t1 : Fin k0_t1_loop.trips) : Fin 2 → Nat :=
  let c0_i32_4239 : BitVec 32 := 0#32
  let c1_i32 : BitVec 32 := 1#32
  let arg20 : BitVec 32 := Scf.iv c0_i32_4239 c1_i32 k0_t1
  let c256_i32_4360 : BitVec 32 := 256#32
  let v11352 : BitVec 32 := Scalar.muli arg20 c256_i32_4360
  let v11353 : Index := Scalar.indexCast v11352
  let c0_4361 : Index := 0#32
  ![v11353.toNat, 0]
def k0_off95 (v11026 : BitVec 32) (v11030 : BitVec 32) (k0_t2 : Fin (k0_t2_loop v11026 v11030).trips) : Fin 3 → Nat :=
  let c1_i32_4249 : BitVec 32 := 1#32
  let arg21 : BitVec 32 := Scf.iv v11026 c1_i32_4249 k0_t2
  let v11379 : Index := Scalar.indexCast arg21
  let c0_4375 : Index := 0#32
  let c0_4376 : Index := 0#32
  ![v11379.toNat, 0, 0]
@[reducible] def k0_t4_loop (v11026 : BitVec 32) (v11030 : BitVec 32) : Scf.Loop 32 :=
  let c1_i32_4246 : BitVec 32 := 1#32
  let v11034 : BitVec 32 := Scalar.addi v11030 c1_i32_4246
  let v11035 : BitVec 32 := Scalar.subi v11034 v11026
  let c1_i32_4248 : BitVec 32 := 1#32
  let v11037 : BitVec 32 := Scalar.divsi v11035 c1_i32_4248
  let v11038 : BitVec 32 := Scalar.muli v11037 c1_i32_4248
  let v11039 : BitVec 32 := Scalar.addi v11026 v11038
  let v11036 : BitVec 32 := Scalar.addi v11026 v11035
  let c1_i32_4250 : BitVec 32 := 1#32
  ⟨v11039, v11036, c1_i32_4250⟩
def k0_off96 (k0_t1 : Fin k0_t1_loop.trips) : Fin 2 → Nat :=
  let c2_i32_4251 : BitVec 32 := 2#32
  let c0_i32_4239 : BitVec 32 := 0#32
  let c1_i32 : BitVec 32 := 1#32
  let arg20 : BitVec 32 := Scf.iv c0_i32_4239 c1_i32 k0_t1
  let v11040 : BitVec 32 := Scalar.muli c2_i32_4251 arg20
  let v11041 : Index := Scalar.indexCast v11040
  let c0_4252 : Index := 0#32
  ![v11041.toNat, 0]
def k0_off97 (k0_t1 : Fin k0_t1_loop.trips) : Fin 2 → Nat :=
  let c2_i32_4253 : BitVec 32 := 2#32
  let c0_i32_4239 : BitVec 32 := 0#32
  let c1_i32 : BitVec 32 := 1#32
  let arg20 : BitVec 32 := Scf.iv c0_i32_4239 c1_i32 k0_t1
  let v11044 : BitVec 32 := Scalar.muli c2_i32_4253 arg20
  let c1_i32_4254 : BitVec 32 := 1#32
  let v11045 : BitVec 32 := Scalar.addi v11044 c1_i32_4254
  let v11046 : Index := Scalar.indexCast v11045
  let c0_4255 : Index := 0#32
  ![v11046.toNat, 0]
def k0_off98 (v11026 : BitVec 32) (v11030 : BitVec 32) (k0_t4 : Fin (k0_t4_loop v11026 v11030).trips) : Fin 3 → Nat :=
  let c1_i32_4246 : BitVec 32 := 1#32
  let v11034 : BitVec 32 := Scalar.addi v11030 c1_i32_4246
  let v11035 : BitVec 32 := Scalar.subi v11034 v11026
  let c1_i32_4248 : BitVec 32 := 1#32
  let v11037 : BitVec 32 := Scalar.divsi v11035 c1_i32_4248
  let v11038 : BitVec 32 := Scalar.muli v11037 c1_i32_4248
  let v11039 : BitVec 32 := Scalar.addi v11026 v11038
  let c1_i32_4250 : BitVec 32 := 1#32
  let arg21 : BitVec 32 := Scf.iv v11039 c1_i32_4250 k0_t4
  let v11055 : Index := Scalar.indexCast arg21
  let c0_4256 : Index := 0#32
  let c0_4257 : Index := 0#32
  ![v11055.toNat, 0, 0]
def k0_off99 (k0_t1 : Fin k0_t1_loop.trips) : Fin 2 → Nat :=
  let c0_i32_4239 : BitVec 32 := 0#32
  let c1_i32 : BitVec 32 := 1#32
  let arg20 : BitVec 32 := Scf.iv c0_i32_4239 c1_i32 k0_t1
  let c256_i32 : BitVec 32 := 256#32
  let v11054 : BitVec 32 := Scalar.muli arg20 c256_i32
  let v11058 : Index := Scalar.indexCast v11054
  let c0_4258 : Index := 0#32
  ![v11058.toNat, 0]
def k0_off100 (v11026 : BitVec 32) (v11030 : BitVec 32) (k0_t4 : Fin (k0_t4_loop v11026 v11030).trips) : Fin 3 → Nat :=
  let c1_i32_4246 : BitVec 32 := 1#32
  let v11034 : BitVec 32 := Scalar.addi v11030 c1_i32_4246
  let v11035 : BitVec 32 := Scalar.subi v11034 v11026
  let c1_i32_4248 : BitVec 32 := 1#32
  let v11037 : BitVec 32 := Scalar.divsi v11035 c1_i32_4248
  let v11038 : BitVec 32 := Scalar.muli v11037 c1_i32_4248
  let v11039 : BitVec 32 := Scalar.addi v11026 v11038
  let c1_i32_4250 : BitVec 32 := 1#32
  let arg21 : BitVec 32 := Scf.iv v11039 c1_i32_4250 k0_t4
  let v11075 : Index := Scalar.indexCast arg21
  let c0_4267 : Index := 0#32
  let c256_4268 : Index := 256#32
  ![v11075.toNat, 0, 256]
def k0_off101 (k0_t1 : Fin k0_t1_loop.trips) : Fin 2 → Nat :=
  let c0_i32_4239 : BitVec 32 := 0#32
  let c1_i32 : BitVec 32 := 1#32
  let arg20 : BitVec 32 := Scf.iv c0_i32_4239 c1_i32 k0_t1
  let c256_i32 : BitVec 32 := 256#32
  let v11054 : BitVec 32 := Scalar.muli arg20 c256_i32
  let v11078 : Index := Scalar.indexCast v11054
  let c256_4269 : Index := 256#32
  ![v11078.toNat, 256]
def k0_off102 (v11026 : BitVec 32) (v11030 : BitVec 32) (k0_t4 : Fin (k0_t4_loop v11026 v11030).trips) : Fin 3 → Nat :=
  let c1_i32_4246 : BitVec 32 := 1#32
  let v11034 : BitVec 32 := Scalar.addi v11030 c1_i32_4246
  let v11035 : BitVec 32 := Scalar.subi v11034 v11026
  let c1_i32_4248 : BitVec 32 := 1#32
  let v11037 : BitVec 32 := Scalar.divsi v11035 c1_i32_4248
  let v11038 : BitVec 32 := Scalar.muli v11037 c1_i32_4248
  let v11039 : BitVec 32 := Scalar.addi v11026 v11038
  let c1_i32_4250 : BitVec 32 := 1#32
  let arg21 : BitVec 32 := Scf.iv v11039 c1_i32_4250 k0_t4
  let v11099 : Index := Scalar.indexCast arg21
  let c0_4278 : Index := 0#32
  let c512_4279 : Index := 512#32
  ![v11099.toNat, 0, 512]
def k0_off103 (k0_t1 : Fin k0_t1_loop.trips) : Fin 2 → Nat :=
  let c0_i32_4239 : BitVec 32 := 0#32
  let c1_i32 : BitVec 32 := 1#32
  let arg20 : BitVec 32 := Scf.iv c0_i32_4239 c1_i32 k0_t1
  let c256_i32 : BitVec 32 := 256#32
  let v11054 : BitVec 32 := Scalar.muli arg20 c256_i32
  let v11102 : Index := Scalar.indexCast v11054
  let c512_4280 : Index := 512#32
  ![v11102.toNat, 512]
def k0_off104 (v11026 : BitVec 32) (v11030 : BitVec 32) (k0_t4 : Fin (k0_t4_loop v11026 v11030).trips) : Fin 3 → Nat :=
  let c1_i32_4246 : BitVec 32 := 1#32
  let v11034 : BitVec 32 := Scalar.addi v11030 c1_i32_4246
  let v11035 : BitVec 32 := Scalar.subi v11034 v11026
  let c1_i32_4248 : BitVec 32 := 1#32
  let v11037 : BitVec 32 := Scalar.divsi v11035 c1_i32_4248
  let v11038 : BitVec 32 := Scalar.muli v11037 c1_i32_4248
  let v11039 : BitVec 32 := Scalar.addi v11026 v11038
  let c1_i32_4250 : BitVec 32 := 1#32
  let arg21 : BitVec 32 := Scf.iv v11039 c1_i32_4250 k0_t4
  let v11123 : Index := Scalar.indexCast arg21
  let c0_4289 : Index := 0#32
  let c768_4290 : Index := 768#32
  ![v11123.toNat, 0, 768]
def k0_off105 (k0_t1 : Fin k0_t1_loop.trips) : Fin 2 → Nat :=
  let c0_i32_4239 : BitVec 32 := 0#32
  let c1_i32 : BitVec 32 := 1#32
  let arg20 : BitVec 32 := Scf.iv c0_i32_4239 c1_i32 k0_t1
  let c256_i32 : BitVec 32 := 256#32
  let v11054 : BitVec 32 := Scalar.muli arg20 c256_i32
  let v11126 : Index := Scalar.indexCast v11054
  let c768_4291 : Index := 768#32
  ![v11126.toNat, 768]
def k0_off106 (v11026 : BitVec 32) (v11030 : BitVec 32) (k0_t4 : Fin (k0_t4_loop v11026 v11030).trips) : Fin 3 → Nat :=
  let c1_i32_4246 : BitVec 32 := 1#32
  let v11034 : BitVec 32 := Scalar.addi v11030 c1_i32_4246
  let v11035 : BitVec 32 := Scalar.subi v11034 v11026
  let c1_i32_4248 : BitVec 32 := 1#32
  let v11037 : BitVec 32 := Scalar.divsi v11035 c1_i32_4248
  let v11038 : BitVec 32 := Scalar.muli v11037 c1_i32_4248
  let v11039 : BitVec 32 := Scalar.addi v11026 v11038
  let c1_i32_4250 : BitVec 32 := 1#32
  let arg21 : BitVec 32 := Scf.iv v11039 c1_i32_4250 k0_t4
  let v11147 : Index := Scalar.indexCast arg21
  let c0_4300 : Index := 0#32
  let c1024_4301 : Index := 1024#32
  ![v11147.toNat, 0, 1024]
def k0_off107 (k0_t1 : Fin k0_t1_loop.trips) : Fin 2 → Nat :=
  let c0_i32_4239 : BitVec 32 := 0#32
  let c1_i32 : BitVec 32 := 1#32
  let arg20 : BitVec 32 := Scf.iv c0_i32_4239 c1_i32 k0_t1
  let c256_i32 : BitVec 32 := 256#32
  let v11054 : BitVec 32 := Scalar.muli arg20 c256_i32
  let v11150 : Index := Scalar.indexCast v11054
  let c1024_4302 : Index := 1024#32
  ![v11150.toNat, 1024]
@[reducible] def k0_t5_loop : Scf.Loop 32 :=
  let c0_i32_4349 : BitVec 32 := 0#32
  let c8_i32 : BitVec 32 := 8#32
  let v11293 : BitVec 32 := Scalar.addi c0_i32_4349 c8_i32
  let c1_i32_4350 : BitVec 32 := 1#32
  ⟨c0_i32_4349, v11293, c1_i32_4350⟩
def k0_mult2 (k0_t5 : Fin k0_t5_loop.trips) : BitVec 32 :=
  let c0_i32_4349 : BitVec 32 := 0#32
  let c1_i32_4350 : BitVec 32 := 1#32
  let arg22 : BitVec 32 := Scf.iv c0_i32_4349 c1_i32_4350 k0_t5
  let c32_i32 : BitVec 32 := 32#32
  let v11388 : BitVec 32 := Scalar.muli arg22 c32_i32
  v11388
def k0_off108 (k0_t5 : Fin k0_t5_loop.trips) : Fin 2 → Nat :=
  let c0_i32_4349 : BitVec 32 := 0#32
  let c1_i32_4350 : BitVec 32 := 1#32
  let arg22 : BitVec 32 := Scf.iv c0_i32_4349 c1_i32_4350 k0_t5
  let c32_i32 : BitVec 32 := 32#32
  let v11388 : BitVec 32 := Scalar.muli arg22 c32_i32
  let v11389 : BitVec 32 := v11388
  let v11392 : Index := Scalar.indexCast v11389
  let c0_4380 : Index := 0#32
  ![v11392.toNat, 0]
def k0_off109 (k0_t1 : Fin k0_t1_loop.trips) (k0_t5 : Fin k0_t5_loop.trips) : Fin 2 → Nat :=
  let c0_i32_4239 : BitVec 32 := 0#32
  let c1_i32 : BitVec 32 := 1#32
  let arg20 : BitVec 32 := Scf.iv c0_i32_4239 c1_i32 k0_t1
  let c256_i32_4379 : BitVec 32 := 256#32
  let v11390 : BitVec 32 := Scalar.muli arg20 c256_i32_4379
  let c0_i32_4349 : BitVec 32 := 0#32
  let c1_i32_4350 : BitVec 32 := 1#32
  let arg22 : BitVec 32 := Scf.iv c0_i32_4349 c1_i32_4350 k0_t5
  let c32_i32 : BitVec 32 := 32#32
  let v11388 : BitVec 32 := Scalar.muli arg22 c32_i32
  let v11389 : BitVec 32 := v11388
  let v11391 : BitVec 32 := Scalar.addi v11390 v11389
  let v11412 : Index := Scalar.indexCast v11391
  let c0_4381 : Index := 0#32
  ![v11412.toNat, 0]
def k0_off110 (v11026 : BitVec 32) (v11030 : BitVec 32) (k0_t4 : Fin (k0_t4_loop v11026 v11030).trips) : Fin 3 → Nat :=
  let c1_i32_4246 : BitVec 32 := 1#32
  let v11034 : BitVec 32 := Scalar.addi v11030 c1_i32_4246
  let v11035 : BitVec 32 := Scalar.subi v11034 v11026
  let c1_i32_4248 : BitVec 32 := 1#32
  let v11037 : BitVec 32 := Scalar.divsi v11035 c1_i32_4248
  let v11038 : BitVec 32 := Scalar.muli v11037 c1_i32_4248
  let v11039 : BitVec 32 := Scalar.addi v11026 v11038
  let c1_i32_4250 : BitVec 32 := 1#32
  let arg21 : BitVec 32 := Scf.iv v11039 c1_i32_4250 k0_t4
  let v11424 : Index := Scalar.indexCast arg21
  let c0_4384 : Index := 0#32
  let c0_4385 : Index := 0#32
  ![v11424.toNat, 0, 0]
def k0_off111 (k0_t1 : Fin k0_t1_loop.trips) (k0_t5 : Fin k0_t5_loop.trips) : Fin 2 → Nat :=
  let c0_i32_4239 : BitVec 32 := 0#32
  let c1_i32 : BitVec 32 := 1#32
  let arg20 : BitVec 32 := Scf.iv c0_i32_4239 c1_i32 k0_t1
  let c256_i32_4379 : BitVec 32 := 256#32
  let v11390 : BitVec 32 := Scalar.muli arg20 c256_i32_4379
  let c0_i32_4349 : BitVec 32 := 0#32
  let c1_i32_4350 : BitVec 32 := 1#32
  let arg22 : BitVec 32 := Scf.iv c0_i32_4349 c1_i32_4350 k0_t5
  let c32_i32 : BitVec 32 := 32#32
  let v11388 : BitVec 32 := Scalar.muli arg22 c32_i32
  let v11389 : BitVec 32 := v11388
  let v11391 : BitVec 32 := Scalar.addi v11390 v11389
  let v11459 : Index := Scalar.indexCast v11391
  let c128_4392 : Index := 128#32
  ![v11459.toNat, 128]
def k0_off112 (v11026 : BitVec 32) (v11030 : BitVec 32) (k0_t4 : Fin (k0_t4_loop v11026 v11030).trips) : Fin 3 → Nat :=
  let c1_i32_4246 : BitVec 32 := 1#32
  let v11034 : BitVec 32 := Scalar.addi v11030 c1_i32_4246
  let v11035 : BitVec 32 := Scalar.subi v11034 v11026
  let c1_i32_4248 : BitVec 32 := 1#32
  let v11037 : BitVec 32 := Scalar.divsi v11035 c1_i32_4248
  let v11038 : BitVec 32 := Scalar.muli v11037 c1_i32_4248
  let v11039 : BitVec 32 := Scalar.addi v11026 v11038
  let c1_i32_4250 : BitVec 32 := 1#32
  let arg21 : BitVec 32 := Scf.iv v11039 c1_i32_4250 k0_t4
  let v11471 : Index := Scalar.indexCast arg21
  let c0_4395 : Index := 0#32
  let c128_4396 : Index := 128#32
  ![v11471.toNat, 0, 128]
def k0_off113 (k0_t1 : Fin k0_t1_loop.trips) (k0_t5 : Fin k0_t5_loop.trips) : Fin 2 → Nat :=
  let c0_i32_4239 : BitVec 32 := 0#32
  let c1_i32 : BitVec 32 := 1#32
  let arg20 : BitVec 32 := Scf.iv c0_i32_4239 c1_i32 k0_t1
  let c256_i32_4379 : BitVec 32 := 256#32
  let v11390 : BitVec 32 := Scalar.muli arg20 c256_i32_4379
  let c0_i32_4349 : BitVec 32 := 0#32
  let c1_i32_4350 : BitVec 32 := 1#32
  let arg22 : BitVec 32 := Scf.iv c0_i32_4349 c1_i32_4350 k0_t5
  let c32_i32 : BitVec 32 := 32#32
  let v11388 : BitVec 32 := Scalar.muli arg22 c32_i32
  let v11389 : BitVec 32 := v11388
  let v11391 : BitVec 32 := Scalar.addi v11390 v11389
  let v11506 : Index := Scalar.indexCast v11391
  let c256_4403 : Index := 256#32
  ![v11506.toNat, 256]
def k0_off114 (v11026 : BitVec 32) (v11030 : BitVec 32) (k0_t4 : Fin (k0_t4_loop v11026 v11030).trips) : Fin 3 → Nat :=
  let c1_i32_4246 : BitVec 32 := 1#32
  let v11034 : BitVec 32 := Scalar.addi v11030 c1_i32_4246
  let v11035 : BitVec 32 := Scalar.subi v11034 v11026
  let c1_i32_4248 : BitVec 32 := 1#32
  let v11037 : BitVec 32 := Scalar.divsi v11035 c1_i32_4248
  let v11038 : BitVec 32 := Scalar.muli v11037 c1_i32_4248
  let v11039 : BitVec 32 := Scalar.addi v11026 v11038
  let c1_i32_4250 : BitVec 32 := 1#32
  let arg21 : BitVec 32 := Scf.iv v11039 c1_i32_4250 k0_t4
  let v11518 : Index := Scalar.indexCast arg21
  let c0_4406 : Index := 0#32
  let c256_4407 : Index := 256#32
  ![v11518.toNat, 0, 256]
def k0_off115 (k0_t1 : Fin k0_t1_loop.trips) (k0_t5 : Fin k0_t5_loop.trips) : Fin 2 → Nat :=
  let c0_i32_4239 : BitVec 32 := 0#32
  let c1_i32 : BitVec 32 := 1#32
  let arg20 : BitVec 32 := Scf.iv c0_i32_4239 c1_i32 k0_t1
  let c256_i32_4379 : BitVec 32 := 256#32
  let v11390 : BitVec 32 := Scalar.muli arg20 c256_i32_4379
  let c0_i32_4349 : BitVec 32 := 0#32
  let c1_i32_4350 : BitVec 32 := 1#32
  let arg22 : BitVec 32 := Scf.iv c0_i32_4349 c1_i32_4350 k0_t5
  let c32_i32 : BitVec 32 := 32#32
  let v11388 : BitVec 32 := Scalar.muli arg22 c32_i32
  let v11389 : BitVec 32 := v11388
  let v11391 : BitVec 32 := Scalar.addi v11390 v11389
  let v11553 : Index := Scalar.indexCast v11391
  let c384_4414 : Index := 384#32
  ![v11553.toNat, 384]
def k0_off116 (v11026 : BitVec 32) (v11030 : BitVec 32) (k0_t4 : Fin (k0_t4_loop v11026 v11030).trips) : Fin 3 → Nat :=
  let c1_i32_4246 : BitVec 32 := 1#32
  let v11034 : BitVec 32 := Scalar.addi v11030 c1_i32_4246
  let v11035 : BitVec 32 := Scalar.subi v11034 v11026
  let c1_i32_4248 : BitVec 32 := 1#32
  let v11037 : BitVec 32 := Scalar.divsi v11035 c1_i32_4248
  let v11038 : BitVec 32 := Scalar.muli v11037 c1_i32_4248
  let v11039 : BitVec 32 := Scalar.addi v11026 v11038
  let c1_i32_4250 : BitVec 32 := 1#32
  let arg21 : BitVec 32 := Scf.iv v11039 c1_i32_4250 k0_t4
  let v11565 : Index := Scalar.indexCast arg21
  let c0_4417 : Index := 0#32
  let c384_4418 : Index := 384#32
  ![v11565.toNat, 0, 384]
def k0_off117 (k0_t1 : Fin k0_t1_loop.trips) (k0_t5 : Fin k0_t5_loop.trips) : Fin 2 → Nat :=
  let c0_i32_4239 : BitVec 32 := 0#32
  let c1_i32 : BitVec 32 := 1#32
  let arg20 : BitVec 32 := Scf.iv c0_i32_4239 c1_i32 k0_t1
  let c256_i32_4379 : BitVec 32 := 256#32
  let v11390 : BitVec 32 := Scalar.muli arg20 c256_i32_4379
  let c0_i32_4349 : BitVec 32 := 0#32
  let c1_i32_4350 : BitVec 32 := 1#32
  let arg22 : BitVec 32 := Scf.iv c0_i32_4349 c1_i32_4350 k0_t5
  let c32_i32 : BitVec 32 := 32#32
  let v11388 : BitVec 32 := Scalar.muli arg22 c32_i32
  let v11389 : BitVec 32 := v11388
  let v11391 : BitVec 32 := Scalar.addi v11390 v11389
  let v11600 : Index := Scalar.indexCast v11391
  let c512_4425 : Index := 512#32
  ![v11600.toNat, 512]
def k0_off118 (v11026 : BitVec 32) (v11030 : BitVec 32) (k0_t4 : Fin (k0_t4_loop v11026 v11030).trips) : Fin 3 → Nat :=
  let c1_i32_4246 : BitVec 32 := 1#32
  let v11034 : BitVec 32 := Scalar.addi v11030 c1_i32_4246
  let v11035 : BitVec 32 := Scalar.subi v11034 v11026
  let c1_i32_4248 : BitVec 32 := 1#32
  let v11037 : BitVec 32 := Scalar.divsi v11035 c1_i32_4248
  let v11038 : BitVec 32 := Scalar.muli v11037 c1_i32_4248
  let v11039 : BitVec 32 := Scalar.addi v11026 v11038
  let c1_i32_4250 : BitVec 32 := 1#32
  let arg21 : BitVec 32 := Scf.iv v11039 c1_i32_4250 k0_t4
  let v11612 : Index := Scalar.indexCast arg21
  let c0_4428 : Index := 0#32
  let c512_4429 : Index := 512#32
  ![v11612.toNat, 0, 512]
def k0_off119 (k0_t1 : Fin k0_t1_loop.trips) (k0_t5 : Fin k0_t5_loop.trips) : Fin 2 → Nat :=
  let c0_i32_4239 : BitVec 32 := 0#32
  let c1_i32 : BitVec 32 := 1#32
  let arg20 : BitVec 32 := Scf.iv c0_i32_4239 c1_i32 k0_t1
  let c256_i32_4379 : BitVec 32 := 256#32
  let v11390 : BitVec 32 := Scalar.muli arg20 c256_i32_4379
  let c0_i32_4349 : BitVec 32 := 0#32
  let c1_i32_4350 : BitVec 32 := 1#32
  let arg22 : BitVec 32 := Scf.iv c0_i32_4349 c1_i32_4350 k0_t5
  let c32_i32 : BitVec 32 := 32#32
  let v11388 : BitVec 32 := Scalar.muli arg22 c32_i32
  let v11389 : BitVec 32 := v11388
  let v11391 : BitVec 32 := Scalar.addi v11390 v11389
  let v11647 : Index := Scalar.indexCast v11391
  let c640_4436 : Index := 640#32
  ![v11647.toNat, 640]
def k0_off120 (v11026 : BitVec 32) (v11030 : BitVec 32) (k0_t4 : Fin (k0_t4_loop v11026 v11030).trips) : Fin 3 → Nat :=
  let c1_i32_4246 : BitVec 32 := 1#32
  let v11034 : BitVec 32 := Scalar.addi v11030 c1_i32_4246
  let v11035 : BitVec 32 := Scalar.subi v11034 v11026
  let c1_i32_4248 : BitVec 32 := 1#32
  let v11037 : BitVec 32 := Scalar.divsi v11035 c1_i32_4248
  let v11038 : BitVec 32 := Scalar.muli v11037 c1_i32_4248
  let v11039 : BitVec 32 := Scalar.addi v11026 v11038
  let c1_i32_4250 : BitVec 32 := 1#32
  let arg21 : BitVec 32 := Scf.iv v11039 c1_i32_4250 k0_t4
  let v11659 : Index := Scalar.indexCast arg21
  let c0_4439 : Index := 0#32
  let c640_4440 : Index := 640#32
  ![v11659.toNat, 0, 640]
def k0_off121 (k0_t1 : Fin k0_t1_loop.trips) (k0_t5 : Fin k0_t5_loop.trips) : Fin 2 → Nat :=
  let c0_i32_4239 : BitVec 32 := 0#32
  let c1_i32 : BitVec 32 := 1#32
  let arg20 : BitVec 32 := Scf.iv c0_i32_4239 c1_i32 k0_t1
  let c256_i32_4379 : BitVec 32 := 256#32
  let v11390 : BitVec 32 := Scalar.muli arg20 c256_i32_4379
  let c0_i32_4349 : BitVec 32 := 0#32
  let c1_i32_4350 : BitVec 32 := 1#32
  let arg22 : BitVec 32 := Scf.iv c0_i32_4349 c1_i32_4350 k0_t5
  let c32_i32 : BitVec 32 := 32#32
  let v11388 : BitVec 32 := Scalar.muli arg22 c32_i32
  let v11389 : BitVec 32 := v11388
  let v11391 : BitVec 32 := Scalar.addi v11390 v11389
  let v11694 : Index := Scalar.indexCast v11391
  let c768_4447 : Index := 768#32
  ![v11694.toNat, 768]
def k0_off122 (v11026 : BitVec 32) (v11030 : BitVec 32) (k0_t4 : Fin (k0_t4_loop v11026 v11030).trips) : Fin 3 → Nat :=
  let c1_i32_4246 : BitVec 32 := 1#32
  let v11034 : BitVec 32 := Scalar.addi v11030 c1_i32_4246
  let v11035 : BitVec 32 := Scalar.subi v11034 v11026
  let c1_i32_4248 : BitVec 32 := 1#32
  let v11037 : BitVec 32 := Scalar.divsi v11035 c1_i32_4248
  let v11038 : BitVec 32 := Scalar.muli v11037 c1_i32_4248
  let v11039 : BitVec 32 := Scalar.addi v11026 v11038
  let c1_i32_4250 : BitVec 32 := 1#32
  let arg21 : BitVec 32 := Scf.iv v11039 c1_i32_4250 k0_t4
  let v11706 : Index := Scalar.indexCast arg21
  let c0_4450 : Index := 0#32
  let c768_4451 : Index := 768#32
  ![v11706.toNat, 0, 768]
def k0_off123 (k0_t1 : Fin k0_t1_loop.trips) (k0_t5 : Fin k0_t5_loop.trips) : Fin 2 → Nat :=
  let c0_i32_4239 : BitVec 32 := 0#32
  let c1_i32 : BitVec 32 := 1#32
  let arg20 : BitVec 32 := Scf.iv c0_i32_4239 c1_i32 k0_t1
  let c256_i32_4379 : BitVec 32 := 256#32
  let v11390 : BitVec 32 := Scalar.muli arg20 c256_i32_4379
  let c0_i32_4349 : BitVec 32 := 0#32
  let c1_i32_4350 : BitVec 32 := 1#32
  let arg22 : BitVec 32 := Scf.iv c0_i32_4349 c1_i32_4350 k0_t5
  let c32_i32 : BitVec 32 := 32#32
  let v11388 : BitVec 32 := Scalar.muli arg22 c32_i32
  let v11389 : BitVec 32 := v11388
  let v11391 : BitVec 32 := Scalar.addi v11390 v11389
  let v11741 : Index := Scalar.indexCast v11391
  let c896_4458 : Index := 896#32
  ![v11741.toNat, 896]
def k0_off124 (v11026 : BitVec 32) (v11030 : BitVec 32) (k0_t4 : Fin (k0_t4_loop v11026 v11030).trips) : Fin 3 → Nat :=
  let c1_i32_4246 : BitVec 32 := 1#32
  let v11034 : BitVec 32 := Scalar.addi v11030 c1_i32_4246
  let v11035 : BitVec 32 := Scalar.subi v11034 v11026
  let c1_i32_4248 : BitVec 32 := 1#32
  let v11037 : BitVec 32 := Scalar.divsi v11035 c1_i32_4248
  let v11038 : BitVec 32 := Scalar.muli v11037 c1_i32_4248
  let v11039 : BitVec 32 := Scalar.addi v11026 v11038
  let c1_i32_4250 : BitVec 32 := 1#32
  let arg21 : BitVec 32 := Scf.iv v11039 c1_i32_4250 k0_t4
  let v11753 : Index := Scalar.indexCast arg21
  let c0_4461 : Index := 0#32
  let c896_4462 : Index := 896#32
  ![v11753.toNat, 0, 896]
def k0_off125 (k0_t1 : Fin k0_t1_loop.trips) (k0_t5 : Fin k0_t5_loop.trips) : Fin 2 → Nat :=
  let c0_i32_4239 : BitVec 32 := 0#32
  let c1_i32 : BitVec 32 := 1#32
  let arg20 : BitVec 32 := Scf.iv c0_i32_4239 c1_i32 k0_t1
  let c256_i32_4379 : BitVec 32 := 256#32
  let v11390 : BitVec 32 := Scalar.muli arg20 c256_i32_4379
  let c0_i32_4349 : BitVec 32 := 0#32
  let c1_i32_4350 : BitVec 32 := 1#32
  let arg22 : BitVec 32 := Scf.iv c0_i32_4349 c1_i32_4350 k0_t5
  let c32_i32 : BitVec 32 := 32#32
  let v11388 : BitVec 32 := Scalar.muli arg22 c32_i32
  let v11389 : BitVec 32 := v11388
  let v11391 : BitVec 32 := Scalar.addi v11390 v11389
  let v11788 : Index := Scalar.indexCast v11391
  let c1024_4469 : Index := 1024#32
  ![v11788.toNat, 1024]
def k0_off126 (v11026 : BitVec 32) (v11030 : BitVec 32) (k0_t4 : Fin (k0_t4_loop v11026 v11030).trips) : Fin 3 → Nat :=
  let c1_i32_4246 : BitVec 32 := 1#32
  let v11034 : BitVec 32 := Scalar.addi v11030 c1_i32_4246
  let v11035 : BitVec 32 := Scalar.subi v11034 v11026
  let c1_i32_4248 : BitVec 32 := 1#32
  let v11037 : BitVec 32 := Scalar.divsi v11035 c1_i32_4248
  let v11038 : BitVec 32 := Scalar.muli v11037 c1_i32_4248
  let v11039 : BitVec 32 := Scalar.addi v11026 v11038
  let c1_i32_4250 : BitVec 32 := 1#32
  let arg21 : BitVec 32 := Scf.iv v11039 c1_i32_4250 k0_t4
  let v11800 : Index := Scalar.indexCast arg21
  let c0_4472 : Index := 0#32
  let c1024_4473 : Index := 1024#32
  ![v11800.toNat, 0, 1024]
def k0_off127 (k0_t1 : Fin k0_t1_loop.trips) : Fin 2 → Nat :=
  let c0_i32_4239 : BitVec 32 := 0#32
  let c1_i32 : BitVec 32 := 1#32
  let arg20 : BitVec 32 := Scf.iv c0_i32_4239 c1_i32 k0_t1
  let c256_i32_4360 : BitVec 32 := 256#32
  let v11352 : BitVec 32 := Scalar.muli arg20 c256_i32_4360
  let v11353 : Index := Scalar.indexCast v11352
  let c0_4361 : Index := 0#32
  ![v11353.toNat, 0]
def k0_off128 (v11026 : BitVec 32) (v11030 : BitVec 32) (k0_t4 : Fin (k0_t4_loop v11026 v11030).trips) : Fin 3 → Nat :=
  let c1_i32_4246 : BitVec 32 := 1#32
  let v11034 : BitVec 32 := Scalar.addi v11030 c1_i32_4246
  let v11035 : BitVec 32 := Scalar.subi v11034 v11026
  let c1_i32_4248 : BitVec 32 := 1#32
  let v11037 : BitVec 32 := Scalar.divsi v11035 c1_i32_4248
  let v11038 : BitVec 32 := Scalar.muli v11037 c1_i32_4248
  let v11039 : BitVec 32 := Scalar.addi v11026 v11038
  let c1_i32_4250 : BitVec 32 := 1#32
  let arg21 : BitVec 32 := Scf.iv v11039 c1_i32_4250 k0_t4
  let v11379 : Index := Scalar.indexCast arg21
  let c0_4375 : Index := 0#32
  let c0_4376 : Index := 0#32
  ![v11379.toNat, 0, 0]

def k0_chk13 (v11015 : BitVec 32) (v11016 : BitVec 32) (v11026 : BitVec 32) (v11030 : BitVec 32) : Prop :=
  (∀ (k0_h2 : k0_cond2 v11015 v11016 = 1#1), ∀ (k0_h3 : k0_cond3 v11026 v11030 = 1#1), (k0_t2_loop v11026 v11030).OK) ∧
  (∀ k0_t2 : Fin (k0_t2_loop v11026 v11030).trips, ∀ (k0_h2 : k0_cond2 v11015 v11016 = 1#1), ∀ (k0_h3 : k0_cond3 v11026 v11030 = 1#1), ∀ a, (k0_off65 v11026 v11030 k0_t2) a + S1x16x256.size a ≤ S5x16x1152.size a) ∧
  (∀ k0_t2 : Fin (k0_t2_loop v11026 v11030).trips, ∀ (k0_h2 : k0_cond2 v11015 v11016 = 1#1), ∀ (k0_h3 : k0_cond3 v11026 v11030 = 1#1), ∀ a, (k0_off67 v11026 v11030 k0_t2) a + S1x16x256.size a ≤ S5x16x1152.size a) ∧
  (∀ k0_t2 : Fin (k0_t2_loop v11026 v11030).trips, ∀ (k0_h2 : k0_cond2 v11015 v11016 = 1#1), ∀ (k0_h3 : k0_cond3 v11026 v11030 = 1#1), ∀ a, (k0_off69 v11026 v11030 k0_t2) a + S1x16x256.size a ≤ S5x16x1152.size a) ∧
  (∀ k0_t2 : Fin (k0_t2_loop v11026 v11030).trips, ∀ (k0_h2 : k0_cond2 v11015 v11016 = 1#1), ∀ (k0_h3 : k0_cond3 v11026 v11030 = 1#1), ∀ a, (k0_off71 v11026 v11030 k0_t2) a + S1x16x256.size a ≤ S5x16x1152.size a) ∧
  (∀ k0_t2 : Fin (k0_t2_loop v11026 v11030).trips, ∀ (k0_h2 : k0_cond2 v11015 v11016 = 1#1), ∀ (k0_h3 : k0_cond3 v11026 v11030 = 1#1), ∀ a, (k0_off73 v11026 v11030 k0_t2) a + S1x16x128.size a ≤ S5x16x1152.size a) ∧
  (∀ k0_t2 : Fin (k0_t2_loop v11026 v11030).trips, ∀ (k0_h2 : k0_cond2 v11015 v11016 = 1#1), ∀ (k0_h3 : k0_cond3 v11026 v11030 = 1#1), ∀ a, (k0_off77 v11026 v11030 k0_t2) a + S1x1x128.size a ≤ S5x8x1152.size a) ∧
  (∀ k0_t2 : Fin (k0_t2_loop v11026 v11030).trips, ∀ (k0_h2 : k0_cond2 v11015 v11016 = 1#1), ∀ (k0_h3 : k0_cond3 v11026 v11030 = 1#1), ∀ a, (k0_off79 v11026 v11030 k0_t2) a + S1x1x128.size a ≤ S5x8x1152.size a) ∧
  (∀ k0_t2 : Fin (k0_t2_loop v11026 v11030).trips, ∀ (k0_h2 : k0_cond2 v11015 v11016 = 1#1), ∀ (k0_h3 : k0_cond3 v11026 v11030 = 1#1), ∀ a, (k0_off81 v11026 v11030 k0_t2) a + S1x1x128.size a ≤ S5x8x1152.size a) ∧
  (∀ k0_t2 : Fin (k0_t2_loop v11026 v11030).trips, ∀ (k0_h2 : k0_cond2 v11015 v11016 = 1#1), ∀ (k0_h3 : k0_cond3 v11026 v11030 = 1#1), ∀ a, (k0_off83 v11026 v11030 k0_t2) a + S1x1x128.size a ≤ S5x8x1152.size a) ∧
  (∀ k0_t2 : Fin (k0_t2_loop v11026 v11030).trips, ∀ (k0_h2 : k0_cond2 v11015 v11016 = 1#1), ∀ (k0_h3 : k0_cond3 v11026 v11030 = 1#1), ∀ a, (k0_off85 v11026 v11030 k0_t2) a + S1x1x128.size a ≤ S5x8x1152.size a) ∧
  (∀ k0_t2 : Fin (k0_t2_loop v11026 v11030).trips, ∀ (k0_h2 : k0_cond2 v11015 v11016 = 1#1), ∀ (k0_h3 : k0_cond3 v11026 v11030 = 1#1), ∀ a, (k0_off87 v11026 v11030 k0_t2) a + S1x1x128.size a ≤ S5x8x1152.size a) ∧
  (∀ k0_t2 : Fin (k0_t2_loop v11026 v11030).trips, ∀ (k0_h2 : k0_cond2 v11015 v11016 = 1#1), ∀ (k0_h3 : k0_cond3 v11026 v11030 = 1#1), ∀ a, (k0_off89 v11026 v11030 k0_t2) a + S1x1x128.size a ≤ S5x8x1152.size a) ∧
  (∀ k0_t2 : Fin (k0_t2_loop v11026 v11030).trips, ∀ (k0_h2 : k0_cond2 v11015 v11016 = 1#1), ∀ (k0_h3 : k0_cond3 v11026 v11030 = 1#1), ∀ a, (k0_off91 v11026 v11030 k0_t2) a + S1x1x128.size a ≤ S5x8x1152.size a) ∧
  (∀ k0_t2 : Fin (k0_t2_loop v11026 v11030).trips, ∀ (k0_h2 : k0_cond2 v11015 v11016 = 1#1), ∀ (k0_h3 : k0_cond3 v11026 v11030 = 1#1), ∀ a, (k0_off93 v11026 v11030 k0_t2) a + S1x1x128.size a ≤ S5x8x1152.size a) ∧
  (∀ k0_t2 : Fin (k0_t2_loop v11026 v11030).trips, ∀ (k0_h2 : k0_cond2 v11015 v11016 = 1#1), ∀ (k0_h3 : k0_cond3 v11026 v11030 = 1#1), ∀ a, (k0_off95 v11026 v11030 k0_t2) a + S1x3x1152.size a ≤ S6x3x1152.size a) ∧
  (∀ (k0_h2 : k0_cond2 v11015 v11016 = 1#1), ∀ (k0_h3 : k0_cond3 v11026 v11030 = 1#1), (k0_t4_loop v11026 v11030).OK) ∧
  (∀ k0_t4 : Fin (k0_t4_loop v11026 v11030).trips, ∀ (k0_h2 : k0_cond2 v11015 v11016 = 1#1), ∀ (k0_h3 : k0_cond3 v11026 v11030 = 1#1), ∀ a, (k0_off98 v11026 v11030 k0_t4) a + S1x16x256.size a ≤ S5x16x1152.size a) ∧
  (∀ k0_t4 : Fin (k0_t4_loop v11026 v11030).trips, ∀ (k0_h2 : k0_cond2 v11015 v11016 = 1#1), ∀ (k0_h3 : k0_cond3 v11026 v11030 = 1#1), ∀ a, (k0_off100 v11026 v11030 k0_t4) a + S1x16x256.size a ≤ S5x16x1152.size a) ∧
  (∀ k0_t4 : Fin (k0_t4_loop v11026 v11030).trips, ∀ (k0_h2 : k0_cond2 v11015 v11016 = 1#1), ∀ (k0_h3 : k0_cond3 v11026 v11030 = 1#1), ∀ a, (k0_off102 v11026 v11030 k0_t4) a + S1x16x256.size a ≤ S5x16x1152.size a) ∧
  (∀ k0_t4 : Fin (k0_t4_loop v11026 v11030).trips, ∀ (k0_h2 : k0_cond2 v11015 v11016 = 1#1), ∀ (k0_h3 : k0_cond3 v11026 v11030 = 1#1), ∀ a, (k0_off104 v11026 v11030 k0_t4) a + S1x16x256.size a ≤ S5x16x1152.size a) ∧
  (∀ k0_t4 : Fin (k0_t4_loop v11026 v11030).trips, ∀ (k0_h2 : k0_cond2 v11015 v11016 = 1#1), ∀ (k0_h3 : k0_cond3 v11026 v11030 = 1#1), ∀ a, (k0_off106 v11026 v11030 k0_t4) a + S1x16x128.size a ≤ S5x16x1152.size a) ∧
  (∀ k0_t4 : Fin (k0_t4_loop v11026 v11030).trips, ∀ (k0_h2 : k0_cond2 v11015 v11016 = 1#1), ∀ (k0_h3 : k0_cond3 v11026 v11030 = 1#1), ∀ a, (k0_off110 v11026 v11030 k0_t4) a + S1x1x128.size a ≤ S5x8x1152.size a) ∧
  (∀ k0_t4 : Fin (k0_t4_loop v11026 v11030).trips, ∀ (k0_h2 : k0_cond2 v11015 v11016 = 1#1), ∀ (k0_h3 : k0_cond3 v11026 v11030 = 1#1), ∀ a, (k0_off112 v11026 v11030 k0_t4) a + S1x1x128.size a ≤ S5x8x1152.size a) ∧
  (∀ k0_t4 : Fin (k0_t4_loop v11026 v11030).trips, ∀ (k0_h2 : k0_cond2 v11015 v11016 = 1#1), ∀ (k0_h3 : k0_cond3 v11026 v11030 = 1#1), ∀ a, (k0_off114 v11026 v11030 k0_t4) a + S1x1x128.size a ≤ S5x8x1152.size a) ∧
  (∀ k0_t4 : Fin (k0_t4_loop v11026 v11030).trips, ∀ (k0_h2 : k0_cond2 v11015 v11016 = 1#1), ∀ (k0_h3 : k0_cond3 v11026 v11030 = 1#1), ∀ a, (k0_off116 v11026 v11030 k0_t4) a + S1x1x128.size a ≤ S5x8x1152.size a) ∧
  (∀ k0_t4 : Fin (k0_t4_loop v11026 v11030).trips, ∀ (k0_h2 : k0_cond2 v11015 v11016 = 1#1), ∀ (k0_h3 : k0_cond3 v11026 v11030 = 1#1), ∀ a, (k0_off118 v11026 v11030 k0_t4) a + S1x1x128.size a ≤ S5x8x1152.size a) ∧
  (∀ k0_t4 : Fin (k0_t4_loop v11026 v11030).trips, ∀ (k0_h2 : k0_cond2 v11015 v11016 = 1#1), ∀ (k0_h3 : k0_cond3 v11026 v11030 = 1#1), ∀ a, (k0_off120 v11026 v11030 k0_t4) a + S1x1x128.size a ≤ S5x8x1152.size a) ∧
  (∀ k0_t4 : Fin (k0_t4_loop v11026 v11030).trips, ∀ (k0_h2 : k0_cond2 v11015 v11016 = 1#1), ∀ (k0_h3 : k0_cond3 v11026 v11030 = 1#1), ∀ a, (k0_off122 v11026 v11030 k0_t4) a + S1x1x128.size a ≤ S5x8x1152.size a) ∧
  (∀ k0_t4 : Fin (k0_t4_loop v11026 v11030).trips, ∀ (k0_h2 : k0_cond2 v11015 v11016 = 1#1), ∀ (k0_h3 : k0_cond3 v11026 v11030 = 1#1), ∀ a, (k0_off124 v11026 v11030 k0_t4) a + S1x1x128.size a ≤ S5x8x1152.size a) ∧
  (∀ k0_t4 : Fin (k0_t4_loop v11026 v11030).trips, ∀ (k0_h2 : k0_cond2 v11015 v11016 = 1#1), ∀ (k0_h3 : k0_cond3 v11026 v11030 = 1#1), ∀ a, (k0_off126 v11026 v11030 k0_t4) a + S1x1x128.size a ≤ S5x8x1152.size a) ∧
  (∀ k0_t4 : Fin (k0_t4_loop v11026 v11030).trips, ∀ (k0_h2 : k0_cond2 v11015 v11016 = 1#1), ∀ (k0_h3 : k0_cond3 v11026 v11030 = 1#1), ∀ a, (k0_off128 v11026 v11030 k0_t4) a + S1x3x1152.size a ≤ S6x3x1152.size a)
theorem k0_t2_ok : ∀ (v11015 : BitVec 32) (v11016 : BitVec 32) (v11026 : BitVec 32) (v11030 : BitVec 32) (k0_hw13 : k0_chk13 v11015 v11016 v11026 v11030), ∀ (k0_h2 : k0_cond2 v11015 v11016 = 1#1), ∀ (k0_h3 : k0_cond3 v11026 v11030 = 1#1), (k0_t2_loop v11026 v11030).OK := fun v11015 v11016 v11026 v11030 k0_hw13 k0_h2 k0_h3 => k0_hw13.1 k0_h2 k0_h3
theorem k0_off65_inb : ∀ (v11015 : BitVec 32) (v11016 : BitVec 32) (v11026 : BitVec 32) (v11030 : BitVec 32) (k0_hw13 : k0_chk13 v11015 v11016 v11026 v11030) (k0_t2 : Fin (k0_t2_loop v11026 v11030).trips), ∀ (k0_h2 : k0_cond2 v11015 v11016 = 1#1), ∀ (k0_h3 : k0_cond3 v11026 v11030 = 1#1), ∀ a, (k0_off65 v11026 v11030 k0_t2) a + S1x16x256.size a ≤ S5x16x1152.size a := fun v11015 v11016 v11026 v11030 k0_hw13 k0_t2 k0_h2 k0_h3 => k0_hw13.2.1 k0_t2 k0_h2 k0_h3
theorem k0_off67_inb : ∀ (v11015 : BitVec 32) (v11016 : BitVec 32) (v11026 : BitVec 32) (v11030 : BitVec 32) (k0_hw13 : k0_chk13 v11015 v11016 v11026 v11030) (k0_t2 : Fin (k0_t2_loop v11026 v11030).trips), ∀ (k0_h2 : k0_cond2 v11015 v11016 = 1#1), ∀ (k0_h3 : k0_cond3 v11026 v11030 = 1#1), ∀ a, (k0_off67 v11026 v11030 k0_t2) a + S1x16x256.size a ≤ S5x16x1152.size a := fun v11015 v11016 v11026 v11030 k0_hw13 k0_t2 k0_h2 k0_h3 => k0_hw13.2.2.1 k0_t2 k0_h2 k0_h3
theorem k0_off69_inb : ∀ (v11015 : BitVec 32) (v11016 : BitVec 32) (v11026 : BitVec 32) (v11030 : BitVec 32) (k0_hw13 : k0_chk13 v11015 v11016 v11026 v11030) (k0_t2 : Fin (k0_t2_loop v11026 v11030).trips), ∀ (k0_h2 : k0_cond2 v11015 v11016 = 1#1), ∀ (k0_h3 : k0_cond3 v11026 v11030 = 1#1), ∀ a, (k0_off69 v11026 v11030 k0_t2) a + S1x16x256.size a ≤ S5x16x1152.size a := fun v11015 v11016 v11026 v11030 k0_hw13 k0_t2 k0_h2 k0_h3 => k0_hw13.2.2.2.1 k0_t2 k0_h2 k0_h3
theorem k0_off71_inb : ∀ (v11015 : BitVec 32) (v11016 : BitVec 32) (v11026 : BitVec 32) (v11030 : BitVec 32) (k0_hw13 : k0_chk13 v11015 v11016 v11026 v11030) (k0_t2 : Fin (k0_t2_loop v11026 v11030).trips), ∀ (k0_h2 : k0_cond2 v11015 v11016 = 1#1), ∀ (k0_h3 : k0_cond3 v11026 v11030 = 1#1), ∀ a, (k0_off71 v11026 v11030 k0_t2) a + S1x16x256.size a ≤ S5x16x1152.size a := fun v11015 v11016 v11026 v11030 k0_hw13 k0_t2 k0_h2 k0_h3 => k0_hw13.2.2.2.2.1 k0_t2 k0_h2 k0_h3
theorem k0_off73_inb : ∀ (v11015 : BitVec 32) (v11016 : BitVec 32) (v11026 : BitVec 32) (v11030 : BitVec 32) (k0_hw13 : k0_chk13 v11015 v11016 v11026 v11030) (k0_t2 : Fin (k0_t2_loop v11026 v11030).trips), ∀ (k0_h2 : k0_cond2 v11015 v11016 = 1#1), ∀ (k0_h3 : k0_cond3 v11026 v11030 = 1#1), ∀ a, (k0_off73 v11026 v11030 k0_t2) a + S1x16x128.size a ≤ S5x16x1152.size a := fun v11015 v11016 v11026 v11030 k0_hw13 k0_t2 k0_h2 k0_h3 => k0_hw13.2.2.2.2.2.1 k0_t2 k0_h2 k0_h3
theorem k0_off77_inb : ∀ (v11015 : BitVec 32) (v11016 : BitVec 32) (v11026 : BitVec 32) (v11030 : BitVec 32) (k0_hw13 : k0_chk13 v11015 v11016 v11026 v11030) (k0_t2 : Fin (k0_t2_loop v11026 v11030).trips), ∀ (k0_h2 : k0_cond2 v11015 v11016 = 1#1), ∀ (k0_h3 : k0_cond3 v11026 v11030 = 1#1), ∀ a, (k0_off77 v11026 v11030 k0_t2) a + S1x1x128.size a ≤ S5x8x1152.size a := fun v11015 v11016 v11026 v11030 k0_hw13 k0_t2 k0_h2 k0_h3 => k0_hw13.2.2.2.2.2.2.1 k0_t2 k0_h2 k0_h3
theorem k0_off79_inb : ∀ (v11015 : BitVec 32) (v11016 : BitVec 32) (v11026 : BitVec 32) (v11030 : BitVec 32) (k0_hw13 : k0_chk13 v11015 v11016 v11026 v11030) (k0_t2 : Fin (k0_t2_loop v11026 v11030).trips), ∀ (k0_h2 : k0_cond2 v11015 v11016 = 1#1), ∀ (k0_h3 : k0_cond3 v11026 v11030 = 1#1), ∀ a, (k0_off79 v11026 v11030 k0_t2) a + S1x1x128.size a ≤ S5x8x1152.size a := fun v11015 v11016 v11026 v11030 k0_hw13 k0_t2 k0_h2 k0_h3 => k0_hw13.2.2.2.2.2.2.2.1 k0_t2 k0_h2 k0_h3
theorem k0_off81_inb : ∀ (v11015 : BitVec 32) (v11016 : BitVec 32) (v11026 : BitVec 32) (v11030 : BitVec 32) (k0_hw13 : k0_chk13 v11015 v11016 v11026 v11030) (k0_t2 : Fin (k0_t2_loop v11026 v11030).trips), ∀ (k0_h2 : k0_cond2 v11015 v11016 = 1#1), ∀ (k0_h3 : k0_cond3 v11026 v11030 = 1#1), ∀ a, (k0_off81 v11026 v11030 k0_t2) a + S1x1x128.size a ≤ S5x8x1152.size a := fun v11015 v11016 v11026 v11030 k0_hw13 k0_t2 k0_h2 k0_h3 => k0_hw13.2.2.2.2.2.2.2.2.1 k0_t2 k0_h2 k0_h3
theorem k0_off83_inb : ∀ (v11015 : BitVec 32) (v11016 : BitVec 32) (v11026 : BitVec 32) (v11030 : BitVec 32) (k0_hw13 : k0_chk13 v11015 v11016 v11026 v11030) (k0_t2 : Fin (k0_t2_loop v11026 v11030).trips), ∀ (k0_h2 : k0_cond2 v11015 v11016 = 1#1), ∀ (k0_h3 : k0_cond3 v11026 v11030 = 1#1), ∀ a, (k0_off83 v11026 v11030 k0_t2) a + S1x1x128.size a ≤ S5x8x1152.size a := fun v11015 v11016 v11026 v11030 k0_hw13 k0_t2 k0_h2 k0_h3 => k0_hw13.2.2.2.2.2.2.2.2.2.1 k0_t2 k0_h2 k0_h3
theorem k0_off85_inb : ∀ (v11015 : BitVec 32) (v11016 : BitVec 32) (v11026 : BitVec 32) (v11030 : BitVec 32) (k0_hw13 : k0_chk13 v11015 v11016 v11026 v11030) (k0_t2 : Fin (k0_t2_loop v11026 v11030).trips), ∀ (k0_h2 : k0_cond2 v11015 v11016 = 1#1), ∀ (k0_h3 : k0_cond3 v11026 v11030 = 1#1), ∀ a, (k0_off85 v11026 v11030 k0_t2) a + S1x1x128.size a ≤ S5x8x1152.size a := fun v11015 v11016 v11026 v11030 k0_hw13 k0_t2 k0_h2 k0_h3 => k0_hw13.2.2.2.2.2.2.2.2.2.2.1 k0_t2 k0_h2 k0_h3
theorem k0_off87_inb : ∀ (v11015 : BitVec 32) (v11016 : BitVec 32) (v11026 : BitVec 32) (v11030 : BitVec 32) (k0_hw13 : k0_chk13 v11015 v11016 v11026 v11030) (k0_t2 : Fin (k0_t2_loop v11026 v11030).trips), ∀ (k0_h2 : k0_cond2 v11015 v11016 = 1#1), ∀ (k0_h3 : k0_cond3 v11026 v11030 = 1#1), ∀ a, (k0_off87 v11026 v11030 k0_t2) a + S1x1x128.size a ≤ S5x8x1152.size a := fun v11015 v11016 v11026 v11030 k0_hw13 k0_t2 k0_h2 k0_h3 => k0_hw13.2.2.2.2.2.2.2.2.2.2.2.1 k0_t2 k0_h2 k0_h3
theorem k0_off89_inb : ∀ (v11015 : BitVec 32) (v11016 : BitVec 32) (v11026 : BitVec 32) (v11030 : BitVec 32) (k0_hw13 : k0_chk13 v11015 v11016 v11026 v11030) (k0_t2 : Fin (k0_t2_loop v11026 v11030).trips), ∀ (k0_h2 : k0_cond2 v11015 v11016 = 1#1), ∀ (k0_h3 : k0_cond3 v11026 v11030 = 1#1), ∀ a, (k0_off89 v11026 v11030 k0_t2) a + S1x1x128.size a ≤ S5x8x1152.size a := fun v11015 v11016 v11026 v11030 k0_hw13 k0_t2 k0_h2 k0_h3 => k0_hw13.2.2.2.2.2.2.2.2.2.2.2.2.1 k0_t2 k0_h2 k0_h3
theorem k0_off91_inb : ∀ (v11015 : BitVec 32) (v11016 : BitVec 32) (v11026 : BitVec 32) (v11030 : BitVec 32) (k0_hw13 : k0_chk13 v11015 v11016 v11026 v11030) (k0_t2 : Fin (k0_t2_loop v11026 v11030).trips), ∀ (k0_h2 : k0_cond2 v11015 v11016 = 1#1), ∀ (k0_h3 : k0_cond3 v11026 v11030 = 1#1), ∀ a, (k0_off91 v11026 v11030 k0_t2) a + S1x1x128.size a ≤ S5x8x1152.size a := fun v11015 v11016 v11026 v11030 k0_hw13 k0_t2 k0_h2 k0_h3 => k0_hw13.2.2.2.2.2.2.2.2.2.2.2.2.2.1 k0_t2 k0_h2 k0_h3
theorem k0_off93_inb : ∀ (v11015 : BitVec 32) (v11016 : BitVec 32) (v11026 : BitVec 32) (v11030 : BitVec 32) (k0_hw13 : k0_chk13 v11015 v11016 v11026 v11030) (k0_t2 : Fin (k0_t2_loop v11026 v11030).trips), ∀ (k0_h2 : k0_cond2 v11015 v11016 = 1#1), ∀ (k0_h3 : k0_cond3 v11026 v11030 = 1#1), ∀ a, (k0_off93 v11026 v11030 k0_t2) a + S1x1x128.size a ≤ S5x8x1152.size a := fun v11015 v11016 v11026 v11030 k0_hw13 k0_t2 k0_h2 k0_h3 => k0_hw13.2.2.2.2.2.2.2.2.2.2.2.2.2.2.1 k0_t2 k0_h2 k0_h3
theorem k0_off95_inb : ∀ (v11015 : BitVec 32) (v11016 : BitVec 32) (v11026 : BitVec 32) (v11030 : BitVec 32) (k0_hw13 : k0_chk13 v11015 v11016 v11026 v11030) (k0_t2 : Fin (k0_t2_loop v11026 v11030).trips), ∀ (k0_h2 : k0_cond2 v11015 v11016 = 1#1), ∀ (k0_h3 : k0_cond3 v11026 v11030 = 1#1), ∀ a, (k0_off95 v11026 v11030 k0_t2) a + S1x3x1152.size a ≤ S6x3x1152.size a := fun v11015 v11016 v11026 v11030 k0_hw13 k0_t2 k0_h2 k0_h3 => k0_hw13.2.2.2.2.2.2.2.2.2.2.2.2.2.2.2.1 k0_t2 k0_h2 k0_h3
theorem k0_t4_ok : ∀ (v11015 : BitVec 32) (v11016 : BitVec 32) (v11026 : BitVec 32) (v11030 : BitVec 32) (k0_hw13 : k0_chk13 v11015 v11016 v11026 v11030), ∀ (k0_h2 : k0_cond2 v11015 v11016 = 1#1), ∀ (k0_h3 : k0_cond3 v11026 v11030 = 1#1), (k0_t4_loop v11026 v11030).OK := fun v11015 v11016 v11026 v11030 k0_hw13 k0_h2 k0_h3 => k0_hw13.2.2.2.2.2.2.2.2.2.2.2.2.2.2.2.2.1 k0_h2 k0_h3
theorem k0_off98_inb : ∀ (v11015 : BitVec 32) (v11016 : BitVec 32) (v11026 : BitVec 32) (v11030 : BitVec 32) (k0_hw13 : k0_chk13 v11015 v11016 v11026 v11030) (k0_t4 : Fin (k0_t4_loop v11026 v11030).trips), ∀ (k0_h2 : k0_cond2 v11015 v11016 = 1#1), ∀ (k0_h3 : k0_cond3 v11026 v11030 = 1#1), ∀ a, (k0_off98 v11026 v11030 k0_t4) a + S1x16x256.size a ≤ S5x16x1152.size a := fun v11015 v11016 v11026 v11030 k0_hw13 k0_t4 k0_h2 k0_h3 => k0_hw13.2.2.2.2.2.2.2.2.2.2.2.2.2.2.2.2.2.1 k0_t4 k0_h2 k0_h3
theorem k0_off100_inb : ∀ (v11015 : BitVec 32) (v11016 : BitVec 32) (v11026 : BitVec 32) (v11030 : BitVec 32) (k0_hw13 : k0_chk13 v11015 v11016 v11026 v11030) (k0_t4 : Fin (k0_t4_loop v11026 v11030).trips), ∀ (k0_h2 : k0_cond2 v11015 v11016 = 1#1), ∀ (k0_h3 : k0_cond3 v11026 v11030 = 1#1), ∀ a, (k0_off100 v11026 v11030 k0_t4) a + S1x16x256.size a ≤ S5x16x1152.size a := fun v11015 v11016 v11026 v11030 k0_hw13 k0_t4 k0_h2 k0_h3 => k0_hw13.2.2.2.2.2.2.2.2.2.2.2.2.2.2.2.2.2.2.1 k0_t4 k0_h2 k0_h3
theorem k0_off102_inb : ∀ (v11015 : BitVec 32) (v11016 : BitVec 32) (v11026 : BitVec 32) (v11030 : BitVec 32) (k0_hw13 : k0_chk13 v11015 v11016 v11026 v11030) (k0_t4 : Fin (k0_t4_loop v11026 v11030).trips), ∀ (k0_h2 : k0_cond2 v11015 v11016 = 1#1), ∀ (k0_h3 : k0_cond3 v11026 v11030 = 1#1), ∀ a, (k0_off102 v11026 v11030 k0_t4) a + S1x16x256.size a ≤ S5x16x1152.size a := fun v11015 v11016 v11026 v11030 k0_hw13 k0_t4 k0_h2 k0_h3 => k0_hw13.2.2.2.2.2.2.2.2.2.2.2.2.2.2.2.2.2.2.2.1 k0_t4 k0_h2 k0_h3
theorem k0_off104_inb : ∀ (v11015 : BitVec 32) (v11016 : BitVec 32) (v11026 : BitVec 32) (v11030 : BitVec 32) (k0_hw13 : k0_chk13 v11015 v11016 v11026 v11030) (k0_t4 : Fin (k0_t4_loop v11026 v11030).trips), ∀ (k0_h2 : k0_cond2 v11015 v11016 = 1#1), ∀ (k0_h3 : k0_cond3 v11026 v11030 = 1#1), ∀ a, (k0_off104 v11026 v11030 k0_t4) a + S1x16x256.size a ≤ S5x16x1152.size a := fun v11015 v11016 v11026 v11030 k0_hw13 k0_t4 k0_h2 k0_h3 => k0_hw13.2.2.2.2.2.2.2.2.2.2.2.2.2.2.2.2.2.2.2.2.1 k0_t4 k0_h2 k0_h3
theorem k0_off106_inb : ∀ (v11015 : BitVec 32) (v11016 : BitVec 32) (v11026 : BitVec 32) (v11030 : BitVec 32) (k0_hw13 : k0_chk13 v11015 v11016 v11026 v11030) (k0_t4 : Fin (k0_t4_loop v11026 v11030).trips), ∀ (k0_h2 : k0_cond2 v11015 v11016 = 1#1), ∀ (k0_h3 : k0_cond3 v11026 v11030 = 1#1), ∀ a, (k0_off106 v11026 v11030 k0_t4) a + S1x16x128.size a ≤ S5x16x1152.size a := fun v11015 v11016 v11026 v11030 k0_hw13 k0_t4 k0_h2 k0_h3 => k0_hw13.2.2.2.2.2.2.2.2.2.2.2.2.2.2.2.2.2.2.2.2.2.1 k0_t4 k0_h2 k0_h3
theorem k0_off110_inb : ∀ (v11015 : BitVec 32) (v11016 : BitVec 32) (v11026 : BitVec 32) (v11030 : BitVec 32) (k0_hw13 : k0_chk13 v11015 v11016 v11026 v11030) (k0_t4 : Fin (k0_t4_loop v11026 v11030).trips), ∀ (k0_h2 : k0_cond2 v11015 v11016 = 1#1), ∀ (k0_h3 : k0_cond3 v11026 v11030 = 1#1), ∀ a, (k0_off110 v11026 v11030 k0_t4) a + S1x1x128.size a ≤ S5x8x1152.size a := fun v11015 v11016 v11026 v11030 k0_hw13 k0_t4 k0_h2 k0_h3 => k0_hw13.2.2.2.2.2.2.2.2.2.2.2.2.2.2.2.2.2.2.2.2.2.2.1 k0_t4 k0_h2 k0_h3
theorem k0_off112_inb : ∀ (v11015 : BitVec 32) (v11016 : BitVec 32) (v11026 : BitVec 32) (v11030 : BitVec 32) (k0_hw13 : k0_chk13 v11015 v11016 v11026 v11030) (k0_t4 : Fin (k0_t4_loop v11026 v11030).trips), ∀ (k0_h2 : k0_cond2 v11015 v11016 = 1#1), ∀ (k0_h3 : k0_cond3 v11026 v11030 = 1#1), ∀ a, (k0_off112 v11026 v11030 k0_t4) a + S1x1x128.size a ≤ S5x8x1152.size a := fun v11015 v11016 v11026 v11030 k0_hw13 k0_t4 k0_h2 k0_h3 => k0_hw13.2.2.2.2.2.2.2.2.2.2.2.2.2.2.2.2.2.2.2.2.2.2.2.1 k0_t4 k0_h2 k0_h3
theorem k0_off114_inb : ∀ (v11015 : BitVec 32) (v11016 : BitVec 32) (v11026 : BitVec 32) (v11030 : BitVec 32) (k0_hw13 : k0_chk13 v11015 v11016 v11026 v11030) (k0_t4 : Fin (k0_t4_loop v11026 v11030).trips), ∀ (k0_h2 : k0_cond2 v11015 v11016 = 1#1), ∀ (k0_h3 : k0_cond3 v11026 v11030 = 1#1), ∀ a, (k0_off114 v11026 v11030 k0_t4) a + S1x1x128.size a ≤ S5x8x1152.size a := fun v11015 v11016 v11026 v11030 k0_hw13 k0_t4 k0_h2 k0_h3 => k0_hw13.2.2.2.2.2.2.2.2.2.2.2.2.2.2.2.2.2.2.2.2.2.2.2.2.1 k0_t4 k0_h2 k0_h3
theorem k0_off116_inb : ∀ (v11015 : BitVec 32) (v11016 : BitVec 32) (v11026 : BitVec 32) (v11030 : BitVec 32) (k0_hw13 : k0_chk13 v11015 v11016 v11026 v11030) (k0_t4 : Fin (k0_t4_loop v11026 v11030).trips), ∀ (k0_h2 : k0_cond2 v11015 v11016 = 1#1), ∀ (k0_h3 : k0_cond3 v11026 v11030 = 1#1), ∀ a, (k0_off116 v11026 v11030 k0_t4) a + S1x1x128.size a ≤ S5x8x1152.size a := fun v11015 v11016 v11026 v11030 k0_hw13 k0_t4 k0_h2 k0_h3 => k0_hw13.2.2.2.2.2.2.2.2.2.2.2.2.2.2.2.2.2.2.2.2.2.2.2.2.2.1 k0_t4 k0_h2 k0_h3
theorem k0_off118_inb : ∀ (v11015 : BitVec 32) (v11016 : BitVec 32) (v11026 : BitVec 32) (v11030 : BitVec 32) (k0_hw13 : k0_chk13 v11015 v11016 v11026 v11030) (k0_t4 : Fin (k0_t4_loop v11026 v11030).trips), ∀ (k0_h2 : k0_cond2 v11015 v11016 = 1#1), ∀ (k0_h3 : k0_cond3 v11026 v11030 = 1#1), ∀ a, (k0_off118 v11026 v11030 k0_t4) a + S1x1x128.size a ≤ S5x8x1152.size a := fun v11015 v11016 v11026 v11030 k0_hw13 k0_t4 k0_h2 k0_h3 => k0_hw13.2.2.2.2.2.2.2.2.2.2.2.2.2.2.2.2.2.2.2.2.2.2.2.2.2.2.1 k0_t4 k0_h2 k0_h3
theorem k0_off120_inb : ∀ (v11015 : BitVec 32) (v11016 : BitVec 32) (v11026 : BitVec 32) (v11030 : BitVec 32) (k0_hw13 : k0_chk13 v11015 v11016 v11026 v11030) (k0_t4 : Fin (k0_t4_loop v11026 v11030).trips), ∀ (k0_h2 : k0_cond2 v11015 v11016 = 1#1), ∀ (k0_h3 : k0_cond3 v11026 v11030 = 1#1), ∀ a, (k0_off120 v11026 v11030 k0_t4) a + S1x1x128.size a ≤ S5x8x1152.size a := fun v11015 v11016 v11026 v11030 k0_hw13 k0_t4 k0_h2 k0_h3 => k0_hw13.2.2.2.2.2.2.2.2.2.2.2.2.2.2.2.2.2.2.2.2.2.2.2.2.2.2.2.1 k0_t4 k0_h2 k0_h3
theorem k0_off122_inb : ∀ (v11015 : BitVec 32) (v11016 : BitVec 32) (v11026 : BitVec 32) (v11030 : BitVec 32) (k0_hw13 : k0_chk13 v11015 v11016 v11026 v11030) (k0_t4 : Fin (k0_t4_loop v11026 v11030).trips), ∀ (k0_h2 : k0_cond2 v11015 v11016 = 1#1), ∀ (k0_h3 : k0_cond3 v11026 v11030 = 1#1), ∀ a, (k0_off122 v11026 v11030 k0_t4) a + S1x1x128.size a ≤ S5x8x1152.size a := fun v11015 v11016 v11026 v11030 k0_hw13 k0_t4 k0_h2 k0_h3 => k0_hw13.2.2.2.2.2.2.2.2.2.2.2.2.2.2.2.2.2.2.2.2.2.2.2.2.2.2.2.2.1 k0_t4 k0_h2 k0_h3
theorem k0_off124_inb : ∀ (v11015 : BitVec 32) (v11016 : BitVec 32) (v11026 : BitVec 32) (v11030 : BitVec 32) (k0_hw13 : k0_chk13 v11015 v11016 v11026 v11030) (k0_t4 : Fin (k0_t4_loop v11026 v11030).trips), ∀ (k0_h2 : k0_cond2 v11015 v11016 = 1#1), ∀ (k0_h3 : k0_cond3 v11026 v11030 = 1#1), ∀ a, (k0_off124 v11026 v11030 k0_t4) a + S1x1x128.size a ≤ S5x8x1152.size a := fun v11015 v11016 v11026 v11030 k0_hw13 k0_t4 k0_h2 k0_h3 => k0_hw13.2.2.2.2.2.2.2.2.2.2.2.2.2.2.2.2.2.2.2.2.2.2.2.2.2.2.2.2.2.1 k0_t4 k0_h2 k0_h3
theorem k0_off126_inb : ∀ (v11015 : BitVec 32) (v11016 : BitVec 32) (v11026 : BitVec 32) (v11030 : BitVec 32) (k0_hw13 : k0_chk13 v11015 v11016 v11026 v11030) (k0_t4 : Fin (k0_t4_loop v11026 v11030).trips), ∀ (k0_h2 : k0_cond2 v11015 v11016 = 1#1), ∀ (k0_h3 : k0_cond3 v11026 v11030 = 1#1), ∀ a, (k0_off126 v11026 v11030 k0_t4) a + S1x1x128.size a ≤ S5x8x1152.size a := fun v11015 v11016 v11026 v11030 k0_hw13 k0_t4 k0_h2 k0_h3 => k0_hw13.2.2.2.2.2.2.2.2.2.2.2.2.2.2.2.2.2.2.2.2.2.2.2.2.2.2.2.2.2.2.1 k0_t4 k0_h2 k0_h3
theorem k0_off128_inb : ∀ (v11015 : BitVec 32) (v11016 : BitVec 32) (v11026 : BitVec 32) (v11030 : BitVec 32) (k0_hw13 : k0_chk13 v11015 v11016 v11026 v11030) (k0_t4 : Fin (k0_t4_loop v11026 v11030).trips), ∀ (k0_h2 : k0_cond2 v11015 v11016 = 1#1), ∀ (k0_h3 : k0_cond3 v11026 v11030 = 1#1), ∀ a, (k0_off128 v11026 v11030 k0_t4) a + S1x3x1152.size a ≤ S6x3x1152.size a := fun v11015 v11016 v11026 v11030 k0_hw13 k0_t4 k0_h2 k0_h3 => k0_hw13.2.2.2.2.2.2.2.2.2.2.2.2.2.2.2.2.2.2.2.2.2.2.2.2.2.2.2.2.2.2.2 k0_t4 k0_h2 k0_h3

def k0_cond4 (i : grid0.Coords) : BitVec 1 :=
  let arg0 : BitVec 32 := BitVec.ofNat 32 (i 0).val
  let c159_i32 : BitVec 32 := 159#32
  let v11020 : BitVec 1 := Scalar.cmpi .eq arg0 c159_i32
  let v11021 : BitVec 32 := Scalar.extui v11020
  let c0_i32_4238 : BitVec 32 := 0#32
  let v11022 : BitVec 1 := Scalar.cmpi .ne v11021 c0_i32_4238
  v11022

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S5x1152 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1152 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1152 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1152 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1152 .fp8e5m2 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1152 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S5x3x1152 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S8x3x1152 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "inv_n" => some ((1 / 1152 : ℝ) : EReal)
  | "inv_nn" => some ((1 / 1327104 : ℝ) : EReal)
  | _ => none
-- ==== ReferenceIdeal.lean ====
abbrev S163840x1152 : Shape := ⟨2, ![163840, 1152]⟩
abbrev S163840 : Shape := ⟨1, ![163840]⟩
abbrev S5x1152 : Shape := ⟨2, ![5, 1152]⟩
abbrev S163840x1 : Shape := ⟨2, ![163840, 1]⟩
abbrev S5x3x1152 : Shape := ⟨3, ![5, 3, 1152]⟩
abbrev S1280x3x1152 : Shape := ⟨3, ![1280, 3, 1152]⟩
abbrev S1280x128x1152 : Shape := ⟨3, ![1280, 128, 1152]⟩
abbrev S1280x1152 : Shape := ⟨2, ![1280, 1152]⟩
abbrev S1280x1x1152 : Shape := ⟨3, ![1280, 1, 1152]⟩
abbrev S1152 : Shape := ⟨1, ![1152]⟩
abbrev S1x1x1152 : Shape := ⟨3, ![1, 1, 1152]⟩
abbrev S1x1152 : Shape := ⟨2, ![1, 1152]⟩

abbrev nBuf : Space → Nat
  | .hbm => 18
  | .vmem => 12
  | .smem => 0
  | _ => 0

abbrev bufTy : (tb : Table) → Fin (tcTables nBuf tb) → BufTy
  | .hbm, ⟨0, _⟩ => ⟨S163840x1152, .i8⟩
  | .hbm, ⟨1, _⟩ => ⟨S163840, .f32⟩
  | .hbm, ⟨2, _⟩ => ⟨S163840x1152, .bf16⟩
  | .hbm, ⟨3, _⟩ => ⟨S163840x1152, .fp8e5m2⟩
  | .hbm, ⟨4, _⟩ => ⟨S163840, .f32⟩
  | .hbm, ⟨5, _⟩ => ⟨S163840x1152, .i8⟩
  | .hbm, ⟨6, _⟩ => ⟨S163840, .f32⟩
  | .hbm, ⟨7, _⟩ => ⟨S163840, .i32⟩
  | .hbm, ⟨8, _⟩ => ⟨S5x1152, .f32⟩
  | .hbm, ⟨9, _⟩ => ⟨S163840x1152, .fp8e4m3⟩
  | .hbm, ⟨10, _⟩ => ⟨S163840x1152, .fp8e5m2⟩
  | .hbm, ⟨11, _⟩ => ⟨S163840x1, .f32⟩
  | .hbm, ⟨12, _⟩ => ⟨S163840x1, .f32⟩
  | .hbm, ⟨13, _⟩ => ⟨S163840x1, .f32⟩
  | .hbm, ⟨14, _⟩ => ⟨S163840x1, .i32⟩
  | .hbm, ⟨15, _⟩ => ⟨S163840x1152, .bf16⟩
  | .hbm, ⟨16, _⟩ => ⟨S5x3x1152, .f32⟩
  | .hbm, ⟨17, _⟩ => ⟨S1280x3x1152, .f32⟩
  | .local _ .vmem, ⟨0, _⟩ => ⟨S163840x1152, .fp8e4m3⟩
  | .local _ .vmem, ⟨1, _⟩ => ⟨S163840x1, .f32⟩
  | .local _ .vmem, ⟨2, _⟩ => ⟨S163840x1152, .bf16⟩
  | .local _ .vmem, ⟨3, _⟩ => ⟨S163840x1152, .fp8e5m2⟩
  | .local _ .vmem, ⟨4, _⟩ => ⟨S163840x1, .f32⟩
  | .local _ .vmem, ⟨5, _⟩ => ⟨S163840x1152, .fp8e5m2⟩
  | .local _ .vmem, ⟨6, _⟩ => ⟨S163840x1, .f32⟩
  | .local _ .vmem, ⟨7, _⟩ => ⟨S163840x1, .i32⟩
  | .local _ .vmem, ⟨8, _⟩ => ⟨S5x1152, .f32⟩
  | .local _ .vmem, ⟨9, _⟩ => ⟨S163840x1152, .bf16⟩
  | .local _ .vmem, ⟨10, _⟩ => ⟨S5x3x1152, .f32⟩
  | .local _ .vmem, ⟨11, _⟩ => ⟨S1280x3x1152, .f32⟩
  | _, _ => ⟨S163840x1152, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S163840x1152 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S163840x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S163840x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S163840x1152 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S163840x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S163840x1152 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S163840x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S163840x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5x1152 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S163840x1152 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S5x3x1152 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1280x3x1152 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Pre.lean ====
/-
  What the precondition says, element by element: every sample number is below five.
-/
module

public import proofs.«01_k».proof.Defs
public import proofs.«01_k».proof.Proof.Gen.Pre_in_range
public import Idealize.ShloMosaic.Lib.WordCmp

@[expose] public section

noncomputable section

namespace Cert.Proof.Pre

open Idealize.ShloMosaic

/-- Two flags conjoined are set only if both are. -/
theorem andi_one {a b : BitVec 1} (h : IntOp.andi a b = 1#1) : a = 1#1 ∧ b = 1#1 := by
  revert a b; decide

/-- A conjunction folded over a list is set only if every member is. -/
theorem foldl_andi {α : Type} (f : α → BitVec 1) (l : List α) (r : BitVec 1)
    (h : l.foldl (fun r n => IntOp.andi r (f n)) r = 1#1) : r = 1#1 ∧ ∀ n ∈ l, f n = 1#1 := by
  induction l generalizing r with
  | nil => exact ⟨h, fun _ hn => absurd hn (List.not_mem_nil)⟩
  | cons a l ih =>
    obtain ⟨h₁, h₂⟩ := ih _ h
    obtain ⟨h₃, h₄⟩ := andi_one h₁
    exact ⟨h₃, fun n hn => (List.mem_cons.mp hn).elim (fun e => e ▸ h₄) (h₂ n)⟩

/-- A conjunction over a whole array is set only if every element is. -/
theorem reduce_andi {s t u : Shape} {axes : List (Fin s.rank)} (x : IVec s 1) (init : IVec u 1)
    (h : s.ReducesTo axes t) (hu : 0 < u.numel) (j : t.Idx) (ht : ∀ a b : t.Idx, a = b)
    (hr : Host.reduce IntOp.andi x init h hu j = 1#1) (i : s.Idx) : x i = 1#1 := by
  unfold Host.reduce at hr
  have := (foldl_andi (fun n => x (s.rowMajor.symm n)) _ _ hr).2 (s.rowMajor i)
    (List.mem_filter.mpr ⟨List.mem_finRange _, by simpa using ht _ _⟩)
  simpa using this

/-- A word at least 0 and less than 5, both read signed, is below 5 read unsigned. -/
theorem toNat_lt_five {v : BitVec 32} (h₀ : IntOp.cmpi .sge v 0#32 = 1#1) (h₅ : IntOp.cmpi .slt v 5#32 = 1#1) : v.toNat < 5 := by
  have a : (0#32).sle v = true := by
    cases h : (0#32).sle v
    · simp [IntOp.cmpi, h] at h₀
    · rfl
  have b : v.slt 5#32 = true := by
    cases h : v.slt 5#32
    · simp [IntOp.cmpi, h] at h₅
    · rfl
  simp only [BitVec.sle, BitVec.slt, decide_eq_true_eq, BitVec.toInt_eq_toNat_cond, BitVec.toNat_ofNat] at a b
  have := v.isLt
  split at b <;> simp at a b <;> omega

theorem shape0_eq (a b : Cert.Pre_in_range.S_.Idx) : a = b := funext fun k => k.elim0

/-- `in_range` holds only of sample numbers below five. -/
theorem ids_of_in_range {F : FTy → Type} [FloatOps F] [Cert.Pre_in_range.Facts]
    (a0 : IVec Cert.Pre_in_range.S163840x1152 8) (a1 : FVec F Cert.Pre_in_range.S163840 .f32) (a2 : FVec F Cert.Pre_in_range.S163840x1152 .bf16)
    (a3 : FVec F Cert.Pre_in_range.S163840x1152 .fp8e5m2) (a4 : FVec F Cert.Pre_in_range.S163840 .f32) (a5 : IVec Cert.Pre_in_range.S163840x1152 8)
    (a6 : FVec F Cert.Pre_in_range.S163840 .f32) (a7 : IVec Cert.Pre_in_range.S163840 32) (a8 : FVec F Cert.Pre_in_range.S5x1152 .f32)
    (h : Cert.Pre_in_range.fn a0 a1 a2 a3 a4 a5 a6 a7 a8 = fun _ => 1#1) (i : Cert.Pre_in_range.S163840.Idx) : (a7 i).toNat < 5 := by
  have h' := congrFun h (Shape.Idx.first Cert.Pre_in_range.Facts.h_S_)
  simp only [Cert.Pre_in_range.fn] at h'
  obtain ⟨h₁, h₂⟩ := andi_one h'
  exact toNat_lt_five (reduce_andi _ _ _ _ _ shape0_eq h₁ i) (reduce_andi _ _ _ _ _ shape0_eq h₂ i)

end Cert.Proof.Pre

end
-- ==== Proof.PreFinite.lean ====
/-
  What the value claim's precondition says, element by element: every sample number is below five, and the saved rows,
  the gradient and their scales hold real numbers.
-/
module

public import proofs.«01_k».proof.Defs
public import proofs.«01_k».proof.Proof.Pre
public import proofs.«01_k».proof.Proof.Gen.Pre_finite_rows

@[expose] public section

noncomputable section

namespace Cert.Proof.Pre

open Idealize.ShloMosaic

/-- A code of the 8-bit format with a 4-bit exponent, its magnitude's bits not all ones, is a real number. -/
theorem e4m3_real (v : BitVec 8) (h : IntOp.cmpi .ne (IntOp.andi (v.setWidth 32) 127#32) 127#32 = 1#1) :
    ∃ r : ℝ, Ideal.ofBits .fp8e4m3 v = (r : EReal) := by
  have key : ∀ v : BitVec 8, IntOp.cmpi .ne (IntOp.andi (v.setWidth 32) 127#32) 127#32 = 1#1 →
      ¬((v.extractLsb' 3 4).toNat = 15 ∧ (v.extractLsb' 0 3).toNat = 7) := by decide +kernel
  show ∃ r : ℝ, Ideal.e4m3fn v = (r : EReal)
  unfold Ideal.e4m3fn
  simp only [if_neg (key v h)]
  split <;> exact ⟨_, rfl⟩

/-- A code of the 8-bit format with a 5-bit exponent, its exponent's bits not all ones, is a real number. -/
theorem e5m2_real (v : BitVec 8) (h : IntOp.cmpi .ne (IntOp.andi (v.setWidth 32) 124#32) 124#32 = 1#1) :
    ∃ r : ℝ, Ideal.ofBits .fp8e5m2 v = (r : EReal) := by
  have key : ∀ v : BitVec 8, IntOp.cmpi .ne (IntOp.andi (v.setWidth 32) 124#32) 124#32 = 1#1 →
      ¬((v.extractLsb' 2 5).toNat = 2 ^ 5 - 1) := by decide +kernel
  show ∃ r : ℝ, Ideal.ieee 5 2 v = (r : EReal)
  unfold Ideal.ieee
  simp only [if_neg (key v h)]
  split <;> exact ⟨_, rfl⟩

theorem word_inf : Ideal.ofBits .f32 0x7F800000#32 = ⊤ := by
  simp [Ideal.ofBits, Ideal.ieee]

/-- A float of finite magnitude is a real number. -/
theorem real_of_abs_lt (x : EReal) (h : Ideal.cmp .olt (max x (-x)) (Ideal.ofBits .f32 0x7F800000#32) = 1#1) :
    ∃ r : ℝ, x = (r : EReal) := by
  have hlt : max x (-x) < ⊤ := by
    rw [word_inf] at h
    by_contra hc
    simp [Ideal.cmp, hc] at h
  induction x with
  | bot => simp at hlt
  | top => simp at hlt
  | coe r => exact ⟨r, rfl⟩

section Decode

open Cert.Pre_finite_rows

variable {F : FTy → Type} [FloatOps F] [Cert.Pre_finite_rows.Facts] {a0 : IVec S163840x1152 8} {a1 : FVec F S163840 .f32}
  {a2 : FVec F S163840x1152 .bf16} {a3 : FVec F S163840x1152 .fp8e5m2} {a4 : FVec F S163840 .f32} {a5 : IVec S163840x1152 8}
  {a6 : FVec F S163840 .f32} {a7 : IVec S163840 32} {a8 : FVec F S5x1152 .f32}

/-- `finite_rows`, an element of each of its arrays at a time. -/
theorem finite_rows_at (h : Cert.Pre_finite_rows.fn a0 a1 a2 a3 a4 a5 a6 a7 a8 = fun _ => 1#1) :
    (∀ i, (a7 i).toNat < 5)
    ∧ (∀ i, IntOp.cmpi .ne (IntOp.andi ((a0 i).setWidth 32) 127#32) 127#32 = 1#1)
    ∧ (∀ i, IntOp.cmpi .ne (IntOp.andi ((a5 i).setWidth 32) 124#32) 124#32 = 1#1)
    ∧ (∀ i, cmpf .olt (Host.absf a1) (constant S163840 .f32 0x7F800000#32) i = 1#1)
    ∧ (∀ i, cmpf .olt (Host.absf a6) (constant S163840 .f32 0x7F800000#32) i = 1#1) := by
  have h' := congrFun h (Shape.Idx.first Cert.Pre_finite_rows.Facts.h_S_)
  simp only [Cert.Pre_finite_rows.fn, Cert.Pre_finite_rows.fn_part1] at h'
  obtain ⟨h', h6⟩ := andi_one h'
  obtain ⟨h', h1⟩ := andi_one h'
  obtain ⟨h', h5⟩ := andi_one h'
  obtain ⟨h', h0⟩ := andi_one h'
  obtain ⟨hl, hu⟩ := andi_one h'
  exact ⟨fun i => toNat_lt_five (reduce_andi _ _ _ _ _ shape0_eq hl i) (reduce_andi _ _ _ _ _ shape0_eq hu i),
    fun i => reduce_andi _ _ _ _ _ shape0_eq h0 i, fun i => reduce_andi _ _ _ _ _ shape0_eq h5 i,
    fun i => reduce_andi _ _ _ _ _ shape0_eq h1 i, fun i => reduce_andi _ _ _ _ _ shape0_eq h6 i⟩

end Decode

section Finite

open Cert.Pre_finite_rows

variable [Cert.Pre_finite_rows.Facts] {a0 : IVec S163840x1152 8} {a1 : FVec Ideal S163840 .f32}
  {a2 : FVec Ideal S163840x1152 .bf16} {a3 : FVec Ideal S163840x1152 .fp8e5m2} {a4 : FVec Ideal S163840 .f32} {a5 : IVec S163840x1152 8}
  {a6 : FVec Ideal S163840 .f32} {a7 : IVec S163840 32} {a8 : FVec Ideal S5x1152 .f32}

/-- Under `finite_rows` the saved rows' codes, the gradient's codes and their two scales are real numbers. -/
theorem real_of_finite_rows (h : Cert.Pre_finite_rows.fn a0 a1 a2 a3 a4 a5 a6 a7 a8 = fun _ => 1#1) :
    (∀ i, ∃ r : ℝ, (bitcastToFloat .fp8e4m3 a0 : FVec Ideal S163840x1152 .fp8e4m3) i = (r : EReal))
    ∧ (∀ i, ∃ r : ℝ, (bitcastToFloat .fp8e5m2 a5 : FVec Ideal S163840x1152 .fp8e5m2) i = (r : EReal))
    ∧ (∀ i, ∃ r : ℝ, a1 i = (r : EReal)) ∧ (∀ i, ∃ r : ℝ, a6 i = (r : EReal)) := by
  obtain ⟨_, h0, h5, h1, h6⟩ := finite_rows_at h
  exact ⟨fun i => e4m3_real _ (h0 i), fun i => e5m2_real _ (h5 i), fun i => real_of_abs_lt _ (h1 i), fun i => real_of_abs_lt _ (h6 i)⟩

end Finite

end Cert.Proof.Pre

end
-- ==== Proof.TokenRows.lean ====
/-
  The sums both programs compute, over the 163840 tokens: of each block of 128 tokens, the gradient summed (the shift's),
  the gradient times the normalised row summed (the scale's), and the branch's gradient times its output summed (the
  gate's).
-/
module

public import Idealize.ShloMosaic.Lib.Pointwise

@[expose] public section

noncomputable section

namespace Cert.Proof.Tokens

open Idealize.ShloMosaic
open scoped BigOperators

/-- A number for every token and channel; a number for every token. -/
abbrev Rows : Shape := ⟨2, ![163840, 1152]⟩
abbrev Col : Shape := ⟨1, ![163840]⟩

/-- A column of numbers read as one number for every token. -/
def ofCol (v : FVec Ideal (⟨2, ![163840, 1]⟩ : Shape) .f32) : FVec Ideal Col .f32 := fun i => v (ix2 (i 0 : Fin 163840) (0 : Fin 1))

theorem ofCol_at (v : FVec Ideal (⟨2, ![163840, 1]⟩ : Shape) .f32) (t : Fin 163840) : ofCol v (ix1 t) = v (ix2 t 0) := rfl

/-- Token `r` of block `B`. -/
def tok (B : Fin 1280) (r : Fin 128) : Fin 163840 := ⟨B.val * 128 + r.val, by omega⟩

/-- A row's mean after scaling by `s`. -/
def rowMean (x : Fin 1152 → EReal) (s : EReal) : EReal := Ideal.div (∑ l, x l * s) (Ideal.ofBits .f32 0x44900000#32)
/-- Its variance about the mean. -/
def rowVar (x : Fin 1152 → EReal) (s : EReal) : EReal :=
  Ideal.div (∑ l, (x l * s - rowMean x s) * (x l * s - rowMean x s)) (Ideal.ofBits .f32 0x44900000#32)
/-- The row normalised: centred and divided by the deviation. -/
def rowHat (x : Fin 1152 → EReal) (s : EReal) (l : Fin 1152) : EReal :=
  (x l * s - rowMean x s) * Ideal.rsqrt (rowVar x s + Ideal.ofBits .f32 0x358637BD#32)

variable (x : FVec Ideal Rows .fp8e4m3) (s : FVec Ideal Col .f32) (f : FVec Ideal Rows .bf16) (y : FVec Ideal Rows .fp8e5m2)
  (ys : FVec Ideal Col .f32) (h : FVec Ideal Rows .fp8e5m2) (hs : FVec Ideal Col .f32)

/-- One token's share of its block's row `k`. -/
def share (k : Fin 3) (t : Fin 163840) (l : Fin 1152) : EReal :=
  if k.val = 0 then h (ix2 t l) * hs (ix1 t)
  else if k.val = 1 then h (ix2 t l) * hs (ix1 t) * rowHat (fun l => x (ix2 t l)) (s (ix1 t)) l
  else y (ix2 t l) * ys (ix1 t) * f (ix2 t l)

/-- Block `B`'s row `k`: its tokens' shares summed. -/
def blockSum (B : Fin 1280) (k : Fin 3) (l : Fin 1152) : EReal := ∑ r : Fin 128, share x s f y ys h hs k (tok B r) l

end Cert.Proof.Tokens

end
-- ==== Proof.TokenDx.lean ====
/-
  One token's row of the input gradient, over the extended reals: the gradient of the outer path plus the normalisation's
  gradient of the weighted inner one.
-/
module

public import proofs.«01_k».proof.Proof.TokenRows

@[expose] public section

noncomputable section

namespace Cert.Proof.Tokens

open Idealize.ShloMosaic
open scoped BigOperators

/-- A row's reciprocal deviation after scaling by `s`. -/
def rowDev (x : Fin 1152 → EReal) (s : EReal) : EReal := Ideal.rsqrt (rowVar x s + Ideal.ofBits .f32 0x358637BD#32)

/-- Token `k` after the first of the group of `n` tokens that token `T` is in. -/
def near (n k : ℕ) (hk : k < n) (hn : 163840 % n = 0) (T : Fin 163840) : Fin 163840 := ⟨T.val / n * n + k, by
  have h1 : T.val / n < 163840 / n := Nat.div_lt_div_of_lt_of_dvd (Nat.dvd_of_mod_eq_zero hn) T.isLt
  have h2 : 163840 / n * n = 163840 := Nat.div_mul_cancel (Nat.dvd_of_mod_eq_zero hn)
  have h3 : (T.val / n + 1) * n ≤ 163840 / n * n := Nat.mul_le_mul_right n h1
  rw [Nat.add_mul] at h3; omega⟩

/-- The scale of sample `i`. -/
def modOf (M : FVec Ideal (⟨2, ![5, 1152]⟩ : Shape) .f32) (i : BitVec 32) (l : Fin 1152) : EReal :=
  if i = 4#32 then M (ix2 4 l) else if i = 3#32 then M (ix2 3 l) else if i = 2#32 then M (ix2 2 l) else if i = 1#32 then M (ix2 1 l) else M (ix2 0 l)

/-- The gradient through the normalisation, `g` the gradient of the normalised row `n` and `r` the reciprocal deviation. -/
def normDx (r : EReal) (n g : Fin 1152 → EReal) (l : Fin 1152) : EReal :=
  r * (g l - Ideal.div (∑ l, g l) (Ideal.ofBits .f32 0x44900000#32) - n l * Ideal.div (∑ l, g l * n l) (Ideal.ofBits .f32 0x44900000#32))

/-- A token's row of the input gradient. -/
def dxTok (x : FVec Ideal Rows .fp8e4m3) (s : FVec Ideal Col .f32) (y : FVec Ideal Rows .fp8e5m2) (ys : FVec Ideal Col .f32)
    (h : FVec Ideal Rows .fp8e5m2) (hs : FVec Ideal Col .f32) (ids : IVec Col 32) (M : FVec Ideal (⟨2, ![5, 1152]⟩ : Shape) .f32)
    (t : Fin 163840) (l : Fin 1152) : EReal :=
  y (ix2 t l) * ys (ix1 t) + normDx (rowDev (fun l => x (ix2 t l)) (s (ix1 t))) (rowHat (fun l => x (ix2 t l)) (s (ix1 t)))
    (fun l => h (ix2 t l) * hs (ix1 t) * ((1 : EReal) + modOf M (ids (ix1 t)) l)) l

end Cert.Proof.Tokens

end
-- ==== Proof.PreDx.lean ====
/-
  What the input gradient's claim says of its arguments, element by element: its precondition, and the rows its mask names.
-/
module

public import proofs.«01_k».proof.Defs
public import proofs.«01_k».proof.Proof.PreFinite
public import proofs.«01_k».proof.Proof.TokenDx
public import proofs.«01_k».proof.Proof.Gen.Pre_finite_rows_and_scales
public import proofs.«01_k».proof.Proof.Gen.On_one_sample_rows
public import Idealize.ShloMosaic.Lib.Pipeline.ValueKit

@[expose] public section

noncomputable section

namespace Cert.Proof.Pre

open Idealize.ShloMosaic Idealize.ShloMosaic.Tactic
open Cert.Proof.Tokens (near)

section Decode

open Cert.Pre_finite_rows_and_scales

variable {F : FTy → Type} [FloatOps F] [Cert.Pre_finite_rows_and_scales.Facts] {a0 : IVec S163840x1152 8} {a1 : FVec F S163840 .f32}
  {a2 : FVec F S163840x1152 .bf16} {a3 : FVec F S163840x1152 .fp8e5m2} {a4 : FVec F S163840 .f32} {a5 : IVec S163840x1152 8}
  {a6 : FVec F S163840 .f32} {a7 : IVec S163840 32} {a8 : FVec F S5x1152 .f32}

/-- `finite_rows_and_scales`, an element of each of its arrays at a time. -/
theorem finite_scales_at (h : Cert.Pre_finite_rows_and_scales.fn a0 a1 a2 a3 a4 a5 a6 a7 a8 = fun _ => 1#1) :
    (∀ i, (a7 i).toNat < 5)
    ∧ (∀ i, IntOp.cmpi .ne (IntOp.andi ((a0 i).setWidth 32) 127#32) 127#32 = 1#1)
    ∧ (∀ i, IntOp.cmpi .ne (IntOp.andi ((a5 i).setWidth 32) 124#32) 124#32 = 1#1)
    ∧ (∀ i, cmpf .olt (Host.absf a1) (constant S163840 .f32 0x7F800000#32) i = 1#1)
    ∧ (∀ i, cmpf .olt (Host.absf a6) (constant S163840 .f32 0x7F800000#32) i = 1#1)
    ∧ (∀ i, cmpf .olt (Host.absf a8) (constant S5x1152 .f32 0x7F800000#32) i = 1#1) := by
  have h' := congrFun h (Shape.Idx.first Cert.Pre_finite_rows_and_scales.Facts.h_S_)
  simp only [Cert.Pre_finite_rows_and_scales.fn, Cert.Pre_finite_rows_and_scales.fn_part1, Cert.Pre_finite_rows_and_scales.fn_part2] at h'
  obtain ⟨h', h8⟩ := andi_one h'
  obtain ⟨h', h6⟩ := andi_one h'
  obtain ⟨h', h1⟩ := andi_one h'
  obtain ⟨h', h5⟩ := andi_one h'
  obtain ⟨h', h0⟩ := andi_one h'
  obtain ⟨hl, hu⟩ := andi_one h'
  exact ⟨fun i => toNat_lt_five (reduce_andi _ _ _ _ _ shape0_eq hl i) (reduce_andi _ _ _ _ _ shape0_eq hu i),
    fun i => reduce_andi _ _ _ _ _ shape0_eq h0 i, fun i => reduce_andi _ _ _ _ _ shape0_eq h5 i,
    fun i => reduce_andi _ _ _ _ _ shape0_eq h1 i, fun i => reduce_andi _ _ _ _ _ shape0_eq h6 i,
    fun i => reduce_andi _ _ _ _ _ shape0_eq h8 i⟩

end Decode

section Finite

open Cert.Pre_finite_rows_and_scales

variable [Cert.Pre_finite_rows_and_scales.Facts] {a0 : IVec S163840x1152 8} {a1 : FVec Ideal S163840 .f32}
  {a2 : FVec Ideal S163840x1152 .bf16} {a3 : FVec Ideal S163840x1152 .fp8e5m2} {a4 : FVec Ideal S163840 .f32} {a5 : IVec S163840x1152 8}
  {a6 : FVec Ideal S163840 .f32} {a7 : IVec S163840 32} {a8 : FVec Ideal S5x1152 .f32}

/-- Under `finite_rows_and_scales` the saved rows' codes, the gradient's codes, their scales and the samples' scales are real numbers. -/
theorem real_of_finite_scales (h : Cert.Pre_finite_rows_and_scales.fn a0 a1 a2 a3 a4 a5 a6 a7 a8 = fun _ => 1#1) :
    (∀ i, ∃ r : ℝ, (bitcastToFloat .fp8e4m3 a0 : FVec Ideal S163840x1152 .fp8e4m3) i = (r : EReal))
    ∧ (∀ i, ∃ r : ℝ, (bitcastToFloat .fp8e5m2 a5 : FVec Ideal S163840x1152 .fp8e5m2) i = (r : EReal))
    ∧ (∀ i, ∃ r : ℝ, a1 i = (r : EReal)) ∧ (∀ i, ∃ r : ℝ, a6 i = (r : EReal)) ∧ (∀ i, ∃ r : ℝ, a8 i = (r : EReal)) := by
  obtain ⟨_, h0, h5, h1, h6, h8⟩ := finite_scales_at h
  exact ⟨fun i => e4m3_real _ (h0 i), fun i => e5m2_real _ (h5 i), fun i => real_of_abs_lt _ (h1 i), fun i => real_of_abs_lt _ (h6 i),
    fun i => real_of_abs_lt _ (h8 i)⟩

end Finite

section Mask

open Cert.On_one_sample_rows

variable {F : FTy → Type} [FloatOps F] [Cert.On_one_sample_rows.Facts] {a0 : IVec S163840x1152 8} {a1 : FVec F S163840 .f32}
  {a2 : FVec F S163840x1152 .bf16} {a3 : FVec F S163840x1152 .fp8e5m2} {a4 : FVec F S163840 .f32} {a5 : IVec S163840x1152 8}
  {a6 : FVec F S163840 .f32} {a7 : IVec S163840 32} {a8 : FVec F S5x1152 .f32}

theorem eq_of_cmpi {a b : BitVec 32} (h : IntOp.cmpi .eq a b = 1#1) : a = b := by
  by_contra hc
  have e : (a == b) = false := beq_eq_false_iff_ne.mpr hc
  simp [IntOp.cmpi, e] at h

theorem mask_at (T : Fin 163840) (l : Fin 1152) : (Cert.On_one_sample_rows.fn a0 a1 a2 a3 a4 a5 a6 a7 a8).1 (ix2 T l) =
    IntOp.andi (IntOp.cmpi .eq (a7 (ix1 (near 1024 0 (by decide) (by decide) T))) (a7 (ix1 (near 1024 1023 (by decide) (by decide) T))))
      (IntOp.cmpi .eq (a7 (ix1 T)) (a7 (ix1 (near 256 0 (by decide) (by decide) T)))) := by
  pointwise [Cert.On_one_sample_rows.fn]
  have e1 : ∀ h, (⟨T.val / 1024 * 1024 + 768 + 255, h⟩ : Fin 163840) = near 1024 1023 (by decide) (by decide) T := fun h =>
    Fin.ext (show T.val / 1024 * 1024 + 768 + 255 = T.val / 1024 * 1024 + 1023 by omega)
  have e2 : ∀ h, (⟨T.val / 1024 * 1024 + T.val / 256 % 4 * 256, h⟩ : Fin 163840) = near 256 0 (by decide) (by decide) T := fun h =>
    Fin.ext (show T.val / 1024 * 1024 + T.val / 256 % 4 * 256 = T.val / 256 * 256 + 0 by omega)
  rw [e1, e2]
  rfl

/-- A row the mask names: its group's first and last rows belong to one sample, and it to that of the first of its 256 rows. -/
theorem one_sample_at {i : S163840x1152.Idx} (h : (Cert.On_one_sample_rows.fn a0 a1 a2 a3 a4 a5 a6 a7 a8).1 i = 1#1) :
    a7 (ix1 (near 1024 0 (by decide) (by decide) (i 0))) = a7 (ix1 (near 1024 1023 (by decide) (by decide) (i 0)))
    ∧ a7 (ix1 (i 0 : Fin 163840)) = a7 (ix1 (near 256 0 (by decide) (by decide) (i 0))) := by
  idx_vars i
  rw [mask_at] at h
  exact ⟨eq_of_cmpi (andi_one h).1, eq_of_cmpi (andi_one h).2⟩

end Mask

end Cert.Proof.Pre

end
-- ==== Proof.KernelBounds.lean ====
/-
  The kernel's assumptions about its sample numbers. Each row belongs to one of five samples; the kernel assumes that the
  sample numbers it reads address its per-sample scratch in bounds, and that its loop over the samples of a chunk has a
  meaning. All of it follows from the numbers being below five.
-/
module

public import proofs.«01_k».proof.Proof.Gen.Kernel

@[expose] public section

namespace Cert.Proof.Kernel

open Cert.Kernel
open Idealize.ShloMosaic

/-- A sample number, or a row number of the accumulator, is itself as an index. -/
theorem sub_nat (v : BitVec 32) (h : v.toNat < 5) : (Scalar.indexCast v).toNat < 5 := h

theorem chk1 (v : BitVec 32) (h : v.toNat < 5) : k0_chk1 v := by
  refine ⟨?_, ?_, ?_, ?_, ?_⟩ <;> (intro a; have := sub_nat v h; fin_cases a <;> first | exact Nat.succ_le_of_lt this | exact Nat.le_of_ble_eq_true rfl)

theorem chk3 (v : BitVec 32) (h : v.toNat < 5) : k0_chk3 v := by
  refine ⟨?_, ?_, ?_, ?_, ?_, ?_, ?_, ?_, ?_⟩ <;>
    (intro a; have := sub_nat v h; fin_cases a <;> first | exact Nat.succ_le_of_lt this | exact Nat.le_of_ble_eq_true rfl)

theorem chk4 (v w : BitVec 32) (h : v.toNat < 5) : k0_chk4 v w := by
  have hs : (Scalar.indexCast (Scalar.select (Scalar.cmpi .eq v w) v 5#32)).toNat < 6 := by
    show (Scalar.select (Scalar.cmpi .eq v w) v 5#32).toNat < 6
    unfold Scalar.select
    split
    · omega
    · decide
  intro a; fin_cases a
  · exact Nat.succ_le_of_lt hs
  all_goals exact Nat.le_of_ble_eq_true rfl

/-! The later chunks' checks are the first chunk's. -/

theorem chk2 (v : BitVec 32) (h : v.toNat < 5) : k0_chk2 v := chk1 v h
theorem chk5 (v : BitVec 32) (h : v.toNat < 5) : k0_chk5 v := chk1 v h
theorem chk8 (v : BitVec 32) (h : v.toNat < 5) : k0_chk8 v := chk1 v h
theorem chk6 (v : BitVec 32) (h : v.toNat < 5) : k0_chk6 v := chk3 v h
theorem chk9 (v : BitVec 32) (h : v.toNat < 5) : k0_chk9 v := chk3 v h
theorem chk11 (v : BitVec 32) (h : v.toNat < 5) : k0_chk11 v := chk3 v h
theorem chk7 (v w : BitVec 32) (h : v.toNat < 5) : k0_chk7 v w := chk4 v w h
theorem chk10 (v w : BitVec 32) (h : v.toNat < 5) : k0_chk10 v w := chk4 v w h
theorem chk12 (v w : BitVec 32) (h : v.toNat < 5) : k0_chk12 v w := chk4 v w h

/-- The loop over a chunk's samples, from the first row's to the last row's, makes as many trips as there are samples. -/
theorem trips2_fin : ∀ a b : Fin 5, (k0_t2_loop (BitVec.ofNat 32 a) (BitVec.ofNat 32 b)).trips = b.val + 1 - a.val := by decide

theorem ok2_fin : ∀ a b : Fin 5, (k0_t2_loop (BitVec.ofNat 32 a) (BitVec.ofNat 32 b)).OK := by decide

theorem trips4_fin : ∀ a b : Fin 5, (k0_t4_loop (BitVec.ofNat 32 a) (BitVec.ofNat 32 b)).trips = 0 := by decide

theorem ok4_fin : ∀ a b : Fin 5, (k0_t4_loop (BitVec.ofNat 32 a) (BitVec.ofNat 32 b)).OK := by decide

theorem eq_ofNat (v : BitVec 32) (h : v.toNat < 5) : v = BitVec.ofNat 32 (⟨v.toNat, h⟩ : Fin 5).val := by simp

theorem trips2 (v w : BitVec 32) (hv : v.toNat < 5) (hw : w.toNat < 5) : (k0_t2_loop v w).trips = w.toNat + 1 - v.toNat := by
  rw [eq_ofNat v hv, eq_ofNat w hw, trips2_fin]; simp

theorem ok2 (v w : BitVec 32) (hv : v.toNat < 5) (hw : w.toNat < 5) : (k0_t2_loop v w).OK := by
  rw [eq_ofNat v hv, eq_ofNat w hw]; exact ok2_fin _ _

/-- The remainder loop beside it makes none. -/
theorem trips4 (v w : BitVec 32) (hv : v.toNat < 5) (hw : w.toNat < 5) : (k0_t4_loop v w).trips = 0 := by
  rw [eq_ofNat v hv, eq_ofNat w hw, trips4_fin]

theorem ok4 (v w : BitVec 32) (hv : v.toNat < 5) (hw : w.toNat < 5) : (k0_t4_loop v w).OK := by
  rw [eq_ofNat v hv, eq_ofNat w hw]; exact ok4_fin _ _

/-- The sample of trip `k` of the loop over a chunk's samples. -/
theorem iv2 (v w : BitVec 32) (hv : v.toNat < 5) (hw : w.toNat < 5) (k : Fin (k0_t2_loop v w).trips) :
    (Scf.iv v 1#32 k).toNat = v.toNat + k.val := by
  have hk := lt_of_lt_of_eq k.isLt (trips2 v w hv hw)
  unfold Scf.iv
  rw [BitVec.toNat_add, BitVec.mul_one, BitVec.toNat_ofNat]
  omega

theorem iv2_lt (v w : BitVec 32) (hv : v.toNat < 5) (hw : w.toNat < 5) (k : Fin (k0_t2_loop v w).trips) :
    (Scf.iv v 1#32 k).toNat < 5 := by
  have hk := lt_of_lt_of_eq k.isLt (trips2 v w hv hw)
  rw [iv2 v w hv hw k]; omega

theorem chk13 (v w : BitVec 32) (hv : v.toNat < 5) (hw : w.toNat < 5) (p q : BitVec 32) : k0_chk13 p q v w := by
  have h2 : ∀ (k : Fin (k0_t2_loop v w).trips), (Scalar.indexCast (Scf.iv v 1#32 k)).toNat < 5 := iv2_lt v w hv hw
  have e4 := trips4 v w hv hw
  unfold k0_chk13
  refine ⟨fun _ _ => ok2 v w hv hw, ?_⟩
  iterate 15 refine ⟨fun k _ _ a => ?_, ?_⟩; rotate_left
  refine ⟨fun _ _ => ok4 v w hv hw, ?_⟩
  iterate 14 refine ⟨fun k _ _ _ => (Nat.not_lt_zero _ (lt_of_lt_of_eq k.isLt e4)).elim, ?_⟩
  · exact fun k _ _ _ => (Nat.not_lt_zero _ (lt_of_lt_of_eq k.isLt e4)).elim
  all_goals
    have := h2 k
    fin_cases a
    · first | exact Nat.succ_le_of_lt this | exact Nat.succ_le_of_lt (Nat.lt_succ_of_lt this)
    all_goals exact Nat.le_of_ble_eq_true rfl

end Cert.Proof.Kernel
-- ==== Proof.KernelBody.lean ====
/-
  The kernel's body run once at symbolic operands: from the staged inputs at their contents and every output and scratch
  buffer at anything, it reaches its return, the inputs unchanged and each output and scratch buffer at something. The
  only thing asked is that the sample numbers it reads are below five.
-/
module

public import proofs.«01_k».proof.Proof.KernelBounds
public import proofs.«01_k».proof.Proof.Gen.Kernel.Loops
public import proofs.«01_k».proof.Proof.Gen.Kernel.Skeleton
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- Every word a load reads out of `f` is a sample number. -/
def Ids (c : Dev nD) (M : Memref sig .tc .smem S8x128 .i32) (f : Bf (F := F) c M) : Prop :=
  ∀ (L : LoadRect S8x128) (j : L.shape.Idx), (View.readAt (Elt F) M.view L f j).toNat < 5

section Straddle

variable (c : Dev nD) (i : grid0.Coords)
  (arg1 : Memref sig .tc .smem S8x128 .i32) (harg1 : arg1.IsWhole)
  (arg2 : Memref sig .tc .vmem S8x128 .i32) (harg2 : arg2.IsWhole)
  (arg3 : Memref sig .tc .vmem S8x128 .f32) (harg3 : arg3.IsWhole)
  (arg4 : Memref sig .tc .vmem S8x128 .f32) (harg4 : arg4.IsWhole)
  (arg5 : Memref sig .tc .vmem S8x128 .f32) (harg5 : arg5.IsWhole)
  (arg6 : Memref sig .tc .vmem S5x1152 .f32) (harg6 : arg6.IsWhole)
  (arg7 : Memref sig .tc .vmem S1024x1152 .fp8e4m3) (harg7 : arg7.IsWhole)
  (arg8 : Memref sig .tc .vmem S1024x1152 .bf16) (harg8 : arg8.IsWhole)
  (arg9 : Memref sig .tc .vmem S1024x1152 .fp8e5m2) (harg9 : arg9.IsWhole)
  (arg10 : Memref sig .tc .vmem S1024x1152 .fp8e5m2) (harg10 : arg10.IsWhole)
  (arg11 : Memref sig .tc .vmem S1024x1152 .bf16) (harg11 : arg11.IsWhole)
  (arg12 : Memref sig .tc .vmem S5x3x1152 .f32) (harg12 : arg12.IsWhole)
  (arg13 : Memref sig .tc .vmem S8x3x1152 .f32) (harg13 : arg13.IsWhole)
  (arg14 : Memref sig .tc .vmem S5x16x1152 .bf16) (harg14 : arg14.IsWhole)
  (arg15 : Memref sig .tc .vmem S5x8x1152 .f32) (harg15 : arg15.IsWhole)
  (arg16 : Memref sig .tc .vmem S2x256x1152 .bf16) (harg16 : arg16.IsWhole)
  (arg17 : Memref sig .tc .vmem S256x8 .f32) (harg17 : arg17.IsWhole)
  (arg18 : Memref sig .tc .vmem S2x8x1152 .f32) (harg18 : arg18.IsWhole)
  (arg19 : Memref sig .tc .vmem S6x3x1152 .f32) (harg19 : arg19.IsWhole)
  (arg0 : BitVec 32) (v8381 v8382 : Elt F .i32) (k0_hw12 : k0_chk12 v8381 v8382)
  (v10985 : FVec F S4x1152 .f32) (v10986 : FVec F S2x1152 .f32) (v10989 : FVec F S1152 .f32)
  (v11015 v11016 : Elt F .i32) (k0_h2 : k0_cond2 v11015 v11016 = 1#1)

/-- One sample's pass over a chunk leaves the inputs and the per-sample rows as they were. -/
theorem trip2 (k0_t1 : Fin k0_t1_loop.trips) (arg20 : BitVec 32) (v11026 v11030 : Elt F .i32)
    (k0_hw13 : k0_chk13 v11015 v11016 v11026 v11030) (k0_h3 : k0_cond3 v11026 v11030 = 1#1)
    (f2 : Bf (F := F) c arg2) (f3 : Bf (F := F) c arg3) (f4 : Bf (F := F) c arg4) (f5 : Bf (F := F) c arg5) (f7 : Bf (F := F) c arg7) (f8 : Bf (F := F) c arg8) (f9 : Bf (F := F) c arg9) (f10 : Bf (F := F) c arg10) (f11 : Bf (F := F) c arg11) (f14 : Bf (F := F) c arg14) (f15 : Bf (F := F) c arg15) (f16 : Bf (F := F) c arg16) (f17 : Bf (F := F) c arg17) (f18 : Bf (F := F) c arg18) (f19 : Bf (F := F) c arg19) (k : Fin (k0_t2_loop v11026 v11030).trips) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19)) : sProp 𝕄)
    ⊢ wp frame (wpE (defs₀ (F := F)) Variants.none c none) Set.univ
        (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v8381 v8382 k0_hw12 v10985 v10986 v10989 v11015 v11016 k0_h2 k0_t1 arg20 v11026 v11030 k0_hw13 k0_h3 k PUnit.unit)
        (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg14.view.loc (c : Thread nD τ) ↦[arg14.view.set]{fullShare} f14) ∗ (arg15.view.loc (c : Thread nD τ) ↦[arg15.view.set]{fullShare} f15) ∗ (∃ f, (arg11.view.loc (c : Thread nD τ) ↦[arg11.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)))) := by
  unfold k0_t2_body
  iintro ⟨H2, H3, H4, H5, H7, H8, H9, H10, H11, H14, H15, H16, H17, H18, H19⟩
  sl_exec_parts!
  sl_step
  isplitl [H2]; · iexact H2
  isplitl [H3]; · iexact H3
  isplitl [H4]; · iexact H4
  isplitl [H5]; · iexact H5
  isplitl [H7]; · iexact H7
  isplitl [H8]; · iexact H8
  isplitl [H9]; · iexact H9
  isplitl [H10]; · iexact H10
  isplitl [H14]; · iexact H14
  isplitl [H15]; · iexact H15
  isplitl [H11]; · iexists _; iexact H11
  isplitl [H16]; · iexists _; iexact H16
  isplitl [H17]; · iexists _; iexact H17
  isplitl [H18]; · iexists _; iexact H18
  iexists _; iexact H19

set_option warn.classDefReducibility false in
/-- The loop over a chunk's samples. -/
@[sl_loop] def loopInv_k0_t2 (k0_t1 : Fin k0_t1_loop.trips) (arg20 : BitVec 32) (v11026 v11030 : Elt F .i32)
    (k0_hw13 : k0_chk13 v11015 v11016 v11026 v11030) (k0_h3 : k0_cond3 v11026 v11030 = 1#1)
    (f2 : Bf (F := F) c arg2) (f3 : Bf (F := F) c arg3) (f4 : Bf (F := F) c arg4) (f5 : Bf (F := F) c arg5) (f7 : Bf (F := F) c arg7) (f8 : Bf (F := F) c arg8) (f9 : Bf (F := F) c arg9) (f10 : Bf (F := F) c arg10) (f14 : Bf (F := F) c arg14) (f15 : Bf (F := F) c arg15) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
      arg0 v8381 v8382 k0_hw12 v10985 v10986 v10989 v11015 v11016 k0_h2 k0_t1 arg20 v11026 v11030 k0_hw13 k0_h3 where
  inv _ _ := iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg14.view.loc (c : Thread nD τ) ↦[arg14.view.set]{fullShare} f14) ∗ (arg15.view.loc (c : Thread nD τ) ↦[arg15.view.set]{fullShare} f15) ∗ (∃ f, (arg11.view.loc (c : Thread nD τ) ↦[arg11.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)))
  step k _ := by
    iintro ⟨H2, H3, H4, H5, H7, H8, H9, H10, H14, H15, ⟨%f11, H11⟩, ⟨%f16, H16⟩, ⟨%f17, H17⟩, ⟨%f18, H18⟩, ⟨%f19, H19⟩⟩
    iapply (trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v8381 v8382 k0_hw12 v10985 v10986 v10989 v11015 v11016 k0_h2 k0_t1 arg20 v11026 v11030 k0_hw13 k0_h3 f2 f3 f4 f5 f7 f8 f9 f10 f11 f14 f15 f16 f17 f18 f19 k)
    isplitl [H2]; · iexact H2
    isplitl [H3]; · iexact H3
    isplitl [H4]; · iexact H4
    isplitl [H5]; · iexact H5
    isplitl [H7]; · iexact H7
    isplitl [H8]; · iexact H8
    isplitl [H9]; · iexact H9
    isplitl [H10]; · iexact H10
    isplitl [H11]; · iexact H11
    isplitl [H14]; · iexact H14
    isplitl [H15]; · iexact H15
    isplitl [H16]; · iexact H16
    isplitl [H17]; · iexact H17
    isplitl [H18]; · iexact H18
    iexact H19

set_option warn.classDefReducibility false in
/-- The remainder loop makes no trip. -/
@[sl_loop] def loopInv_k0_t4 (k0_t1 : Fin k0_t1_loop.trips) (arg20 : BitVec 32) (v11026 v11030 : Elt F .i32)
    (k0_hw13 : k0_chk13 v11015 v11016 v11026 v11030) (k0_h3 : k0_cond3 v11026 v11030 = 1#1) (v11039 : BitVec 32) :
    LoopInvTy_k0_t4 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
      arg0 v8381 v8382 k0_hw12 v10985 v10986 v10989 v11015 v11016 k0_h2 k0_t1 arg20 v11026 v11030 k0_hw13 k0_h3 v11039 where
  inv _ _ := iprop(⌜(k0_t4_loop v11026 v11030).trips = 0⌝)
  step k _ := by
    iintro %h4
    exact (Nat.not_lt_zero _ (Nat.lt_of_lt_of_eq k.isLt h4)).elim

/-- One chunk of a step whose rows are of several samples. -/
theorem trip1 (f1 : Bf (F := F) c arg1) (f2 : Bf (F := F) c arg2) (f3 : Bf (F := F) c arg3) (f4 : Bf (F := F) c arg4) (f5 : Bf (F := F) c arg5) (f7 : Bf (F := F) c arg7) (f8 : Bf (F := F) c arg8) (f9 : Bf (F := F) c arg9) (f10 : Bf (F := F) c arg10) (f11 : Bf (F := F) c arg11) (f14 : Bf (F := F) c arg14) (f15 : Bf (F := F) c arg15) (f16 : Bf (F := F) c arg16) (f17 : Bf (F := F) c arg17) (f18 : Bf (F := F) c arg18) (f19 : Bf (F := F) c arg19) (hids : Ids c arg1 f1) (k : Fin k0_t1_loop.trips) :
    (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19)) : sProp 𝕄)
    ⊢ wp frame (wpE (defs₀ (F := F)) Variants.none c none) Set.univ
        (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v8381 v8382 k0_hw12 v10985 v10986 v10989 v11015 v11016 k0_h2 k PUnit.unit)
        (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg14.view.loc (c : Thread nD τ) ↦[arg14.view.set]{fullShare} f14) ∗ (arg15.view.loc (c : Thread nD τ) ↦[arg15.view.set]{fullShare} f15) ∗ (∃ f, (arg11.view.loc (c : Thread nD τ) ↦[arg11.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)))) := by
  unfold k0_t1_body
  iintro ⟨H1, H2, H3, H4, H5, H7, H8, H9, H10, H11, H14, H15, H16, H17, H18, H19⟩
  set_option sl_exec.stopBefore "k0_cond3" in
  sl_exec_parts (disch := exact chk13 _ _ (hids _ _) (hids _ _) _ _)
  have h4 : (k0_t4_loop (trip1.sl.r c arg1 f1 k) (trip1.sl.r_1 c arg1 f1 k)).trips = 0 := trips4 _ _ (hids _ _) (hids _ _)
  by_cases h3 : k0_cond3 (trip1.sl.r c arg1 f1 k) (trip1.sl.r_1 c arg1 f1 k) = 1#1
  · rw [dif_pos h3]
    sl_exec_parts
    sl_step
    sl_close
  · rw [dif_neg h3]
    sl_exec_parts
    sl_step
    isplitl [H1]; · iexact H1
    isplitl [H2]; · iexact H2
    isplitl [H3]; · iexact H3
    isplitl [H4]; · iexact H4
    isplitl [H5]; · iexact H5
    isplitl [H7]; · iexact H7
    isplitl [H8]; · iexact H8
    isplitl [H9]; · iexact H9
    isplitl [H10]; · iexact H10
    isplitl [H14]; · iexact H14
    isplitl [H15]; · iexact H15
    isplitl [H11]; · iexists _; iexact H11
    isplitl [H16]; · iexists _; iexact H16
    isplitl [H17]; · iexists _; iexact H17
    isplitl [H18]; · iexists _; iexact H18
    iexists _; iexact H19

set_option warn.classDefReducibility false in
/-- The pass over the chunks, of a step whose rows are of several samples. -/
@[sl_loop] def loopInv_k0_t1 (f1 : Bf (F := F) c arg1) (f2 : Bf (F := F) c arg2) (f3 : Bf (F := F) c arg3) (f4 : Bf (F := F) c arg4) (f5 : Bf (F := F) c arg5) (f7 : Bf (F := F) c arg7) (f8 : Bf (F := F) c arg8) (f9 : Bf (F := F) c arg9) (f10 : Bf (F := F) c arg10) (f14 : Bf (F := F) c arg14) (f15 : Bf (F := F) c arg15) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
      arg0 v8381 v8382 k0_hw12 v10985 v10986 v10989 v11015 v11016 k0_h2 where
  inv _ _ := iprop(⌜Ids c arg1 f1⌝ ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg14.view.loc (c : Thread nD τ) ↦[arg14.view.set]{fullShare} f14) ∗ (arg15.view.loc (c : Thread nD τ) ↦[arg15.view.set]{fullShare} f15) ∗ (∃ f, (arg11.view.loc (c : Thread nD τ) ↦[arg11.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)))
  step k _ := by
    iintro ⟨%hids, H1, H2, H3, H4, H5, H7, H8, H9, H10, H14, H15, ⟨%f11, H11⟩, ⟨%f16, H16⟩, ⟨%f17, H17⟩, ⟨%f18, H18⟩, ⟨%f19, H19⟩⟩
    iapply (wp_wand_r Idealize.ShloMosaic.frame (wpE (defs₀ (F := F)) Variants.none c none) Set.univ)
    isplitr []
    · iapply (trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v8381 v8382 k0_hw12 v10985 v10986 v10989 v11015 v11016 k0_h2 f1 f2 f3 f4 f5 f7 f8 f9 f10 f11 f14 f15 f16 f17 f18 f19 hids k)
      isplitl [H1]; · iexact H1
      isplitl [H2]; · iexact H2
      isplitl [H3]; · iexact H3
      isplitl [H4]; · iexact H4
      isplitl [H5]; · iexact H5
      isplitl [H7]; · iexact H7
      isplitl [H8]; · iexact H8
      isplitl [H9]; · iexact H9
      isplitl [H10]; · iexact H10
      isplitl [H11]; · iexact H11
      isplitl [H14]; · iexact H14
      isplitl [H15]; · iexact H15
      isplitl [H16]; · iexact H16
      isplitl [H17]; · iexact H17
      isplitl [H18]; · iexact H18
      iexact H19
    · iintro %_ H
      isplitr; · ipureintro; exact hids
      iexact H

end Straddle

/-- The body of one step, run from its operands at any contents. -/
theorem body_run (c : Dev nD) (i : grid0.Coords)
  (arg1 : Memref sig .tc .smem S8x128 .i32) (harg1 : arg1.IsWhole)
  (arg2 : Memref sig .tc .vmem S8x128 .i32) (harg2 : arg2.IsWhole)
  (arg3 : Memref sig .tc .vmem S8x128 .f32) (harg3 : arg3.IsWhole)
  (arg4 : Memref sig .tc .vmem S8x128 .f32) (harg4 : arg4.IsWhole)
  (arg5 : Memref sig .tc .vmem S8x128 .f32) (harg5 : arg5.IsWhole)
  (arg6 : Memref sig .tc .vmem S5x1152 .f32) (harg6 : arg6.IsWhole)
  (arg7 : Memref sig .tc .vmem S1024x1152 .fp8e4m3) (harg7 : arg7.IsWhole)
  (arg8 : Memref sig .tc .vmem S1024x1152 .bf16) (harg8 : arg8.IsWhole)
  (arg9 : Memref sig .tc .vmem S1024x1152 .fp8e5m2) (harg9 : arg9.IsWhole)
  (arg10 : Memref sig .tc .vmem S1024x1152 .fp8e5m2) (harg10 : arg10.IsWhole)
  (arg11 : Memref sig .tc .vmem S1024x1152 .bf16) (harg11 : arg11.IsWhole)
  (arg12 : Memref sig .tc .vmem S5x3x1152 .f32) (harg12 : arg12.IsWhole)
  (arg13 : Memref sig .tc .vmem S8x3x1152 .f32) (harg13 : arg13.IsWhole)
  (arg14 : Memref sig .tc .vmem S5x16x1152 .bf16) (harg14 : arg14.IsWhole)
  (arg15 : Memref sig .tc .vmem S5x8x1152 .f32) (harg15 : arg15.IsWhole)
  (arg16 : Memref sig .tc .vmem S2x256x1152 .bf16) (harg16 : arg16.IsWhole)
  (arg17 : Memref sig .tc .vmem S256x8 .f32) (harg17 : arg17.IsWhole)
  (arg18 : Memref sig .tc .vmem S2x8x1152 .f32) (harg18 : arg18.IsWhole)
  (arg19 : Memref sig .tc .vmem S6x3x1152 .f32) (harg19 : arg19.IsWhole)
  (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (hids : Ids c arg1 f1) (K : PUnit → sProp 𝕄) :
    (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19)
      ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f))) -∗ K ⟨⟩)) : sProp 𝕄)
    ⊢ wp frame (wpE (defs₀ (F := F)) Variants.none c none) Set.univ (cc0_adaln_zero_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  iintro ⟨H1, H2, H3, H4, H5, H6, H7, H8, H9, H10, H11, H12, H13, H14, H15, H16, H17, H18, H19, Hk⟩
  set_option sl_exec.stopBefore "k0_cond2" in
  sl_exec_parts! (disch := (first | exact chk1 _ (hids _ _) | exact chk2 _ (hids _ _) | exact chk3 _ (hids _ _) | exact chk4 _ _ (hids _ _) | exact chk5 _ (hids _ _) | exact chk6 _ (hids _ _) | exact chk7 _ _ (hids _ _) | exact chk8 _ (hids _ _) | exact chk9 _ (hids _ _) | exact chk10 _ _ (hids _ _) | exact chk11 _ (hids _ _) | exact chk12 _ _ (hids _ _)))
  by_cases h2 : k0_cond2 (body_run.sl.r_6 c arg1 f1) (body_run.sl.r_857 c arg1 f1) = 1#1
  · rw [dif_pos h2]
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  · rw [dif_neg h2]
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

end Cert.Proof.Kernel

end
-- ==== Proof.KernelRun.lean ====
/-
  The frame of the kernel's program: launched on any memory whose sample numbers are below five, it terminates, its
  argument arrays end unchanged and every semaphore counter ends at zero. The body is run by `body_run`; the outputs and
  scratch buffers are followed as buffers only, their contents forgotten.
-/
module

public import proofs.«01_k».proof.Proof.KernelBody
public import proofs.«01_k».proof.Proof.Gen.Kernel.Frame

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation)

variable {F : FTy → Type} [FloatOps F]

local notation "𝕄" => MT nD τ sig Unit (Elt F) ℕ (UR sig nD τ) ℕ

theorem owns_of_whole (c : Dev nD) (b : Ref sig .tc) (f : b.ty.Contents (Elt F)) :
    (((c : Thread nD τ).loc b) ↦{fullShare} f : sProp 𝕄) ⊢ owns (c : Thread nD τ) (Memref.whole b) fullShare f :=
  BIBase.Entails.of_eq (owns_whole (c : Thread nD τ) b fullShare f).symm

theorem whole_of_owns (c : Dev nD) (b : Ref sig .tc) (f : b.ty.Contents (Elt F)) :
    (owns (c : Thread nD τ) (Memref.whole b) fullShare f : sProp 𝕄) ⊢ (((c : Thread nD τ).loc b) ↦{fullShare} f) :=
  BIBase.Entails.of_eq (owns_whole (c : Thread nD τ) b fullShare f)

/-- The body's triple with each operand owned: the inputs at what they read, the outputs and scratch buffers at anything. -/
theorem body_owns (c : Dev nD) (i : grid0.Coords)
  (arg1 : Memref sig .tc .smem S8x128 .i32) (harg1 : arg1.IsWhole)
  (arg2 : Memref sig .tc .vmem S8x128 .i32) (harg2 : arg2.IsWhole)
  (arg3 : Memref sig .tc .vmem S8x128 .f32) (harg3 : arg3.IsWhole)
  (arg4 : Memref sig .tc .vmem S8x128 .f32) (harg4 : arg4.IsWhole)
  (arg5 : Memref sig .tc .vmem S8x128 .f32) (harg5 : arg5.IsWhole)
  (arg6 : Memref sig .tc .vmem S5x1152 .f32) (harg6 : arg6.IsWhole)
  (arg7 : Memref sig .tc .vmem S1024x1152 .fp8e4m3) (harg7 : arg7.IsWhole)
  (arg8 : Memref sig .tc .vmem S1024x1152 .bf16) (harg8 : arg8.IsWhole)
  (arg9 : Memref sig .tc .vmem S1024x1152 .fp8e5m2) (harg9 : arg9.IsWhole)
  (arg10 : Memref sig .tc .vmem S1024x1152 .fp8e5m2) (harg10 : arg10.IsWhole)
  (arg11 : Memref sig .tc .vmem S1024x1152 .bf16) (harg11 : arg11.IsWhole)
  (arg12 : Memref sig .tc .vmem S5x3x1152 .f32) (harg12 : arg12.IsWhole)
  (arg13 : Memref sig .tc .vmem S8x3x1152 .f32) (harg13 : arg13.IsWhole)
  (arg14 : Memref sig .tc .vmem S5x16x1152 .bf16) (harg14 : arg14.IsWhole)
  (arg15 : Memref sig .tc .vmem S5x8x1152 .f32) (harg15 : arg15.IsWhole)
  (arg16 : Memref sig .tc .vmem S2x256x1152 .bf16) (harg16 : arg16.IsWhole)
  (arg17 : Memref sig .tc .vmem S256x8 .f32) (harg17 : arg17.IsWhole)
  (arg18 : Memref sig .tc .vmem S2x8x1152 .f32) (harg18 : arg18.IsWhole)
  (arg19 : Memref sig .tc .vmem S6x3x1152 .f32) (harg19 : arg19.IsWhole)
  (X1 : (Shape.Idx S8x128) → Elt F .i32) (X2 : (Shape.Idx S8x128) → Elt F .i32) (X3 : (Shape.Idx S8x128) → Elt F .f32) (X4 : (Shape.Idx S8x128) → Elt F .f32) (X5 : (Shape.Idx S8x128) → Elt F .f32) (X6 : (Shape.Idx S5x1152) → Elt F .f32) (X7 : (Shape.Idx S1024x1152) → Elt F .fp8e4m3) (X8 : (Shape.Idx S1024x1152) → Elt F .bf16) (X9 : (Shape.Idx S1024x1152) → Elt F .fp8e5m2) (X10 : (Shape.Idx S1024x1152) → Elt F .fp8e5m2)
    (hids : ∀ j, (X1 j).toNat < 5) :
    (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X)) : sProp 𝕄)
    ⊢ wp frame (wpE (defs₀ (F := F)) Variants.none c none) Set.univ (cc0_adaln_zero_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun _ => iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X))) := by
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%X11, %f11, %h11, H11⟩, ⟨%X12, %f12, %h12, H12⟩, ⟨%X13, %f13, %h13, H13⟩, ⟨%X14, %f14, %h14, H14⟩, ⟨%X15, %f15, %h15, H15⟩, ⟨%X16, %f16, %h16, H16⟩, ⟨%X17, %f17, %h17, H17⟩, ⟨%X18, %f18, %h18, H18⟩, ⟨%X19, %f19, %h19, H19⟩⟩
  subst h1 h2 h3 h4 h5 h6 h7 h8 h9 h10
  iapply (body_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 (fun L j => hids _) _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H1, H2, H3, H4, H5, H6, H7, H8, H9, H10, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩⟩
  isplitl [H1]; · iexists f1; isplitr; (ipureintro; rfl); iexact H1
  isplitl [H2]; · iexists f2; isplitr; (ipureintro; rfl); iexact H2
  isplitl [H3]; · iexists f3; isplitr; (ipureintro; rfl); iexact H3
  isplitl [H4]; · iexists f4; isplitr; (ipureintro; rfl); iexact H4
  isplitl [H5]; · iexists f5; isplitr; (ipureintro; rfl); iexact H5
  isplitl [H6]; · iexists f6; isplitr; (ipureintro; rfl); iexact H6
  isplitl [H7]; · iexists f7; isplitr; (ipureintro; rfl); iexact H7
  isplitl [H8]; · iexists f8; isplitr; (ipureintro; rfl); iexact H8
  isplitl [H9]; · iexists f9; isplitr; (ipureintro; rfl); iexact H9
  isplitl [H10]; · iexists f10; isplitr; (ipureintro; rfl); iexact H10
  isplitl [H11]; · iexists _, f11; isplitr; (ipureintro; rfl); iexact H11
  isplitl [H12]; · iexists _, f12; isplitr; (ipureintro; rfl); iexact H12
  isplitl [H13]; · iexists _, f13; isplitr; (ipureintro; rfl); iexact H13
  isplitl [H14]; · iexists _, f14; isplitr; (ipureintro; rfl); iexact H14
  isplitl [H15]; · iexists _, f15; isplitr; (ipureintro; rfl); iexact H15
  isplitl [H16]; · iexists _, f16; isplitr; (ipureintro; rfl); iexact H16
  isplitl [H17]; · iexists _, f17; isplitr; (ipureintro; rfl); iexact H17
  isplitl [H18]; · iexists _, f18; isplitr; (ipureintro; rfl); iexact H18
  iexists _, _; isplitr
  swap; · iexact H19
  ipureintro; rfl

variable (m : (ℓ : Loc nD τ sig) → Buf (Elt F) ℓ) (ρ : Dev nD → PrngReg)

/-- The output windows: what the body leaves in them is not followed. -/
def fgt (w : Fin cfg0.W) : Bool := decide (10 ≤ w.val)

/-- The proof data: every input's buffer holds its block after the body; the scratch buffers are the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- Every sample number the kernel is handed is an entry of the argument it is read from. -/
theorem ids_lt (c : Dev nD) (hm : ∀ i, (m ((c : Thread nD τ).loc main_arg7) i).toNat < 5) (t : Fin cfg0.N) (j) :
    (iblk m c 0 t j).toNat < 5 := by
  have hV : ∀ x, (V m c main_v2 x).toNat < 5 := by
    intro x
    have h : V m c main_v2 x = m ((c : Thread nD τ).loc main_arg7) (Shape.reshapeEquiv shapeCasts_S163840_S1280x128 x) := by
      dsimp only [V, hostOps0]
      simp only [StableHlo.after_cons, StableHlo.after_nil]
      rw [StableHlo.reshape_result_ne _ _ _ _ _ _ _ (by decide), StableHlo.reshape_result_ne _ _ _ _ _ _ _ (by decide), StableHlo.reshape_result_ne _ _ _ _ _ _ _ (by decide), StableHlo.reshape_result, StableHlo.unary_result_ne _ _ _ _ _ _ (by decide), StableHlo.unary_result_ne _ _ _ _ _ _ (by decide)]
      rfl
    rw [h]; exact hm _
  exact hV _

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ X, owns (c : Thread nD τ) (st0_10 t) fullShare X)
    ∗ (∃ X, owns (c : Thread nD τ) (st0_11 t) fullShare X)
    ∗ (∃ X, owns (c : Thread nD τ) (st0_12 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ X, owns (c : Thread nD τ) (st0_10 t) fullShare X)
    ∗ (∃ X, owns (c : Thread nD τ) (st0_11 t) fullShare X)
    ∗ (∃ X, owns (c : Thread nD τ) (st0_12 t) fullShare X))

/-- The body at any point. -/
theorem sound_body (c : Dev nD) (hm : ∀ i, (m ((c : Thread nD τ).loc main_arg7) i).toNat < 5) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6, after_7, after_8, after_9]
  unfold Pipeline.ΦA
  rw [scopedRest0_eq]
  iintro ⟨⟨⟨⟨%f0, S0⟩, ⟨%f1, S1⟩, ⟨%f2, S2⟩, ⟨%f3, S3⟩, ⟨%f4, S4⟩, ⟨%f5, S5⟩⟩, Hρ⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩, ⟨%d12, W12⟩⟩
  iapply (wp_wand_r Idealize.ShloMosaic.frame (wpE (defs₀ (F := F)) Variants.none (c : Thread nD τ) none) Set.univ)
  isplitl [S0 S1 S2 S3 S4 S5 W0 W1 W2 W3 W4 W5 W6 W7 W8 W9 W10 W11 W12]
  · iapply (body_owns c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (ids_lt m c hm t))
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexists d10; iexact W10
    isplitl [W11]; · iexists d11; iexact W11
    isplitl [W12]; · iexists d12; iexact W12
    isplitl [S0]; · iexists f0; iapply (owns_of_whole c _ _); iexact S0
    isplitl [S1]; · iexists f1; iapply (owns_of_whole c _ _); iexact S1
    isplitl [S2]; · iexists f2; iapply (owns_of_whole c _ _); iexact S2
    isplitl [S3]; · iexists f3; iapply (owns_of_whole c _ _); iexact S3
    isplitl [S4]; · iexists f4; iapply (owns_of_whole c _ _); iexact S4
    iexists f5; iapply (owns_of_whole c _ _); iexact S5
  · iintro %_ ⟨W0, W1, W2, W3, W4, W5, W6, W7, W8, W9, ⟨%d10, W10⟩, ⟨%d11, W11⟩, ⟨%d12, W12⟩, ⟨%f0, S0⟩, ⟨%f1, S1⟩, ⟨%f2, S2⟩, ⟨%f3, S3⟩, ⟨%f4, S4⟩, ⟨%f5, S5⟩⟩
    isplitl [Hρ S0 S1 S2 S3 S4 S5]
    · isplitr [Hρ]
      · isplitl [S0]; · iexists f0; iapply (whole_of_owns c _ _); iexact S0
        isplitl [S1]; · iexists f1; iapply (whole_of_owns c _ _); iexact S1
        isplitl [S2]; · iexists f2; iapply (whole_of_owns c _ _); iexact S2
        isplitl [S3]; · iexists f3; iapply (whole_of_owns c _ _); iexact S3
        isplitl [S4]; · iexists f4; iapply (whole_of_owns c _ _); iexact S4
        iexists f5; iapply (whole_of_owns c _ _); iexact S5
      · iexact Hρ
    isplitl [Ho]; · iexact Ho
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexists d10; iexact W10
    isplitl [W11]; · iexists d11; iexact W11
    iexists d12; iexact W12

theorem defs₀_row (t : Fin cfg0.N) :
    defs₀ (F := F) .tc cfg0.body (cfg0.bodyArgs t (cfg0.slots t)) = bodyAt0 t := by
  unfold defs₀; rw [Defs.onTc_tc]

theorem body_obligation (c : Dev nD) (hm : ∀ i, (m ((c : Thread nD τ).loc main_arg7) i).toNat < 5) :
    BodyObligation (dats (F := F) m 0 c) (defs₀ (F := F)) Variants.none () Set.univ fgt := fun t => by
  rw [bigSep_W0, bigSep_W0, defs₀_row]
  exact triple_restated (sound_body m c hm t) rfl .rfl fun _ => .rfl

set_option backward.isDefEq.respectTransparency.types false in
set_option maxHeartbeats 800000 in
/-- The launch, its post the relational one of the forgotten outputs. -/
theorem run_main (hm : ∀ (c : Dev nD) i, (m ((c : Thread nD τ).loc main_arg7) i).toNat < 5) :
    θ_run defs (onTc (τ := τ) (main (F := F))) (s₀ m ρ)
      (fun r => RDat.FramePost cfg0 (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := fun c => (body_obligation m c (hm c)).loose) (hq := fun _ _ _ => rfl)
    (howed := fun _ _ => rfl) (V := V m) (hmain := hmain m Variants.none) (hA := A_eq m) (hΦ := fun _ _ => rfl)

/-- THE FRAME. -/
theorem frame (hm : ∀ (c : Dev nD) i, (m ((c : Thread nD τ).loc main_arg7) i).toNat < 5) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (RDat.FramePost.arr_in h.1 c 7 rfl).trans ((A_eq m c 7).trans (V_main_arg2 m c)),
      (RDat.FramePost.arr_in h.1 c 8 rfl).trans ((A_eq m c 8).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      (RDat.FramePost.arr_in h.1 c 5 rfl).trans ((A_eq m c 5).trans (V_main_arg8 m c))⟩, h.2⟩) (run_main m ρ hm)

end Cert.Proof.Kernel

end
-- ==== Proof.KernelIdealBounds.lean ====
/-
  The kernel's assumptions about its sample numbers. Each row belongs to one of five samples; the kernel assumes that the
  sample numbers it reads address its per-sample scratch in bounds, and that its loop over the samples of a chunk has a
  meaning. All of it follows from the numbers being below five.
-/
module

public import proofs.«01_k».proof.Proof.Gen.KernelIdeal

@[expose] public section

namespace Cert.Proof.KernelIdeal

open Cert.KernelIdeal
open Idealize.ShloMosaic

/-- A sample number, or a row number of the accumulator, is itself as an index. -/
theorem sub_nat (v : BitVec 32) (h : v.toNat < 5) : (Scalar.indexCast v).toNat < 5 := h

theorem chk1 (v : BitVec 32) (h : v.toNat < 5) : k0_chk1 v := by
  refine ⟨?_, ?_, ?_, ?_, ?_⟩ <;> (intro a; have := sub_nat v h; fin_cases a <;> first | exact Nat.succ_le_of_lt this | exact Nat.le_of_ble_eq_true rfl)

theorem chk3 (v : BitVec 32) (h : v.toNat < 5) : k0_chk3 v := by
  refine ⟨?_, ?_, ?_, ?_, ?_, ?_, ?_, ?_, ?_⟩ <;>
    (intro a; have := sub_nat v h; fin_cases a <;> first | exact Nat.succ_le_of_lt this | exact Nat.le_of_ble_eq_true rfl)

theorem chk4 (v w : BitVec 32) (h : v.toNat < 5) : k0_chk4 v w := by
  have hs : (Scalar.indexCast (Scalar.select (Scalar.cmpi .eq v w) v 5#32)).toNat < 6 := by
    show (Scalar.select (Scalar.cmpi .eq v w) v 5#32).toNat < 6
    unfold Scalar.select
    split
    · omega
    · decide
  intro a; fin_cases a
  · exact Nat.succ_le_of_lt hs
  all_goals exact Nat.le_of_ble_eq_true rfl

/-! The later chunks' checks are the first chunk's. -/

theorem chk2 (v : BitVec 32) (h : v.toNat < 5) : k0_chk2 v := chk1 v h
theorem chk5 (v : BitVec 32) (h : v.toNat < 5) : k0_chk5 v := chk1 v h
theorem chk8 (v : BitVec 32) (h : v.toNat < 5) : k0_chk8 v := chk1 v h
theorem chk6 (v : BitVec 32) (h : v.toNat < 5) : k0_chk6 v := chk3 v h
theorem chk9 (v : BitVec 32) (h : v.toNat < 5) : k0_chk9 v := chk3 v h
theorem chk11 (v : BitVec 32) (h : v.toNat < 5) : k0_chk11 v := chk3 v h
theorem chk7 (v w : BitVec 32) (h : v.toNat < 5) : k0_chk7 v w := chk4 v w h
theorem chk10 (v w : BitVec 32) (h : v.toNat < 5) : k0_chk10 v w := chk4 v w h
theorem chk12 (v w : BitVec 32) (h : v.toNat < 5) : k0_chk12 v w := chk4 v w h

/-- The loop over a chunk's samples, from the first row's to the last row's, makes as many trips as there are samples. -/
theorem trips2_fin : ∀ a b : Fin 5, (k0_t2_loop (BitVec.ofNat 32 a) (BitVec.ofNat 32 b)).trips = b.val + 1 - a.val := by decide

theorem ok2_fin : ∀ a b : Fin 5, (k0_t2_loop (BitVec.ofNat 32 a) (BitVec.ofNat 32 b)).OK := by decide

theorem trips4_fin : ∀ a b : Fin 5, (k0_t4_loop (BitVec.ofNat 32 a) (BitVec.ofNat 32 b)).trips = 0 := by decide

theorem ok4_fin : ∀ a b : Fin 5, (k0_t4_loop (BitVec.ofNat 32 a) (BitVec.ofNat 32 b)).OK := by decide

theorem eq_ofNat (v : BitVec 32) (h : v.toNat < 5) : v = BitVec.ofNat 32 (⟨v.toNat, h⟩ : Fin 5).val := by simp

theorem trips2 (v w : BitVec 32) (hv : v.toNat < 5) (hw : w.toNat < 5) : (k0_t2_loop v w).trips = w.toNat + 1 - v.toNat := by
  rw [eq_ofNat v hv, eq_ofNat w hw, trips2_fin]; simp

theorem ok2 (v w : BitVec 32) (hv : v.toNat < 5) (hw : w.toNat < 5) : (k0_t2_loop v w).OK := by
  rw [eq_ofNat v hv, eq_ofNat w hw]; exact ok2_fin _ _

/-- The remainder loop beside it makes none. -/
theorem trips4 (v w : BitVec 32) (hv : v.toNat < 5) (hw : w.toNat < 5) : (k0_t4_loop v w).trips = 0 := by
  rw [eq_ofNat v hv, eq_ofNat w hw, trips4_fin]

theorem ok4 (v w : BitVec 32) (hv : v.toNat < 5) (hw : w.toNat < 5) : (k0_t4_loop v w).OK := by
  rw [eq_ofNat v hv, eq_ofNat w hw]; exact ok4_fin _ _

/-- The sample of trip `k` of the loop over a chunk's samples. -/
theorem iv2 (v w : BitVec 32) (hv : v.toNat < 5) (hw : w.toNat < 5) (k : Fin (k0_t2_loop v w).trips) :
    (Scf.iv v 1#32 k).toNat = v.toNat + k.val := by
  have hk := lt_of_lt_of_eq k.isLt (trips2 v w hv hw)
  unfold Scf.iv
  rw [BitVec.toNat_add, BitVec.mul_one, BitVec.toNat_ofNat]
  omega

theorem iv2_lt (v w : BitVec 32) (hv : v.toNat < 5) (hw : w.toNat < 5) (k : Fin (k0_t2_loop v w).trips) :
    (Scf.iv v 1#32 k).toNat < 5 := by
  have hk := lt_of_lt_of_eq k.isLt (trips2 v w hv hw)
  rw [iv2 v w hv hw k]; omega

theorem chk13 (v w : BitVec 32) (hv : v.toNat < 5) (hw : w.toNat < 5) (p q : BitVec 32) : k0_chk13 p q v w := by
  have h2 : ∀ (k : Fin (k0_t2_loop v w).trips), (Scalar.indexCast (Scf.iv v 1#32 k)).toNat < 5 := iv2_lt v w hv hw
  have e4 := trips4 v w hv hw
  unfold k0_chk13
  refine ⟨fun _ _ => ok2 v w hv hw, ?_⟩
  iterate 15 refine ⟨fun k _ _ a => ?_, ?_⟩; rotate_left
  refine ⟨fun _ _ => ok4 v w hv hw, ?_⟩
  iterate 14 refine ⟨fun k _ _ _ => (Nat.not_lt_zero _ (lt_of_lt_of_eq k.isLt e4)).elim, ?_⟩
  · exact fun k _ _ _ => (Nat.not_lt_zero _ (lt_of_lt_of_eq k.isLt e4)).elim
  all_goals
    have := h2 k
    fin_cases a
    · first | exact Nat.succ_le_of_lt this | exact Nat.succ_le_of_lt (Nat.lt_succ_of_lt this)
    all_goals exact Nat.le_of_ble_eq_true rfl

end Cert.Proof.KernelIdeal
-- ==== Proof.BlockSpec.lean ====
/-
  What one step of the kernel stores into its block-sum window, written once for any of the step's four chunks and in the
  kernel's own operations: the four streamed products of a chunk, its coefficients, its two column sums, and the gate's
  sums that pass through their own scratch buffer. Nothing is evaluated here: `KernelIdealBody` shows that the body's
  stores are these.
-/
module

public import proofs.«01_k».proof.Proof.KernelIdealBounds
public import proofs.«01_k».proof.Proof.Gen.KernelIdeal.Skeleton
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.Sem

variable {F : FTy → Type} [FloatOps F] [Named F]

/-- Memref `M`'s buffer on core `c`: its contents type. -/
abbrev Bf (c : Dev nD) {sp : Space} {S : Shape} {e : EltTy} (M : Memref sig .tc sp S e) : Type := Buf (Elt F) (M.view.loc (c : Thread nD τ))

/-- Every word a load reads out of `f` is a sample number. -/
def Ids (c : Dev nD) (M : Memref sig .tc .smem S8x128 .i32) (f : Bf (F := F) c M) : Prop :=
  ∀ (L : LoadRect S8x128) (j : L.shape.Idx), (View.readAt (Elt F) M.view L f j).toNat < 5

namespace Spec

/-! ## The windows' rectangles -/

theorem lt4 {n : ℕ} (h : n < 4) : 2 * n + 1 < 8 := by omega

theorem inbLane {b : ℕ} (h : b < 8) : ∀ a, (![b, 0] : Fin 2 → ℕ) a + S1x128.size a ≤ S8x128.size a := by
  intro a; fin_cases a
  · exact Nat.succ_le_of_lt h
  · exact le_rfl

theorem inbId {b : ℕ} (h : b < 8) : ∀ a, (![b, 0] : Fin 2 → ℕ) a + S1x1.size a ≤ S8x128.size a := by
  intro a; fin_cases a
  · exact Nat.succ_le_of_lt h
  · exact Nat.le_of_ble_eq_true rfl

theorem inbK {n k : ℕ} (hn : n < 4) (hk : k < 4) : ∀ a, (![256 * n, 256 * k] : Fin 2 → ℕ) a + S256x256.size a ≤ S1024x1152.size a := by
  intro a; fin_cases a
  · show 256 * n + 256 ≤ 1024; omega
  · show 256 * k + 256 ≤ 1152; omega

theorem inbK' {n : ℕ} (hn : n < 4) : ∀ a, (![256 * n, 1024] : Fin 2 → ℕ) a + S256x128.size a ≤ S1024x1152.size a := by
  intro a; fin_cases a
  · show 256 * n + 256 ≤ 1024; omega
  · exact Nat.le_of_ble_eq_true rfl

theorem inbChunk {n : ℕ} (hn : n < 4) : ∀ a, (![256 * n, 0] : Fin 2 → ℕ) a + S256x1152.size a ≤ S1024x1152.size a := by
  intro a; fin_cases a
  · show 256 * n + 256 ≤ 1024; omega
  · exact le_rfl

theorem inbW {v k : ℕ} (hv : v < 5) (hk : k < 4) : ∀ a, (![v, 0, 256 * k] : Fin 3 → ℕ) a + S1x16x256.size a ≤ S5x16x1152.size a := by
  intro a; fin_cases a
  · exact Nat.succ_le_of_lt hv
  · exact le_rfl
  · show 256 * k + 256 ≤ 1152; omega

theorem inbW' {v : ℕ} (hv : v < 5) : ∀ a, (![v, 0, 1024] : Fin 3 → ℕ) a + S1x16x128.size a ≤ S5x16x1152.size a := by
  intro a; fin_cases a
  · exact Nat.succ_le_of_lt hv
  · exact le_rfl
  · exact le_rfl

theorem inbWrow {s : ℕ} (hs : s < 5) : ∀ a, (![s, 0, 0] : Fin 3 → ℕ) a + S1x16x1152.size a ≤ S5x16x1152.size a := by
  intro a; fin_cases a
  · exact Nat.succ_le_of_lt hs
  · exact le_rfl
  · exact le_rfl

theorem inbMod {s : ℕ} (hs : s < 5) : ∀ a, (![s, 0] : Fin 2 → ℕ) a + S1x1152.size a ≤ S5x1152.size a := by
  intro a; fin_cases a
  · exact Nat.succ_le_of_lt hs
  · exact le_rfl

theorem inbP {s k : ℕ} (hs : s < 2) (hk : k < 4) : ∀ a, (![s, 0, 256 * k] : Fin 3 → ℕ) a + S1x256x256.size a ≤ S2x256x1152.size a := by
  intro a; fin_cases a
  · exact Nat.succ_le_of_lt hs
  · exact le_rfl
  · show 256 * k + 256 ≤ 1152; omega

theorem inbP' {s : ℕ} (hs : s < 2) : ∀ a, (![s, 0, 1024] : Fin 3 → ℕ) a + S1x256x128.size a ≤ S2x256x1152.size a := by
  intro a; fin_cases a
  · exact Nat.succ_le_of_lt hs
  · exact le_rfl
  · exact le_rfl

theorem inbSlot {s : ℕ} (hs : s < 2) : ∀ a, (![s, 0, 0] : Fin 3 → ℕ) a + S1x256x1152.size a ≤ S2x256x1152.size a := by
  intro a; fin_cases a
  · exact Nat.succ_le_of_lt hs
  · exact le_rfl
  · exact le_rfl

theorem inbG {r t : ℕ} (hr : r < 32) (ht : t < 9) : ∀ a, (![32 * r, 128 * t] : Fin 2 → ℕ) a + S32x128.size a ≤ S1024x1152.size a := by
  intro a; fin_cases a
  · show 32 * r + 32 ≤ 1024; omega
  · show 128 * t + 128 ≤ 1152; omega

theorem inbCo {g : ℕ} (hg : g < 8) : ∀ a, (![32 * g, 0] : Fin 2 → ℕ) a + S32x8.size a ≤ S256x8.size a := by
  intro a; fin_cases a
  · show 32 * g + 32 ≤ 256; omega
  · exact le_rfl

theorem inbGate {s t : ℕ} (hs : s < 2) (ht : t < 9) : ∀ a, (![s, 0, 128 * t] : Fin 3 → ℕ) a + S1x8x128.size a ≤ S2x8x1152.size a := by
  intro a; fin_cases a
  · exact Nat.succ_le_of_lt hs
  · exact le_rfl
  · show 128 * t + 128 ≤ 1152; omega

theorem inbGateRow {s : ℕ} (hs : s < 2) : ∀ a, (![s, 0, 0] : Fin 3 → ℕ) a + S1x8x1152.size a ≤ S2x8x1152.size a := by
  intro a; fin_cases a
  · exact Nat.succ_le_of_lt hs
  · exact le_rfl
  · exact le_rfl

theorem inbB {b : ℕ} (hb : b < 8) : ∀ a, (![b, 0, 0] : Fin 3 → ℕ) a + S1x3x1152.size a ≤ S8x3x1152.size a := by
  intro a; fin_cases a
  · exact Nat.succ_le_of_lt hb
  · exact le_rfl
  · exact le_rfl

/-! ## The operations on vectors -/

/-- Two rows of 128 lanes, end to end. -/
def lanes (r0 r1 : FVec F S1x128 .f32) : FVec F S1x256 .f32 :=
  concatenate S1x256 1 [⟨S1x128, shapeCast S1x128 r0 shapeCasts_S1x128_S1x128⟩, ⟨S1x128, shapeCast S1x128 r1 shapeCasts_S1x128_S1x128⟩]
    concatenates_S1x128_S1x128_S1x256_d1

/-- The weights' product with 256 columns, and with the last 128. -/
def dotK {e : FTy} (w : FVec F S16x256 .bf16) (x : FVec F S256x256 e) : FVec F S16x256 .f32 :=
  matmul dot_S16x256_S256x256_S16x256_1_1_0_0_n_n none w x (constant S16x256 .f32 0#32)
def dotK' {e : FTy} (w : FVec F S16x128 .bf16) (x : FVec F S256x128 e) : FVec F S16x256 .f32 :=
  matmul dot_S16x128_S256x128_S16x256_1_1_0_0_n_n none w x (constant S16x256 .f32 0#32)

def row0 (r : FVec F S16x256 .f32) : FVec F S1x256 .f32 := extractStridedSlice S1x256 ![0, 0] r slices_S16x256_o0_0_S1x256
/-- The sum of the rows of the weight's three pieces. -/
def row123 (r : FVec F S16x256 .f32) : FVec F S1x256 .f32 :=
  addf (extractStridedSlice S1x256 ![1, 0] r slices_S16x256_o1_0_S1x256)
    (addf (extractStridedSlice S1x256 ![2, 0] r slices_S16x256_o2_0_S1x256) (extractStridedSlice S1x256 ![3, 0] r slices_S16x256_o3_0_S1x256))

/-- The reciprocal deviations, from the rows' sums and sums of squares. -/
def rstd (s_x s_q sx : FVec F S1x256 .f32) : FVec F S1x256 .f32 := k0_pay1741 s_x s_q sx
/-- The weights of `x·h` and of `h` in the scale's sums. -/
def wu (sx sdh rstd : FVec F S1x256 .f32) : FVec F S1x256 .f32 := k0_pay1745 sx sdh rstd
def wv (s_x sx sdh rstd : FVec F S1x256 .f32) : FVec F S1x256 .f32 := k0_pay1746 s_x sx sdh rstd
/-- The rows' coefficients, a row's in a row. -/
def coefs (s_x s_h s_p sx sdy sdh rstd : FVec F S1x256 .f32) : FVec F S256x8 .f32 := k0_pay1747 s_x s_h s_p sx sdy sdh rstd

/-- The three pieces of a number. -/
def p1 {S : Shape} (v : FVec F S .f32) : FVec F S .f32 := extf .f32 (truncf .bf16 v bitsLt_bf16_f32) bitsLt_bf16_f32
def p2 {S : Shape} (v : FVec F S .f32) : FVec F S .f32 := p1 (subf v (p1 v))
def p3 {S : Shape} (v : FVec F S .f32) : FVec F S .f32 := subf (subf v (p1 v)) (p2 v)

def zero : F .f32 := FloatOps.ofBits .f32 0#32
/-- The first, and the second, half of the lanes; zero on the other. -/
def lo (v : FVec F S1x256 .f32) : FVec F S1x256 .f32 :=
  select (cmpi .slt (iota .tc S1x256 32 [1] iota_S1x256_d1_w32) (broadcast S1x256 128#32)) v (broadcast S1x256 zero)
def hi (v : FVec F S1x256 .f32) : FVec F S1x256 .f32 :=
  select (cmpi .sge (iota .tc S1x256 32 [1] iota_S1x256_d1_w32) (broadcast S1x256 128#32)) v (broadcast S1x256 zero)

def onH (sdh v : FVec F S1x256 .f32) : FVec F S16x256 .bf16 :=
  truncf .bf16 (concatenate S16x256 0 [⟨S1x256, lo (p1 sdh)⟩, ⟨S1x256, lo (p1 v)⟩, ⟨S1x256, hi (p1 sdh)⟩, ⟨S1x256, hi (p1 v)⟩,
    ⟨S1x256, lo (p2 sdh)⟩, ⟨S1x256, lo (p2 v)⟩, ⟨S1x256, hi (p2 sdh)⟩, ⟨S1x256, hi (p2 v)⟩,
    ⟨S1x256, lo (p3 sdh)⟩, ⟨S1x256, lo (p3 v)⟩, ⟨S1x256, hi (p3 sdh)⟩, ⟨S1x256, hi (p3 v)⟩, ⟨S4x256, broadcast S4x256 zero⟩]
    concatenates_S1x256_S1x256_S1x256_S1x256_S1x256_S1x256_S1x256_S1x256_S1x256_S1x256_S1x256_S1x256_S4x256_S16x256_d0) bitsLt_bf16_f32

def onP (u : FVec F S1x256 .f32) : FVec F S16x256 .bf16 :=
  truncf .bf16 (concatenate S16x256 0 [⟨S1x256, broadcast S1x256 zero⟩, ⟨S1x256, lo (p1 u)⟩, ⟨S1x256, broadcast S1x256 zero⟩, ⟨S1x256, hi (p1 u)⟩,
    ⟨S1x256, broadcast S1x256 zero⟩, ⟨S1x256, lo (p2 u)⟩, ⟨S1x256, broadcast S1x256 zero⟩, ⟨S1x256, hi (p2 u)⟩,
    ⟨S1x256, broadcast S1x256 zero⟩, ⟨S1x256, lo (p3 u)⟩, ⟨S1x256, broadcast S1x256 zero⟩, ⟨S1x256, hi (p3 u)⟩, ⟨S4x256, broadcast S4x256 zero⟩]
    concatenates_S1x256_S1x256_S1x256_S1x256_S1x256_S1x256_S1x256_S1x256_S1x256_S1x256_S1x256_S1x256_S4x256_S16x256_d0) bitsLt_bf16_f32

/-- The column sums of a chunk: two rows for each of its blocks. -/
def sums (sdh u v : FVec F S1x256 .f32) (h : FVec F S256x1152 .fp8e5m2) (p : FVec F S256x1152 .bf16) : FVec F S4x1152 .f32 :=
  let o := addf (matmul dot_S16x256_S256x1152_S16x1152_1_0_0_1_n_n none (onH sdh v) h (constant S16x1152 .f32 0#32))
    (matmul dot_S16x256_S256x1152_S16x1152_1_0_0_1_n_n none (onP u) p (constant S16x1152 .f32 0#32))
  let o' := addf (extractStridedSlice S8x1152 ![0, 0] o slices_S16x1152_o0_0_S8x1152) (extractStridedSlice S8x1152 ![8, 0] o slices_S16x1152_o8_0_S8x1152)
  addf (extractStridedSlice S4x1152 ![0, 0] o' slices_S8x1152_o0_0_S4x1152) (extractStridedSlice S4x1152 ![4, 0] o' slices_S8x1152_o4_0_S4x1152)

/-- The gate's sum over a group of 32 rows, eight rows of it left. -/
def gateGroup (co : FVec F S32x8 .f32) (dy : FVec F S32x128 .fp8e5m2) (f : FVec F S32x128 .bf16) : FVec F S8x128 .f32 :=
  let gp := mulf (mulf (broadcastTo S32x128 (shapeCast S32x1 (extractStridedSlice S32x1 ![0, 0] co slices_S32x8_o0_0_S32x1) shapeCasts_S32x1_S32x1) broadcasts_S32x1_S32x128)
    (extf .f32 dy bitsLt_fp8e5m2_f32)) (extf .f32 f bitsLt_bf16_f32)
  addf (addf (extractStridedSlice S8x128 ![0, 0] gp slices_S32x128_o0_0_S8x128) (extractStridedSlice S8x128 ![8, 0] gp slices_S32x128_o8_0_S8x128))
    (addf (extractStridedSlice S8x128 ![16, 0] gp slices_S32x128_o16_0_S8x128) (extractStridedSlice S8x128 ![24, 0] gp slices_S32x128_o24_0_S8x128))

/-- A block's three rows, from its two column sums and its gate's eight rows. -/
def blockRows (o : FVec F S2x1152 .f32) (g : FVec F S1x8x1152 .f32) : FVec F S1x3x1152 .f32 :=
  shapeCast S1x3x1152 (concatenate S3x1152 0 [⟨S2x1152, o⟩, ⟨S1x1152, shapeCast S1x1152
    (multiReduction .add [0] S1152 (shapeCast S8x1152 g shapeCasts_S1x8x1152_S8x1152) (0#32) reduces_S8x1152_S1152 (.inl rfl) rfl) shapeCasts_S1152_S1x1152⟩]
    concatenates_S2x1152_S1x1152_S3x1152_d0) shapeCasts_S3x1152_S1x3x1152

/-- The weights' rows of a sample: ones, and one plus the modulation in three pieces. -/
def wrow (m : FVec F S1x1152 .f32) : FVec F S1x16x1152 .bf16 :=
  let one : FVec F S1x1152 .f32 := broadcast S1x1152 (FloatOps.ofBits .f32 1065353216#32)
  let w := addf one m
  shapeCast S1x16x1152 (truncf .bf16 (concatenate S16x1152 0 [⟨S1x1152, one⟩, ⟨S1x1152, p1 w⟩, ⟨S1x1152, p2 w⟩, ⟨S1x1152, p3 w⟩,
    ⟨S12x1152, broadcast S12x1152 zero⟩] concatenates_S1x1152_S1x1152_S1x1152_S1x1152_S12x1152_S16x1152_d0) bitsLt_bf16_f32) shapeCasts_S16x1152_S1x16x1152

/-! ## A step -/

section Step

variable (c : Dev nD) (i : grid0.Coords)
  (arg1 : Memref sig .tc .smem S8x128 .i32)
  (arg3 arg4 arg5 : Memref sig .tc .vmem S8x128 .f32)
  (arg6 : Memref sig .tc .vmem S5x1152 .f32)
  (arg7 : Memref sig .tc .vmem S1024x1152 .fp8e4m3)
  (arg8 : Memref sig .tc .vmem S1024x1152 .bf16)
  (arg9 arg10 : Memref sig .tc .vmem S1024x1152 .fp8e5m2)
  (arg14 : Memref sig .tc .vmem S5x16x1152 .bf16)
  (arg16 : Memref sig .tc .vmem S2x256x1152 .bf16)
  (arg17 : Memref sig .tc .vmem S256x8 .f32)
  (arg18 : Memref sig .tc .vmem S2x8x1152 .f32)
  (f1 : Bf (F := F) c arg1) (f3 : Bf (F := F) c arg3) (f4 : Bf (F := F) c arg4) (f5 : Bf (F := F) c arg5) (f6 : Bf (F := F) c arg6)
  (f7 : Bf (F := F) c arg7) (f8 : Bf (F := F) c arg8) (f9 : Bf (F := F) c arg9) (f10 : Bf (F := F) c arg10) (f14 : Bf (F := F) c arg14)
  (hids : Ids c arg1 f1)

/-- The sample of a chunk's first row. -/
def sid {n : ℕ} (hn : n < 4) : BitVec 32 :=
  View.readAt (Elt F) arg1.view (Rect.unit (s := S8x128) ![2 * n, 0] S1x1.size (inbId (Nat.lt_of_succ_lt (lt4 hn)))).toLoadRect f1 (Shape.Idx.first (Nat.le_of_eq numel1_S1x1.symm))

/-- A window's two rows of a chunk, end to end. -/
def lane (M : Memref sig .tc .vmem S8x128 .f32) (f : Bf (F := F) c M) {n : ℕ} (hn : n < 4) : FVec F S1x256 .f32 :=
  lanes (View.readAt (Elt F) M.view (Rect.unit (s := S8x128) ![2 * n, 0] S1x128.size (inbLane (Nat.lt_of_succ_lt (lt4 hn)))).toLoadRect f)
    (View.readAt (Elt F) M.view (Rect.unit (s := S8x128) ![2 * n + 1, 0] S1x128.size (inbLane (lt4 hn))).toLoadRect f)

/-- The weights' scratch, filled at the grid's first step. -/
def wstat : Bf (F := F) c arg14 :=
  if _hc : Scalar.cmpi .ne (Scalar.extui (Scalar.cmpi .eq (BitVec.ofNat 32 (i 0)) 0#32) : BitVec 32) 0#32 = 1#1 then
    let r {s : ℕ} (hs : s < 5) : View.Piece (Elt F) S5x16x1152 .bf16 :=
      ⟨Rect.unit (s := S5x16x1152) ![s, 0, 0] S1x16x1152.size (inbWrow hs), wrow (View.readAt (Elt F) arg6.view (Rect.unit (s := S5x1152) ![s, 0] S1x1152.size (inbMod hs)).toLoadRect f6)⟩
    arg14.view.writes (Elt F) f14 [r (s := 4) (by decide), r (s := 3) (by decide), r (s := 2) (by decide), r (s := 1) (by decide), r (s := 0) (by decide)]
  else f14

variable {n : ℕ} (hn : n < 4)

def wk {k : ℕ} (hk : k < 4) : FVec F S16x256 .bf16 :=
  shapeCast S16x256 (View.readAt (Elt F) arg14.view (Rect.unit (s := S5x16x1152) ![(Scalar.indexCast (sid c arg1 f1 hn)).toNat, 0, 256 * k] S1x16x256.size
    (inbW (hids _ _) hk)).toLoadRect (wstat c i arg6 arg14 f6 f14)) shapeCasts_S1x16x256_S16x256
def wk' : FVec F S16x128 .bf16 :=
  shapeCast S16x128 (View.readAt (Elt F) arg14.view (Rect.unit (s := S5x16x1152) ![(Scalar.indexCast (sid c arg1 f1 hn)).toNat, 0, 1024] S1x16x128.size
    (inbW' (hids _ _))).toLoadRect (wstat c i arg6 arg14 f6 f14)) shapeCasts_S1x16x128_S16x128

/-- A chunk's 256 columns of a window, and its last 128. -/
def cols {e : EltTy} (M : Memref sig .tc .vmem S1024x1152 e) (f : Bf (F := F) c M) {k : ℕ} (hk : k < 4) : Vec F S256x256 e :=
  shapeCast S256x256 (View.readAt (Elt F) M.view (Rect.unit (s := S1024x1152) ![256 * n, 256 * k] S256x256.size (inbK hn hk)).toLoadRect f) shapeCasts_S256x256_S256x256
def cols' {e : EltTy} (M : Memref sig .tc .vmem S1024x1152 e) (f : Bf (F := F) c M) : Vec F S256x128 e :=
  shapeCast S256x128 (View.readAt (Elt F) M.view (Rect.unit (s := S1024x1152) ![256 * n, 1024] S256x128.size (inbK' hn)).toLoadRect f) shapeCasts_S256x128_S256x128

/-- The weights' product with a chunk's rows of something, column tile by column tile. -/
def prods {e : FTy} (x : {k : ℕ} → k < 4 → FVec F S256x256 e) (x' : FVec F S256x128 e) : FVec F S16x256 .f32 :=
  let d {k : ℕ} (hk : k < 4) := dotK (wk c i arg1 arg6 arg14 f1 f6 f14 hids hn hk) (x hk)
  addf (addf (addf (addf (d (k := 0) (by decide)) (d (k := 1) (by decide))) (d (k := 2) (by decide))) (d (k := 3) (by decide)))
    (dotK' (wk' c i arg1 arg6 arg14 f1 f6 f14 hids hn) x')

def xb {k : ℕ} (hk : k < 4) : FVec F S256x256 .bf16 := extf .bf16 (cols c hn arg7 f7 hk) bitsLt_fp8e4m3_bf16
def xb' : FVec F S256x128 .bf16 := extf .bf16 (cols' c hn arg7 f7) bitsLt_fp8e4m3_bf16
def pb {k : ℕ} (hk : k < 4) : FVec F S256x256 .bf16 := mulf (xb c arg7 f7 hn hk) (extf .bf16 (cols c hn arg10 f10 hk) bitsLt_fp8e5m2_bf16)
def pb' : FVec F S256x128 .bf16 := mulf (xb' c arg7 f7 hn) (extf .bf16 (cols' c hn arg10 f10) bitsLt_fp8e5m2_bf16)

/-- The rows' sums of `x`, of its squares, and of `h` and `x·h` weighted. -/
def s_x : FVec F S1x256 .f32 := row0 (prods (e := .fp8e4m3) c i arg1 arg6 arg14 f1 f6 f14 hids hn (fun hk => cols c hn arg7 f7 hk) (cols' c hn arg7 f7))
def s_q : FVec F S1x256 .f32 := row0 (prods c i arg1 arg6 arg14 f1 f6 f14 hids hn (fun hk => mulf (xb c arg7 f7 hn hk) (xb c arg7 f7 hn hk)) (mulf (xb' c arg7 f7 hn) (xb' c arg7 f7 hn)))
def s_h : FVec F S1x256 .f32 := row123 (prods (e := .fp8e5m2) c i arg1 arg6 arg14 f1 f6 f14 hids hn (fun hk => cols c hn arg10 f10 hk) (cols' c hn arg10 f10))
def s_p : FVec F S1x256 .f32 := row123 (prods c i arg1 arg6 arg14 f1 f6 f14 hids hn (fun hk => pb c arg7 arg10 f7 f10 hn hk) (pb' c arg7 arg10 f7 f10 hn))

def rs : FVec F S1x256 .f32 := rstd (s_x c i arg1 arg6 arg7 arg14 f1 f6 f7 f14 hids hn) (s_q c i arg1 arg6 arg7 arg14 f1 f6 f7 f14 hids hn) (lane c arg3 f3 hn)

def coefMat : FVec F S256x8 .f32 :=
  coefs (s_x c i arg1 arg6 arg7 arg14 f1 f6 f7 f14 hids hn) (s_h c i arg1 arg6 arg10 arg14 f1 f6 f10 f14 hids hn)
    (s_p c i arg1 arg6 arg7 arg10 arg14 f1 f6 f7 f10 f14 hids hn) (lane c arg3 f3 hn) (lane c arg4 f4 hn) (lane c arg5 f5 hn)
    (rs c i arg1 arg3 arg6 arg7 arg14 f1 f3 f6 f7 f14 hids hn)

/-- The coefficients stored up to a chunk. -/
def coefStack : (n : ℕ) → n < 4 → List (View.Piece (Elt F) S256x8 .f32)
  | 0, h => [⟨Rect.unit (s := S256x8) ![0, 0] S256x8.size inb_S256x8_S256x8_0_0, coefMat c i arg1 arg3 arg4 arg5 arg6 arg7 arg10 arg14 f1 f3 f4 f5 f6 f7 f10 f14 hids h⟩]
  | n + 1, h => ⟨Rect.unit (s := S256x8) ![0, 0] S256x8.size inb_S256x8_S256x8_0_0, coefMat c i arg1 arg3 arg4 arg5 arg6 arg7 arg10 arg14 f1 f3 f4 f5 f6 f7 f10 f14 hids h⟩
      :: coefStack n (Nat.lt_of_succ_lt h)

theorem slot_lt (n : ℕ) : n % 2 < 2 := Nat.mod_lt _ (by decide)

/-- The products stored up to a chunk, on top of `L`. -/
def prodPieces (L : List (View.Piece (Elt F) S2x256x1152 .bf16)) : List (View.Piece (Elt F) S2x256x1152 .bf16) :=
  let p {k : ℕ} (hk : k < 4) : View.Piece (Elt F) S2x256x1152 .bf16 :=
    ⟨Rect.unit (s := S2x256x1152) ![n % 2, 0, 256 * k] S1x256x256.size (inbP (slot_lt n) hk), shapeCast S1x256x256 (pb c arg7 arg10 f7 f10 hn hk) shapeCasts_S256x256_S1x256x256⟩
  ⟨Rect.unit (s := S2x256x1152) ![n % 2, 0, 1024] S1x256x128.size (inbP' (slot_lt n)), shapeCast S1x256x128 (pb' c arg7 arg10 f7 f10 hn) shapeCasts_S256x128_S1x256x128⟩
    :: p (k := 3) (by decide) :: p (k := 2) (by decide) :: p (k := 1) (by decide) :: p (k := 0) (by decide) :: L
def prodStack : (n : ℕ) → n < 4 → List (View.Piece (Elt F) S2x256x1152 .bf16)
  | 0, h => prodPieces c arg7 arg10 f7 f10 h []
  | n + 1, h => prodPieces c arg7 arg10 f7 f10 h (prodStack n (Nat.lt_of_succ_lt h))

/-- The gate's sum over a block and a tile of 128 columns. -/
def gateTile {b t : ℕ} (hb : b < 2) (ht : t < 9) : FVec F S1x8x128 .f32 :=
  let g {k : ℕ} (hk : k < 4) := gateGroup
    (arg17.view.readCov (coefStack c i arg1 arg3 arg4 arg5 arg6 arg7 arg10 arg14 f1 f3 f4 f5 f6 f7 f10 f14 hids n hn)
      (Rect.unit (s := S256x8) ![32 * (4 * b + k), 0] S32x8.size (inbCo (by omega))).toLoadRect)
    (View.readAt (Elt F) arg9.view (Rect.unit (s := S1024x1152) ![32 * (8 * n + (4 * b + k)), 128 * t] S32x128.size (inbG (by omega) ht)).toLoadRect f9)
    (View.readAt (Elt F) arg8.view (Rect.unit (s := S1024x1152) ![32 * (8 * n + (4 * b + k)), 128 * t] S32x128.size (inbG (by omega) ht)).toLoadRect f8)
  shapeCast S1x8x128 (addf (addf (addf (g (k := 0) (by decide)) (g (k := 1) (by decide))) (g (k := 2) (by decide))) (g (k := 3) (by decide))) shapeCasts_S8x128_S1x8x128

/-- The gate's sums of a block, stored on top of `L`; and those stored up to a chunk. -/
def gatePieces {b : ℕ} (hb : b < 2) (L : List (View.Piece (Elt F) S2x8x1152 .f32)) : List (View.Piece (Elt F) S2x8x1152 .f32) :=
  let p {t : ℕ} (ht : t < 9) : View.Piece (Elt F) S2x8x1152 .f32 := ⟨Rect.unit (s := S2x8x1152) ![b, 0, 128 * t] S1x8x128.size (inbGate hb ht),
    gateTile c i arg1 arg3 arg4 arg5 arg6 arg7 arg8 arg9 arg10 arg14 arg17 f1 f3 f4 f5 f6 f7 f8 f9 f10 f14 hids hn hb ht⟩
  p (t := 8) (by decide) :: p (t := 7) (by decide) :: p (t := 6) (by decide) :: p (t := 5) (by decide) :: p (t := 4) (by decide)
    :: p (t := 3) (by decide) :: p (t := 2) (by decide) :: p (t := 1) (by decide) :: p (t := 0) (by decide) :: L
def gateStack : (n : ℕ) → n < 4 → List (View.Piece (Elt F) S2x8x1152 .f32)
  | 0, h => gatePieces c i arg1 arg3 arg4 arg5 arg6 arg7 arg8 arg9 arg10 arg14 arg17 f1 f3 f4 f5 f6 f7 f8 f9 f10 f14 hids h (b := 1) (by decide)
      (gatePieces c i arg1 arg3 arg4 arg5 arg6 arg7 arg8 arg9 arg10 arg14 arg17 f1 f3 f4 f5 f6 f7 f8 f9 f10 f14 hids h (b := 0) (by decide) [])
  | n + 1, h => gatePieces c i arg1 arg3 arg4 arg5 arg6 arg7 arg8 arg9 arg10 arg14 arg17 f1 f3 f4 f5 f6 f7 f8 f9 f10 f14 hids h (b := 1) (by decide)
      (gatePieces c i arg1 arg3 arg4 arg5 arg6 arg7 arg8 arg9 arg10 arg14 arg17 f1 f3 f4 f5 f6 f7 f8 f9 f10 f14 hids h (b := 0) (by decide) (gateStack n (Nat.lt_of_succ_lt h)))

/-- A chunk's column sums, the products having been stored up to chunk `n'`. -/
def chunkSums {n' : ℕ} (hn' : n' < 4) : FVec F S4x1152 .f32 :=
  sums (lane c arg5 f5 hn)
    (wu (lane c arg3 f3 hn) (lane c arg5 f5 hn) (rs c i arg1 arg3 arg6 arg7 arg14 f1 f3 f6 f7 f14 hids hn))
    (wv (s_x c i arg1 arg6 arg7 arg14 f1 f6 f7 f14 hids hn) (lane c arg3 f3 hn) (lane c arg5 f5 hn) (rs c i arg1 arg3 arg6 arg7 arg14 f1 f3 f6 f7 f14 hids hn))
    (shapeCast S256x1152 (View.readAt (Elt F) arg10.view (Rect.unit (s := S1024x1152) ![256 * n, 0] S256x1152.size (inbChunk hn)).toLoadRect f10) shapeCasts_S256x1152_S256x1152)
    (shapeCast S256x1152 (arg16.view.readCov (prodStack c arg7 arg10 f7 f10 n' hn') (Rect.unit (s := S2x256x1152) ![n % 2, 0, 0] S1x256x1152.size (inbSlot (slot_lt n))).toLoadRect) shapeCasts_S1x256x1152_S256x1152)

def gateRead {b : ℕ} (hb : b < 2) : FVec F S1x8x1152 .f32 :=
  arg18.view.readCov (gateStack c i arg1 arg3 arg4 arg5 arg6 arg7 arg8 arg9 arg10 arg14 arg17 f1 f3 f4 f5 f6 f7 f8 f9 f10 f14 hids n hn)
    (Rect.unit (s := S2x8x1152) ![b, 0, 0] S1x8x1152.size (inbGateRow hb)).toLoadRect

/-- A chunk's two blocks, stored on top of `L`. -/
def blockPieces {n' : ℕ} (hn' : n' < 4) (L : List (View.Piece (Elt F) S8x3x1152 .f32)) : List (View.Piece (Elt F) S8x3x1152 .f32) :=
  let o := chunkSums c i arg1 arg3 arg5 arg6 arg7 arg10 arg14 arg16 f1 f3 f5 f6 f7 f10 f14 hids hn hn'
  let g {b : ℕ} (hb : b < 2) := gateRead c i arg1 arg3 arg4 arg5 arg6 arg7 arg8 arg9 arg10 arg14 arg17 arg18 f1 f3 f4 f5 f6 f7 f8 f9 f10 f14 hids hn hb
  ⟨Rect.unit (s := S8x3x1152) ![2 * n + 1, 0, 0] S1x3x1152.size (inbB (lt4 hn)), blockRows (extractStridedSlice S2x1152 ![2, 0] o slices_S4x1152_o2_0_S2x1152) (g (b := 1) (by decide))⟩
    :: ⟨Rect.unit (s := S8x3x1152) ![2 * n, 0, 0] S1x3x1152.size (inbB (Nat.lt_of_succ_lt (lt4 hn))), blockRows (extractStridedSlice S2x1152 ![0, 0] o slices_S4x1152_o0_0_S2x1152) (g (b := 0) (by decide))⟩ :: L

/-- The step's eight blocks, last store first. -/
def blockStack : List (View.Piece (Elt F) S8x3x1152 .f32) :=
  let p {n n' : ℕ} (hn : n < 4) (hn' : n' < 4) := blockPieces c i arg1 arg3 arg4 arg5 arg6 arg7 arg8 arg9 arg10 arg14 arg16 arg17 arg18 f1 f3 f4 f5 f6 f7 f8 f9 f10 f14 hids hn hn'
  p (n := 3) (n' := 3) (by decide) (by decide) (p (n := 2) (n' := 3) (by decide) (by decide) (p (n := 1) (n' := 2) (by decide) (by decide) (p (n := 0) (n' := 1) (by decide) (by decide) [])))

end Step

end Spec

end Cert.Proof.KernelIdeal

end
-- ==== Proof.DxSpec.lean ====
/-
  What one step of the kernel stores into its input-gradient window when every row of the step carries the same first and
  last sample number, written once for any 32 rows and any 128 columns and in the kernel's own operations. Nothing is
  evaluated here: `KernelIdealBody` shows that the body's stores are these.
-/
module

public import proofs.«01_k».proof.Proof.BlockSpec

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.Sem

variable {F : FTy → Type} [FloatOps F] [Named F]

namespace Spec

theorem inbScale {s : ℕ} (hs : s < 5) : ∀ a, (![s, 0, 0] : Fin 3 → ℕ) a + S1x8x1152.size a ≤ S5x8x1152.size a := by
  intro a; fin_cases a
  · exact Nat.succ_le_of_lt hs
  · exact le_rfl
  · exact le_rfl

theorem inbScaleTile {v t : ℕ} (hv : v < 5) (ht : t < 9) : ∀ a, (![v, 0, 128 * t] : Fin 3 → ℕ) a + S1x1x128.size a ≤ S5x8x1152.size a := by
  intro a; fin_cases a
  · exact Nat.succ_le_of_lt hv
  · exact Nat.le_of_ble_eq_true rfl
  · show 128 * t + 128 ≤ 1152; omega

/-- A chunk's group of 32 rows among the step's. -/
theorem group_lt {n g : ℕ} (hn : n < 4) (hg : g < 8) : 8 * n + g < 32 := by omega

/-- A sample's scale row `1 + mod`, eight times over. -/
def scale (m : FVec F S1x1152 .f32) : FVec F S1x8x1152 .f32 :=
  shapeCast S1x8x1152 (broadcastTo S8x1152 (shapeCast S1x1152 (addf (broadcast S1x1152 (FloatOps.ofBits .f32 1065353216#32)) m)
    shapeCasts_S1x1152_S1x1152) broadcasts_S1x1152_S8x1152) shapeCasts_S8x1152_S1x8x1152

/-- A column of the coefficients, along a tile. -/
def along {n : ℕ} {h : S32x8.Slices ![0, n] S32x1} (co : FVec F S32x8 .f32) : FVec F S32x128 .f32 :=
  broadcastTo S32x128 (shapeCast S32x1 (extractStridedSlice S32x1 ![0, n] co h) shapeCasts_S32x1_S32x1) broadcasts_S32x1_S32x128

variable (c : Dev nD) (i : grid0.Coords)
  (arg1 : Memref sig .tc .smem S8x128 .i32)
  (arg6 : Memref sig .tc .vmem S5x1152 .f32) (arg7 : Memref sig .tc .vmem S1024x1152 .fp8e4m3)
  (arg9 : Memref sig .tc .vmem S1024x1152 .fp8e5m2) (arg10 : Memref sig .tc .vmem S1024x1152 .fp8e5m2)
  (arg15 : Memref sig .tc .vmem S5x8x1152 .f32) (arg17 : Memref sig .tc .vmem S256x8 .f32)
  (f1 : Bf (F := F) c arg1) (f6 : Bf (F := F) c arg6) (f7 : Bf (F := F) c arg7) (f9 : Bf (F := F) c arg9) (f10 : Bf (F := F) c arg10)
  (f15 : Bf (F := F) c arg15) (hids : Ids c arg1 f1)

/-- The scales' scratch, filled at the grid's first step. -/
def scales : Bf (F := F) c arg15 :=
  if _hc : Scalar.cmpi .ne (Scalar.extui (Scalar.cmpi .eq (BitVec.ofNat 32 (i 0)) 0#32) : BitVec 32) 0#32 = 1#1 then
    let r {s : ℕ} (hs : s < 5) : View.Piece (Elt F) S5x8x1152 .f32 :=
      ⟨Rect.unit (s := S5x8x1152) ![s, 0, 0] S1x8x1152.size (inbScale hs), scale (View.readAt (Elt F) arg6.view (Rect.unit (s := S5x1152) ![s, 0] S1x1152.size (inbMod hs)).toLoadRect f6)⟩
    arg15.view.writes (Elt F) f15 [r (s := 4) (by decide), r (s := 3) (by decide), r (s := 2) (by decide), r (s := 1) (by decide), r (s := 0) (by decide)]
  else f15

/-- Whether a step's first and last sample numbers differ. -/
def straddle : BitVec 1 :=
  k0_cond2 (sid c arg1 f1 (n := 0) (by decide))
    (View.readAt (Elt F) arg1.view (Rect.unit (s := S8x128) ![7, 127] S1x1.size inb_S8x128_S1x1_7_127).toLoadRect f1 (Shape.Idx.first (Nat.le_of_eq numel1_S1x1.symm)))

variable {n : ℕ} (hn : n < 4) (K : List (View.Piece (Elt F) S256x8 .f32))

/-- The input gradient of 32 rows at 128 columns, from the stores the coefficients' scratch has had. -/
def dxTile {g t : ℕ} (hg : g < 8) (ht : t < 9) : FVec F S32x128 .bf16 :=
  let co : FVec F S32x8 .f32 := arg17.view.readCov K (Rect.unit (s := S256x8) ![32 * g, 0] S32x8.size (inbCo hg)).toLoadRect
  let dy : FVec F S32x128 .f32 := extf .f32 (View.readAt (Elt F) arg9.view (Rect.unit (s := S1024x1152) ![32 * (8 * n + g), 128 * t] S32x128.size (inbG (group_lt hn hg) ht)).toLoadRect f9 : FVec F S32x128 .fp8e5m2) bitsLt_fp8e5m2_f32
  let dh : FVec F S32x128 .f32 := extf .f32 (shapeCast S32x128 (View.readAt (Elt F) arg10.view (Rect.unit (s := S1024x1152) ![32 * (8 * n + g), 128 * t] S32x128.size (inbG (group_lt hn hg) ht)).toLoadRect f10) shapeCasts_S32x128_S32x128 : FVec F S32x128 .fp8e5m2) bitsLt_fp8e5m2_f32
  let x : FVec F S32x128 .f32 := extf .f32 (shapeCast S32x128 (View.readAt (Elt F) arg7.view (Rect.unit (s := S1024x1152) ![32 * (8 * n + g), 128 * t] S32x128.size (inbG (group_lt hn hg) ht)).toLoadRect f7) shapeCasts_S32x128_S32x128 : FVec F S32x128 .fp8e4m3) bitsLt_fp8e4m3_f32
  let w : FVec F S32x128 .f32 := broadcastTo S32x128 (shapeCast S1x128 (View.readAt (Elt F) arg15.view
    (Rect.unit (s := S5x8x1152) ![(Scalar.indexCast (sid c arg1 f1 hn)).toNat, 0, 128 * t] S1x1x128.size (inbScaleTile (hids _ _) ht)).toLoadRect
    (scales c i arg6 arg15 f6 f15)) shapeCasts_S1x1x128_S1x128) broadcasts_S1x128_S32x128
  truncf .bf16 (addf (addf (mulf (along (n := 0) (h := slices_S32x8_o0_0_S32x1) co) dy) (mulf (along (n := 1) (h := slices_S32x8_o0_1_S32x1) co) (mulf dh w)))
    (addf (mulf (along (n := 2) (h := slices_S32x8_o0_2_S32x1) co) x) (along (n := 3) (h := slices_S32x8_o0_3_S32x1) co))) bitsLt_bf16_f32

/-- The tiles of 32 rows before tile `t`, the latest first, upon those stored before them. -/
def dxTiles {g : ℕ} (hg : g < 8) (L : List (View.Piece (Elt F) S1024x1152 .bf16)) : (t : ℕ) → t ≤ 9 → List (View.Piece (Elt F) S1024x1152 .bf16)
  | 0, _ => L
  | t + 1, h => ⟨Rect.unit (s := S1024x1152) ![32 * (8 * n + g), 128 * t] S32x128.size (inbG (group_lt hn hg) h),
      dxTile c i arg1 arg6 arg7 arg9 arg10 arg15 arg17 f1 f6 f7 f9 f10 f15 hids hn K hg h⟩
      :: dxTiles hg L t (Nat.le_of_succ_le h)

/-- The groups of a chunk before group `g`. -/
def dxGroups (L : List (View.Piece (Elt F) S1024x1152 .bf16)) : (g : ℕ) → g ≤ 8 → List (View.Piece (Elt F) S1024x1152 .bf16)
  | 0, _ => L
  | g + 1, h => dxTiles c i arg1 arg6 arg7 arg9 arg10 arg15 arg17 f1 f6 f7 f9 f10 f15 hids hn K h (dxGroups L g (Nat.le_of_succ_le h)) 9 le_rfl

/-- The chunks of a step before chunk `n`. -/
def dxStack (arg3 arg4 arg5 : Memref sig .tc .vmem S8x128 .f32) (arg14 : Memref sig .tc .vmem S5x16x1152 .bf16)
    (f3 : Bf (F := F) c arg3) (f4 : Bf (F := F) c arg4) (f5 : Bf (F := F) c arg5) (f14 : Bf (F := F) c arg14) :
    (n : ℕ) → n ≤ 4 → List (View.Piece (Elt F) S1024x1152 .bf16)
  | 0, _ => []
  | n + 1, h => dxGroups c i arg1 arg6 arg7 arg9 arg10 arg15 arg17 f1 f6 f7 f9 f10 f15 hids h (coefStack c i arg1 arg3 arg4 arg5 arg6 arg7 arg10 arg14 f1 f3 f4 f5 f6 f7 f10 f14 hids n h)
      (dxStack arg3 arg4 arg5 arg14 f3 f4 f5 f14 n (Nat.le_of_succ_le h)) 8 le_rfl

end Spec

end Cert.Proof.KernelIdeal

end
-- ==== Proof.KernelIdealBody.lean ====
/-
  The kernel's body run once at symbolic operands: from the staged inputs at their contents and every output and scratch
  buffer at anything, it reaches its return, the inputs unchanged and each output and scratch buffer at something. The
  only thing asked is that the sample numbers it reads are below five.
-/
module

public import proofs.«01_k».proof.Proof.DxSpec
public import proofs.«01_k».proof.Proof.Gen.KernelIdeal.Loops
public import proofs.«01_k».proof.Proof.Gen.KernelIdeal.Skeleton
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Memref `M`'s buffer on core `c`, held whole at `f`. -/
abbrev pt (c : Dev nD) {sp : Space} {S : Shape} {e : EltTy} (M : Memref sig .tc sp S e) (f : Bf (F := F) c M) : sProp 𝕄 :=
  M.view.loc (c : Thread nD τ) ↦{fullShare} f

/-- The part that runs a sample's row loop is its skeleton. (No named constant occurs in it: this is the generated
    equation without that instance, the form the execution looks a part's skeleton up in.) -/
theorem _root_.Cert.KernelIdeal.k0_part21_eq_skeleton {F : FTy → Type} [FloatOps F] : k0_part21 (F := F) = k0_part21_skel (F := F) := rfl

section Straddle

variable (c : Dev nD) (i : grid0.Coords)
  (arg1 : Memref sig .tc .smem S8x128 .i32) (harg1 : arg1.IsWhole)
  (arg2 : Memref sig .tc .vmem S8x128 .i32) (harg2 : arg2.IsWhole)
  (arg3 : Memref sig .tc .vmem S8x128 .f32) (harg3 : arg3.IsWhole)
  (arg4 : Memref sig .tc .vmem S8x128 .f32) (harg4 : arg4.IsWhole)
  (arg5 : Memref sig .tc .vmem S8x128 .f32) (harg5 : arg5.IsWhole)
  (arg6 : Memref sig .tc .vmem S5x1152 .f32) (harg6 : arg6.IsWhole)
  (arg7 : Memref sig .tc .vmem S1024x1152 .fp8e4m3) (harg7 : arg7.IsWhole)
  (arg8 : Memref sig .tc .vmem S1024x1152 .bf16) (harg8 : arg8.IsWhole)
  (arg9 : Memref sig .tc .vmem S1024x1152 .fp8e5m2) (harg9 : arg9.IsWhole)
  (arg10 : Memref sig .tc .vmem S1024x1152 .fp8e5m2) (harg10 : arg10.IsWhole)
  (arg11 : Memref sig .tc .vmem S1024x1152 .bf16) (harg11 : arg11.IsWhole)
  (arg12 : Memref sig .tc .vmem S5x3x1152 .f32) (harg12 : arg12.IsWhole)
  (arg13 : Memref sig .tc .vmem S8x3x1152 .f32) (harg13 : arg13.IsWhole)
  (arg14 : Memref sig .tc .vmem S5x16x1152 .bf16) (harg14 : arg14.IsWhole)
  (arg15 : Memref sig .tc .vmem S5x8x1152 .f32) (harg15 : arg15.IsWhole)
  (arg16 : Memref sig .tc .vmem S2x256x1152 .bf16) (harg16 : arg16.IsWhole)
  (arg17 : Memref sig .tc .vmem S256x8 .f32) (harg17 : arg17.IsWhole)
  (arg18 : Memref sig .tc .vmem S2x8x1152 .f32) (harg18 : arg18.IsWhole)
  (arg19 : Memref sig .tc .vmem S6x3x1152 .f32) (harg19 : arg19.IsWhole)
  (arg0 : BitVec 32) (v8381 v8382 : Elt F .i32) (k0_hw12 : k0_chk12 v8381 v8382)
  (v10985 : FVec F S4x1152 .f32) (v10986 : FVec F S2x1152 .f32) (v10989 : FVec F S1152 .f32)
  (v11015 v11016 : Elt F .i32) (k0_h2 : k0_cond2 v11015 v11016 = 1#1)

/-- One sample's pass over a chunk leaves the inputs and the per-sample rows as they were. -/
theorem trip2 (k0_t1 : Fin k0_t1_loop.trips) (arg20 : BitVec 32) (v11026 v11030 : Elt F .i32)
    (k0_hw13 : k0_chk13 v11015 v11016 v11026 v11030) (k0_h3 : k0_cond3 v11026 v11030 = 1#1)
    (f2 : Bf (F := F) c arg2) (f3 : Bf (F := F) c arg3) (f4 : Bf (F := F) c arg4) (f5 : Bf (F := F) c arg5) (f7 : Bf (F := F) c arg7) (f8 : Bf (F := F) c arg8) (f9 : Bf (F := F) c arg9) (f10 : Bf (F := F) c arg10) (f11 : Bf (F := F) c arg11) (f14 : Bf (F := F) c arg14) (f15 : Bf (F := F) c arg15) (f16 : Bf (F := F) c arg16) (f17 : Bf (F := F) c arg17) (f18 : Bf (F := F) c arg18) (f19 : Bf (F := F) c arg19) (k : Fin (k0_t2_loop v11026 v11030).trips) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19)) : sProp 𝕄)
    ⊢ wp frame (wpE (defs₀ (F := F)) Variants.none c none) Set.univ
        (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v8381 v8382 k0_hw12 v10985 v10986 v10989 v11015 v11016 k0_h2 k0_t1 arg20 v11026 v11030 k0_hw13 k0_h3 k PUnit.unit)
        (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg14.view.loc (c : Thread nD τ) ↦[arg14.view.set]{fullShare} f14) ∗ (arg15.view.loc (c : Thread nD τ) ↦[arg15.view.set]{fullShare} f15) ∗ (∃ f, (arg11.view.loc (c : Thread nD τ) ↦[arg11.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)))) := by
  unfold k0_t2_body
  iintro ⟨H2, H3, H4, H5, H7, H8, H9, H10, H11, H14, H15, H16, H17, H18, H19⟩
  sl_exec_parts!
  sl_step
  isplitl [H2]; · iexact H2
  isplitl [H3]; · iexact H3
  isplitl [H4]; · iexact H4
  isplitl [H5]; · iexact H5
  isplitl [H7]; · iexact H7
  isplitl [H8]; · iexact H8
  isplitl [H9]; · iexact H9
  isplitl [H10]; · iexact H10
  isplitl [H14]; · iexact H14
  isplitl [H15]; · iexact H15
  isplitl [H11]; · iexists _; iexact H11
  isplitl [H16]; · iexists _; iexact H16
  isplitl [H17]; · iexists _; iexact H17
  isplitl [H18]; · iexists _; iexact H18
  iexists _; iexact H19

set_option warn.classDefReducibility false in
/-- The loop over a chunk's samples. -/
@[sl_loop] def loopInv_k0_t2 (k0_t1 : Fin k0_t1_loop.trips) (arg20 : BitVec 32) (v11026 v11030 : Elt F .i32)
    (k0_hw13 : k0_chk13 v11015 v11016 v11026 v11030) (k0_h3 : k0_cond3 v11026 v11030 = 1#1)
    (f2 : Bf (F := F) c arg2) (f3 : Bf (F := F) c arg3) (f4 : Bf (F := F) c arg4) (f5 : Bf (F := F) c arg5) (f7 : Bf (F := F) c arg7) (f8 : Bf (F := F) c arg8) (f9 : Bf (F := F) c arg9) (f10 : Bf (F := F) c arg10) (f14 : Bf (F := F) c arg14) (f15 : Bf (F := F) c arg15) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
      arg0 v8381 v8382 k0_hw12 v10985 v10986 v10989 v11015 v11016 k0_h2 k0_t1 arg20 v11026 v11030 k0_hw13 k0_h3 where
  inv _ _ := iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg14.view.loc (c : Thread nD τ) ↦[arg14.view.set]{fullShare} f14) ∗ (arg15.view.loc (c : Thread nD τ) ↦[arg15.view.set]{fullShare} f15) ∗ (∃ f, (arg11.view.loc (c : Thread nD τ) ↦[arg11.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)))
  step k _ := by
    iintro ⟨H2, H3, H4, H5, H7, H8, H9, H10, H14, H15, ⟨%f11, H11⟩, ⟨%f16, H16⟩, ⟨%f17, H17⟩, ⟨%f18, H18⟩, ⟨%f19, H19⟩⟩
    iapply (trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v8381 v8382 k0_hw12 v10985 v10986 v10989 v11015 v11016 k0_h2 k0_t1 arg20 v11026 v11030 k0_hw13 k0_h3 f2 f3 f4 f5 f7 f8 f9 f10 f11 f14 f15 f16 f17 f18 f19 k)
    isplitl [H2]; · iexact H2
    isplitl [H3]; · iexact H3
    isplitl [H4]; · iexact H4
    isplitl [H5]; · iexact H5
    isplitl [H7]; · iexact H7
    isplitl [H8]; · iexact H8
    isplitl [H9]; · iexact H9
    isplitl [H10]; · iexact H10
    isplitl [H11]; · iexact H11
    isplitl [H14]; · iexact H14
    isplitl [H15]; · iexact H15
    isplitl [H16]; · iexact H16
    isplitl [H17]; · iexact H17
    isplitl [H18]; · iexact H18
    iexact H19

set_option warn.classDefReducibility false in
/-- The remainder loop makes no trip. -/
@[sl_loop] def loopInv_k0_t4 (k0_t1 : Fin k0_t1_loop.trips) (arg20 : BitVec 32) (v11026 v11030 : Elt F .i32)
    (k0_hw13 : k0_chk13 v11015 v11016 v11026 v11030) (k0_h3 : k0_cond3 v11026 v11030 = 1#1) (v11039 : BitVec 32) :
    LoopInvTy_k0_t4 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
      arg0 v8381 v8382 k0_hw12 v10985 v10986 v10989 v11015 v11016 k0_h2 k0_t1 arg20 v11026 v11030 k0_hw13 k0_h3 v11039 where
  inv _ _ := iprop(⌜(k0_t4_loop v11026 v11030).trips = 0⌝)
  step k _ := by
    iintro %h4
    exact (Nat.not_lt_zero _ (Nat.lt_of_lt_of_eq k.isLt h4)).elim

/-- One chunk of a step whose rows are of several samples. -/
theorem trip1 (f1 : Bf (F := F) c arg1) (f2 : Bf (F := F) c arg2) (f3 : Bf (F := F) c arg3) (f4 : Bf (F := F) c arg4) (f5 : Bf (F := F) c arg5) (f7 : Bf (F := F) c arg7) (f8 : Bf (F := F) c arg8) (f9 : Bf (F := F) c arg9) (f10 : Bf (F := F) c arg10) (f11 : Bf (F := F) c arg11) (f14 : Bf (F := F) c arg14) (f15 : Bf (F := F) c arg15) (f16 : Bf (F := F) c arg16) (f17 : Bf (F := F) c arg17) (f18 : Bf (F := F) c arg18) (f19 : Bf (F := F) c arg19) (hids : Ids c arg1 f1) (k : Fin k0_t1_loop.trips) :
    (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19)) : sProp 𝕄)
    ⊢ wp frame (wpE (defs₀ (F := F)) Variants.none c none) Set.univ
        (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v8381 v8382 k0_hw12 v10985 v10986 v10989 v11015 v11016 k0_h2 k PUnit.unit)
        (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg14.view.loc (c : Thread nD τ) ↦[arg14.view.set]{fullShare} f14) ∗ (arg15.view.loc (c : Thread nD τ) ↦[arg15.view.set]{fullShare} f15) ∗ (∃ f, (arg11.view.loc (c : Thread nD τ) ↦[arg11.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)))) := by
  unfold k0_t1_body
  iintro ⟨H1, H2, H3, H4, H5, H7, H8, H9, H10, H11, H14, H15, H16, H17, H18, H19⟩
  set_option sl_exec.stopBefore "k0_cond3" in
  sl_exec_parts (disch := exact chk13 _ _ (hids _ _) (hids _ _) _ _)
  have h4 : (k0_t4_loop (trip1.sl.r c arg1 f1 k) (trip1.sl.r_1 c arg1 f1 k)).trips = 0 := trips4 _ _ (hids _ _) (hids _ _)
  by_cases h3 : k0_cond3 (trip1.sl.r c arg1 f1 k) (trip1.sl.r_1 c arg1 f1 k) = 1#1
  · rw [dif_pos h3]
    sl_exec_parts
    sl_step
    sl_close
  · rw [dif_neg h3]
    sl_exec_parts
    sl_step
    isplitl [H1]; · iexact H1
    isplitl [H2]; · iexact H2
    isplitl [H3]; · iexact H3
    isplitl [H4]; · iexact H4
    isplitl [H5]; · iexact H5
    isplitl [H7]; · iexact H7
    isplitl [H8]; · iexact H8
    isplitl [H9]; · iexact H9
    isplitl [H10]; · iexact H10
    isplitl [H14]; · iexact H14
    isplitl [H15]; · iexact H15
    isplitl [H11]; · iexists _; iexact H11
    isplitl [H16]; · iexists _; iexact H16
    isplitl [H17]; · iexists _; iexact H17
    isplitl [H18]; · iexists _; iexact H18
    iexists _; iexact H19

set_option warn.classDefReducibility false in
/-- The pass over the chunks, of a step whose rows are of several samples. -/
@[sl_loop] def loopInv_k0_t1 (f1 : Bf (F := F) c arg1) (f2 : Bf (F := F) c arg2) (f3 : Bf (F := F) c arg3) (f4 : Bf (F := F) c arg4) (f5 : Bf (F := F) c arg5) (f7 : Bf (F := F) c arg7) (f8 : Bf (F := F) c arg8) (f9 : Bf (F := F) c arg9) (f10 : Bf (F := F) c arg10) (f14 : Bf (F := F) c arg14) (f15 : Bf (F := F) c arg15) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
      arg0 v8381 v8382 k0_hw12 v10985 v10986 v10989 v11015 v11016 k0_h2 where
  inv _ _ := iprop(⌜Ids c arg1 f1⌝ ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg14.view.loc (c : Thread nD τ) ↦[arg14.view.set]{fullShare} f14) ∗ (arg15.view.loc (c : Thread nD τ) ↦[arg15.view.set]{fullShare} f15) ∗ (∃ f, (arg11.view.loc (c : Thread nD τ) ↦[arg11.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)))
  step k _ := by
    iintro ⟨%hids, H1, H2, H3, H4, H5, H7, H8, H9, H10, H14, H15, ⟨%f11, H11⟩, ⟨%f16, H16⟩, ⟨%f17, H17⟩, ⟨%f18, H18⟩, ⟨%f19, H19⟩⟩
    iapply (wp_wand_r Idealize.ShloMosaic.frame (wpE (defs₀ (F := F)) Variants.none c none) Set.univ)
    isplitr []
    · iapply (trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v8381 v8382 k0_hw12 v10985 v10986 v10989 v11015 v11016 k0_h2 f1 f2 f3 f4 f5 f7 f8 f9 f10 f11 f14 f15 f16 f17 f18 f19 hids k)
      isplitl [H1]; · iexact H1
      isplitl [H2]; · iexact H2
      isplitl [H3]; · iexact H3
      isplitl [H4]; · iexact H4
      isplitl [H5]; · iexact H5
      isplitl [H7]; · iexact H7
      isplitl [H8]; · iexact H8
      isplitl [H9]; · iexact H9
      isplitl [H10]; · iexact H10
      isplitl [H11]; · iexact H11
      isplitl [H14]; · iexact H14
      isplitl [H15]; · iexact H15
      isplitl [H16]; · iexact H16
      isplitl [H17]; · iexact H17
      isplitl [H18]; · iexact H18
      iexact H19
    · iintro %_ H
      isplitr; · ipureintro; exact hids
      iexact H

end Straddle

set_option maxRecDepth 16384 in
set_option maxHeartbeats 4000000 in
/-- The body of one step, run from its operands at any contents. What it leaves in the block-sum window and in the weights
    is followed. -/
theorem body_run (c : Dev nD) (i : grid0.Coords)
  (arg1 : Memref sig .tc .smem S8x128 .i32) (harg1 : arg1.IsWhole)
  (arg2 : Memref sig .tc .vmem S8x128 .i32) (harg2 : arg2.IsWhole)
  (arg3 : Memref sig .tc .vmem S8x128 .f32) (harg3 : arg3.IsWhole)
  (arg4 : Memref sig .tc .vmem S8x128 .f32) (harg4 : arg4.IsWhole)
  (arg5 : Memref sig .tc .vmem S8x128 .f32) (harg5 : arg5.IsWhole)
  (arg6 : Memref sig .tc .vmem S5x1152 .f32) (harg6 : arg6.IsWhole)
  (arg7 : Memref sig .tc .vmem S1024x1152 .fp8e4m3) (harg7 : arg7.IsWhole)
  (arg8 : Memref sig .tc .vmem S1024x1152 .bf16) (harg8 : arg8.IsWhole)
  (arg9 : Memref sig .tc .vmem S1024x1152 .fp8e5m2) (harg9 : arg9.IsWhole)
  (arg10 : Memref sig .tc .vmem S1024x1152 .fp8e5m2) (harg10 : arg10.IsWhole)
  (arg11 : Memref sig .tc .vmem S1024x1152 .bf16) (harg11 : arg11.IsWhole)
  (arg12 : Memref sig .tc .vmem S5x3x1152 .f32) (harg12 : arg12.IsWhole)
  (arg13 : Memref sig .tc .vmem S8x3x1152 .f32) (harg13 : arg13.IsWhole)
  (arg14 : Memref sig .tc .vmem S5x16x1152 .bf16) (harg14 : arg14.IsWhole)
  (arg15 : Memref sig .tc .vmem S5x8x1152 .f32) (harg15 : arg15.IsWhole)
  (arg16 : Memref sig .tc .vmem S2x256x1152 .bf16) (harg16 : arg16.IsWhole)
  (arg17 : Memref sig .tc .vmem S256x8 .f32) (harg17 : arg17.IsWhole)
  (arg18 : Memref sig .tc .vmem S2x8x1152 .f32) (harg18 : arg18.IsWhole)
  (arg19 : Memref sig .tc .vmem S6x3x1152 .f32) (harg19 : arg19.IsWhole)
  (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (hids : Ids c arg1 f1) (K : PUnit → sProp 𝕄) :
    (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19)
      ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (∃ f, ⌜Spec.straddle c arg1 f1 ≠ 1#1 → ∃ g, f = arg11.view.writes (Elt F) g (Spec.dxStack c i arg1 arg6 arg7 arg9 arg10 arg15 arg17 f1 f6 f7 f9 f10 f15 hids arg3 arg4 arg5 arg14 f3 f4 f5 f14 4 le_rfl)⌝ ∗ (arg11.view.loc (c : Thread nD τ) ↦[arg11.view.set]{fullShare} f)) ∗ (∃ f, (arg12.view.loc (c : Thread nD τ) ↦[arg12.view.set]{fullShare} f)) ∗ (∃ f, ⌜∃ g, f = arg13.view.writes (Elt F) g (Spec.blockStack c i arg1 arg3 arg4 arg5 arg6 arg7 arg8 arg9 arg10 arg14 arg16 arg17 arg18 f1 f3 f4 f5 f6 f7 f8 f9 f10 f14 hids)⌝ ∗ (arg13.view.loc (c : Thread nD τ) ↦[arg13.view.set]{fullShare} f)) ∗ (∃ f, ⌜f = Spec.wstat c i arg6 arg14 f6 f14⌝ ∗ (arg14.view.loc (c : Thread nD τ) ↦[arg14.view.set]{fullShare} f)) ∗ (∃ f, ⌜f = Spec.scales c i arg6 arg15 f6 f15⌝ ∗ (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f))) -∗ K ⟨⟩)) : sProp 𝕄)
    ⊢ wp frame (wpE (defs₀ (F := F)) Variants.none c none) Set.univ (cc0_adaln_zero_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  iintro ⟨H1, H2, H3, H4, H5, H6, H7, H8, H9, H10, H11, H12, H13, H14, H15, H16, H17, H18, H19, Hk⟩
  set_option sl_exec.stopBefore "k0_cond2" in
  sl_exec_parts! (disch := (first | exact chk1 _ (hids _ _) | exact chk2 _ (hids _ _) | exact chk3 _ (hids _ _) | exact chk4 _ _ (hids _ _) | exact chk5 _ (hids _ _) | exact chk6 _ (hids _ _) | exact chk7 _ _ (hids _ _) | exact chk8 _ (hids _ _) | exact chk9 _ (hids _ _) | exact chk10 _ _ (hids _ _) | exact chk11 _ (hids _ _) | exact chk12 _ _ (hids _ _)))
  have hst : (⟨Rect.unit ![7, 0, 0] S1x3x1152.size inb_S8x3x1152_S1x3x1152_7_0_0,
        k0_pay2137 (body_run.sl.v10985 c i arg1 arg3 arg5 arg6 arg7 arg10 arg14 arg16 f1 f3 f5 f6 f7 f10 f14 hids)
          (body_run.sl.v10993 c i arg1 arg3 arg4 arg5 arg6 arg7 arg8 arg9 arg10 arg14 arg17 arg18 f1 f3 f4 f5 f6 f7 f8 f9 f10 f14 hids)⟩ ::
      ⟨Rect.unit ![6, 0, 0] S1x3x1152.size inb_S8x3x1152_S1x3x1152_6_0_0,
          k0_pay2136 (body_run.sl.v10986 c i arg1 arg3 arg5 arg6 arg7 arg10 arg14 arg16 f1 f3 f5 f6 f7 f10 f14 hids)
            (body_run.sl.v10989 c i arg1 arg3 arg4 arg5 arg6 arg7 arg8 arg9 arg10 arg14 arg17 arg18 f1 f3 f4 f5 f6 f7 f8 f9 f10 f14 hids)⟩ ::
        body_run.sl.H13_6 c i arg1 arg3 arg4 arg5 arg6 arg7 arg8 arg9 arg10 arg14 arg16 arg17 arg18 f1 f3 f4 f5 f6 f7 f8 f9 f10 f14 hids : List (View.Piece (Elt F) S8x3x1152 .f32)) =
      Spec.blockStack c i arg1 arg3 arg4 arg5 arg6 arg7 arg8 arg9 arg10 arg14 arg16 arg17 arg18 f1 f3 f4 f5 f6 f7 f8 f9 f10 f14 hids := rfl
  have hd0 : body_run.sl.H11_72 c i arg1 arg3 arg4 arg5 arg6 arg7 arg9 arg10 arg14 arg15 arg17 f1 f3 f4 f5 f6 f7 f9 f10 f14 f15 hids =
      Spec.dxGroups c i arg1 arg6 arg7 arg9 arg10 arg15 arg17 f1 f6 f7 f9 f10 f15 hids (n := 0) (by decide) (body_run.sl.H17_1 c i arg1 arg3 arg4 arg5 arg6 arg7 arg10 arg14 f1 f3 f4 f5 f6 f7 f10 f14 hids)
        [] 8 le_rfl := rfl
  have hk0 : body_run.sl.H17_1 c i arg1 arg3 arg4 arg5 arg6 arg7 arg10 arg14 f1 f3 f4 f5 f6 f7 f10 f14 hids = Spec.coefStack c i arg1 arg3 arg4 arg5 arg6 arg7 arg10 arg14 f1 f3 f4 f5 f6 f7 f10 f14 hids 0 (by decide) := rfl
  have hd1 : body_run.sl.H11_144 c i arg1 arg3 arg4 arg5 arg6 arg7 arg9 arg10 arg14 arg15 arg17 f1 f3 f4 f5 f6 f7 f9 f10 f14 f15 hids =
      Spec.dxGroups c i arg1 arg6 arg7 arg9 arg10 arg15 arg17 f1 f6 f7 f9 f10 f15 hids (n := 1) (by decide) (body_run.sl.H17_2 c i arg1 arg3 arg4 arg5 arg6 arg7 arg10 arg14 f1 f3 f4 f5 f6 f7 f10 f14 hids)
        (body_run.sl.H11_72 c i arg1 arg3 arg4 arg5 arg6 arg7 arg9 arg10 arg14 arg15 arg17 f1 f3 f4 f5 f6 f7 f9 f10 f14 f15 hids) 8 le_rfl := rfl
  have hk1 : body_run.sl.H17_2 c i arg1 arg3 arg4 arg5 arg6 arg7 arg10 arg14 f1 f3 f4 f5 f6 f7 f10 f14 hids = Spec.coefStack c i arg1 arg3 arg4 arg5 arg6 arg7 arg10 arg14 f1 f3 f4 f5 f6 f7 f10 f14 hids 1 (by decide) := rfl
  have hd2 : body_run.sl.H11_216 c i arg1 arg3 arg4 arg5 arg6 arg7 arg9 arg10 arg14 arg15 arg17 f1 f3 f4 f5 f6 f7 f9 f10 f14 f15 hids =
      Spec.dxGroups c i arg1 arg6 arg7 arg9 arg10 arg15 arg17 f1 f6 f7 f9 f10 f15 hids (n := 2) (by decide) (body_run.sl.H17_3 c i arg1 arg3 arg4 arg5 arg6 arg7 arg10 arg14 f1 f3 f4 f5 f6 f7 f10 f14 hids)
        (body_run.sl.H11_144 c i arg1 arg3 arg4 arg5 arg6 arg7 arg9 arg10 arg14 arg15 arg17 f1 f3 f4 f5 f6 f7 f9 f10 f14 f15 hids) 8 le_rfl := rfl
  have hk2 : body_run.sl.H17_3 c i arg1 arg3 arg4 arg5 arg6 arg7 arg10 arg14 f1 f3 f4 f5 f6 f7 f10 f14 hids = Spec.coefStack c i arg1 arg3 arg4 arg5 arg6 arg7 arg10 arg14 f1 f3 f4 f5 f6 f7 f10 f14 hids 2 (by decide) := rfl
  have hd3 : body_run.sl.H11_288 c i arg1 arg3 arg4 arg5 arg6 arg7 arg9 arg10 arg14 arg15 arg17 f1 f3 f4 f5 f6 f7 f9 f10 f14 f15 hids =
      Spec.dxGroups c i arg1 arg6 arg7 arg9 arg10 arg15 arg17 f1 f6 f7 f9 f10 f15 hids (n := 3) (by decide) (body_run.sl.H17_4 c i arg1 arg3 arg4 arg5 arg6 arg7 arg10 arg14 f1 f3 f4 f5 f6 f7 f10 f14 hids)
        (body_run.sl.H11_216 c i arg1 arg3 arg4 arg5 arg6 arg7 arg9 arg10 arg14 arg15 arg17 f1 f3 f4 f5 f6 f7 f9 f10 f14 f15 hids) 8 le_rfl := rfl
  have hk3 : body_run.sl.H17_4 c i arg1 arg3 arg4 arg5 arg6 arg7 arg10 arg14 f1 f3 f4 f5 f6 f7 f10 f14 hids = Spec.coefStack c i arg1 arg3 arg4 arg5 arg6 arg7 arg10 arg14 f1 f3 f4 f5 f6 f7 f10 f14 hids 3 (by decide) := rfl
  have hdx : body_run.sl.H11_288 c i arg1 arg3 arg4 arg5 arg6 arg7 arg9 arg10 arg14 arg15 arg17 f1 f3 f4 f5 f6 f7 f9 f10 f14 f15 hids =
      Spec.dxStack c i arg1 arg6 arg7 arg9 arg10 arg15 arg17 f1 f6 f7 f9 f10 f15 hids arg3 arg4 arg5 arg14 f3 f4 f5 f14 4 le_rfl := by
    rw [hd3, hd2, hd1, hd0, hk0, hk1, hk2, hk3]
    simp only [Spec.dxStack]
  by_cases h2 : k0_cond2 (body_run.sl.r_64 c arg1 f1) (body_run.sl.r_65 c arg1 f1) = 1#1
  · rw [dif_pos h2]
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _; isplitr
      swap
      · iexact H11
      · ipureintro; exact fun h => absurd h2 h
    isplitl [H12]; · iexists _; iexact H12
    isplitl [H13]
    · iexists _; isplitr
      swap
      · iexact H13
      · ipureintro; exact ⟨_, congrArg (arg13.view.writes (Elt F) _) hst⟩
    isplitl [H14]
    · iexists _; isplitr
      swap
      · iexact H14
      · ipureintro; rfl
    isplitl [H15]
    · iexists _; isplitr
      swap
      · iexact H15
      · ipureintro; rfl
    isplitl [H16]; · iexists _; iexact H16
    isplitl [H17]; · iexists _; iexact H17
    isplitl [H18]; · iexists _; iexact H18
    iexists _; iexact H19
  · rw [dif_neg h2]
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _; isplitr
      swap
      · iexact H11
      · ipureintro; exact fun _ => ⟨_, congrArg (arg11.view.writes (Elt F) _) hdx⟩
    isplitl [H12]; · iexists _; iexact H12
    isplitl [H13]
    · iexists _; isplitr
      swap
      · iexact H13
      · ipureintro; exact ⟨_, congrArg (arg13.view.writes (Elt F) _) hst⟩
    isplitl [H14]
    · iexists _; isplitr
      swap
      · iexact H14
      · ipureintro; rfl
    isplitl [H15]
    · iexists _; isplitr
      swap
      · iexact H15
      · ipureintro; rfl
    isplitl [H16]; · iexists _; iexact H16
    isplitl [H17]; · iexists _; iexact H17
    isplitl [H18]; · iexists _; iexact H18
    iexists _; iexact H19

end Cert.Proof.KernelIdeal

end
-- ==== Proof.KernelIdealRun.lean ====
/-
  The frame of the kernel's program: launched on any memory whose sample numbers are below five, it terminates, its
  argument arrays end unchanged and every semaphore counter ends at zero. The body is run by `body_run`; the outputs and
  scratch buffers are followed as buffers only, their contents forgotten.
-/
module

public import proofs.«01_k».proof.Proof.KernelIdealBody
public import proofs.«01_k».proof.Proof.Gen.KernelIdeal.Frame

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation)

variable {F : FTy → Type} [FloatOps F] [Named F]

local notation "𝕄" => MT nD τ sig Unit (Elt F) ℕ (UR sig nD τ) ℕ

theorem owns_of_whole (c : Dev nD) (b : Ref sig .tc) (f : b.ty.Contents (Elt F)) :
    (((c : Thread nD τ).loc b) ↦{fullShare} f : sProp 𝕄) ⊢ owns (c : Thread nD τ) (Memref.whole b) fullShare f :=
  BIBase.Entails.of_eq (owns_whole (c : Thread nD τ) b fullShare f).symm

theorem whole_of_owns (c : Dev nD) (b : Ref sig .tc) (f : b.ty.Contents (Elt F)) :
    (owns (c : Thread nD τ) (Memref.whole b) fullShare f : sProp 𝕄) ⊢ (((c : Thread nD τ).loc b) ↦{fullShare} f) :=
  BIBase.Entails.of_eq (owns_whole (c : Thread nD τ) b fullShare f)

/-- The body's triple with each operand owned: the inputs at what they read, the outputs and scratch buffers at anything, but
    for the weights' and the scales' scratch, whose contents keep a property (`R` and `Y` before, `R'` and `Y'` after), and the blocks'
    and the input gradient's windows, whose contents have one (`Q` and `D`) whenever the step's stores give it. -/
theorem body_owns (c : Dev nD) (i : grid0.Coords)
  (arg1 : Memref sig .tc .smem S8x128 .i32) (harg1 : arg1.IsWhole)
  (arg2 : Memref sig .tc .vmem S8x128 .i32) (harg2 : arg2.IsWhole)
  (arg3 : Memref sig .tc .vmem S8x128 .f32) (harg3 : arg3.IsWhole)
  (arg4 : Memref sig .tc .vmem S8x128 .f32) (harg4 : arg4.IsWhole)
  (arg5 : Memref sig .tc .vmem S8x128 .f32) (harg5 : arg5.IsWhole)
  (arg6 : Memref sig .tc .vmem S5x1152 .f32) (harg6 : arg6.IsWhole)
  (arg7 : Memref sig .tc .vmem S1024x1152 .fp8e4m3) (harg7 : arg7.IsWhole)
  (arg8 : Memref sig .tc .vmem S1024x1152 .bf16) (harg8 : arg8.IsWhole)
  (arg9 : Memref sig .tc .vmem S1024x1152 .fp8e5m2) (harg9 : arg9.IsWhole)
  (arg10 : Memref sig .tc .vmem S1024x1152 .fp8e5m2) (harg10 : arg10.IsWhole)
  (arg11 : Memref sig .tc .vmem S1024x1152 .bf16) (harg11 : arg11.IsWhole)
  (arg12 : Memref sig .tc .vmem S5x3x1152 .f32) (harg12 : arg12.IsWhole)
  (arg13 : Memref sig .tc .vmem S8x3x1152 .f32) (harg13 : arg13.IsWhole)
  (arg14 : Memref sig .tc .vmem S5x16x1152 .bf16) (harg14 : arg14.IsWhole)
  (arg15 : Memref sig .tc .vmem S5x8x1152 .f32) (harg15 : arg15.IsWhole)
  (arg16 : Memref sig .tc .vmem S2x256x1152 .bf16) (harg16 : arg16.IsWhole)
  (arg17 : Memref sig .tc .vmem S256x8 .f32) (harg17 : arg17.IsWhole)
  (arg18 : Memref sig .tc .vmem S2x8x1152 .f32) (harg18 : arg18.IsWhole)
  (arg19 : Memref sig .tc .vmem S6x3x1152 .f32) (harg19 : arg19.IsWhole)
  (X1 : (Shape.Idx S8x128) → Elt F .i32) (X2 : (Shape.Idx S8x128) → Elt F .i32) (X3 : (Shape.Idx S8x128) → Elt F .f32) (X4 : (Shape.Idx S8x128) → Elt F .f32) (X5 : (Shape.Idx S8x128) → Elt F .f32) (X6 : (Shape.Idx S5x1152) → Elt F .f32) (X7 : (Shape.Idx S1024x1152) → Elt F .fp8e4m3) (X8 : (Shape.Idx S1024x1152) → Elt F .bf16) (X9 : (Shape.Idx S1024x1152) → Elt F .fp8e5m2) (X10 : (Shape.Idx S1024x1152) → Elt F .fp8e5m2)
    (hids : ∀ j, (X1 j).toNat < 5)
    (R R' : ((Shape.Idx S5x16x1152) → Elt F .bf16) → Prop) (Q : ((Shape.Idx S8x3x1152) → Elt F .f32) → Prop)
    (Y Y' : ((Shape.Idx S5x8x1152) → Elt F .f32) → Prop) (D : ((Shape.Idx S1024x1152) → Elt F .bf16) → Prop)
    (hR : ∀ (f6 : Bf (F := F) c arg6) (f14 : Bf (F := F) c arg14), arg6.view.read (Elt F) f6 = X6 → R (arg14.view.read (Elt F) f14) →
      R' (arg14.view.read (Elt F) (Spec.wstat c i arg6 arg14 f6 f14)))
    (hQ : ∀ (f1 : Bf (F := F) c arg1) (f3 : Bf (F := F) c arg3) (f4 : Bf (F := F) c arg4) (f5 : Bf (F := F) c arg5) (f6 : Bf (F := F) c arg6) (f7 : Bf (F := F) c arg7)
      (f8 : Bf (F := F) c arg8) (f9 : Bf (F := F) c arg9) (f10 : Bf (F := F) c arg10) (f14 : Bf (F := F) c arg14) (hids : Ids c arg1 f1) (g : arg13.view.ty.Contents (Elt F)),
      arg3.view.read (Elt F) f3 = X3 → arg4.view.read (Elt F) f4 = X4 → arg5.view.read (Elt F) f5 = X5 → arg7.view.read (Elt F) f7 = X7 →
      arg8.view.read (Elt F) f8 = X8 → arg9.view.read (Elt F) f9 = X9 → arg10.view.read (Elt F) f10 = X10 → R' (arg14.view.read (Elt F) (Spec.wstat c i arg6 arg14 f6 f14)) →
      Q (arg13.view.read (Elt F) (arg13.view.writes (Elt F) g (Spec.blockStack c i arg1 arg3 arg4 arg5 arg6 arg7 arg8 arg9 arg10 arg14 arg16 arg17 arg18 f1 f3 f4 f5 f6 f7 f8 f9 f10 f14 hids))))
    (hY : ∀ (f6 : Bf (F := F) c arg6) (f15 : Bf (F := F) c arg15), arg6.view.read (Elt F) f6 = X6 → Y (arg15.view.read (Elt F) f15) →
      Y' (arg15.view.read (Elt F) (Spec.scales c i arg6 arg15 f6 f15)))
    (hD : ∀ (f1 : Bf (F := F) c arg1) (f3 : Bf (F := F) c arg3) (f4 : Bf (F := F) c arg4) (f5 : Bf (F := F) c arg5) (f6 : Bf (F := F) c arg6) (f7 : Bf (F := F) c arg7)
      (f9 : Bf (F := F) c arg9) (f10 : Bf (F := F) c arg10) (f14 : Bf (F := F) c arg14) (f15 : Bf (F := F) c arg15) (hids : Ids c arg1 f1) (f11 : Bf (F := F) c arg11),
      arg1.view.read (Elt F) f1 = X1 → arg3.view.read (Elt F) f3 = X3 → arg4.view.read (Elt F) f4 = X4 → arg5.view.read (Elt F) f5 = X5 →
      arg7.view.read (Elt F) f7 = X7 → arg9.view.read (Elt F) f9 = X9 → arg10.view.read (Elt F) f10 = X10 →
      R' (arg14.view.read (Elt F) (Spec.wstat c i arg6 arg14 f6 f14)) → Y' (arg15.view.read (Elt F) (Spec.scales c i arg6 arg15 f6 f15)) →
      (Spec.straddle c arg1 f1 ≠ 1#1 → ∃ g, f11 = arg11.view.writes (Elt F) g
        (Spec.dxStack c i arg1 arg6 arg7 arg9 arg10 arg15 arg17 f1 f6 f7 f9 f10 f15 hids arg3 arg4 arg5 arg14 f3 f4 f5 f14 4 le_rfl)) →
      D (arg11.view.read (Elt F) f11)) :
    (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ (∃ X, owns (c : Thread nD τ) arg11 fullShare X) ∗ (∃ X, owns (c : Thread nD τ) arg12 fullShare X) ∗ (∃ X, owns (c : Thread nD τ) arg13 fullShare X) ∗ (∃ X, ⌜R X⌝ ∗ owns (c : Thread nD τ) arg14 fullShare X) ∗ (∃ X, ⌜Y X⌝ ∗ owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X)) : sProp 𝕄)
    ⊢ wp frame (wpE (defs₀ (F := F)) Variants.none c none) Set.univ (cc0_adaln_zero_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun _ => iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ (∃ X, ⌜D X⌝ ∗ owns (c : Thread nD τ) arg11 fullShare X) ∗ (∃ X, owns (c : Thread nD τ) arg12 fullShare X) ∗ (∃ X, ⌜Q X⌝ ∗ owns (c : Thread nD τ) arg13 fullShare X) ∗ (∃ X, ⌜R' X⌝ ∗ owns (c : Thread nD τ) arg14 fullShare X) ∗ (∃ X, ⌜Y' X⌝ ∗ owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X))) := by
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%X11, %f11, %h11, H11⟩, ⟨%X12, %f12, %h12, H12⟩, ⟨%X13, %f13, %h13, H13⟩, ⟨%X14, %hX14, %f14, %h14, H14⟩, ⟨%X15, %hX15, %f15, %h15, H15⟩, ⟨%X16, %f16, %h16, H16⟩, ⟨%X17, %f17, %h17, H17⟩, ⟨%X18, %f18, %h18, H18⟩, ⟨%X19, %f19, %h19, H19⟩⟩
  subst h1 h2 h3 h4 h5 h6 h7 h8 h9 h10 h14 h15
  have hw := hR f6 f14 rfl hX14
  have hy := hY f6 f15 rfl hX15
  have hi : Ids c arg1 f1 := fun L j => hids _
  iapply (body_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hi _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H1, H2, H3, H4, H5, H6, H7, H8, H9, H10, ⟨%f11', %e11, H11⟩, ⟨%f12, H12⟩, ⟨%f13', %e13, H13⟩, ⟨%f14', %e14, H14⟩, ⟨%f15', %e15, H15⟩, ⟨%f16, H16⟩, ⟨%f17, H17⟩, ⟨%f18, H18⟩, ⟨%f19, H19⟩⟩
  obtain ⟨g, rfl⟩ := e13
  subst e14 e15
  isplitl [H1]; · iexists f1; isplitr; (ipureintro; rfl); iexact H1
  isplitl [H2]; · iexists f2; isplitr; (ipureintro; rfl); iexact H2
  isplitl [H3]; · iexists f3; isplitr; (ipureintro; rfl); iexact H3
  isplitl [H4]; · iexists f4; isplitr; (ipureintro; rfl); iexact H4
  isplitl [H5]; · iexists f5; isplitr; (ipureintro; rfl); iexact H5
  isplitl [H6]; · iexists f6; isplitr; (ipureintro; rfl); iexact H6
  isplitl [H7]; · iexists f7; isplitr; (ipureintro; rfl); iexact H7
  isplitl [H8]; · iexists f8; isplitr; (ipureintro; rfl); iexact H8
  isplitl [H9]; · iexists f9; isplitr; (ipureintro; rfl); iexact H9
  isplitl [H10]; · iexists f10; isplitr; (ipureintro; rfl); iexact H10
  isplitl [H11]
  · iexists _; isplitr
    · ipureintro; exact hD f1 f3 f4 f5 f6 f7 f9 f10 f14 f15 hi f11' rfl rfl rfl rfl rfl rfl rfl hw hy e11
    · iexists _; isplitr; (ipureintro; rfl); iexact H11
  isplitl [H12]; · iexists _, f12; isplitr; (ipureintro; rfl); iexact H12
  isplitl [H13]
  · iexists _; isplitr
    · ipureintro; exact hQ f1 f3 f4 f5 f6 f7 f8 f9 f10 f14 hi g rfl rfl rfl rfl rfl rfl rfl hw
    · iexists _; isplitr; (ipureintro; rfl); iexact H13
  isplitl [H14]
  · iexists _; isplitr
    · ipureintro; exact hw
    · iexists _; isplitr; (ipureintro; rfl); iexact H14
  isplitl [H15]
  · iexists _; isplitr
    · ipureintro; exact hy
    · iexists _; isplitr; (ipureintro; rfl); iexact H15
  isplitl [H16]; · iexists _, f16; isplitr; (ipureintro; rfl); iexact H16
  isplitl [H17]; · iexists _, f17; isplitr; (ipureintro; rfl); iexact H17
  isplitl [H18]; · iexists _, f18; isplitr; (ipureintro; rfl); iexact H18
  iexists _, _; isplitr
  swap; · iexact H19
  ipureintro; rfl

variable (m : (ℓ : Loc nD τ sig) → Buf (Elt F) ℓ) (ρ : Dev nD → PrngReg)

/-- The output windows: what the body leaves in them is not followed. -/
def fgt (w : Fin cfg0.W) : Bool := decide (10 ≤ w.val)

/-- The proof data: every input's buffer holds its block after the body; the scratch buffers are the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- Every sample number the kernel is handed is an entry of the argument it is read from. -/
theorem ids_lt (c : Dev nD) (hm : ∀ i, (m ((c : Thread nD τ).loc main_arg7) i).toNat < 5) (t : Fin cfg0.N) (j) :
    (iblk m c 0 t j).toNat < 5 := by
  have hV : ∀ x, (V m c main_v2 x).toNat < 5 := by
    intro x
    have h : V m c main_v2 x = m ((c : Thread nD τ).loc main_arg7) (Shape.reshapeEquiv shapeCasts_S163840_S1280x128 x) := by
      dsimp only [V, hostOps0]
      simp only [StableHlo.after_cons, StableHlo.after_nil]
      rw [StableHlo.reshape_result_ne _ _ _ _ _ _ _ (by decide), StableHlo.reshape_result_ne _ _ _ _ _ _ _ (by decide), StableHlo.reshape_result_ne _ _ _ _ _ _ _ (by decide), StableHlo.reshape_result, StableHlo.unary_result_ne _ _ _ _ _ _ (by decide), StableHlo.unary_result_ne _ _ _ _ _ _ (by decide)]
      rfl
    rw [h]; exact hm _
  exact hV _

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ X, owns (c : Thread nD τ) (st0_10 t) fullShare X)
    ∗ (∃ X, owns (c : Thread nD τ) (st0_11 t) fullShare X)
    ∗ (∃ X, owns (c : Thread nD τ) (st0_12 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ X, owns (c : Thread nD τ) (st0_10 t) fullShare X)
    ∗ (∃ X, owns (c : Thread nD τ) (st0_11 t) fullShare X)
    ∗ (∃ X, owns (c : Thread nD τ) (st0_12 t) fullShare X))

/-- The body at any point. -/
theorem sound_body (c : Dev nD) (hm : ∀ i, (m ((c : Thread nD τ).loc main_arg7) i).toNat < 5) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6, after_7, after_8, after_9]
  unfold Pipeline.ΦA
  rw [scopedRest0_eq]
  iintro ⟨⟨⟨⟨%f0, S0⟩, ⟨%f1, S1⟩, ⟨%f2, S2⟩, ⟨%f3, S3⟩, ⟨%f4, S4⟩, ⟨%f5, S5⟩⟩, Hρ⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩, ⟨%d12, W12⟩⟩
  iapply (wp_wand_r Idealize.ShloMosaic.frame (wpE (defs₀ (F := F)) Variants.none (c : Thread nD τ) none) Set.univ)
  isplitl [S0 S1 S2 S3 S4 S5 W0 W1 W2 W3 W4 W5 W6 W7 W8 W9 W10 W11 W12]
  · iapply (body_owns c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (ids_lt m c hm t) (fun _ => True) (fun _ => True) (fun _ => True) (fun _ => True) (fun _ => True) (fun _ => True) (fun _ _ _ _ => trivial) (fun _ _ _ _ _ _ _ _ _ _ _ _ _ _ _ _ _ _ _ _ => trivial) (fun _ _ _ _ => trivial) (fun _ _ _ _ _ _ _ _ _ _ _ _ _ _ _ _ _ _ _ _ _ _ => trivial))
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexists d10; iexact W10
    isplitl [W11]; · iexists d11; iexact W11
    isplitl [W12]; · iexists d12; iexact W12
    isplitl [S0]; · iexists f0; isplitr; (ipureintro; trivial); iapply (owns_of_whole c _ _); iexact S0
    isplitl [S1]; · iexists f1; isplitr; (ipureintro; trivial); iapply (owns_of_whole c _ _); iexact S1
    isplitl [S2]; · iexists f2; iapply (owns_of_whole c _ _); iexact S2
    isplitl [S3]; · iexists f3; iapply (owns_of_whole c _ _); iexact S3
    isplitl [S4]; · iexists f4; iapply (owns_of_whole c _ _); iexact S4
    iexists f5; iapply (owns_of_whole c _ _); iexact S5
  · iintro %_ ⟨W0, W1, W2, W3, W4, W5, W6, W7, W8, W9, ⟨%d10, %_, W10⟩, ⟨%d11, W11⟩, ⟨%d12, %_, W12⟩, ⟨%f0, %_, S0⟩, ⟨%f1, %_, S1⟩, ⟨%f2, S2⟩, ⟨%f3, S3⟩, ⟨%f4, S4⟩, ⟨%f5, S5⟩⟩
    isplitl [Hρ S0 S1 S2 S3 S4 S5]
    · isplitr [Hρ]
      · isplitl [S0]; · iexists f0; iapply (whole_of_owns c _ _); iexact S0
        isplitl [S1]; · iexists f1; iapply (whole_of_owns c _ _); iexact S1
        isplitl [S2]; · iexists f2; iapply (whole_of_owns c _ _); iexact S2
        isplitl [S3]; · iexists f3; iapply (whole_of_owns c _ _); iexact S3
        isplitl [S4]; · iexists f4; iapply (whole_of_owns c _ _); iexact S4
        iexists f5; iapply (whole_of_owns c _ _); iexact S5
      · iexact Hρ
    isplitl [Ho]; · iexact Ho
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexists d10; iexact W10
    isplitl [W11]; · iexists d11; iexact W11
    iexists d12; iexact W12

theorem defs₀_row (t : Fin cfg0.N) :
    defs₀ (F := F) .tc cfg0.body (cfg0.bodyArgs t (cfg0.slots t)) = bodyAt0 t := by
  unfold defs₀; rw [Defs.onTc_tc]

theorem body_obligation (c : Dev nD) (hm : ∀ i, (m ((c : Thread nD τ).loc main_arg7) i).toNat < 5) :
    BodyObligation (dats (F := F) m 0 c) (defs₀ (F := F)) Variants.none () Set.univ fgt := fun t => by
  rw [bigSep_W0, bigSep_W0, defs₀_row]
  exact triple_restated (sound_body m c hm t) rfl .rfl fun _ => .rfl

set_option backward.isDefEq.respectTransparency.types false in
set_option maxHeartbeats 800000 in
/-- The launch, its post the relational one of the forgotten outputs. -/
theorem run_main (hm : ∀ (c : Dev nD) i, (m ((c : Thread nD τ).loc main_arg7) i).toNat < 5) :
    θ_run defs (onTc (τ := τ) (main (F := F))) (s₀ m ρ)
      (fun r => RDat.FramePost cfg0 (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := fun c => (body_obligation m c (hm c)).loose) (hq := fun _ _ _ => rfl)
    (howed := fun _ _ => rfl) (V := V m) (hmain := hmain m Variants.none) (hA := A_eq m) (hΦ := fun _ _ => rfl)

/-- THE FRAME. -/
theorem frame (hm : ∀ (c : Dev nD) i, (m ((c : Thread nD τ).loc main_arg7) i).toNat < 5) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (RDat.FramePost.arr_in h.1 c 7 rfl).trans ((A_eq m c 7).trans (V_main_arg2 m c)),
      (RDat.FramePost.arr_in h.1 c 8 rfl).trans ((A_eq m c 8).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      (RDat.FramePost.arr_in h.1 c 5 rfl).trans ((A_eq m c 5).trans (V_main_arg8 m c))⟩, h.2⟩) (run_main m ρ hm)

end Cert.Proof.KernelIdeal

end
-- ==== Proof.BlockVector.lean ====
/-
  The operations of a step's block sums, read at an index over the extended reals.
-/
module

public import proofs.«01_k».proof.Proof.BlockSpec
public import Idealize.ShloMosaic.Lib.Pointwise
public import Idealize.ShloMosaic.PureOps.Ideal

@[expose] public section

noncomputable section

namespace Cert.Proof.KernelIdeal.Spec

open Cert.KernelIdeal Cert.KernelIdeal.Gen
open Idealize.ShloMosaic
open scoped BigOperators

/-- Every entry is a real number. -/
def Real {S : Shape} (v : S.Idx → EReal) : Prop := ∀ j, ∃ r : ℝ, v j = (r : EReal)

theorem p1_eq {S : Shape} (v : FVec Ideal S .f32) : p1 v = v := rfl

theorem zero_eq : (zero : Ideal .f32) = (0 : EReal) := by
  show Ideal.ofBits .f32 0#32 = 0
  simp [Ideal.ofBits, Ideal.ieee]

/-- The second and the third piece of a real number are zero. -/
theorem p2_eq {S : Shape} {v : FVec Ideal S .f32} (h : Real v) : p2 v = broadcast S zero := by
  funext j
  obtain ⟨r, hr⟩ := h j
  show v j - v j = (zero : Ideal .f32)
  rw [hr, zero_eq, ← EReal.coe_sub, sub_self]; rfl
theorem p3_eq {S : Shape} {v : FVec Ideal S .f32} (h : Real v) : p3 v = broadcast S zero := by
  funext j
  obtain ⟨r, hr⟩ := h j
  show v j - v j - (v j - v j) = (zero : Ideal .f32)
  rw [hr, zero_eq, ← EReal.coe_sub, sub_self, EReal.coe_zero, sub_zero]

theorem lanes_lo (r0 r1 : FVec Ideal S1x128 .f32) (k : Fin 256) (hk : k.val < 128) :
    lanes r0 r1 (ix2 0 k) = r0 (ix2 0 ⟨k.val, hk⟩) := by
  pointwise [lanes]
  simp [hk]

theorem lanes_hi (r0 r1 : FVec Ideal S1x128 .f32) (k : Fin 256) (hk : ¬ k.val < 128) :
    lanes r0 r1 (ix2 0 k) = r1 (ix2 0 ⟨k.val - 128, by omega⟩) := by
  pointwise [lanes]
  simp [hk]

theorem slt_128 (k : Fin 256) : IntOp.cmpi .slt (BitVec.ofNat 32 k.val) 128#32 = if k.val < 128 then 1#1 else 0#1 := by
  revert k; decide
theorem sge_128 (k : Fin 256) : IntOp.cmpi .sge (BitVec.ofNat 32 k.val) 128#32 = if k.val < 128 then 0#1 else 1#1 := by
  revert k; decide

theorem lo_at (v : FVec Ideal S1x256 .f32) (k : Fin 256) : lo v (ix2 0 k) = if k.val < 128 then v (ix2 0 k) else 0 := by
  pointwise [lo]
  rw [slt_128]
  by_cases h : k.val < 128
  · rw [if_pos h, if_pos h]; rfl
  · rw [if_neg h, if_neg h]; exact zero_eq
theorem hi_at (v : FVec Ideal S1x256 .f32) (k : Fin 256) : hi v (ix2 0 k) = if k.val < 128 then 0 else v (ix2 0 k) := by
  pointwise [hi]
  rw [sge_128]
  by_cases h : k.val < 128
  · rw [if_pos h, if_pos h]; exact zero_eq
  · rw [if_neg h, if_neg h]; rfl

/-- A group's gate sums: each of eight rows, over the four that are eight apart. -/
theorem gateGroup_at (co : FVec Ideal S32x8 .f32) (dy : FVec Ideal S32x128 .fp8e5m2) (f : FVec Ideal S32x128 .bf16) (r : Fin 8) (l : Fin 128) :
    gateGroup co dy f (ix2 r l) = (co (ix2 ⟨r.val, by omega⟩ 0) * dy (ix2 ⟨r.val, by omega⟩ l) * f (ix2 ⟨r.val, by omega⟩ l)
      + co (ix2 ⟨8 + r.val, by omega⟩ 0) * dy (ix2 ⟨8 + r.val, by omega⟩ l) * f (ix2 ⟨8 + r.val, by omega⟩ l))
      + (co (ix2 ⟨16 + r.val, by omega⟩ 0) * dy (ix2 ⟨16 + r.val, by omega⟩ l) * f (ix2 ⟨16 + r.val, by omega⟩ l)
      + co (ix2 ⟨24 + r.val, by omega⟩ 0) * dy (ix2 ⟨24 + r.val, by omega⟩ l) * f (ix2 ⟨24 + r.val, by omega⟩ l)) := by
  pointwise [gateGroup]

theorem blockRows_0 (o : FVec Ideal S2x1152 .f32) (g : FVec Ideal S1x8x1152 .f32) (l : Fin 1152) :
    blockRows o g (ix3 0 0 l) = o (ix2 0 l) := by
  pointwise [blockRows]

theorem blockRows_1 (o : FVec Ideal S2x1152 .f32) (g : FVec Ideal S1x8x1152 .f32) (l : Fin 1152) :
    blockRows o g (ix3 0 1 l) = o (ix2 1 l) := by
  pointwise [blockRows]

theorem blockRows_2 (o : FVec Ideal S2x1152 .f32) (g : FVec Ideal S1x8x1152 .f32) (l : Fin 1152) :
    blockRows o g (ix3 0 2 l) = ∑ r : Fin 8, g (ix3 0 r l) := by
  pointwise [blockRows]

section Sums

variable {sdh u v : FVec Ideal S1x256 .f32} (hs : Real sdh) (h : FVec Ideal S256x1152 .fp8e5m2) (p : FVec Ideal S256x1152 .bf16) (l : Fin 1152)

include hs in
/-- The shift's column sums, of a chunk's first and second block. -/
theorem sums_0 : sums sdh u v h p (ix2 0 l) = ∑ x : Fin 128, sdh (ix2 0 ⟨x.val, by omega⟩) * h (ix2 ⟨x.val, by omega⟩ l) := by
  pointwise [sums, onH, onP, p2_eq hs, p3_eq hs, lo_at, hi_at]
  simp only [zero_eq, p1_eq, zero_mul, Finset.sum_const_zero, add_zero, zero_add]
include hs in
theorem sums_2 : sums sdh u v h p (ix2 2 l) = ∑ x : Fin 128, sdh (ix2 0 ⟨128 + x.val, by omega⟩) * h (ix2 ⟨128 + x.val, by omega⟩ l) := by
  pointwise [sums, onH, onP, p2_eq hs, p3_eq hs, lo_at, hi_at]
  simp only [zero_eq, p1_eq, zero_mul, Finset.sum_const_zero, add_zero, zero_add]

variable (hu : Real u) (hv : Real v)

include hu hv in
/-- The scale's column sums, of a chunk's first and second block. -/
theorem sums_1 : sums sdh u v h p (ix2 1 l) = ∑ x : Fin 128, v (ix2 0 ⟨x.val, by omega⟩) * h (ix2 ⟨x.val, by omega⟩ l)
    + ∑ x : Fin 128, u (ix2 0 ⟨x.val, by omega⟩) * p (ix2 ⟨x.val, by omega⟩ l) := by
  pointwise [sums, onH, onP, p2_eq hu, p3_eq hu, p2_eq hv, p3_eq hv, lo_at, hi_at]
  simp only [zero_eq, p1_eq, zero_mul, Finset.sum_const_zero, add_zero, zero_add]
include hu hv in
theorem sums_3 : sums sdh u v h p (ix2 3 l) = ∑ x : Fin 128, v (ix2 0 ⟨128 + x.val, by omega⟩) * h (ix2 ⟨128 + x.val, by omega⟩ l)
    + ∑ x : Fin 128, u (ix2 0 ⟨128 + x.val, by omega⟩) * p (ix2 ⟨128 + x.val, by omega⟩ l) := by
  pointwise [sums, onH, onP, p2_eq hu, p3_eq hu, p2_eq hv, p3_eq hv, lo_at, hi_at]
  simp only [zero_eq, p1_eq, zero_mul, Finset.sum_const_zero, add_zero, zero_add]

end Sums

/-- The first row of the weights' product, when that row is of ones: a row sum. -/
theorem dotK_row0 {e : FTy} (w : FVec Ideal S16x256 .bf16) (hw : ∀ k, w (ix2 0 k) = (1 : EReal)) (x : FVec Ideal S256x256 e) (j : Fin 256) :
    dotK w x (ix2 0 j) = ∑ k : Fin 256, x (ix2 j k) := by
  pointwise [dotK]
  simp only [hw, one_mul]
theorem dotK'_row0 {e : FTy} (w : FVec Ideal S16x128 .bf16) (hw : ∀ k, w (ix2 0 k) = (1 : EReal)) (x : FVec Ideal S256x128 e) (j : Fin 256) :
    dotK' w x (ix2 0 j) = ∑ k : Fin 128, x (ix2 j k) := by
  pointwise [dotK']
  simp only [hw, one_mul]

/-- The sum over a row, in the tiles that it is taken in. -/
theorem sum_tiles (f : Fin 1152 → EReal) :
    (((∑ k : Fin 256, f ⟨256 * 0 + k.val, by omega⟩) + ∑ k : Fin 256, f ⟨256 * 1 + k.val, by omega⟩) + ∑ k : Fin 256, f ⟨256 * 2 + k.val, by omega⟩)
      + (∑ k : Fin 256, f ⟨256 * 3 + k.val, by omega⟩) + ∑ k : Fin 128, f ⟨1024 + k.val, by omega⟩ = ∑ l, f l := by
  rw [Fin.sum_univ_two_halves 1024 128 rfl f, Fin.sum_univ_tiles 4 256 rfl, Fin.sum_univ_four]
  simp only [Nat.mul_comm 256]
  rfl

/-- A group of thirty-two rows, eight at a time. -/
theorem sum_group (f : ℕ → EReal) (q : ℕ) :
    ∑ r : Fin 8, ((f (32 * q + r.val) + f (32 * q + (8 + r.val))) + (f (32 * q + (16 + r.val)) + f (32 * q + (24 + r.val)))) = ∑ r : Fin 32, f (q * 32 + r.val) := by
  rw [Fin.sum_univ_tiles 4 8 rfl (fun r : Fin 32 => f (q * 32 + r.val)), Fin.sum_univ_four]
  simp only [Finset.sum_add_distrib, add_assoc, Nat.mul_comm q 32]
  simp

/-- The sum over a block's rows, in the order the gate's is taken in. -/
theorem sum_gate (f : ℕ → EReal) :
    ∑ r : Fin 8, ((((f (32 * 0 + r.val) + f (32 * 0 + (8 + r.val))) + (f (32 * 0 + (16 + r.val)) + f (32 * 0 + (24 + r.val))))
      + ((f (32 * 1 + r.val) + f (32 * 1 + (8 + r.val))) + (f (32 * 1 + (16 + r.val)) + f (32 * 1 + (24 + r.val)))))
      + ((f (32 * 2 + r.val) + f (32 * 2 + (8 + r.val))) + (f (32 * 2 + (16 + r.val)) + f (32 * 2 + (24 + r.val))))
      + ((f (32 * 3 + r.val) + f (32 * 3 + (8 + r.val))) + (f (32 * 3 + (16 + r.val)) + f (32 * 3 + (24 + r.val))))) = ∑ r : Fin 128, f r.val := by
  rw [Fin.sum_univ_tiles 4 32 rfl (fun r : Fin 128 => f r.val), Fin.sum_univ_four, Finset.sum_add_distrib, Finset.sum_add_distrib,
    Finset.sum_add_distrib (f := fun r : Fin 8 => (f (32 * 0 + r.val) + _) + _), sum_group, sum_group, sum_group, sum_group]
  rfl

end Cert.Proof.KernelIdeal.Spec

end
-- ==== Proof.BlockStep.lean ====
/-
  A step's stores into its block-sum window, read at an index over the extended reals: what the scratch buffers hold of
  each chunk, and what a block's three rows then are in terms of the step's windows.
-/
module

public import proofs.«01_k».proof.Proof.BlockVector
public import Idealize.ShloMosaic.Lib.WritesUnit

@[expose] public section

noncomputable section

namespace Cert.Proof.KernelIdeal.Spec

open Cert.KernelIdeal Cert.KernelIdeal.Gen
open Idealize.ShloMosaic
open scoped BigOperators

local notation "EI" => Elt Ideal

/-! ## Loads and stores of unit-stride rectangles, by coordinates -/

section Coordinates

variable {κ : Kind} {sp : Space} {e : EltTy}

theorem readAt2 {n0 n1 m0 m1 o0 o1 : ℕ} (v : View sig κ sp ⟨2, ![n0, n1]⟩ e) (f : v.ty.Contents EI)
    (h : ∀ a, (![o0, o1] : Fin 2 → ℕ) a + (![m0, m1] : Fin 2 → ℕ) a ≤ (![n0, n1] : Fin 2 → ℕ) a) (a : Fin m0) (b : Fin m1) :
    v.readAt EI (Rect.unit (s := ⟨2, ![n0, n1]⟩) ![o0, o1] ![m0, m1] h).toLoadRect f (ix2 a b)
      = v.read EI f (ix2 ⟨o0 + a.val, lt_of_lt_of_le (Nat.add_lt_add_left a.isLt _) (h 0)⟩ ⟨o1 + b.val, lt_of_lt_of_le (Nat.add_lt_add_left b.isLt _) (h 1)⟩) := by
  refine congrArg (v.read EI f) (funext fun x => Fin.ext ?_)
  fin_cases x
  · show o0 + 1 * a.val = o0 + a.val; omega
  · show o1 + 1 * b.val = o1 + b.val; omega

theorem readAt3 {n0 n1 n2 m0 m1 m2 o0 o1 o2 : ℕ} (v : View sig κ sp ⟨3, ![n0, n1, n2]⟩ e) (f : v.ty.Contents EI)
    (h : ∀ a, (![o0, o1, o2] : Fin 3 → ℕ) a + (![m0, m1, m2] : Fin 3 → ℕ) a ≤ (![n0, n1, n2] : Fin 3 → ℕ) a) (a : Fin m0) (b : Fin m1) (d : Fin m2) :
    v.readAt EI (Rect.unit (s := ⟨3, ![n0, n1, n2]⟩) ![o0, o1, o2] ![m0, m1, m2] h).toLoadRect f (ix3 a b d)
      = v.read EI f (ix3 ⟨o0 + a.val, lt_of_lt_of_le (Nat.add_lt_add_left a.isLt _) (h 0)⟩ ⟨o1 + b.val, lt_of_lt_of_le (Nat.add_lt_add_left b.isLt _) (h 1)⟩
        ⟨o2 + d.val, lt_of_lt_of_le (Nat.add_lt_add_left d.isLt _) (h 2)⟩) := by
  refine congrArg (v.read EI f) (funext fun x => Fin.ext ?_)
  fin_cases x
  · show o0 + 1 * a.val = o0 + a.val; omega
  · show o1 + 1 * b.val = o1 + b.val; omega
  · show o2 + 1 * d.val = o2 + d.val; omega

/-- A store in front: what is read is its payload inside its box, and what was there before outside. -/
theorem store3 {n0 n1 n2 m0 m1 m2 o0 o1 o2 : ℕ} (v : View sig κ sp ⟨3, ![n0, n1, n2]⟩ e) (f : v.ty.Contents EI)
    (h : ∀ a, (![o0, o1, o2] : Fin 3 → ℕ) a + (![m0, m1, m2] : Fin 3 → ℕ) a ≤ (![n0, n1, n2] : Fin 3 → ℕ) a)
    (w : (⟨3, ![m0, m1, m2]⟩ : Shape).Idx → EI e) (L : List (View.Piece EI ⟨3, ![n0, n1, n2]⟩ e)) (a : Fin n0) (b : Fin n1) (d : Fin n2) (G : EI e)
    (hin : ∀ (h0 : a.val - o0 < m0) (h1 : b.val - o1 < m1) (h2 : d.val - o2 < m2), o0 ≤ a.val → o1 ≤ b.val → o2 ≤ d.val →
      w (ix3 ⟨a.val - o0, h0⟩ ⟨b.val - o1, h1⟩ ⟨d.val - o2, h2⟩) = G)
    (hout : (a.val < o0 ∨ o0 + m0 ≤ a.val) ∨ (b.val < o1 ∨ o1 + m1 ≤ b.val) ∨ (d.val < o2 ∨ o2 + m2 ≤ d.val) →
      v.read EI (v.writes EI f L) (ix3 a b d) = G) :
    v.read EI (v.writes EI f (⟨Rect.unit (s := ⟨3, ![n0, n1, n2]⟩) ![o0, o1, o2] ![m0, m1, m2] h, w⟩ :: L)) (ix3 a b d) = G := by
  by_cases c0 : a.val < o0 ∨ o0 + m0 ≤ a.val
  · rw [View.read_writes_cons_unit_of_not_mem v f h w L (ix3 a b d) rfl 0 c0]; exact hout (.inl c0)
  by_cases c1 : b.val < o1 ∨ o1 + m1 ≤ b.val
  · rw [View.read_writes_cons_unit_of_not_mem v f h w L (ix3 a b d) rfl 1 c1]; exact hout (.inr (.inl c1))
  by_cases c2 : d.val < o2 ∨ o2 + m2 ≤ d.val
  · rw [View.read_writes_cons_unit_of_not_mem v f h w L (ix3 a b d) rfl 2 c2]; exact hout (.inr (.inr c2))
  have h0 : a.val - o0 < m0 := by omega
  have h1 : b.val - o1 < m1 := by omega
  have h2 : d.val - o2 < m2 := by omega
  rw [View.read_writes_cons_unit_of_mem v f h w L (ix3 a b d) (ix3 ⟨a.val - o0, h0⟩ ⟨b.val - o1, h1⟩ ⟨d.val - o2, h2⟩) rfl ?_]
  · exact hin h0 h1 h2 (by omega) (by omega) (by omega)
  · intro x; fin_cases x
    · show a.val = o0 + (a.val - o0); omega
    · show b.val = o1 + (b.val - o1); omega
    · show d.val = o2 + (d.val - o2); omega

end Coordinates

/-! ## What a block's rows are -/

/-- A term of the gate's sum: row `k` of a block, zero beyond its 128 rows. -/
def gateTerm (S4 : FVec Ideal S8x128 .f32) (X8 : FVec Ideal S1024x1152 .bf16) (X9 : FVec Ideal S1024x1152 .fp8e5m2) (b : Fin 8) (l : Fin 1152) (k : ℕ) : EReal :=
  if h : k < 128 then S4 (ix2 b ⟨k, h⟩) * X9 (ix2 ⟨128 * b.val + k, by omega⟩ l) * X8 (ix2 ⟨128 * b.val + k, by omega⟩ l) else 0

/-- What a block's eight rows of gate sums hold. -/
def gateRow (g : ℕ → EReal) (r : ℕ) : EReal :=
  (((g (32 * 0 + r) + g (32 * 0 + (8 + r))) + (g (32 * 0 + (16 + r)) + g (32 * 0 + (24 + r))))
      + ((g (32 * 1 + r) + g (32 * 1 + (8 + r))) + (g (32 * 1 + (16 + r)) + g (32 * 1 + (24 + r)))))
      + ((g (32 * 2 + r) + g (32 * 2 + (8 + r))) + (g (32 * 2 + (16 + r)) + g (32 * 2 + (24 + r))))
      + ((g (32 * 3 + r) + g (32 * 3 + (8 + r))) + (g (32 * 3 + (16 + r)) + g (32 * 3 + (24 + r))))

/-! ## A step -/

section Step

variable {c : Dev nD} {i : grid0.Coords}
  {arg1 : Memref sig .tc .smem S8x128 .i32}
  {arg3 arg4 arg5 : Memref sig .tc .vmem S8x128 .f32}
  {arg6 : Memref sig .tc .vmem S5x1152 .f32}
  {arg7 : Memref sig .tc .vmem S1024x1152 .fp8e4m3}
  {arg8 : Memref sig .tc .vmem S1024x1152 .bf16}
  {arg9 arg10 : Memref sig .tc .vmem S1024x1152 .fp8e5m2}
  {arg14 : Memref sig .tc .vmem S5x16x1152 .bf16}
  {arg16 : Memref sig .tc .vmem S2x256x1152 .bf16}
  {arg17 : Memref sig .tc .vmem S256x8 .f32}
  {arg18 : Memref sig .tc .vmem S2x8x1152 .f32}
  {f1 : Bf (F := Ideal) c arg1} {f3 : Bf (F := Ideal) c arg3} {f4 : Bf (F := Ideal) c arg4} {f5 : Bf (F := Ideal) c arg5} {f6 : Bf (F := Ideal) c arg6}
  {f7 : Bf (F := Ideal) c arg7} {f8 : Bf (F := Ideal) c arg8} {f9 : Bf (F := Ideal) c arg9} {f10 : Bf (F := Ideal) c arg10} {f14 : Bf (F := Ideal) c arg14}
  {hids : Ids c arg1 f1} {n : ℕ} (hn : n < 4)

theorem lane_lo (M : Memref sig .tc .vmem S8x128 .f32) (f : Bf (F := Ideal) c M) (x : Fin 128) :
    lane c M f hn (ix2 0 ⟨x.val, by omega⟩) = M.view.read EI f (ix2 ⟨2 * n, by omega⟩ x) := by
  unfold lane
  rw [lanes_lo _ _ _ x.isLt]
  refine (readAt2 M.view f _ _ _).trans (congrArg (M.view.read EI f) ?_)
  congr 1; exact Fin.ext (Nat.zero_add _)
theorem lane_hi (M : Memref sig .tc .vmem S8x128 .f32) (f : Bf (F := Ideal) c M) (x : Fin 128) :
    lane c M f hn (ix2 0 ⟨128 + x.val, by omega⟩) = M.view.read EI f (ix2 ⟨2 * n + 1, by omega⟩ x) := by
  unfold lane
  rw [lanes_hi _ _ _ (by simp)]
  refine (readAt2 M.view f _ _ _).trans (congrArg (M.view.read EI f) ?_)
  congr 1; exact Fin.ext (by simp)

theorem lane_at (M : Memref sig .tc .vmem S8x128 .f32) (f : Bf (F := Ideal) c M) {b : ℕ} (hb : b < 2) (x : Fin 128) :
    lane c M f hn (ix2 0 ⟨128 * b + x.val, by omega⟩) = M.view.read EI f (ix2 ⟨2 * n + b, by omega⟩ x) := by
  obtain rfl | rfl : b = 0 ∨ b = 1 := by omega
  · refine Eq.trans ?_ (lane_lo hn M f x); congr 2; exact Fin.ext (Nat.zero_add _)
  · exact lane_hi hn M f x

theorem cols_at {e : EltTy} (M : Memref sig .tc .vmem S1024x1152 e) (f : Bf (F := Ideal) c M) {k : ℕ} (hk : k < 4) (a b : Fin 256) :
    cols c hn M f hk (ix2 a b) = M.view.read EI f (ix2 ⟨256 * n + a.val, by omega⟩ ⟨256 * k + b.val, by omega⟩) := by
  refine (congrFun (shapeCast_self _ _) (ix2 a b)).trans ?_
  exact readAt2 M.view f _ _ _
theorem cols'_at {e : EltTy} (M : Memref sig .tc .vmem S1024x1152 e) (f : Bf (F := Ideal) c M) (a : Fin 256) (b : Fin 128) :
    cols' c hn M f (ix2 a b) = M.view.read EI f (ix2 ⟨256 * n + a.val, by omega⟩ ⟨1024 + b.val, by omega⟩) := by
  refine (congrFun (shapeCast_self _ _) (ix2 a b)).trans ?_
  exact readAt2 M.view f _ _ _

/-! ### The products -/

/-- The product `x·h` of a row and column of the step. -/
def P (c : Dev nD) (arg7 : Memref sig .tc .vmem S1024x1152 .fp8e4m3) (arg10 : Memref sig .tc .vmem S1024x1152 .fp8e5m2) (f7 : Bf (F := Ideal) c arg7) (f10 : Bf (F := Ideal) c arg10)
    (r : Fin 1024) (l : Fin 1152) : EReal := arg7.view.read EI f7 (ix2 r l) * arg10.view.read EI f10 (ix2 r l)

theorem P_col {r : Fin 1024} {l l' : Fin 1152} (h : l.val = l'.val) : P c arg7 arg10 f7 f10 r l = P c arg7 arg10 f7 f10 r l' := by rw [Fin.ext h]

theorem prodPieces_at (f : arg16.view.ty.Contents EI) (L : List (View.Piece EI S2x256x1152 .bf16)) (s : Fin 2) (k : Fin 256) (l : Fin 1152) :
    arg16.view.read EI (arg16.view.writes EI f (prodPieces c arg7 arg10 f7 f10 hn L)) (ix3 s k l)
      = if s.val = n % 2 then P c arg7 arg10 f7 f10 ⟨256 * n + k.val, by omega⟩ l else arg16.view.read EI (arg16.view.writes EI f L) (ix3 s k l) := by
  have key {t : ℕ} (ht : t < 4) (h0 : s.val - n % 2 < 1) (h1 : k.val - 0 < 256) (h2 : l.val - 256 * t < 256) (e0 : n % 2 ≤ s.val) (e2 : 256 * t ≤ l.val) :
      shapeCast S1x256x256 (pb c arg7 arg10 f7 f10 hn ht) shapeCasts_S256x256_S1x256x256 (ix3 ⟨s.val - n % 2, h0⟩ ⟨k.val - 0, h1⟩ ⟨l.val - 256 * t, h2⟩)
        = if s.val = n % 2 then P c arg7 arg10 f7 f10 ⟨256 * n + k.val, by omega⟩ l else arg16.view.read EI (arg16.view.writes EI f L) (ix3 s k l) := by
    rw [if_pos (by omega)]
    pointwise [pb, xb, cols_at]
    exact P_col (Nat.add_sub_cancel' e2)
  refine store3 arg16.view f _ _ _ s k l _ ?_ fun h4 => store3 arg16.view f _ _ _ s k l _ (fun a0 a1 a2 b0 _ b2 => key (by decide) a0 a1 a2 b0 b2) fun h3 =>
    store3 arg16.view f _ _ _ s k l _ (fun a0 a1 a2 b0 _ b2 => key (by decide) a0 a1 a2 b0 b2) fun h2 => store3 arg16.view f _ _ _ s k l _ (fun a0 a1 a2 b0 _ b2 => key (by decide) a0 a1 a2 b0 b2) fun h1 =>
    store3 arg16.view f _ _ _ s k l _ (fun a0 a1 a2 b0 _ b2 => key (by decide) a0 a1 a2 b0 b2) fun h0 => ?_
  · intro a0 a1 a2 b0 b1 b2
    rw [if_pos (by omega)]
    pointwise [pb', xb', cols'_at]
    exact P_col (Nat.add_sub_cancel' b2)
  · rw [if_neg]; omega

/-- A chunk's products are read back as they were stored, also once the next chunk's are there. -/
theorem prodStack_self (f : arg16.view.ty.Contents EI) (k : Fin 256) (l : Fin 1152) :
    arg16.view.read EI (arg16.view.writes EI f (prodStack c arg7 arg10 f7 f10 n hn)) (ix3 ⟨n % 2, slot_lt n⟩ k l) = P c arg7 arg10 f7 f10 ⟨256 * n + k.val, by omega⟩ l := by
  cases n <;> exact (prodPieces_at _ f _ _ k l).trans (if_pos rfl)
theorem prodStack_next (hn1 : n + 1 < 4) (f : arg16.view.ty.Contents EI) (k : Fin 256) (l : Fin 1152) :
    arg16.view.read EI (arg16.view.writes EI f (prodStack c arg7 arg10 f7 f10 (n + 1) hn1)) (ix3 ⟨n % 2, slot_lt n⟩ k l) = P c arg7 arg10 f7 f10 ⟨256 * n + k.val, by omega⟩ l :=
  (prodPieces_at hn1 f _ _ k l).trans ((if_neg (by show ¬ n % 2 = (n + 1) % 2; omega)).trans (prodStack_self hn f k l))

/-! ### The gate -/

theorem coefStack_at (f : arg17.view.ty.Contents EI) (a : Fin 256) :
    arg17.view.read EI (arg17.view.writes EI f (coefStack c i arg1 arg3 arg4 arg5 arg6 arg7 arg10 arg14 f1 f3 f4 f5 f6 f7 f10 f14 hids n hn)) (ix2 a 0)
      = lane c arg4 f4 hn (ix2 0 a) := by
  have key (L) : arg17.view.read EI (arg17.view.writes EI f (⟨Rect.unit (s := S256x8) ![0, 0] S256x8.size inb_S256x8_S256x8_0_0,
      coefMat c i arg1 arg3 arg4 arg5 arg6 arg7 arg10 arg14 f1 f3 f4 f5 f6 f7 f10 f14 hids hn⟩ :: L)) (ix2 a 0) = lane c arg4 f4 hn (ix2 0 a) := by
    refine (View.read_writes_cons_unit_of_mem (off' := ![0, 0]) arg17.view f inb_S256x8_S256x8_0_0 _ L (ix2 a 0) (ix2 a (0 : Fin 8)) rfl
      (fun x => by fin_cases x <;> exact (Nat.zero_add _).symm)).trans ?_
    pointwise [coefMat, coefs, k0_pay1747]
  cases n <;> exact key _

theorem tile_sum (g0 g1 g2 g3 : FVec Ideal S8x128 .f32) (r : Fin 8) (x : Fin 128) :
    shapeCast S1x8x128 (addf (addf (addf g0 g1) g2) g3) shapeCasts_S8x128_S1x8x128 (ix3 0 r x) = g0 (ix2 r x) + g1 (ix2 r x) + g2 (ix2 r x) + g3 (ix2 r x) := by
  pointwise

theorem gateTile_at {b t : ℕ} (hb : b < 2) (ht : t < 9) (r : Fin 8) (x : Fin 128) (l : Fin 1152) (hl : l.val = 128 * t + x.val) :
    gateTile c i arg1 arg3 arg4 arg5 arg6 arg7 arg8 arg9 arg10 arg14 arg17 f1 f3 f4 f5 f6 f7 f8 f9 f10 f14 hids hn hb ht (ix3 0 r x)
      = gateRow (gateTerm (arg4.view.read EI f4) (arg8.view.read EI f8) (arg9.view.read EI f9) ⟨2 * n + b, by omega⟩ l) r.val := by
  have elt {k : ℕ} (hk : k < 4) (a : Fin 32) :
      (arg17.view.readCov (coefStack c i arg1 arg3 arg4 arg5 arg6 arg7 arg10 arg14 f1 f3 f4 f5 f6 f7 f10 f14 hids n hn)
          (Rect.unit (s := S256x8) ![32 * (4 * b + k), 0] S32x8.size (inbCo (by omega))).toLoadRect : FVec Ideal S32x8 .f32) (ix2 a 0)
        * (View.readAt EI arg9.view (Rect.unit (s := S1024x1152) ![32 * (8 * n + (4 * b + k)), 128 * t] S32x128.size (inbG (by omega) ht)).toLoadRect f9 : FVec Ideal S32x128 .fp8e5m2) (ix2 a x)
        * (View.readAt EI arg8.view (Rect.unit (s := S1024x1152) ![32 * (8 * n + (4 * b + k)), 128 * t] S32x128.size (inbG (by omega) ht)).toLoadRect f8 : FVec Ideal S32x128 .bf16) (ix2 a x)
      = gateTerm (arg4.view.read EI f4) (arg8.view.read EI f8) (arg9.view.read EI f9) ⟨2 * n + b, by omega⟩ l (32 * k + a.val) := by
    have h32 : 32 * k + a.val < 128 := by omega
    have e1 : (arg17.view.readCov (coefStack c i arg1 arg3 arg4 arg5 arg6 arg7 arg10 arg14 f1 f3 f4 f5 f6 f7 f10 f14 hids n hn)
          (Rect.unit (s := S256x8) ![32 * (4 * b + k), 0] S32x8.size (inbCo (by omega))).toLoadRect : FVec Ideal S32x8 .f32) (ix2 a 0)
        = arg4.view.read EI f4 (ix2 ⟨2 * n + b, by omega⟩ ⟨32 * k + a.val, h32⟩) := by
      refine (readAt2 arg17.view _ _ a 0).trans ((coefStack_at hn _ ⟨32 * (4 * b + k) + a.val, by omega⟩).trans ?_)
      rw [← lane_at hn arg4 f4 hb ⟨32 * k + a.val, h32⟩]
      congr 2; exact Fin.ext (by show 32 * (4 * b + k) + a.val = 128 * b + (32 * k + a.val); omega)
    have e2 {e : EltTy} (M : Memref sig .tc .vmem S1024x1152 e) (f : Bf (F := Ideal) c M) :
        (View.readAt EI M.view (Rect.unit (s := S1024x1152) ![32 * (8 * n + (4 * b + k)), 128 * t] S32x128.size (inbG (by omega) ht)).toLoadRect f : Vec Ideal S32x128 e) (ix2 a x)
        = M.view.read EI f (ix2 ⟨128 * (2 * n + b) + (32 * k + a.val), by omega⟩ l) := by
      refine (readAt2 M.view f _ a x).trans (congrArg (M.view.read EI f) ?_)
      congr 1
      · exact Fin.ext (by show 32 * (8 * n + (4 * b + k)) + a.val = 128 * (2 * n + b) + (32 * k + a.val); omega)
      · exact Fin.ext hl.symm
    rw [gateTerm, dif_pos h32, e1, e2, e2]
  have grp {k : ℕ} (hk : k < 4) := (gateGroup_at _ _ _ r x).trans (congrArg₂ (fun p q : EReal => p + q) (congrArg₂ (fun p q : EReal => p + q) (elt hk ⟨r.val, by omega⟩) (elt hk ⟨8 + r.val, by omega⟩))
    (congrArg₂ (fun p q : EReal => p + q) (elt hk ⟨16 + r.val, by omega⟩) (elt hk ⟨24 + r.val, by omega⟩)))
  unfold gateTile
  refine (tile_sum _ _ _ _ r x).trans ?_
  beta_reduce
  rw [grp (k := 0) (by decide), grp (k := 1) (by decide), grp (k := 2) (by decide), grp (k := 3) (by decide)]
  rfl

theorem gatePieces_at {b : ℕ} (hb : b < 2) (f : arg18.view.ty.Contents EI) (L : List (View.Piece EI S2x8x1152 .f32)) (s : Fin 2) (r : Fin 8) (l : Fin 1152) :
    arg18.view.read EI (arg18.view.writes EI f (gatePieces c i arg1 arg3 arg4 arg5 arg6 arg7 arg8 arg9 arg10 arg14 arg17 f1 f3 f4 f5 f6 f7 f8 f9 f10 f14 hids hn hb L)) (ix3 s r l)
      = if s.val = b then gateRow (gateTerm (arg4.view.read EI f4) (arg8.view.read EI f8) (arg9.view.read EI f9) ⟨2 * n + b, by omega⟩ l) r.val
        else arg18.view.read EI (arg18.view.writes EI f L) (ix3 s r l) := by
  have key {t : ℕ} (ht : t < 9) (h0 : s.val - b < 1) (h1 : r.val - 0 < 8) (h2 : l.val - 128 * t < 128) (e0 : b ≤ s.val) (_ : 0 ≤ r.val) (e2 : 128 * t ≤ l.val) :
      gateTile c i arg1 arg3 arg4 arg5 arg6 arg7 arg8 arg9 arg10 arg14 arg17 f1 f3 f4 f5 f6 f7 f8 f9 f10 f14 hids hn hb ht (ix3 ⟨s.val - b, h0⟩ ⟨r.val - 0, h1⟩ ⟨l.val - 128 * t, h2⟩)
        = if s.val = b then gateRow (gateTerm (arg4.view.read EI f4) (arg8.view.read EI f8) (arg9.view.read EI f9) ⟨2 * n + b, by omega⟩ l) r.val
          else arg18.view.read EI (arg18.view.writes EI f L) (ix3 s r l) := by
    rw [if_pos (by omega), show (⟨s.val - b, h0⟩ : Fin 1) = 0 from Subsingleton.elim _ _]
    exact gateTile_at hn hb ht ⟨r.val - 0, h1⟩ ⟨l.val - 128 * t, h2⟩ l (by show l.val = 128 * t + (l.val - 128 * t); omega)
  refine store3 arg18.view f _ _ _ s r l _ (key (by decide)) fun h8 => store3 arg18.view f _ _ _ s r l _ (key (by decide)) fun h7 =>
    store3 arg18.view f _ _ _ s r l _ (key (by decide)) fun h6 => store3 arg18.view f _ _ _ s r l _ (key (by decide)) fun h5 =>
    store3 arg18.view f _ _ _ s r l _ (key (by decide)) fun h4 => store3 arg18.view f _ _ _ s r l _ (key (by decide)) fun h3 =>
    store3 arg18.view f _ _ _ s r l _ (key (by decide)) fun h2 => store3 arg18.view f _ _ _ s r l _ (key (by decide)) fun h1 =>
    store3 arg18.view f _ _ _ s r l _ (key (by decide)) fun h0 => ?_
  rw [if_neg]; omega

theorem gateStack_at (f : arg18.view.ty.Contents EI) {b : ℕ} (hb : b < 2) (r : Fin 8) (l : Fin 1152) :
    arg18.view.read EI (arg18.view.writes EI f (gateStack c i arg1 arg3 arg4 arg5 arg6 arg7 arg8 arg9 arg10 arg14 arg17 f1 f3 f4 f5 f6 f7 f8 f9 f10 f14 hids n hn)) (ix3 ⟨b, hb⟩ r l)
      = gateRow (gateTerm (arg4.view.read EI f4) (arg8.view.read EI f8) (arg9.view.read EI f9) ⟨2 * n + b, by omega⟩ l) r.val := by
  obtain rfl | rfl : b = 0 ∨ b = 1 := by omega
  · cases n <;> exact (gatePieces_at _ _ f _ _ r l).trans ((if_neg Nat.zero_ne_one).trans ((gatePieces_at _ _ f _ _ r l).trans (if_pos rfl)))
  · cases n <;> exact (gatePieces_at _ _ f _ _ r l).trans (if_pos rfl)

/-! ### The row statistics -/

/-- The first row of every sample's weights is of ones. -/
def Ones (c : Dev nD) (arg14 : Memref sig .tc .vmem S5x16x1152 .bf16) (f : Bf (F := Ideal) c arg14) : Prop :=
  ∀ (s : Fin 5) (l : Fin 1152), arg14.view.read EI f (ix3 s 0 l) = (1 : EReal)

variable (hw : Ones c arg14 (wstat c i arg6 arg14 f6 f14))

theorem cast_row0 (w : FVec Ideal S1x16x256 .bf16) (a : Fin 256) : shapeCast S16x256 w shapeCasts_S1x16x256_S16x256 (ix2 0 a) = w (ix3 0 0 a) := by
  pointwise
theorem cast_row0' (w : FVec Ideal S1x16x128 .bf16) (a : Fin 128) : shapeCast S16x128 w shapeCasts_S1x16x128_S16x128 (ix2 0 a) = w (ix3 0 0 a) := by
  pointwise

include hw in
theorem wk_row0 {k : ℕ} (hk : k < 4) (a : Fin 256) : wk c i arg1 arg6 arg14 f1 f6 f14 hids hn hk (ix2 0 a) = (1 : EReal) := by
  refine (cast_row0 _ a).trans ?_
  exact (readAt3 arg14.view _ _ _ _ _).trans (hw ⟨_, by have := hids (Rect.unit (s := S8x128) ![2 * n, 0] S1x1.size (inbId (Nat.lt_of_succ_lt (lt4 hn)))).toLoadRect (Shape.Idx.first (Nat.le_of_eq numel1_S1x1.symm)); exact this⟩ _)
include hw in
theorem wk'_row0 (a : Fin 128) : wk' c i arg1 arg6 arg14 f1 f6 f14 hids hn (ix2 0 a) = (1 : EReal) := by
  refine (cast_row0' _ a).trans ?_
  exact (readAt3 arg14.view _ _ _ _ _).trans (hw ⟨_, by have := hids (Rect.unit (s := S8x128) ![2 * n, 0] S1x1.size (inbId (Nat.lt_of_succ_lt (lt4 hn)))).toLoadRect (Shape.Idx.first (Nat.le_of_eq numel1_S1x1.symm)); exact this⟩ _)

include hw in
theorem prods_row0 {e : FTy} (x : {k : ℕ} → k < 4 → FVec Ideal S256x256 e) (x' : FVec Ideal S256x128 e) (a : Fin 256) (f : Fin 1152 → EReal)
    (hx : ∀ {k : ℕ} (hk : k < 4) (b : Fin 256), x hk (ix2 a b) = f ⟨256 * k + b.val, by omega⟩) (hx' : ∀ b : Fin 128, x' (ix2 a b) = f ⟨1024 + b.val, by omega⟩) :
    row0 (prods c i arg1 arg6 arg14 f1 f6 f14 hids hn x x') (ix2 0 a) = ∑ l, f l := by
  pointwise [row0, prods]
  rw [dotK_row0 _ (wk_row0 hn hw _), dotK_row0 _ (wk_row0 hn hw _), dotK_row0 _ (wk_row0 hn hw _), dotK_row0 _ (wk_row0 hn hw _), dotK'_row0 _ (wk'_row0 hn hw), ← sum_tiles]
  simp only [hx, hx']

include hw in
theorem s_x_at (a : Fin 256) : s_x c i arg1 arg6 arg7 arg14 f1 f6 f7 f14 hids hn (ix2 0 a) = ∑ l, arg7.view.read EI f7 (ix2 ⟨256 * n + a.val, by omega⟩ l) :=
  prods_row0 hn hw _ _ a (fun l => arg7.view.read EI f7 (ix2 ⟨256 * n + a.val, by omega⟩ l)) (fun hk b => cols_at hn arg7 f7 hk a b) (fun b => cols'_at hn arg7 f7 a b)
include hw in
theorem s_q_at (a : Fin 256) : s_q c i arg1 arg6 arg7 arg14 f1 f6 f7 f14 hids hn (ix2 0 a)
    = ∑ l, arg7.view.read EI f7 (ix2 ⟨256 * n + a.val, by omega⟩ l) * arg7.view.read EI f7 (ix2 ⟨256 * n + a.val, by omega⟩ l) :=
  prods_row0 hn hw _ _ a (fun l => arg7.view.read EI f7 (ix2 ⟨256 * n + a.val, by omega⟩ l) * arg7.view.read EI f7 (ix2 ⟨256 * n + a.val, by omega⟩ l))
    (fun hk b => congrArg₂ (fun p q : EReal => p * q) (cols_at hn arg7 f7 hk a b) (cols_at hn arg7 f7 hk a b))
    (fun b => congrArg₂ (fun p q : EReal => p * q) (cols'_at hn arg7 f7 a b) (cols'_at hn arg7 f7 a b))

end Step

end Cert.Proof.KernelIdeal.Spec

end
-- ==== Proof.BlockRows.lean ====
/-
  A block's three rows as the step stores them, in closed form over the extended reals: the shift's and the scale's column
  sums and the gate's.
-/
module

public import proofs.«01_k».proof.Proof.BlockStep

@[expose] public section

noncomputable section

namespace Cert.Proof.KernelIdeal.Spec

open Cert.KernelIdeal Cert.KernelIdeal.Gen
open Idealize.ShloMosaic
open scoped BigOperators

local notation "EI" => Elt Ideal

/-! ## Closed forms -/

/-- The reciprocal deviation of a row from its sum, its sum of squares and its scale. -/
def rE (a q s : EReal) : EReal := rstd (F := Ideal) (fun _ => a) (fun _ => q) (fun _ => s) (ix2 0 0)
/-- The weights of a row's `x·h` and of its `h` in the scale's sums. -/
def uE (s d r : EReal) : EReal := wu (F := Ideal) (fun _ => s) (fun _ => d) (fun _ => r) (ix2 0 0)
def vE (a s d r : EReal) : EReal := wv (F := Ideal) (fun _ => a) (fun _ => s) (fun _ => d) (fun _ => r) (ix2 0 0)

theorem rstd_at (a q s : FVec Ideal S1x256 .f32) (k : Fin 256) : rstd a q s (ix2 0 k) = rE (a (ix2 0 k)) (q (ix2 0 k)) (s (ix2 0 k)) := by
  unfold rE
  pointwise [rstd, k0_pay1741]
theorem wu_at (s d r : FVec Ideal S1x256 .f32) (k : Fin 256) : wu s d r (ix2 0 k) = uE (s (ix2 0 k)) (d (ix2 0 k)) (r (ix2 0 k)) := by
  unfold uE
  pointwise [wu, k0_pay1745, k0_pay1744]
theorem wv_at (a s d r : FVec Ideal S1x256 .f32) (k : Fin 256) : wv a s d r (ix2 0 k) = vE (a (ix2 0 k)) (s (ix2 0 k)) (d (ix2 0 k)) (r (ix2 0 k)) := by
  unfold vE
  pointwise [wv, k0_pay1746, k0_pay1744, k0_pay1743, k0_pay1742]

/-- Row `r` of block `b`. -/
def rowOf (b : Fin 8) (r : Fin 128) : Fin 1024 := ⟨128 * b.val + r.val, by omega⟩

section Closed

variable (S3 S4 S5 : FVec Ideal S8x128 .f32) (X7 : FVec Ideal S1024x1152 .fp8e4m3) (X8 : FVec Ideal S1024x1152 .bf16) (X9 X10 : FVec Ideal S1024x1152 .fp8e5m2)

def sumX (ρ : Fin 1024) : EReal := ∑ l, X7 (ix2 ρ l)
def sumQ (ρ : Fin 1024) : EReal := ∑ l, X7 (ix2 ρ l) * X7 (ix2 ρ l)
def rW (b : Fin 8) (r : Fin 128) : EReal := rE (sumX X7 (rowOf b r)) (sumQ X7 (rowOf b r)) (S3 (ix2 b r))
def uW (b : Fin 8) (r : Fin 128) : EReal := uE (S3 (ix2 b r)) (S5 (ix2 b r)) (rW S3 X7 b r)
def vW (b : Fin 8) (r : Fin 128) : EReal := vE (sumX X7 (rowOf b r)) (S3 (ix2 b r)) (S5 (ix2 b r)) (rW S3 X7 b r)

def shiftSum (b : Fin 8) (l : Fin 1152) : EReal := ∑ r : Fin 128, S5 (ix2 b r) * X10 (ix2 (rowOf b r) l)
def scaleSum (b : Fin 8) (l : Fin 1152) : EReal :=
  ∑ r : Fin 128, vW S3 S5 X7 b r * X10 (ix2 (rowOf b r) l) + ∑ r : Fin 128, uW S3 S5 X7 b r * (X7 (ix2 (rowOf b r) l) * X10 (ix2 (rowOf b r) l))
def gateSum (b : Fin 8) (l : Fin 1152) : EReal := ∑ r : Fin 128, S4 (ix2 b r) * X9 (ix2 (rowOf b r) l) * X8 (ix2 (rowOf b r) l)

/-- A block's three rows. -/
def blockVal (b : Fin 8) (k : Fin 3) (l : Fin 1152) : EReal :=
  if k.val = 0 then shiftSum S5 X10 b l else if k.val = 1 then scaleSum S3 S5 X7 X10 b l else gateSum S4 X8 X9 b l

/-- The rows' scales and their weights in the scale's sums are real numbers. -/
structure RealWeights : Prop where
  d : ∀ b r, ∃ x : ℝ, S5 (ix2 b r) = (x : EReal)
  u : ∀ b r, ∃ x : ℝ, uW S3 S5 X7 b r = (x : EReal)
  v : ∀ b r, ∃ x : ℝ, vW S3 S5 X7 b r = (x : EReal)

end Closed

theorem sum_gateRow (S4 : FVec Ideal S8x128 .f32) (X8 : FVec Ideal S1024x1152 .bf16) (X9 : FVec Ideal S1024x1152 .fp8e5m2) (b : Fin 8) (l : Fin 1152) :
    ∑ r : Fin 8, gateRow (gateTerm S4 X8 X9 b l) r.val = gateSum S4 X8 X9 b l := by
  refine (sum_gate (gateTerm S4 X8 X9 b l)).trans (Finset.sum_congr rfl fun r _ => ?_)
  rw [gateTerm, dif_pos r.isLt]; rfl

/-- A vector of a chunk's 256 rows is real if it is at either block's rows. -/
theorem real_of_blocks {v : FVec Ideal S1x256 .f32} (h : ∀ {b : ℕ} (hb : b < 2) (x : Fin 128), ∃ r : ℝ, v (ix2 0 ⟨128 * b + x.val, by omega⟩) = (r : EReal)) : Real v := by
  intro j
  obtain ⟨k, rfl⟩ : ∃ k : Fin 256, j = ix2 0 k := ⟨j 1, by idx_vars j; exact congrArg (fun a => ix2 a j1) (Subsingleton.elim j0 0)⟩
  obtain ⟨r, hr⟩ := h (b := k.val / 128) (by omega) ⟨k.val % 128, Nat.mod_lt _ (by decide)⟩
  refine ⟨r, ?_⟩
  rw [← hr]; congr 2; exact Fin.ext (Nat.div_add_mod _ _).symm

theorem cast_slot (w : FVec Ideal S1x256x1152 .bf16) (a : Fin 256) (l : Fin 1152) : shapeCast S256x1152 w shapeCasts_S1x256x1152_S256x1152 (ix2 a l) = w (ix3 0 a l) := by
  pointwise

theorem slice_rows (o : FVec Ideal S4x1152 .f32) (k : Fin 2) (l : Fin 1152) :
    extractStridedSlice S2x1152 ![2, 0] o slices_S4x1152_o2_0_S2x1152 (ix2 k l) = o (ix2 ⟨2 + k.val, by omega⟩ l)
    ∧ extractStridedSlice S2x1152 ![0, 0] o slices_S4x1152_o0_0_S2x1152 (ix2 k l) = o (ix2 ⟨k.val, by omega⟩ l) := by
  constructor <;> pointwise

/-- A block's three rows from its two column sums and its gate's rows. -/
theorem blockRows_val {S3 S4 S5 : FVec Ideal S8x128 .f32} {X7 : FVec Ideal S1024x1152 .fp8e4m3} {X8 : FVec Ideal S1024x1152 .bf16} {X9 X10 : FVec Ideal S1024x1152 .fp8e5m2}
    {o : FVec Ideal S2x1152 .f32} {g : FVec Ideal S1x8x1152 .f32} {b : Fin 8} {l : Fin 1152} (h0 : o (ix2 0 l) = shiftSum S5 X10 b l) (h1 : o (ix2 1 l) = scaleSum S3 S5 X7 X10 b l)
    (h2 : ∀ r : Fin 8, g (ix3 0 r l) = gateRow (gateTerm S4 X8 X9 b l) r.val) (k : Fin 3) : blockRows o g (ix3 0 k l) = blockVal S3 S4 S5 X7 X8 X9 X10 b k l := by
  fin_cases k
  · exact (blockRows_0 o g l).trans h0
  · exact (blockRows_1 o g l).trans h1
  · refine (blockRows_2 o g l).trans (Eq.trans ?_ (sum_gateRow S4 X8 X9 b l))
    exact Finset.sum_congr rfl fun r _ => h2 r

/-! ## A step -/

section Step

variable {c : Dev nD} {i : grid0.Coords}
  {arg1 : Memref sig .tc .smem S8x128 .i32}
  {arg3 arg4 arg5 : Memref sig .tc .vmem S8x128 .f32}
  {arg6 : Memref sig .tc .vmem S5x1152 .f32}
  {arg7 : Memref sig .tc .vmem S1024x1152 .fp8e4m3}
  {arg8 : Memref sig .tc .vmem S1024x1152 .bf16}
  {arg9 arg10 : Memref sig .tc .vmem S1024x1152 .fp8e5m2}
  {arg14 : Memref sig .tc .vmem S5x16x1152 .bf16}
  {arg16 : Memref sig .tc .vmem S2x256x1152 .bf16}
  {arg17 : Memref sig .tc .vmem S256x8 .f32}
  {arg18 : Memref sig .tc .vmem S2x8x1152 .f32}
  {f1 : Bf (F := Ideal) c arg1} {f3 : Bf (F := Ideal) c arg3} {f4 : Bf (F := Ideal) c arg4} {f5 : Bf (F := Ideal) c arg5} {f6 : Bf (F := Ideal) c arg6}
  {f7 : Bf (F := Ideal) c arg7} {f8 : Bf (F := Ideal) c arg8} {f9 : Bf (F := Ideal) c arg9} {f10 : Bf (F := Ideal) c arg10} {f14 : Bf (F := Ideal) c arg14}
  {hids : Ids c arg1 f1}
  (hw : Ones c arg14 (wstat c i arg6 arg14 f6 f14))
  (hR : RealWeights (arg3.view.read EI f3) (arg5.view.read EI f5) (arg7.view.read EI f7))

section Chunk

variable {n : ℕ} (hn : n < 4)

include hw in
theorem rs_at {b : ℕ} (hb : b < 2) (x : Fin 128) : rs c i arg1 arg3 arg6 arg7 arg14 f1 f3 f6 f7 f14 hids hn (ix2 0 ⟨128 * b + x.val, by omega⟩)
    = rW (arg3.view.read EI f3) (arg7.view.read EI f7) ⟨2 * n + b, by omega⟩ x := by
  have e : (⟨256 * n + (128 * b + x.val), by omega⟩ : Fin 1024) = rowOf ⟨2 * n + b, by omega⟩ x := Fin.ext (by show 256 * n + (128 * b + x.val) = 128 * (2 * n + b) + x.val; omega)
  rw [rs, rstd_at, s_x_at hn hw, s_q_at hn hw, lane_at hn arg3 f3 hb, e]
  rfl

include hw in
theorem wu_block {b : ℕ} (hb : b < 2) (x : Fin 128) :
    wu (lane c arg3 f3 hn) (lane c arg5 f5 hn) (rs c i arg1 arg3 arg6 arg7 arg14 f1 f3 f6 f7 f14 hids hn) (ix2 0 ⟨128 * b + x.val, by omega⟩)
      = uW (arg3.view.read EI f3) (arg5.view.read EI f5) (arg7.view.read EI f7) ⟨2 * n + b, by omega⟩ x := by
  rw [wu_at, rs_at hw hn hb, lane_at hn arg3 f3 hb, lane_at hn arg5 f5 hb]
  rfl
include hw in
theorem wv_block {b : ℕ} (hb : b < 2) (x : Fin 128) :
    wv (s_x c i arg1 arg6 arg7 arg14 f1 f6 f7 f14 hids hn) (lane c arg3 f3 hn) (lane c arg5 f5 hn) (rs c i arg1 arg3 arg6 arg7 arg14 f1 f3 f6 f7 f14 hids hn)
        (ix2 0 ⟨128 * b + x.val, by omega⟩)
      = vW (arg3.view.read EI f3) (arg5.view.read EI f5) (arg7.view.read EI f7) ⟨2 * n + b, by omega⟩ x := by
  have e : (⟨256 * n + (128 * b + x.val), by omega⟩ : Fin 1024) = rowOf ⟨2 * n + b, by omega⟩ x := Fin.ext (by show 256 * n + (128 * b + x.val) = 128 * (2 * n + b) + x.val; omega)
  rw [wv_at, rs_at hw hn hb, s_x_at hn hw, lane_at hn arg3 f3 hb, lane_at hn arg5 f5 hb, e]
  rfl

include hw hR in
theorem real_lanes : Real (lane c arg5 f5 hn) ∧ Real (wu (lane c arg3 f3 hn) (lane c arg5 f5 hn) (rs c i arg1 arg3 arg6 arg7 arg14 f1 f3 f6 f7 f14 hids hn))
    ∧ Real (wv (s_x c i arg1 arg6 arg7 arg14 f1 f6 f7 f14 hids hn) (lane c arg3 f3 hn) (lane c arg5 f5 hn) (rs c i arg1 arg3 arg6 arg7 arg14 f1 f3 f6 f7 f14 hids hn)) :=
  ⟨real_of_blocks fun hb x => (lane_at hn arg5 f5 hb x).symm ▸ hR.d _ x, real_of_blocks fun hb x => (wu_block hw hn hb x).symm ▸ hR.u _ x,
    real_of_blocks fun hb x => (wv_block hw hn hb x).symm ▸ hR.v _ x⟩

theorem chunk_h (a : Fin 256) (l : Fin 1152) :
    (shapeCast S256x1152 (View.readAt EI arg10.view (Rect.unit (s := S1024x1152) ![256 * n, 0] S256x1152.size (inbChunk hn)).toLoadRect f10) shapeCasts_S256x1152_S256x1152 : FVec Ideal S256x1152 .fp8e5m2) (ix2 a l)
      = arg10.view.read EI f10 (ix2 ⟨256 * n + a.val, by omega⟩ l) := by
  refine (congrFun (shapeCast_self _ _) (ix2 a l)).trans ((readAt2 arg10.view f10 _ a l).trans (congrArg (arg10.view.read EI f10) ?_))
  congr 1; exact Fin.ext (Nat.zero_add _)

theorem gateRead_at {b : ℕ} (hb : b < 2) (r : Fin 8) (l : Fin 1152) :
    gateRead c i arg1 arg3 arg4 arg5 arg6 arg7 arg8 arg9 arg10 arg14 arg17 arg18 f1 f3 f4 f5 f6 f7 f8 f9 f10 f14 hids hn hb (ix3 0 r l)
      = gateRow (gateTerm (arg4.view.read EI f4) (arg8.view.read EI f8) (arg9.view.read EI f9) ⟨2 * n + b, by omega⟩ l) r.val := by
  refine (readAt3 arg18.view _ _ 0 r l).trans ?_
  refine (congrArg (View.read EI arg18.view _) (a₂ := ix3 ⟨b, hb⟩ r l) ?_).trans (gateStack_at hn arg18.view.junk hb r l)
  congr 1
  · exact Fin.ext (Nat.zero_add _)
  · exact Fin.ext (Nat.zero_add _)

variable {n' : ℕ} (hn' : n' < 4)
  (hp : ∀ (f : arg16.view.ty.Contents EI) (k : Fin 256) (l : Fin 1152),
    arg16.view.read EI (arg16.view.writes EI f (prodStack c arg7 arg10 f7 f10 n' hn')) (ix3 ⟨n % 2, slot_lt n⟩ k l) = P c arg7 arg10 f7 f10 ⟨256 * n + k.val, by omega⟩ l)

include hp in
theorem chunk_p (a : Fin 256) (l : Fin 1152) :
    (shapeCast S256x1152 (arg16.view.readCov (prodStack c arg7 arg10 f7 f10 n' hn') (Rect.unit (s := S2x256x1152) ![n % 2, 0, 0] S1x256x1152.size (inbSlot (slot_lt n))).toLoadRect) shapeCasts_S1x256x1152_S256x1152 : FVec Ideal S256x1152 .bf16) (ix2 a l)
      = P c arg7 arg10 f7 f10 ⟨256 * n + a.val, by omega⟩ l := by
  refine (cast_slot _ a l).trans ((readAt3 arg16.view _ _ _ a l).trans (Eq.trans ?_ (hp arg16.view.junk a l)))
  refine congrArg (arg16.view.read EI _) ?_
  congr 1
  · exact Fin.ext (Nat.zero_add _)
  · exact Fin.ext (Nat.zero_add _)

include hw hR hp in
/-- A chunk's column sums are its two blocks' shift and scale rows. -/
theorem chunkSums_at {b : ℕ} (hb : b < 2) (l : Fin 1152) :
    chunkSums c i arg1 arg3 arg5 arg6 arg7 arg10 arg14 arg16 f1 f3 f5 f6 f7 f10 f14 hids hn hn' (ix2 ⟨2 * b, by omega⟩ l)
      = shiftSum (arg5.view.read EI f5) (arg10.view.read EI f10) ⟨2 * n + b, by omega⟩ l
    ∧ chunkSums c i arg1 arg3 arg5 arg6 arg7 arg10 arg14 arg16 f1 f3 f5 f6 f7 f10 f14 hids hn hn' (ix2 ⟨2 * b + 1, by omega⟩ l)
      = scaleSum (arg3.view.read EI f3) (arg5.view.read EI f5) (arg7.view.read EI f7) (arg10.view.read EI f10) ⟨2 * n + b, by omega⟩ l := by
  obtain ⟨r5, ru, rv⟩ := real_lanes hw hR hn (hids := hids)
  have e (x : Fin 128) : (⟨256 * n + (128 * b + x.val), by omega⟩ : Fin 1024) = rowOf ⟨2 * n + b, by omega⟩ x :=
    Fin.ext (by show 256 * n + (128 * b + x.val) = 128 * (2 * n + b) + x.val; omega)
  have h5 (x : Fin 128) := lane_at hn arg5 f5 hb x
  have hu (x : Fin 128) := wu_block hw hn hb x (arg5 := arg5) (f5 := f5) (arg3 := arg3) (f3 := f3) (arg7 := arg7) (f7 := f7) (hids := hids)
  have hv (x : Fin 128) := wv_block hw hn hb x (arg5 := arg5) (f5 := f5) (arg3 := arg3) (f3 := f3) (arg7 := arg7) (f7 := f7) (hids := hids)
  have hh (x : Fin 128) : (shapeCast S256x1152 (View.readAt EI arg10.view (Rect.unit (s := S1024x1152) ![256 * n, 0] S256x1152.size (inbChunk hn)).toLoadRect f10)
      shapeCasts_S256x1152_S256x1152 : FVec Ideal S256x1152 .fp8e5m2) (ix2 ⟨128 * b + x.val, by omega⟩ l) = arg10.view.read EI f10 (ix2 (rowOf ⟨2 * n + b, by omega⟩ x) l) := by
    rw [← e x]; exact chunk_h hn _ l
  have hP (x : Fin 128) : (shapeCast S256x1152 (arg16.view.readCov (prodStack c arg7 arg10 f7 f10 n' hn') (Rect.unit (s := S2x256x1152) ![n % 2, 0, 0] S1x256x1152.size
      (inbSlot (slot_lt n))).toLoadRect) shapeCasts_S1x256x1152_S256x1152 : FVec Ideal S256x1152 .bf16) (ix2 ⟨128 * b + x.val, by omega⟩ l)
      = P c arg7 arg10 f7 f10 (rowOf ⟨2 * n + b, by omega⟩ x) l := by
    rw [← e x]; exact chunk_p hn hn' hp _ l
  have t0 : ∑ x : Fin 128, lane c arg5 f5 hn (ix2 0 ⟨128 * b + x.val, by omega⟩) * _ = _ := Finset.sum_congr rfl fun x _ => congrArg₂ (fun p q : EReal => p * q) (h5 x) (hh x)
  have t1 : ∑ x : Fin 128, _ * _ + ∑ x : Fin 128, _ * _ = _ := congrArg₂ (fun p q : EReal => p + q) (Finset.sum_congr rfl fun x _ => congrArg₂ (fun p q : EReal => p * q) (hv x) (hh x))
    (Finset.sum_congr rfl fun x _ => congrArg₂ (fun p q : EReal => p * q) (hu x) (hP x))
  obtain rfl | rfl : b = 0 ∨ b = 1 := by omega
  · refine ⟨(sums_0 r5 _ _ l).trans (Eq.trans ?_ t0), (sums_1 _ _ l ru rv).trans (Eq.trans ?_ t1)⟩
    · simp only [Nat.mul_zero, Nat.zero_add]
    · simp only [Nat.mul_zero, Nat.zero_add]
  · exact ⟨(sums_2 r5 _ _ l).trans t0, (sums_3 _ _ l ru rv).trans t1⟩

include hw hR hp in
theorem blockPieces_at {v : View sig .tc .vmem S8x3x1152 .f32} (f : v.ty.Contents EI) (L : List (View.Piece EI S8x3x1152 .f32)) (b : Fin 8) (k : Fin 3) (l : Fin 1152) :
    v.read EI (v.writes EI f (blockPieces c i arg1 arg3 arg4 arg5 arg6 arg7 arg8 arg9 arg10 arg14 arg16 arg17 arg18 f1 f3 f4 f5 f6 f7 f8 f9 f10 f14 hids hn hn' L)) (ix3 b k l)
      = if b.val / 2 = n then blockVal (arg3.view.read EI f3) (arg4.view.read EI f4) (arg5.view.read EI f5) (arg7.view.read EI f7) (arg8.view.read EI f8) (arg9.view.read EI f9) (arg10.view.read EI f10) b k l else v.read EI (v.writes EI f L) (ix3 b k l) := by
  refine store3 v f _ _ _ b k l _ ?_ fun h1 => store3 v f _ _ _ b k l _ ?_ fun h0 => ?_
  · intro a0 a1 a2 b0 _ _
    obtain rfl : b = ⟨2 * n + 1, lt4 hn⟩ := Fin.ext (show b.val = 2 * n + 1 by omega)
    rw [if_pos (by show (2 * n + 1) / 2 = n; omega), show (⟨(⟨2 * n + 1, lt4 hn⟩ : Fin 8).val - (2 * n + 1), a0⟩ : Fin 1) = 0 from Subsingleton.elim _ _]
    obtain ⟨c0, c1⟩ := chunkSums_at hw hR hn hn' hp (b := 1) (by decide) l (hids := hids)
    exact blockRows_val ((slice_rows _ 0 _).1.trans c0) ((slice_rows _ 1 _).1.trans c1) (fun r => gateRead_at hn (b := 1) (by decide) r l) k
  · intro a0 a1 a2 b0 _ _
    obtain rfl : b = ⟨2 * n, Nat.lt_of_succ_lt (lt4 hn)⟩ := Fin.ext (show b.val = 2 * n by omega)
    rw [if_pos (by show (2 * n) / 2 = n; omega), show (⟨(⟨2 * n, Nat.lt_of_succ_lt (lt4 hn)⟩ : Fin 8).val - (2 * n), a0⟩ : Fin 1) = 0 from Subsingleton.elim _ _]
    obtain ⟨c0, c1⟩ := chunkSums_at hw hR hn hn' hp (b := 0) (by decide) l (hids := hids)
    exact blockRows_val ((slice_rows _ 0 _).2.trans c0) ((slice_rows _ 1 _).2.trans c1) (fun r => gateRead_at hn (b := 0) (by decide) r l) k
  · rw [if_neg]; omega

end Chunk

include hw hR in
/-- The step's stores into its window leave each block's three rows. -/
theorem blockStack_at {v : View sig .tc .vmem S8x3x1152 .f32} (f : v.ty.Contents EI) (b : Fin 8) (k : Fin 3) (l : Fin 1152) :
    v.read EI (v.writes EI f (blockStack c i arg1 arg3 arg4 arg5 arg6 arg7 arg8 arg9 arg10 arg14 arg16 arg17 arg18 f1 f3 f4 f5 f6 f7 f8 f9 f10 f14 hids)) (ix3 b k l) = blockVal (arg3.view.read EI f3) (arg4.view.read EI f4) (arg5.view.read EI f5) (arg7.view.read EI f7) (arg8.view.read EI f8) (arg9.view.read EI f9) (arg10.view.read EI f10) b k l := by
  refine (blockPieces_at (n := 3) hw hR (by decide) (by decide) (fun f k l => prodStack_self (by decide) f k l) f _ b k l).trans ?_
  split
  · rfl
  refine (blockPieces_at (n := 2) hw hR (by decide) (by decide) (fun f k l => prodStack_next (by decide) (by decide) f k l) f _ b k l).trans ?_
  split
  · rfl
  refine (blockPieces_at (n := 1) hw hR (by decide) (by decide) (fun f k l => prodStack_next (by decide) (by decide) f k l) f _ b k l).trans ?_
  split
  · rfl
  refine (blockPieces_at (n := 0) hw hR (by decide) (by decide) (fun f k l => prodStack_next (by decide) (by decide) f k l) f _ b k l).trans ?_
  rw [if_pos (by omega)]

end Step

end Cert.Proof.KernelIdeal.Spec

end
-- ==== Proof.WeightRows.lean ====
/-
  The weights' scratch of the kernel: filled at the grid's first step and kept by the others. Its row of ones (the row a
  product with it sums a row of the operand by) is one at every step.
-/
module

public import proofs.«01_k».proof.Proof.BlockRows

@[expose] public section

noncomputable section

namespace Cert.Proof.KernelIdeal.Spec

open Cert.KernelIdeal Cert.KernelIdeal.Gen Cert.Proof.KernelIdeal
open Idealize.ShloMosaic Idealize.ShloMosaic.TcCoe Idealize.SL.Sem

local notation "EI" => Elt Ideal

theorem wrow_ones (m : FVec Ideal S1x1152 .f32) (l : Fin 1152) : wrow m (ix3 0 0 l) = (1 : EReal) := by
  pointwise [wrow]

/-- After a step the row of ones is one, if the step is the first or it was so before. -/
theorem wstat_ones (c : Dev nD) (i : grid0.Coords) (arg6 : Memref sig .tc .vmem S5x1152 .f32) (arg14 : Memref sig .tc .vmem S5x16x1152 .bf16)
    (f6 : Bf (F := Ideal) c arg6) (f14 : Bf (F := Ideal) c arg14) (h : (i 0).val ≠ 0 → Ones c arg14 f14) :
    Ones c arg14 (wstat c i arg6 arg14 f6 f14) := by
  intro s l
  unfold wstat
  split
  · rename_i hc
    refine store3 _ _ _ _ _ s 0 l _ (fun a0 _ _ _ _ _ => ?_) fun h4 => store3 _ _ _ _ _ s 0 l _ (fun a0 _ _ _ _ _ => ?_) fun h3 =>
      store3 _ _ _ _ _ s 0 l _ (fun a0 _ _ _ _ _ => ?_) fun h2 => store3 _ _ _ _ _ s 0 l _ (fun a0 _ _ _ _ _ => ?_) fun h1 =>
      store3 _ _ _ _ _ s 0 l _ (fun a0 _ _ _ _ _ => ?_) fun h0 => ?_
    iterate 5
      · rw [show (⟨s.val - _, a0⟩ : Fin 1) = 0 from Subsingleton.elim _ _]
        exact wrow_ones _ _
    · exfalso
      have := s.isLt
      simp only [Nat.not_lt_zero, false_or, Fin.val_zero, Nat.zero_add] at h0 h1 h2 h3 h4
      omega
  · rename_i hc
    refine h (fun h0 => hc ?_) s l
    rw [h0]; decide

end Cert.Proof.KernelIdeal.Spec

end
-- ==== Proof.KernelIdealValue.lean ====
/-
  What the kernel leaves in the block sums, over the extended reals: launched on sample numbers below five and blocks whose
  scales and weights are real, the third result holds, at each step's blocks, the rows `blockVal` states of the step's
  operands. The blocks' window is followed, and the weights' row of ones from the first step on; the other outputs and
  scratch buffers are followed as buffers only.
-/
module

public import proofs.«01_k».proof.Proof.KernelIdealRun
public import proofs.«01_k».proof.Proof.WeightRows
public import Idealize.ShloMosaic.Lib.Pipeline.ValueKit

@[expose] public section

set_option maxRecDepth 16384

noncomputable section

namespace Cert.Proof.KernelIdeal.Value

open Cert.KernelIdeal Cert.KernelIdeal.Gen Cert.Proof.KernelIdeal.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation)

local notation "𝕄" => MT nD τ sig Unit (Elt Ideal) ℕ (UR sig nD τ) ℕ

/-- The row of ones of the weights. -/
def OnesRow (X : (Shape.Idx S5x16x1152) → Elt Ideal .bf16) : Prop := ∀ (s : Fin 5) (l : Fin 1152), X (ix3 s 0 l) = (1 : EReal)

variable (m : (ℓ : Loc nD τ sig) → Buf (Elt Ideal) ℓ) (ρ : Dev nD → PrngReg)

/-- The first two output windows: what the body leaves in them is not followed. -/
def fgt (w : Fin cfg0.W) : Bool := decide (w.val = 10 ∨ w.val = 11)

/-- What a step leaves in its blocks' window. -/
def stepVal (c : Dev nD) (t : Fin cfg0.N) (j : (Shape.Idx S8x3x1152)) : Elt Ideal .f32 :=
  blockVal (iblk m c 2 t) (iblk m c 3 t) (iblk m c 4 t) (iblk m c 6 t) (iblk m c 7 t) (iblk m c 8 t) (iblk m c 9 t) (j 0) (j 1) (j 2)

/-- The scratch buffers before step `n`: the weights' row of ones is there from the first step on. -/
def inv (c : Dev nD) (n : ℕ) : sProp 𝕄 :=
  iprop(((∃ f : Buf (Elt Ideal) ((c : Thread nD τ).loc cc0_scratch0), ⌜n ≠ 0 → OnesRow f⌝ ∗ ((c : Thread nD τ).loc cc0_scratch0) ↦{fullShare} f)
    ∗ (∃ f : Buf (Elt Ideal) ((c : Thread nD τ).loc cc0_scratch1), ((c : Thread nD τ).loc cc0_scratch1) ↦{fullShare} f)
    ∗ (∃ f : Buf (Elt Ideal) ((c : Thread nD τ).loc cc0_scratch2), ((c : Thread nD τ).loc cc0_scratch2) ↦{fullShare} f)
    ∗ (∃ f : Buf (Elt Ideal) ((c : Thread nD τ).loc cc0_scratch3), ((c : Thread nD τ).loc cc0_scratch3) ↦{fullShare} f)
    ∗ (∃ f : Buf (Elt Ideal) ((c : Thread nD τ).loc cc0_scratch4), ((c : Thread nD τ).loc cc0_scratch4) ↦{fullShare} f)
    ∗ (∃ f : Buf (Elt Ideal) ((c : Thread nD τ).loc cc0_scratch5), ((c : Thread nD τ).loc cc0_scratch5) ↦{fullShare} f))
    ∗ (∃ r, prngReg c r))

/-- The proof data: every input's buffer holds its block after the body; the scratch buffers are the invariant. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => stepVal m c t
  Φ t := inv c t.val
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]

theorem after_12 (c : Dev nD) (t : Fin cfg0.N) : (dats m 0 c).after 12 t = stepVal m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- The row of ones after a step. -/
theorem ones_step (c : Dev nD) (t : Fin cfg0.N) (arg6 : Memref sig .tc .vmem S5x1152 .f32) (arg14 : Memref sig .tc .vmem S5x16x1152 .bf16)
    {X6 : (Shape.Idx S5x1152) → Elt Ideal .f32} (f6 : Bf (F := Ideal) c arg6) (f14 : Bf (F := Ideal) c arg14)
    (_ : arg6.view.read (Elt Ideal) f6 = X6) (h : t.val ≠ 0 → OnesRow (arg14.view.read (Elt Ideal) f14)) :
    OnesRow (arg14.view.read (Elt Ideal) (Spec.wstat c (grid0.coords t) arg6 arg14 f6 f14)) :=
  wstat_ones c (grid0.coords t) arg6 arg14 f6 f14 fun h0 => h fun ht => h0 (by rw [show t = ⟨0, by decide⟩ from Fin.ext ht]; decide)

/-- The step's stores leave the step's value. -/
theorem stack_step (c : Dev nD) (t : Fin cfg0.N) (hW : ∀ t, RealWeights (iblk m c 2 t) (iblk m c 4 t) (iblk m c 6 t))
  (arg1 : Memref sig .tc .smem S8x128 .i32)
  (arg3 arg4 arg5 : Memref sig .tc .vmem S8x128 .f32)
  (arg6 : Memref sig .tc .vmem S5x1152 .f32)
  (arg7 : Memref sig .tc .vmem S1024x1152 .fp8e4m3)
  (arg8 : Memref sig .tc .vmem S1024x1152 .bf16)
  (arg9 arg10 : Memref sig .tc .vmem S1024x1152 .fp8e5m2)
  (arg13 : Memref sig .tc .vmem S8x3x1152 .f32)
  (arg14 : Memref sig .tc .vmem S5x16x1152 .bf16)
  (arg16 : Memref sig .tc .vmem S2x256x1152 .bf16)
  (arg17 : Memref sig .tc .vmem S256x8 .f32)
  (arg18 : Memref sig .tc .vmem S2x8x1152 .f32)
  (f1 : Bf (F := Ideal) c arg1) (f3 : Bf (F := Ideal) c arg3) (f4 : Bf (F := Ideal) c arg4) (f5 : Bf (F := Ideal) c arg5) (f6 : Bf (F := Ideal) c arg6)
  (f7 : Bf (F := Ideal) c arg7) (f8 : Bf (F := Ideal) c arg8) (f9 : Bf (F := Ideal) c arg9) (f10 : Bf (F := Ideal) c arg10) (f14 : Bf (F := Ideal) c arg14)
  (hids : Ids c arg1 f1) (g : arg13.view.ty.Contents (Elt Ideal))
  (h3 : arg3.view.read (Elt Ideal) f3 = iblk m c 2 t) (h4 : arg4.view.read (Elt Ideal) f4 = iblk m c 3 t) (h5 : arg5.view.read (Elt Ideal) f5 = iblk m c 4 t)
  (h7 : arg7.view.read (Elt Ideal) f7 = iblk m c 6 t) (h8 : arg8.view.read (Elt Ideal) f8 = iblk m c 7 t) (h9 : arg9.view.read (Elt Ideal) f9 = iblk m c 8 t)
  (h10 : arg10.view.read (Elt Ideal) f10 = iblk m c 9 t) (hw : OnesRow (arg14.view.read (Elt Ideal) (Spec.wstat c (grid0.coords t) arg6 arg14 f6 f14))) :
    arg13.view.read (Elt Ideal) (arg13.view.writes (Elt Ideal) g (Spec.blockStack c (grid0.coords t) arg1 arg3 arg4 arg5 arg6 arg7 arg8 arg9 arg10 arg14 arg16 arg17 arg18 f1 f3 f4 f5 f6 f7 f8 f9 f10 f14 hids))
      = stepVal m c t := by
  funext j
  idx_vars j
  refine (blockStack_at (v := arg13.view) (hids := hids) hw (by rw [h3, h5, h7]; exact hW t) g j0 j1 j2).trans ?_
  rw [h3, h4, h5, h7, h8, h9, h10]
  rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ X, owns (c : Thread nD τ) (st0_10 t) fullShare X)
    ∗ (∃ X, owns (c : Thread nD τ) (st0_11 t) fullShare X)
    ∗ (∃ d, owns (c : Thread nD τ) (st0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ X, owns (c : Thread nD τ) (st0_10 t) fullShare X)
    ∗ (∃ X, owns (c : Thread nD τ) (st0_11 t) fullShare X)
    ∗ owns (c : Thread nD τ) (st0_12 t) fullShare ((dats m 0 c).after 12 t))

/-- The body at any point. -/
theorem sound_body (c : Dev nD) (hm : ∀ i, (m ((c : Thread nD τ).loc main_arg7) i).toNat < 5) (hW : ∀ t, RealWeights (iblk m c 2 t) (iblk m c 4 t) (iblk m c 6 t)) (t : Fin cfg0.N) :
    bodyPre m c t ⊢ wp Idealize.ShloMosaic.frame (wpE (defs₀ (F := Ideal)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = inv c (t.val + 1) from rfl, show (dats m 0 c).Φ t.castSucc = inv c t.val from rfl,
    show (dats m 0 c).owesAt () t.succ = (dats m 0 c).owesAt () t.castSucc from rfl,
    after_0, after_1, after_2, after_3, after_4, after_5, after_6, after_7, after_8, after_9, after_12]
  unfold inv
  iintro ⟨⟨⟨⟨%f0, %o0, S0⟩, ⟨%f1, S1⟩, ⟨%f2, S2⟩, ⟨%f3, S3⟩, ⟨%f4, S4⟩, ⟨%f5, S5⟩⟩, Hρ⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩, ⟨%d12, W12⟩⟩
  iapply (wp_wand_r Idealize.ShloMosaic.frame (wpE (defs₀ (F := Ideal)) Variants.none (c : Thread nD τ) none) Set.univ)
  isplitl [S0 S1 S2 S3 S4 S5 W0 W1 W2 W3 W4 W5 W6 W7 W8 W9 W10 W11 W12]
  · iapply (body_owns c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (ids_lt m c hm t) (fun X => t.val ≠ 0 → OnesRow X) OnesRow (fun X => X = stepVal m c t) (fun _ => True) (fun _ => True) (fun _ => True) (ones_step c t _ _) (stack_step m c t hW _ _ _ _ _ _ _ _ _ _ _ _ _ _) (fun _ _ _ _ => trivial) (fun _ _ _ _ _ _ _ _ _ _ _ _ _ _ _ _ _ _ _ _ _ _ => trivial))
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexists d10; iexact W10
    isplitl [W11]; · iexists d11; iexact W11
    isplitl [W12]; · iexists _; iexact W12
    isplitl [S0]; · iexists f0; isplitr; (ipureintro; exact o0); iapply (owns_of_whole c _ _); iexact S0
    isplitl [S1]; · iexists f1; isplitr; (ipureintro; trivial); iapply (owns_of_whole c _ _); iexact S1
    isplitl [S2]; · iexists f2; iapply (owns_of_whole c _ _); iexact S2
    isplitl [S3]; · iexists f3; iapply (owns_of_whole c _ _); iexact S3
    isplitl [S4]; · iexists f4; iapply (owns_of_whole c _ _); iexact S4
    iexists f5; iapply (owns_of_whole c _ _); iexact S5
  · iintro %_ ⟨W0, W1, W2, W3, W4, W5, W6, W7, W8, W9, ⟨%d10, %_, W10⟩, ⟨%d11, W11⟩, ⟨%d12, %e12, W12⟩, ⟨%f0, %o0, S0⟩, ⟨%f1, %_, S1⟩, ⟨%f2, S2⟩, ⟨%f3, S3⟩, ⟨%f4, S4⟩, ⟨%f5, S5⟩⟩
    subst e12
    isplitl [Hρ S0 S1 S2 S3 S4 S5]
    · isplitr [Hρ]
      · isplitl [S0]; · iexists f0; isplitr; (ipureintro; exact fun _ => o0); iapply (whole_of_owns c _ _); iexact S0
        isplitl [S1]; · iexists f1; iapply (whole_of_owns c _ _); iexact S1
        isplitl [S2]; · iexists f2; iapply (whole_of_owns c _ _); iexact S2
        isplitl [S3]; · iexists f3; iapply (whole_of_owns c _ _); iexact S3
        isplitl [S4]; · iexists f4; iapply (whole_of_owns c _ _); iexact S4
        iexists f5; iapply (whole_of_owns c _ _); iexact S5
      · iexact Hρ
    isplitl [Ho]; · iexact Ho
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexists d10; iexact W10
    isplitl [W11]; · iexists d11; iexact W11
    iexact W12

theorem body_obligation (c : Dev nD) (hm : ∀ i, (m ((c : Thread nD τ).loc main_arg7) i).toNat < 5) (hW : ∀ t, RealWeights (iblk m c 2 t) (iblk m c 4 t) (iblk m c 6 t)) :
    BodyObligation (dats m 0 c) (defs₀ (F := Ideal)) Variants.none () Set.univ fgt := fun t => by
  rw [bigSep_W0, bigSep_W0, defs₀_row]
  exact triple_restated (sound_body m c hm hW t) rfl .rfl fun _ => .rfl

theorem inv_zero (c : Dev nD) : (Pipeline.ΦA spec0 c : sProp 𝕄) ⊢ inv c 0 := by
  unfold Pipeline.ΦA inv
  rw [scopedRest0_eq]
  iintro ⟨⟨⟨%f0, S0⟩, S⟩, Hρ⟩
  isplitr [Hρ]
  · isplitl [S0]
    · iexists f0; isplitr; (ipureintro; exact fun h => absurd rfl h); iexact S0
    · iexact S
  · iexact Hρ

theorem inv_out (c : Dev nD) (n : ℕ) : inv c n ⊢ (Pipeline.ΦA spec0 c : sProp 𝕄) := by
  unfold Pipeline.ΦA inv
  rw [scopedRest0_eq]
  iintro ⟨⟨⟨%f0, %o0, S0⟩, S⟩, Hρ⟩
  isplitr [Hρ]
  · isplitl [S0]
    · iexists f0; iexact S0
    · iexact S
  · iexact Hρ

set_option backward.isDefEq.respectTransparency.types false in
set_option maxHeartbeats 800000 in
/-- The launch, its post the relational one of the followed outputs. -/
theorem run_main (hm : ∀ (c : Dev nD) i, (m ((c : Thread nD τ).loc main_arg7) i).toNat < 5)
    (hW : ∀ (c : Dev nD) t, RealWeights (iblk m c 2 t) (iblk m c 4 t) (iblk m c 6 t)) :
    θ_run defs (onTc (τ := τ) (main (F := Ideal))) (s₀ m ρ)
      (RDat.FramePost cfg0 (fun c => (dats m 0 c).toRForget fgt) (V m)) :=
  (Pipeline.θ_run_frame_track_forget_shared (Q' := _) cfgs (dats m) (0 : Fin 1) launch₀0 defs₀ Variants.none fgt m ρ main
    (hbody := fun c => (body_obligation m c (hm c) (hW c)).loose) (hq := fun _ _ _ => rfl)
    (howed := fun _ _ => rfl) (V := V m) (hmain := hmain m Variants.none) (hA := A_eq m) (hin := inv_zero) (hout := fun c => inv_out c _))

/-- The step that writes a block. -/
def stepOf (B : Fin 1280) : Fin cfg0.N := ⟨B.val / 8, by have := B.isLt; show _ < 160; omega⟩

/-- The third result: every block's three rows, of its step's operands. -/
def result (c : Dev nD) (j : (Shape.Idx S1280x3x1152)) : Elt Ideal .f32 :=
  stepVal m c (stepOf (j 0)) (ix3 ⟨(j 0).val % 8, Nat.mod_lt _ (by decide)⟩ (j 1) (j 2))

theorem index_12 : ∀ t : Fin cfg0.N, win0_12.index t = ![t.val, 0, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)
theorem index_8 : ∀ t : Fin cfg0.N, win0_8.index t = ![t.val, 0] := (by decide +kernel : ∀ t : Fin grid0.N, _)
theorem index_9 : ∀ t : Fin cfg0.N, win0_9.index t = ![t.val, 0] := (by decide +kernel : ∀ t : Fin grid0.N, _)

theorem arr_12 (c : Dev nD) : (dats m 0 c).arrAt 12 cfg0.N = result m c := by
  have key : ∀ (t : Fin cfg0.N) (z : (Shape.Idx S8x3x1152)) (w : (Shape.Idx S1280x3x1152)), (w 0).val = t.val * 8 + (z 0).val → (w 1).val = (z 1).val →
      (w 2).val = (z 2).val → stepVal m c t z = result m c w := by
    intro t z w e0 e1 e2
    have hz : (z 0).val < 8 := (z 0).isLt
    have ht : stepOf (w 0) = t := Fin.ext (show (w 0).val / 8 = t.val by omega)
    show stepVal m c t z = stepVal m c (stepOf (w 0)) _
    rw [ht]
    refine congrArg _ (funext fun a => Fin.ext ?_)
    fin_cases a
    · show (z 0).val = (w 0).val % 8; omega
    · exact e1.symm
    · exact e2.symm
  refine (dats m 0 c).arrAt_eq_of_covers 12 _ (by decide +kernel) fun t hf y => ?_
  blk_simp
  rw [after_12]
  refine key t y _ ?_ ?_ ?_ <;> blk_simp [index_12]

/-- Row `r` of the step's block `b` in the whole array, and a row of the step. -/
def rowIn (t : Fin cfg0.N) (b : Fin 8) : Fin 1280 := ⟨8 * t.val + b.val, by have : t.val < 160 := t.isLt; have := b.isLt; omega⟩
def tokIn (t : Fin cfg0.N) (ρ : Fin 1024) : Fin 163840 := ⟨1024 * t.val + ρ.val, by have : t.val < 160 := t.isLt; have := ρ.isLt; omega⟩

theorem blk_2 (c : Dev nD) (t : Fin cfg0.N) (b : Fin 8) (r : Fin 128) : iblk m c 2 t (ix2 b r) = V m c main_v3 (ix2 (rowIn t b) r) := by
  blk_simp [iblk]
  blk_ext [index_2, rowIn]
theorem blk_3 (c : Dev nD) (t : Fin cfg0.N) (b : Fin 8) (r : Fin 128) : iblk m c 3 t (ix2 b r) = V m c main_v4 (ix2 (rowIn t b) r) := by
  blk_simp [iblk]
  blk_ext [index_3, rowIn]
theorem blk_4 (c : Dev nD) (t : Fin cfg0.N) (b : Fin 8) (r : Fin 128) : iblk m c 4 t (ix2 b r) = V m c main_v5 (ix2 (rowIn t b) r) := by
  blk_simp [iblk]
  blk_ext [index_4, rowIn]
theorem blk_6 (c : Dev nD) (t : Fin cfg0.N) (ρ : Fin 1024) (l : Fin 1152) : iblk m c 6 t (ix2 ρ l) = V m c main_v0 (ix2 (tokIn t ρ) l) := by
  blk_simp [iblk]
  blk_ext [index_6, tokIn]
theorem blk_7 (c : Dev nD) (t : Fin cfg0.N) (ρ : Fin 1024) (l : Fin 1152) : iblk m c 7 t (ix2 ρ l) = V m c main_arg2 (ix2 (tokIn t ρ) l) := by
  blk_simp [iblk]
  blk_ext [index_7, tokIn]
theorem blk_8 (c : Dev nD) (t : Fin cfg0.N) (ρ : Fin 1024) (l : Fin 1152) : iblk m c 8 t (ix2 ρ l) = V m c main_arg3 (ix2 (tokIn t ρ) l) := by
  blk_simp [iblk]
  blk_ext [index_8, tokIn]
theorem blk_9 (c : Dev nD) (t : Fin cfg0.N) (ρ : Fin 1024) (l : Fin 1152) : iblk m c 9 t (ix2 ρ l) = V m c main_v1 (ix2 (tokIn t ρ) l) := by
  blk_simp [iblk]
  blk_ext [index_9, tokIn]

end Cert.Proof.KernelIdeal.Value

end
-- ==== Proof.RowAlgebra.lean ====
/-
  A row's scalars over the real numbers: what the kernel computes from a row's sum and sum of squares is the reciprocal
  deviation about the mean, and its weights give the normalised row times the gradient.
-/
module

public import proofs.«01_k».proof.Proof.BlockRows
public import proofs.«01_k».proof.Proof.TokenRows

@[expose] public section

noncomputable section

namespace Cert.Proof.KernelIdeal.Spec

open Cert.KernelIdeal Cert.KernelIdeal.Gen
open Idealize.ShloMosaic
open scoped BigOperators

theorem word_1152 : Ideal.ofBits .f32 0x44900000#32 = ((1152 : ℝ) : EReal) := by
  simp [Ideal.ofBits, Ideal.ieee, -EReal.coe_mul]; norm_num
theorem word_4097 : Ideal.ofBits .f32 0x45800800#32 = ((4097 : ℝ) : EReal) := by
  simp [Ideal.ofBits, Ideal.ieee, -EReal.coe_mul]; norm_num
theorem word_2 : Ideal.ofBits .f32 0x40000000#32 = ((2 : ℝ) : EReal) := by
  simp [Ideal.ofBits, Ideal.ieee, -EReal.coe_mul]; norm_num
/-- The constant added to a variance. -/
def eps : ℝ := 8796093 / 2 ^ 43
theorem word_eps : Ideal.ofBits .f32 0x358637BD#32 = (eps : EReal) := by
  simp [Ideal.ofBits, Ideal.ieee, -EReal.coe_mul, eps]; norm_num
theorem inv_n : Named.named (F := Ideal) κ "inv_n" (φ := .f32) 0x3A638E39#32 = ((1 / 1152 : ℝ) : EReal) :=
  IdealRules.named_const.ideal_named_scalar _ _ _ _ rfl
theorem inv_nn : Named.named (F := Ideal) κ "inv_nn" (φ := .f32) 0x354A4588#32 = ((1 / 1327104 : ℝ) : EReal) :=
  IdealRules.named_const.ideal_named_scalar _ _ _ _ rfl

/-- Splitting a real number into its rounded head and the rest gives the number itself as the head. -/
theorem head_coe (v : ℝ) :
    ((v : EReal) * Ideal.ofBits .f32 0x45800800#32 - ((v : EReal) * Ideal.ofBits .f32 0x45800800#32 - (v : EReal))) =
      (v : EReal) := by
  rw [word_4097, ← EReal.coe_mul, ← EReal.coe_sub, ← EReal.coe_sub]
  congr 1
  ring

theorem max_coe (x y : ℝ) : max (x : EReal) (y : EReal) = ((max x y : ℝ) : EReal) :=
  (EReal.coe_strictMono.monotone.map_max).symm

theorem rsqrt_pos (x : ℝ) (h : 0 < x) : Ideal.rsqrt (x : EReal) = (((√x)⁻¹ : ℝ) : EReal) := by
  rw [Ideal.rsqrt_coe, if_neg (not_lt.mpr h.le), if_neg h.ne']

theorem eps_pos : 0 < eps := by norm_num [eps]

theorem rE_coe (a q s : ℝ) :
    rE a q s = ((√(max (1152 * q - a * a) 0 * (1 / 1327104) * (s * s) + eps))⁻¹ : ℝ) := by
  unfold rE
  pointwise [rstd, k0_pay1741]
  simp only [head_coe, lt_irrefl, if_false, word_1152, word_2, word_eps, inv_nn, ← EReal.coe_mul, ← EReal.coe_sub,
    ← EReal.coe_add, ← EReal.coe_zero, max_coe]
  rw [rsqrt_pos]
  · congr 5
    ring_nf
  · have h : 0 ≤ max (1152 * q - a * a) 0 * (1 / 1327104) * (s * s) :=
      mul_nonneg (mul_nonneg (le_max_right _ _) (by norm_num)) (mul_self_nonneg s)
    have e : (1152 * q - a * a + (1152 * (q - q) - 2 * a * (a - a) - (a - a) * (a - a))) = 1152 * q - a * a := by ring
    rw [e]
    exact add_pos_of_nonneg_of_pos h eps_pos

theorem uE_coe (s d r : ℝ) : uE s d r = ((r * d * s : ℝ) : EReal) := by
  unfold uE
  pointwise [wu, k0_pay1745, k0_pay1744]
  simp only [← EReal.coe_mul]

theorem vE_coe (a s d r : ℝ) : vE a s d r = ((-(r * d * (a * (1 / 1152) * s)) : ℝ) : EReal) := by
  unfold vE
  pointwise [wv, k0_pay1746, k0_pay1744, k0_pay1743, k0_pay1742]
  simp only [inv_n, ← EReal.coe_mul, ← EReal.coe_zero, ← EReal.coe_sub]
  congr 1
  ring

/-- The sum of squares about the mean, from the sum and the sum of squares. -/
theorem sum_centred {n : ℕ} (x : Fin n → ℝ) (s μ : ℝ) :
    (∑ l, (x l * s - μ) * (x l * s - μ)) = s * s * (∑ l, x l * x l) - 2 * μ * s * (∑ l, x l) + n * (μ * μ) := by
  have h : ∀ l, (x l * s - μ) * (x l * s - μ) = s * s * (x l * x l) - 2 * μ * s * x l + μ * μ := fun l => by ring
  simp only [h, Finset.sum_add_distrib, Finset.sum_sub_distrib, ← Finset.mul_sum, Finset.sum_const, Finset.card_univ,
    Fintype.card_fin, nsmul_eq_mul]
  ring

/-- A row's mean and its variance about the mean, after scaling. -/
def mean (x : Fin 1152 → ℝ) (s : ℝ) : ℝ := (∑ l, x l * s) * (1 / 1152)
def variance (x : Fin 1152 → ℝ) (s : ℝ) : ℝ :=
  (∑ l, (x l * s - mean x s) * (x l * s - mean x s)) * (1 / 1152)
/-- The reciprocal deviation of a row. -/
def dev (x : Fin 1152 → ℝ) (s : ℝ) : ℝ := (√(variance x s + eps))⁻¹

theorem variance_nonneg (x : Fin 1152 → ℝ) (s : ℝ) : 0 ≤ variance x s :=
  mul_nonneg (Finset.sum_nonneg fun _ _ => mul_self_nonneg _) (by norm_num)

theorem mean_eq (x : Fin 1152 → ℝ) (s : ℝ) : mean x s = (∑ l, x l) * (1 / 1152) * s := by
  unfold mean
  rw [← Finset.sum_mul]
  ring

/-- The variance, from the sum and the sum of squares. -/
theorem variance_eq (x : Fin 1152 → ℝ) (s : ℝ) :
    variance x s = (1152 * (∑ l, x l * x l) - (∑ l, x l) * (∑ l, x l)) * (1 / 1327104) * (s * s) := by
  unfold variance
  rw [sum_centred, mean_eq]
  push_cast
  ring

theorem gap_nonneg (x : Fin 1152 → ℝ) : 0 ≤ 1152 * (∑ l, x l * x l) - (∑ l, x l) * (∑ l, x l) := by
  have h := variance_nonneg x 1
  rw [variance_eq] at h
  linarith

/-- The kernel's reciprocal deviation is the row's. -/
theorem rE_dev (x : Fin 1152 → ℝ) (s : ℝ) :
    rE ((∑ l, x l : ℝ) : EReal) ((∑ l, x l * x l : ℝ) : EReal) s = (dev x s : EReal) := by
  rw [rE_coe, max_eq_left (gap_nonneg x), ← variance_eq]
  rfl

/-- The two weighted rows add up to the gradient times the normalised row. -/
theorem weights_row (x : Fin 1152 → ℝ) (s d h y : ℝ) :
    -(dev x s * d * ((∑ l, x l) * (1 / 1152) * s)) * h + dev x s * d * s * (y * h) =
      h * d * ((y * s - mean x s) * dev x s) := by
  rw [mean_eq]
  ring

theorem coe_sum {ι : Type} (t : Finset ι) (f : ι → ℝ) : ((∑ i ∈ t, f i : ℝ) : EReal) = ∑ i ∈ t, (f i : EReal) :=
  map_sum (⟨⟨Real.toEReal, rfl⟩, EReal.coe_add⟩ : ℝ →+ EReal) f t

open Cert.Proof.Tokens in
/-- A row of real numbers normalised. -/
theorem rowHat_coe (x : Fin 1152 → ℝ) (s : ℝ) (l : Fin 1152) :
    rowHat (fun l => (x l : EReal)) s l = (((x l * s - mean x s) * dev x s : ℝ) : EReal) := by
  have hm : rowMean (fun l => (x l : EReal)) s = (mean x s : EReal) := by
    rw [rowMean, word_1152, Ideal.div_coe (by norm_num : (1152 : ℝ) ≠ 0)]
    simp only [← EReal.coe_mul, ← coe_sum]
    rfl
  have hv : rowVar (fun l => (x l : EReal)) s = (variance x s : EReal) := by
    rw [rowVar, hm, word_1152, Ideal.div_coe (by norm_num : (1152 : ℝ) ≠ 0)]
    simp only [← EReal.coe_mul, ← EReal.coe_sub, ← coe_sum]
    rfl
  rw [rowHat, hm, hv, word_eps, ← EReal.coe_add, rsqrt_pos _ (add_pos_of_nonneg_of_pos (variance_nonneg x s) eps_pos)]
  simp only [← EReal.coe_mul, ← EReal.coe_sub]
  rfl

section Block

variable {S3 S4 S5 : FVec Ideal S8x128 .f32} {X7 : FVec Ideal S1024x1152 .fp8e4m3} {X8 : FVec Ideal S1024x1152 .bf16} {X9 X10 : FVec Ideal S1024x1152 .fp8e5m2}
  {b : Fin 8} {s d : Fin 128 → ℝ} {x h : Fin 128 → Fin 1152 → ℝ}

theorem sumX_coe {r : Fin 128} (hx : ∀ l, X7 (ix2 (rowOf b r) l) = (x r l : EReal)) :
    sumX X7 (rowOf b r) = ((∑ l, x r l : ℝ) : EReal) := by
  unfold sumX
  simp only [hx, coe_sum]

theorem sumQ_coe {r : Fin 128} (hx : ∀ l, X7 (ix2 (rowOf b r) l) = (x r l : EReal)) :
    sumQ X7 (rowOf b r) = ((∑ l, x r l * x r l : ℝ) : EReal) := by
  unfold sumQ
  simp only [hx, coe_sum, EReal.coe_mul]

theorem rW_coe {r : Fin 128} (hs : S3 (ix2 b r) = (s r : EReal)) (hx : ∀ l, X7 (ix2 (rowOf b r) l) = (x r l : EReal)) :
    rW S3 X7 b r = (dev (x r) (s r) : EReal) := by
  rw [rW, sumX_coe hx, sumQ_coe hx, hs, rE_dev]

theorem uW_coe {r : Fin 128} (hs : S3 (ix2 b r) = (s r : EReal)) (hd : S5 (ix2 b r) = (d r : EReal))
    (hx : ∀ l, X7 (ix2 (rowOf b r) l) = (x r l : EReal)) : uW S3 S5 X7 b r = ((dev (x r) (s r) * d r * s r : ℝ) : EReal) := by
  rw [uW, rW_coe hs hx, hs, hd, uE_coe]

theorem vW_coe {r : Fin 128} (hs : S3 (ix2 b r) = (s r : EReal)) (hd : S5 (ix2 b r) = (d r : EReal))
    (hx : ∀ l, X7 (ix2 (rowOf b r) l) = (x r l : EReal)) :
    vW S3 S5 X7 b r = ((-(dev (x r) (s r) * d r * ((∑ l, x r l) * (1 / 1152) * s r)) : ℝ) : EReal) := by
  rw [vW, rW_coe hs hx, sumX_coe hx, hs, hd, vE_coe]

/-- The scale's sums over a block: the gradient times the normalised rows, summed. -/
theorem scaleSum_coe (hs : ∀ r, S3 (ix2 b r) = (s r : EReal)) (hd : ∀ r, S5 (ix2 b r) = (d r : EReal))
    (hx : ∀ r l, X7 (ix2 (rowOf b r) l) = (x r l : EReal)) (hh : ∀ r l, X10 (ix2 (rowOf b r) l) = (h r l : EReal)) (l : Fin 1152) :
    scaleSum S3 S5 X7 X10 b l = ∑ r, ((h r l * d r * ((x r l * s r - mean (x r) (s r)) * dev (x r) (s r)) : ℝ) : EReal) := by
  unfold scaleSum
  rw [← Finset.sum_add_distrib]
  refine Finset.sum_congr rfl fun r _ => ?_
  rw [vW_coe (hs r) (hd r) (hx r), uW_coe (hs r) (hd r) (hx r), hx, hh, ← EReal.coe_mul, ← EReal.coe_mul, ← EReal.coe_mul,
    ← EReal.coe_add, weights_row]

end Block

/-- Rows of real numbers have real weights. -/
theorem realWeights {S3 S5 : FVec Ideal S8x128 .f32} {X7 : FVec Ideal S1024x1152 .fp8e4m3} (hs : ∀ b r, ∃ s : ℝ, S3 (ix2 b r) = (s : EReal))
    (hd : ∀ b r, ∃ d : ℝ, S5 (ix2 b r) = (d : EReal)) (hx : ∀ ρ l, ∃ x : ℝ, X7 (ix2 ρ l) = (x : EReal)) : RealWeights S3 S5 X7 := by
  choose s hs using hs
  choose d hd using hd
  choose x hx using hx
  exact ⟨fun b r => ⟨_, hd b r⟩, fun b r => ⟨_, uW_coe (s := s b) (d := d b) (x := fun r => x (rowOf b r)) (hs b r) (hd b r) fun l => hx _ l⟩,
    fun b r => ⟨_, vW_coe (s := s b) (d := d b) (x := fun r => x (rowOf b r)) (hs b r) (hd b r) fun l => hx _ l⟩⟩

end Cert.Proof.KernelIdeal.Spec

end
-- ==== Proof.KernelIdealResult.lean ====
/-
  The kernel's third result in terms of its arguments: each block's sums over its 128 tokens, where every element of the
  saved rows, of the gradient and of their scales is a real number.
-/
module

public import proofs.«01_k».proof.Proof.KernelIdealValue
public import proofs.«01_k».proof.Proof.RowAlgebra

@[expose] public section

noncomputable section

namespace Cert.Proof.KernelIdeal.Value

open Cert.KernelIdeal Cert.KernelIdeal.Gen Cert.Proof.KernelIdeal.Spec Cert.Proof.Tokens
open Idealize.ShloMosaic Idealize.ShloMosaic.TcCoe Idealize.ShloMosaic.Tactic
open Idealize.SL Idealize.SL.Sem
open Idealize.ShloMosaic.Pipeline (Dat RDat)
open scoped BigOperators

variable (m : (ℓ : Loc nD τ sig) → Buf (Elt Ideal) ℓ)

theorem lanes_at (v : FVec Ideal Col .f32) (h : Col.ShapeCasts S1280x128) (B : Fin 1280) (r : Fin 128) :
    shapeCast S1280x128 v h (ix2 B r) = v (ix1 (tok B r)) := by
  pointwise
  rfl

/-- The arguments read as the floats they hold. -/
abbrev argX (c : Dev nD) : FVec Ideal Rows .fp8e4m3 := bitcastToFloat .fp8e4m3 (m ((c : Thread nD τ).loc main_arg0))
abbrev argH (c : Dev nD) : FVec Ideal Rows .fp8e5m2 := bitcastToFloat .fp8e5m2 (m ((c : Thread nD τ).loc main_arg5))
abbrev argXs (c : Dev nD) : FVec Ideal Col .f32 := m ((c : Thread nD τ).loc main_arg1)
abbrev argYs (c : Dev nD) : FVec Ideal Col .f32 := m ((c : Thread nD τ).loc main_arg4)
abbrev argHs (c : Dev nD) : FVec Ideal Col .f32 := m ((c : Thread nD τ).loc main_arg6)

theorem V_v0 (c : Dev nD) : V m c main_v0 = argX m c := by
  dsimp only [V, hostOps0]
  simp only [StableHlo.after_cons, StableHlo.after_nil]
  repeat rw [StableHlo.reshape_result_ne _ _ _ _ _ _ _ (by decide)]
  rw [StableHlo.unary_result_ne _ _ _ _ _ _ (by decide), StableHlo.unary_result]

theorem V_v1 (c : Dev nD) : V m c main_v1 = argH m c := by
  dsimp only [V, hostOps0]
  simp only [StableHlo.after_cons, StableHlo.after_nil]
  repeat rw [StableHlo.reshape_result_ne _ _ _ _ _ _ _ (by decide)]
  rw [StableHlo.unary_result, StableHlo.unary_result_ne _ _ _ _ _ _ (by decide)]

theorem V_v3 (c : Dev nD) (B : Fin 1280) (r : Fin 128) : V m c main_v3 (ix2 B r) = argXs m c (ix1 (tok B r)) := by
  dsimp only [V, hostOps0]
  simp only [StableHlo.after_cons, StableHlo.after_nil]
  repeat rw [StableHlo.reshape_result_ne _ _ _ _ _ _ _ (by decide)]
  rw [StableHlo.reshape_result]
  repeat rw [StableHlo.reshape_result_ne _ _ _ _ _ _ _ (by decide)]
  repeat rw [StableHlo.unary_result_ne _ _ _ _ _ _ (by decide)]
  exact lanes_at _ _ B r

theorem V_v4 (c : Dev nD) (B : Fin 1280) (r : Fin 128) : V m c main_v4 (ix2 B r) = argYs m c (ix1 (tok B r)) := by
  dsimp only [V, hostOps0]
  simp only [StableHlo.after_cons, StableHlo.after_nil]
  repeat rw [StableHlo.reshape_result_ne _ _ _ _ _ _ _ (by decide)]
  rw [StableHlo.reshape_result]
  repeat rw [StableHlo.reshape_result_ne _ _ _ _ _ _ _ (by decide)]
  repeat rw [StableHlo.unary_result_ne _ _ _ _ _ _ (by decide)]
  exact lanes_at _ _ B r

theorem V_v5 (c : Dev nD) (B : Fin 1280) (r : Fin 128) : V m c main_v5 (ix2 B r) = argHs m c (ix1 (tok B r)) := by
  dsimp only [V, hostOps0]
  simp only [StableHlo.after_cons, StableHlo.after_nil]
  repeat rw [StableHlo.reshape_result_ne _ _ _ _ _ _ _ (by decide)]
  rw [StableHlo.reshape_result]
  repeat rw [StableHlo.reshape_result_ne _ _ _ _ _ _ _ (by decide)]
  repeat rw [StableHlo.unary_result_ne _ _ _ _ _ _ (by decide)]
  exact lanes_at _ _ B r

/-- The saved rows, the gradient and their scales hold real numbers only. -/
structure Finite (c : Dev nD) : Prop where
  x : ∀ i, ∃ r : ℝ, argX m c i = (r : EReal)
  h : ∀ i, ∃ r : ℝ, argH m c i = (r : EReal)
  xs : ∀ i, ∃ r : ℝ, argXs m c i = (r : EReal)
  hs : ∀ i, ∃ r : ℝ, argHs m c i = (r : EReal)

variable {m}

theorem weights {c : Dev nD} (hf : Finite m c) (t : Fin cfg0.N) : RealWeights (iblk m c 2 t) (iblk m c 4 t) (iblk m c 6 t) :=
  realWeights (fun b r => by rw [blk_2, V_v3]; exact hf.xs _) (fun b r => by rw [blk_4, V_v5]; exact hf.hs _)
    (fun ρ l => by rw [blk_6, V_v0]; exact hf.x _)

/-- Block `B`'s place in its step. -/
def inStep (B : Fin 1280) : Fin 8 := ⟨B.val % 8, Nat.mod_lt _ (by decide)⟩

theorem rowIn_step (B : Fin 1280) : rowIn (stepOf B) (inStep B) = B :=
  Fin.ext (show 8 * (B.val / 8) + B.val % 8 = B.val by omega)

theorem tokIn_step (B : Fin 1280) (r : Fin 128) : tokIn (stepOf B) (rowOf (inStep B) r) = tok B r :=
  Fin.ext (show 1024 * (B.val / 8) + (128 * (B.val % 8) + r.val) = B.val * 128 + r.val by omega)

/-- The kernel's third result: each block's sums. -/
theorem result_eq {c : Dev nD} (hf : Finite m c) (j : Shape.Idx S1280x3x1152) :
    result m c j = blockSum (argX m c) (argXs m c) (m ((c : Thread nD τ).loc main_arg2)) (m ((c : Thread nD τ).loc main_arg3)) (argYs m c)
      (argH m c) (argHs m c) (j 0) (j 1) (j 2) := by
  idx_vars j
  have e2 : ∀ r, iblk m c 2 (stepOf j0) (ix2 (inStep j0) r) = argXs m c (ix1 (tok j0 r)) := fun r => by rw [blk_2, V_v3, rowIn_step]
  have e3 : ∀ r, iblk m c 3 (stepOf j0) (ix2 (inStep j0) r) = argYs m c (ix1 (tok j0 r)) := fun r => by rw [blk_3, V_v4, rowIn_step]
  have e4 : ∀ r, iblk m c 4 (stepOf j0) (ix2 (inStep j0) r) = argHs m c (ix1 (tok j0 r)) := fun r => by rw [blk_4, V_v5, rowIn_step]
  have e6 : ∀ r l, iblk m c 6 (stepOf j0) (ix2 (rowOf (inStep j0) r) l) = argX m c (ix2 (tok j0 r) l) := fun r l => by
    rw [blk_6, V_v0, tokIn_step]
  have e7 : ∀ r l, iblk m c 7 (stepOf j0) (ix2 (rowOf (inStep j0) r) l) = m ((c : Thread nD τ).loc main_arg2) (ix2 (tok j0 r) l) := fun r l => by
    rw [blk_7, V_main_arg2, tokIn_step]
  have e8 : ∀ r l, iblk m c 8 (stepOf j0) (ix2 (rowOf (inStep j0) r) l) = m ((c : Thread nD τ).loc main_arg3) (ix2 (tok j0 r) l) := fun r l => by
    rw [blk_8, V_main_arg3, tokIn_step]
  have e9 : ∀ r l, iblk m c 9 (stepOf j0) (ix2 (rowOf (inStep j0) r) l) = argH m c (ix2 (tok j0 r) l) := fun r l => by
    rw [blk_9, V_v1, tokIn_step]
  obtain ⟨hx, hh, hxs, hhs⟩ := hf
  choose x hx using hx
  choose h hh using hh
  choose s hs using hxs
  choose d hd using hhs
  show blockVal (iblk m c 2 (stepOf j0)) (iblk m c 3 (stepOf j0)) (iblk m c 4 (stepOf j0)) (iblk m c 6 (stepOf j0)) (iblk m c 7 (stepOf j0))
    (iblk m c 8 (stepOf j0)) (iblk m c 9 (stepOf j0)) (inStep j0) j1 j2 = ∑ r, share _ _ _ _ _ _ _ j1 (tok j0 r) j2
  unfold blockVal share
  split_ifs
  · exact Finset.sum_congr rfl fun r _ => by rw [e4, e9, mul_comm]
  · rw [scaleSum_coe (s := fun r => s (ix1 (tok j0 r))) (d := fun r => d (ix1 (tok j0 r))) (x := fun r l => x (ix2 (tok j0 r) l))
      (h := fun r l => h (ix2 (tok j0 r) l)) (fun r => (e2 r).trans (hs _)) (fun r => (e4 r).trans (hd _))
      (fun r l => (e6 r l).trans (hx _)) (fun r l => (e9 r l).trans (hh _))]
    refine Finset.sum_congr rfl fun r _ => ?_
    simp only [hx, hs]
    rw [hh, hd, rowHat_coe, EReal.coe_mul, EReal.coe_mul]
  · exact Finset.sum_congr rfl fun r _ => by rw [e3, e7, e8, mul_comm (argYs m c _)]

/-- The run leaves its third result array at `result`. -/
theorem run_result (ρ : Dev nD → PrngReg) (hm : ∀ (c : Dev nD) i, (m ((c : Thread nD τ).loc main_arg7) i).toNat < 5) (hf : ∀ c, Finite m c) :
    θ_run defs (onTc (τ := τ) (main (F := Ideal))) ⟨m, fun _ => 0, ρ⟩
      (fun r => ∀ c : Dev nD, r.2.mem ((c.tc : Thread nD τ).loc main_v6_2) = result m c) :=
  (θ_run defs _ _).mono (fun _ h c => ((Dat.toRForget_arrAt_iff (dat := dats m 0 c) (fgt := fgt) (w := 12) rfl _ _).mp ((h c).1 12)).trans (arr_12 m c))
    (run_main m ρ hm fun c => weights (hf c))

end Cert.Proof.KernelIdeal.Value

end
-- ==== Proof.ReferenceIdealValue.lean ====
/-
  The reference's third result, element by element: each block of 128 rows summed.
-/
module

public import proofs.«01_k».proof.Proof.Gen.ReferenceIdeal.Frame
public import proofs.«01_k».proof.Proof.TokenRows
public import Idealize.ShloMosaic.Lib.Pipeline.ValueKit
public import Idealize.ShloMosaic.Lib.Pipeline.CanonAppend

@[expose] public section

noncomputable section

namespace Cert.Proof.ReferenceIdeal.Value

open Cert.ReferenceIdeal Cert.ReferenceIdeal.Gen
open Cert.Proof.Tokens
open Idealize.ShloMosaic Idealize.ShloMosaic.TcCoe Idealize.ShloMosaic.Tactic
open Idealize.SL Idealize.SL.Sem
open Idealize.ShloMosaic.Pipeline (Dat Cfg Window)
open scoped BigOperators

theorem pay9_at (v : FVec Ideal S163840x1152 .f32) (B : Fin 1280) (l : Fin 1152) :
    k0_pay9 v (ix3 B 0 l) = ∑ r, v (ix2 (tok B r) l) := by
  pointwise [k0_pay9]
  rfl
theorem pay16_at (v : FVec Ideal S163840x1152 .f32) (B : Fin 1280) (l : Fin 1152) :
    k0_pay16 v (ix3 B 0 l) = ∑ r, v (ix2 (tok B r) l) := by
  pointwise [k0_pay16]
  rfl
theorem pay24_at (v : FVec Ideal S163840x1152 .f32) (B : Fin 1280) (l : Fin 1152) :
    k0_pay24 v (ix3 B 0 l) = ∑ r, v (ix2 (tok B r) l) := by
  pointwise [k0_pay24]
  rfl

section Payloads

variable (x : Vec Ideal S163840x1152 .fp8e4m3) (s : Vec Ideal S163840x1 .f32) (f : Vec Ideal S163840x1152 .bf16)
  (y : Vec Ideal S163840x1152 .fp8e5m2) (ys : Vec Ideal S163840x1 .f32) (h : Vec Ideal S163840x1152 .fp8e5m2) (hs : Vec Ideal S163840x1 .f32)

theorem shift_at (t : Fin 163840) (l : Fin 1152) : k0_pay2 (F := Ideal) h hs (ix2 t l) = h (ix2 t l) * hs (ix2 t 0) := by
  pointwise [k0_pay2]

theorem scale_at (t : Fin 163840) (l : Fin 1152) :
    k0_pay7 (F := Ideal) x s h hs (ix2 t l) = h (ix2 t l) * hs (ix2 t 0) * rowHat (fun l => x (ix2 t l)) (s (ix2 t 0)) l := by
  pointwise [k0_pay7, k0_pay6, k0_pay5, k0_pay4, k0_pay3, k0_pay2]
  rfl

theorem gate_at (t : Fin 163840) (l : Fin 1152) :
    k0_pay8 (F := Ideal) (k0_pay1 (F := Ideal) y ys) f (ix2 t l) = y (ix2 t l) * ys (ix2 t 0) * f (ix2 t l) := by
  pointwise [k0_pay8, k0_pay1]

end Payloads

theorem ld_rows {e : EltTy} (X : Vec Ideal S163840x1152 e) : View.ld X r0_0 = X := View.ld_unit_lit _ X (by decide)
theorem ld_col {e : EltTy} (X : Vec Ideal S163840x1 e) : View.ld X r0_1 = X := View.ld_unit_lit _ X (by decide)

theorem mid_eq (w : S1280x1x1152.Idx) : w = ix3 (w 0) 0 (w 2) := by
  idx_vars w
  exact congrArg (fun a => ix3 w0 a w2) (Subsingleton.elim w1 0)

/-- Where a store of one of the three rows puts an element. -/
theorem row_at {k : Fin 3} (inb : ∀ a, (![0, k.val, 0] : Fin 3 → ℕ) a + S1280x1x1152.size a ≤ S1280x3x1152.size a) (z : S1280x1x1152.Idx) :
    (Rect.unit (s := S1280x3x1152) ![0, k.val, 0] S1280x1x1152.size inb).emb z = ix3 (z 0) k (z 2) := by
  idx_vars z
  have e1 : z1.val = 0 := by omega
  funext a
  fin_cases a
  · exact Fin.ext (show 0 + 1 * z0.val = z0.val by omega)
  · exact Fin.ext (show k.val + 1 * z1.val = k.val by omega)
  · exact Fin.ext (show 0 + 1 * z2.val = z2.val by omega)

/-- Three stores of a row each leave the three rows. -/
theorem rows_at (G : Fin 1280 → Fin 3 → Fin 1152 → EReal) (p2 p1 p0 : Vec Ideal S1280x1x1152 .f32)
    (h2 : ∀ B l, p2 (ix3 B 0 l) = G B 2 l) (h1 : ∀ B l, p1 (ix3 B 0 l) = G B 1 l) (h0 : ∀ B l, p0 (ix3 B 0 l) = G B 0 l)
    (B : Fin 1280) (k : Fin 3) (l : Fin 1152) :
    View.canon (Val := Elt Ideal) [⟨r0_14, p2⟩, ⟨r0_8, p1⟩, ⟨r0_2, p0⟩] (ix3 B k l) = G B k l := by
  refine View.canon_append_of_pieces (fun j : S1280x3x1152.Idx => G (j 0) (j 1) (j 2)) [] [⟨r0_14, p2⟩, ⟨r0_8, p1⟩, ⟨r0_2, p0⟩] ?_ _
    (cover0_11 _ _ _ _)
  intro p hp
  simp only [List.mem_cons, List.not_mem_nil, or_false] at hp
  rcases hp with rfl | rfl | rfl <;> intro z
  · exact (congrArg p2 (mid_eq z)).trans ((h2 (z 0) (z 2)).trans (congrArg (fun j : S1280x3x1152.Idx => G (j 0) (j 1) (j 2)) (row_at (k := 2) inb_S1280x3x1152_S1280x1x1152_0_2_0 z).symm))
  · exact (congrArg p1 (mid_eq z)).trans ((h1 (z 0) (z 2)).trans (congrArg (fun j : S1280x3x1152.Idx => G (j 0) (j 1) (j 2)) (row_at (k := 1) inb_S1280x3x1152_S1280x1x1152_0_1_0 z).symm))
  · exact (congrArg p0 (mid_eq z)).trans ((h0 (z 0) (z 2)).trans (congrArg (fun j : S1280x3x1152.Idx => G (j 0) (j 1) (j 2)) (row_at (k := 0) inb_S1280x3x1152_S1280x1x1152_0_0_0 z).symm))

/-- What the kernel writes to its third output. -/
theorem out_at (x0 : Vec Ideal S163840x1152 .fp8e4m3) (x1 : Vec Ideal S163840x1 .f32) (x2 : Vec Ideal S163840x1152 .bf16)
    (x3 : Vec Ideal S163840x1152 .fp8e5m2) (x4 : Vec Ideal S163840x1 .f32) (x5 : Vec Ideal S163840x1152 .fp8e5m2) (x6 : Vec Ideal S163840x1 .f32)
    (x7 : Vec Ideal S163840x1 .i32) (x8 : Vec Ideal S5x1152 .f32) (B : Fin 1280) (k : Fin 3) (l : Fin 1152) :
    out0_11 (F := Ideal) x0 x1 x2 x3 x4 x5 x6 x7 x8 (ix3 B k l)
      = blockSum x0 (ofCol x1) x2 x3 (ofCol x4) x5 (ofCol x6) B k l := by
  unfold_out out0_11
  simp only [ld_rows, ld_col]
  refine rows_at (fun B k l => blockSum x0 (ofCol x1) x2 x3 (ofCol x4) x5 (ofCol x6) B k l) _ _ _ (fun B l => ?_) (fun B l => ?_) (fun B l => ?_) B k l
  · exact (pay24_at _ B l).trans (Finset.sum_congr rfl fun r _ => gate_at x2 x3 x4 _ _)
  · exact (pay16_at _ B l).trans (Finset.sum_congr rfl fun r _ => scale_at x0 x1 x5 x6 _ _)
  · exact (pay9_at _ B l).trans (Finset.sum_congr rfl fun r _ => shift_at x5 x6 _ _)

variable (m : (ℓ : Loc nD τ sig) → Buf (Elt Ideal) ℓ)

theorem col_at (v : FVec Ideal Col .f32) (h : Col.ShapeCasts S163840x1) (t : Fin 163840) :
    shapeCast S163840x1 v h (ix2 t 0) = v (ix1 t) := by
  pointwise

theorem V_v0 (c : Dev nD) :
    V m c main_v0 = (bitcastToFloat .fp8e4m3 (m ((c : Thread nD τ).loc main_arg0)) : FVec Ideal Rows .fp8e4m3) := by
  dsimp only [V, hostOps0]
  simp only [StableHlo.after_cons, StableHlo.after_nil]
  repeat rw [StableHlo.reshape_result_ne _ _ _ _ _ _ _ (by decide)]
  rw [StableHlo.unary_result_ne _ _ _ _ _ _ (by decide), StableHlo.unary_result]

theorem V_v1 (c : Dev nD) :
    V m c main_v1 = (bitcastToFloat .fp8e5m2 (m ((c : Thread nD τ).loc main_arg5)) : FVec Ideal Rows .fp8e5m2) := by
  dsimp only [V, hostOps0]
  simp only [StableHlo.after_cons, StableHlo.after_nil]
  repeat rw [StableHlo.reshape_result_ne _ _ _ _ _ _ _ (by decide)]
  rw [StableHlo.unary_result, StableHlo.unary_result_ne _ _ _ _ _ _ (by decide)]

theorem V_v2 (c : Dev nD) (t : Fin 163840) :
    V m c main_v2 (ix2 t 0) = m ((c : Thread nD τ).loc main_arg1) (ix1 t) := by
  dsimp only [V, hostOps0]
  simp only [StableHlo.after_cons, StableHlo.after_nil]
  repeat rw [StableHlo.reshape_result_ne _ _ _ _ _ _ _ (by decide)]
  rw [StableHlo.reshape_result]
  repeat rw [StableHlo.unary_result_ne _ _ _ _ _ _ (by decide)]
  exact col_at _ _ t

theorem V_v3 (c : Dev nD) (t : Fin 163840) :
    V m c main_v3 (ix2 t 0) = m ((c : Thread nD τ).loc main_arg4) (ix1 t) := by
  dsimp only [V, hostOps0]
  simp only [StableHlo.after_cons, StableHlo.after_nil]
  repeat rw [StableHlo.reshape_result_ne _ _ _ _ _ _ _ (by decide)]
  rw [StableHlo.reshape_result]
  repeat rw [StableHlo.reshape_result_ne _ _ _ _ _ _ _ (by decide)]
  repeat rw [StableHlo.unary_result_ne _ _ _ _ _ _ (by decide)]
  exact col_at _ _ t

theorem V_v4 (c : Dev nD) (t : Fin 163840) :
    V m c main_v4 (ix2 t 0) = m ((c : Thread nD τ).loc main_arg6) (ix1 t) := by
  dsimp only [V, hostOps0]
  simp only [StableHlo.after_cons, StableHlo.after_nil]
  repeat rw [StableHlo.reshape_result_ne _ _ _ _ _ _ _ (by decide)]
  rw [StableHlo.reshape_result]
  repeat rw [StableHlo.reshape_result_ne _ _ _ _ _ _ _ (by decide)]
  repeat rw [StableHlo.unary_result_ne _ _ _ _ _ _ (by decide)]
  exact col_at _ _ t

theorem index_0 : ∀ t : Fin cfg0.N, win0_0.index t = ![0, 0] := (by decide +kernel : ∀ t : Fin grid0.N, _)
theorem blk_0 (c : Dev nD) (u : Fin cfg0.N) : iblk m c 0 u = V m c main_v0 := by
  funext j
  idx_vars j
  blk_simp [iblk]
  blk_ext [index_0]
theorem index_1 : ∀ t : Fin cfg0.N, win0_1.index t = ![0, 0] := (by decide +kernel : ∀ t : Fin grid0.N, _)
theorem blk_1 (c : Dev nD) (u : Fin cfg0.N) : iblk m c 1 u = V m c main_v2 := by
  funext j
  idx_vars j
  blk_simp [iblk]
  blk_ext [index_1]
theorem index_2 : ∀ t : Fin cfg0.N, win0_2.index t = ![0, 0] := (by decide +kernel : ∀ t : Fin grid0.N, _)
theorem blk_2 (c : Dev nD) (u : Fin cfg0.N) : iblk m c 2 u = V m c main_arg2 := by
  funext j
  idx_vars j
  blk_simp [iblk]
  blk_ext [index_2]
theorem index_3 : ∀ t : Fin cfg0.N, win0_3.index t = ![0, 0] := (by decide +kernel : ∀ t : Fin grid0.N, _)
theorem blk_3 (c : Dev nD) (u : Fin cfg0.N) : iblk m c 3 u = V m c main_arg3 := by
  funext j
  idx_vars j
  blk_simp [iblk]
  blk_ext [index_3]
theorem index_4 : ∀ t : Fin cfg0.N, win0_4.index t = ![0, 0] := (by decide +kernel : ∀ t : Fin grid0.N, _)
theorem blk_4 (c : Dev nD) (u : Fin cfg0.N) : iblk m c 4 u = V m c main_v3 := by
  funext j
  idx_vars j
  blk_simp [iblk]
  blk_ext [index_4]
theorem index_5 : ∀ t : Fin cfg0.N, win0_5.index t = ![0, 0] := (by decide +kernel : ∀ t : Fin grid0.N, _)
theorem blk_5 (c : Dev nD) (u : Fin cfg0.N) : iblk m c 5 u = V m c main_v1 := by
  funext j
  idx_vars j
  blk_simp [iblk]
  blk_ext [index_5]
theorem index_6 : ∀ t : Fin cfg0.N, win0_6.index t = ![0, 0] := (by decide +kernel : ∀ t : Fin grid0.N, _)
theorem blk_6 (c : Dev nD) (u : Fin cfg0.N) : iblk m c 6 u = V m c main_v4 := by
  funext j
  idx_vars j
  blk_simp [iblk]
  blk_ext [index_6]

/-- The third result as launched arguments have it. -/
def result (c : Dev nD) (j : S1280x3x1152.Idx) : EReal :=
  blockSum (bitcastToFloat .fp8e4m3 (m ((c : Thread nD τ).loc main_arg0))) (m ((c : Thread nD τ).loc main_arg1)) (m ((c : Thread nD τ).loc main_arg2))
    (m ((c : Thread nD τ).loc main_arg3)) (m ((c : Thread nD τ).loc main_arg4)) (bitcastToFloat .fp8e5m2 (m ((c : Thread nD τ).loc main_arg5)))
    (m ((c : Thread nD τ).loc main_arg6)) (j 0) (j 1) (j 2)

theorem ofCol_eq {v : Vec Ideal S163840x1 .f32} {w : FVec Ideal Col .f32} (h : ∀ t, v (ix2 t 0) = w (ix1 t)) : ofCol v = w := by
  funext i
  idx_vars i
  exact h i0

theorem after_11 (c : Dev nD) (u : Fin cfg0.N) (j : S1280x3x1152.Idx) : (dats m 0 c).after 11 u j = result m c j := by
  idx_vars j
  rw [after0_11, blk_0, blk_1, blk_2, blk_3, blk_4, blk_5, blk_6, out_at, V_v0, V_v1, ofCol_eq (V_v2 m c), ofCol_eq (V_v3 m c),
    ofCol_eq (V_v4 m c), V_main_arg2, V_main_arg3]
  rfl

theorem index_11 : ∀ t : Fin cfg0.N, win0_11.index t = ![0, 0, 0] := (by decide +kernel : ∀ t : Fin grid0.N, _)

theorem arr_11 (c : Dev nD) : (dats m 0 c).arrAt 11 cfg0.N = result m c := by
  refine (dats m 0 c).arrAt_eq_of_covers 11 _ (by decide +kernel) fun t _ y => ?_
  refine (after_11 m c t _).trans (congrArg (result m c) ?_)
  funext a
  fin_cases a <;> exact Fin.ext (by blk_simp [index_11])

/-- The run leaves its third result array at `result`. -/
theorem run_result (ρ : Dev nD → PrngReg) : θ_run defs (onTc (τ := τ) (main (F := Ideal))) ⟨m, fun _ => 0, ρ⟩
    (fun r => ∀ c : Dev nD, r.2.mem ((c.tc : Thread nD τ).loc main_v6_2) = result m c) :=
  (θ_run defs _ _).mono (fun _ h c => ((h c).1 11).trans (arr_11 m c)) (run_main m ρ)

end Cert.Proof.ReferenceIdeal.Value

end
-- ==== Proof.DxWeights.lean ====
/-
  What the two scratch buffers of the samples' scales hold after a step over the extended reals, when every scale is a real
  number: row by row of the weights, and each sample's scale row; and the chunks' weighted sums that follow.
-/
module

public import proofs.«01_k».proof.Proof.WeightRows
public import proofs.«01_k».proof.Proof.BlockRows
public import proofs.«01_k».proof.Proof.RowAlgebra
public import proofs.«01_k».proof.Proof.DxSpec

@[expose] public section

noncomputable section

namespace Cert.Proof.KernelIdeal.Spec

open Cert.KernelIdeal Cert.KernelIdeal.Gen
open Idealize.ShloMosaic
open scoped BigOperators

local notation "EI" => Elt Ideal

/-- A sample's weight in row `j` of the four that are used. -/
def wAt (j : Fin 4) (w : ℝ) : EReal := if j.val = 0 then 1 else if j.val = 1 then (w : EReal) else 0

theorem wrow_at (m : FVec Ideal S1x1152 .f32) (l : Fin 1152) {r : ℝ} (h : m (ix2 0 l) = (r : EReal)) (j : Fin 4) :
    wrow m (ix3 0 ⟨j.val, by omega⟩ l) = wAt j (1 + r) := by
  have e : (1 : EReal) + m (ix2 0 l) = ((1 + r : ℝ) : EReal) := by rw [h, EReal.coe_add]; rfl
  have z : (1 + (r : EReal)) - (1 + (r : EReal)) = 0 := by
    have := EReal.coe_sub (1 + r) (1 + r)
    rw [sub_self, EReal.coe_add] at this
    exact this.symm
  fin_cases j
  · exact wrow_ones m l
  · pointwise [wrow, p1]
    simp [wAt, e]
  · pointwise [wrow, p1, p2]
    simp [wAt, e, z]
  · pointwise [wrow, p1, p2, p3]
    simp [wAt, e, z]

theorem scale_at (m : FVec Ideal S1x1152 .f32) (l : Fin 1152) {r : ℝ} (h : m (ix2 0 l) = (r : EReal)) (k : Fin 8) :
    scale m (ix3 0 k l) = ((1 + r : ℝ) : EReal) := by
  have e : (1 : EReal) + m (ix2 0 l) = ((1 + r : ℝ) : EReal) := by rw [h, EReal.coe_add]; rfl
  pointwise [scale]
  simp [e]

/-- The four rows of every sample's weights, and every sample's scale row. -/
def WeightRows (M : Fin 5 → Fin 1152 → ℝ) (X : (Shape.Idx S5x16x1152) → EI .bf16) : Prop :=
  ∀ (s : Fin 5) (j : Fin 4) (l : Fin 1152), X (ix3 s ⟨j.val, by omega⟩ l) = wAt j (1 + M s l)
def ScaleRows (M : Fin 5 → Fin 1152 → ℝ) (X : (Shape.Idx S5x8x1152) → EI .f32) : Prop :=
  ∀ (s : Fin 5) (k : Fin 8) (l : Fin 1152), X (ix3 s k l) = ((1 + M s l : ℝ) : EReal)

section Fill

variable (c : Dev nD) (i : grid0.Coords) (arg6 : Memref sig .tc .vmem S5x1152 .f32) (arg14 : Memref sig .tc .vmem S5x16x1152 .bf16)
  (arg15 : Memref sig .tc .vmem S5x8x1152 .f32) (f6 : Bf (F := Ideal) c arg6) (f14 : Bf (F := Ideal) c arg14) (f15 : Bf (F := Ideal) c arg15)
  {M : Fin 5 → Fin 1152 → ℝ} (hM : ∀ s l, arg6.view.read EI f6 (ix2 s l) = (M s l : EReal))

include hM in
theorem mod_at {s : ℕ} (hs : s < 5) (s' : Fin 5) (e : s'.val = s) (l : Fin 1152) :
    (View.readAt EI arg6.view (Rect.unit (s := S5x1152) ![s, 0] S1x1152.size (inbMod hs)).toLoadRect f6 : FVec Ideal S1x1152 .f32) (ix2 0 l) = (M s' l : EReal) := by
  refine (readAt2 arg6.view f6 _ 0 l).trans (Eq.trans (congrArg (arg6.view.read EI f6) ?_) (hM s' l))
  congr 1
  · exact Fin.ext (by show s + 0 = s'.val; omega)
  · exact Fin.ext (Nat.zero_add _)

include hM in
theorem wstat_rows (h : (i 0).val ≠ 0 → WeightRows M (arg14.view.read EI f14)) : WeightRows M (arg14.view.read EI (wstat c i arg6 arg14 f6 f14)) := by
  intro s j l
  unfold wstat
  split
  · rename_i hc
    have key {s' : ℕ} (hs : s' < 5) (a0 : s.val - s' < 1) (b0 : s' ≤ s.val) (j' : Fin 16) (ej : j'.val = j.val) (l' : Fin 1152) (el : l'.val = l.val) :
        wrow (F := Ideal) (View.readAt EI arg6.view (Rect.unit (s := S5x1152) ![s', 0] S1x1152.size (inbMod hs)).toLoadRect f6) (ix3 ⟨s.val - s', a0⟩ j' l') = wAt j (1 + M s l) := by
      obtain rfl : l' = l := Fin.ext el
      rw [show j' = ⟨j.val, by omega⟩ from Fin.ext ej, show (⟨s.val - s', a0⟩ : Fin 1) = 0 from Subsingleton.elim _ _]
      exact wrow_at _ _ (mod_at c arg6 f6 hM hs s (by omega) _) j
    refine store3 _ _ _ _ _ s _ l _ (fun a0 _ _ b0 _ _ => key (s' := 4) (by decide) a0 b0 _ rfl _ rfl) fun h4 => store3 _ _ _ _ _ s _ l _ (fun a0 _ _ b0 _ _ => key (s' := 3) (by decide) a0 b0 _ rfl _ rfl) fun h3 =>
      store3 _ _ _ _ _ s _ l _ (fun a0 _ _ b0 _ _ => key (s' := 2) (by decide) a0 b0 _ rfl _ rfl) fun h2 => store3 _ _ _ _ _ s _ l _ (fun a0 _ _ b0 _ _ => key (s' := 1) (by decide) a0 b0 _ rfl _ rfl) fun h1 =>
      store3 _ _ _ _ _ s _ l _ (fun a0 _ _ b0 _ _ => key (s' := 0) (by decide) a0 b0 _ rfl _ rfl) fun h0 => ?_
    exfalso
    have := s.isLt
    simp only [Nat.not_lt_zero, false_or, Nat.zero_add] at h0 h1 h2 h3 h4
    omega
  · rename_i hc
    refine h (fun h0 => hc ?_) s j l
    rw [h0]; decide

include hM in
theorem scales_rows (h : (i 0).val ≠ 0 → ScaleRows M (arg15.view.read EI f15)) : ScaleRows M (arg15.view.read EI (scales c i arg6 arg15 f6 f15)) := by
  intro s k l
  unfold scales
  split
  · rename_i hc
    have key {s' : ℕ} (hs : s' < 5) (a0 : s.val - s' < 1) (b0 : s' ≤ s.val) (k' : Fin 8) (l' : Fin 1152) (el : l'.val = l.val) :
        scale (F := Ideal) (View.readAt EI arg6.view (Rect.unit (s := S5x1152) ![s', 0] S1x1152.size (inbMod hs)).toLoadRect f6) (ix3 ⟨s.val - s', a0⟩ k' l') = ((1 + M s l : ℝ) : EReal) := by
      obtain rfl : l' = l := Fin.ext el
      rw [show (⟨s.val - s', a0⟩ : Fin 1) = 0 from Subsingleton.elim _ _]
      exact scale_at _ _ (mod_at c arg6 f6 hM hs s (by omega) _) k'
    refine store3 _ _ _ _ _ s _ l _ (fun a0 _ _ b0 _ _ => key (s' := 4) (by decide) a0 b0 _ _ rfl) fun h4 => store3 _ _ _ _ _ s _ l _ (fun a0 _ _ b0 _ _ => key (s' := 3) (by decide) a0 b0 _ _ rfl) fun h3 =>
      store3 _ _ _ _ _ s _ l _ (fun a0 _ _ b0 _ _ => key (s' := 2) (by decide) a0 b0 _ _ rfl) fun h2 => store3 _ _ _ _ _ s _ l _ (fun a0 _ _ b0 _ _ => key (s' := 1) (by decide) a0 b0 _ _ rfl) fun h1 =>
      store3 _ _ _ _ _ s _ l _ (fun a0 _ _ b0 _ _ => key (s' := 0) (by decide) a0 b0 _ _ rfl) fun h0 => ?_
    exfalso
    have := s.isLt
    simp only [Nat.not_lt_zero, false_or, Nat.zero_add] at h0 h1 h2 h3 h4
    omega
  · rename_i hc
    refine h (fun h0 => hc ?_) s k l
    rw [h0]; decide

end Fill

theorem dotK_at {e : FTy} (w : FVec Ideal S16x256 .bf16) (x : FVec Ideal S256x256 e) (r : Fin 16) (j : Fin 256) :
    dotK w x (ix2 r j) = ∑ k : Fin 256, w (ix2 r k) * x (ix2 j k) := by
  pointwise [dotK]
theorem dotK'_at {e : FTy} (w : FVec Ideal S16x128 .bf16) (x : FVec Ideal S256x128 e) (r : Fin 16) (j : Fin 256) :
    dotK' w x (ix2 r j) = ∑ k : Fin 128, w (ix2 r k) * x (ix2 j k) := by
  pointwise [dotK']

theorem row123_at (r : FVec Ideal S16x256 .f32) (a : Fin 256) : row123 r (ix2 0 a) = r (ix2 1 a) + (r (ix2 2 a) + r (ix2 3 a)) := by
  pointwise [row123]
theorem cast_row (w : FVec Ideal S1x16x256 .bf16) (r : Fin 16) (a : Fin 256) : shapeCast S16x256 w shapeCasts_S1x16x256_S16x256 (ix2 r a) = w (ix3 0 r a) := by
  pointwise
theorem cast_row' (w : FVec Ideal S1x16x128 .bf16) (r : Fin 16) (a : Fin 128) : shapeCast S16x128 w shapeCasts_S1x16x128_S16x128 (ix2 r a) = w (ix3 0 r a) := by
  pointwise

/-- Row `ρ` of a step among its blocks' lanes, and the sample of its chunk's first row. -/
def lanePos (ρ : Fin 1024) : Shape.Idx S8x128 := ix2 ⟨ρ.val / 128, by omega⟩ ⟨ρ.val % 128, Nat.mod_lt _ (by decide)⟩
def sidOf (X : (Shape.Idx S8x128) → BitVec 32) (hX : ∀ j, (X j).toNat < 5) (n : ℕ) (hn : n < 4) : Fin 5 := ⟨(X (ix2 ⟨2 * n, by omega⟩ 0)).toNat, hX _⟩

section Sums

variable {c : Dev nD} {i : grid0.Coords}
  {arg1 : Memref sig .tc .smem S8x128 .i32}
  {arg6 : Memref sig .tc .vmem S5x1152 .f32}
  {arg7 : Memref sig .tc .vmem S1024x1152 .fp8e4m3}
  {arg10 : Memref sig .tc .vmem S1024x1152 .fp8e5m2}
  {arg14 : Memref sig .tc .vmem S5x16x1152 .bf16}
  {f1 : Bf (F := Ideal) c arg1} {f6 : Bf (F := Ideal) c arg6}
  {f7 : Bf (F := Ideal) c arg7} {f10 : Bf (F := Ideal) c arg10} {f14 : Bf (F := Ideal) c arg14}
  {hids : Ids c arg1 f1} (hX : ∀ j, (arg1.view.read EI f1 j).toNat < 5) {M : Fin 5 → Fin 1152 → ℝ}
  (hw : WeightRows M (arg14.view.read EI (wstat c i arg6 arg14 f6 f14))) {n : ℕ} (hn : n < 4)

theorem lane_pos (A : Memref sig .tc .vmem S8x128 .f32) (f : Bf (F := Ideal) c A) (k : Fin 256) :
    lane c A f hn (ix2 0 k) = A.view.read EI f (lanePos ⟨256 * n + k.val, by omega⟩) := by
  have h := lane_at hn A f (b := k.val / 128) (by omega) ⟨k.val % 128, Nat.mod_lt _ (by decide)⟩
  rw [show (⟨128 * (k.val / 128) + k.val % 128, by omega⟩ : Fin 256) = k from Fin.ext (Nat.div_add_mod _ _)] at h
  refine h.trans (congrArg (A.view.read EI f) ?_)
  unfold lanePos
  congr 1
  · exact Fin.ext (by show 2 * n + k.val / 128 = (256 * n + k.val) / 128; omega)
  · exact Fin.ext (by show k.val % 128 = (256 * n + k.val) % 128; omega)

theorem sid_eq : sid c arg1 f1 hn = arg1.view.read EI f1 (ix2 ⟨2 * n, by omega⟩ 0) := by
  have e : (Shape.Idx.first (Nat.le_of_eq numel1_S1x1.symm) : Shape.Idx S1x1) = ix2 0 0 := by
    funext a; fin_cases a <;> exact Subsingleton.elim (α := Fin 1) _ _
  unfold sid
  rw [e]
  refine (readAt2 arg1.view f1 _ 0 0).trans (congrArg (arg1.view.read EI f1) ?_)
  rfl

include hw in
theorem wk_at {k : ℕ} (hk : k < 4) (j : Fin 4) (a : Fin 256) :
    wk c i arg1 arg6 arg14 f1 f6 f14 hids hn hk (ix2 ⟨j.val, by omega⟩ a) = wAt j (1 + M (sidOf (arg1.view.read EI f1) hX n hn) ⟨256 * k + a.val, by omega⟩) := by
  refine (cast_row _ _ a).trans ?_
  refine (readAt3 arg14.view _ _ _ _ _).trans (Eq.trans (congrArg (arg14.view.read EI _) ?_) (hw (sidOf (arg1.view.read EI f1) hX n hn) j ⟨256 * k + a.val, by omega⟩))
  congr 1
  · exact Fin.ext (by show (sid c arg1 f1 hn).toNat + 0 = _; rw [sid_eq]; rfl)
  · exact Fin.ext (Nat.zero_add _)
include hw in
theorem wk'_at (j : Fin 4) (a : Fin 128) :
    wk' c i arg1 arg6 arg14 f1 f6 f14 hids hn (ix2 ⟨j.val, by omega⟩ a) = wAt j (1 + M (sidOf (arg1.view.read EI f1) hX n hn) ⟨1024 + a.val, by omega⟩) := by
  refine (cast_row' _ _ a).trans ?_
  refine (readAt3 arg14.view _ _ _ _ _).trans (Eq.trans (congrArg (arg14.view.read EI _) ?_) (hw (sidOf (arg1.view.read EI f1) hX n hn) j ⟨1024 + a.val, by omega⟩))
  congr 1
  · exact Fin.ext (by show (sid c arg1 f1 hn).toNat + 0 = _; rw [sid_eq]; rfl)
  · exact Fin.ext (Nat.zero_add _)

include hw in
theorem prods_at {e : FTy} (x : {k : ℕ} → k < 4 → FVec Ideal S256x256 e) (x' : FVec Ideal S256x128 e) (a : Fin 256) (f : Fin 1152 → EReal)
    (hx : ∀ {k : ℕ} (hk : k < 4) (b : Fin 256), x hk (ix2 a b) = f ⟨256 * k + b.val, by omega⟩) (hx' : ∀ b : Fin 128, x' (ix2 a b) = f ⟨1024 + b.val, by omega⟩) (j : Fin 4) :
    prods c i arg1 arg6 arg14 f1 f6 f14 hids hn x x' (ix2 ⟨j.val, by omega⟩ a) = ∑ l, wAt j (1 + M (sidOf (arg1.view.read EI f1) hX n hn) l) * f l := by
  pointwise [prods]
  rw [dotK_at, dotK_at, dotK_at, dotK_at, dotK'_at, ← sum_tiles]
  simp only [hx, hx', wk_at hX hw, wk'_at hX hw]

include hw in
theorem prods_123 {e : FTy} (x : {k : ℕ} → k < 4 → FVec Ideal S256x256 e) (x' : FVec Ideal S256x128 e) (a : Fin 256) (f : Fin 1152 → EReal)
    (hx : ∀ {k : ℕ} (hk : k < 4) (b : Fin 256), x hk (ix2 a b) = f ⟨256 * k + b.val, by omega⟩) (hx' : ∀ b : Fin 128, x' (ix2 a b) = f ⟨1024 + b.val, by omega⟩) :
    row123 (prods c i arg1 arg6 arg14 f1 f6 f14 hids hn x x') (ix2 0 a) = ∑ l, ((1 + M (sidOf (arg1.view.read EI f1) hX n hn) l : ℝ) : EReal) * f l := by
  have p := prods_at hX hw hn (hids := hids) x x' a f hx hx'
  rw [row123_at]
  refine (congrArg₂ (fun a b : EReal => a + b) (p 1) (congrArg₂ (fun a b : EReal => a + b) (p 2) (p 3))).trans ?_
  simp [wAt]

include hw in
theorem s_h_at (a : Fin 256) : s_h c i arg1 arg6 arg10 arg14 f1 f6 f10 f14 hids hn (ix2 0 a)
    = ∑ l, ((1 + M (sidOf (arg1.view.read EI f1) hX n hn) l : ℝ) : EReal) * arg10.view.read EI f10 (ix2 ⟨256 * n + a.val, by omega⟩ l) :=
  prods_123 hX hw hn _ _ a (fun l => arg10.view.read EI f10 (ix2 ⟨256 * n + a.val, by omega⟩ l)) (fun hk b => cols_at hn arg10 f10 hk a b) (fun b => cols'_at hn arg10 f10 a b)
include hw in
theorem s_p_at (a : Fin 256) : s_p c i arg1 arg6 arg7 arg10 arg14 f1 f6 f7 f10 f14 hids hn (ix2 0 a)
    = ∑ l, ((1 + M (sidOf (arg1.view.read EI f1) hX n hn) l : ℝ) : EReal) * (arg7.view.read EI f7 (ix2 ⟨256 * n + a.val, by omega⟩ l) * arg10.view.read EI f10 (ix2 ⟨256 * n + a.val, by omega⟩ l)) :=
  prods_123 hX hw hn _ _ a (fun l => arg7.view.read EI f7 (ix2 ⟨256 * n + a.val, by omega⟩ l) * arg10.view.read EI f10 (ix2 ⟨256 * n + a.val, by omega⟩ l))
    (fun hk b => congrArg₂ (fun p q : EReal => p * q) (cols_at hn arg7 f7 hk a b) (cols_at hn arg10 f10 hk a b))
    (fun b => congrArg₂ (fun p q : EReal => p * q) (cols'_at hn arg7 f7 a b) (cols'_at hn arg10 f10 a b))

end Sums

end Cert.Proof.KernelIdeal.Spec

end
-- ==== Proof.DxRows.lean ====
/-
  A step's stores into its input-gradient window, read at an index over the extended reals, when the saved rows, the gradient
  and the scales are real numbers: the incoming gradient's share plus a real number, `dxReal`, of the row.
-/
module

public import proofs.«01_k».proof.Proof.DxWeights

@[expose] public section

noncomputable section

namespace Cert.Proof.KernelIdeal.Spec

open Cert.KernelIdeal Cert.KernelIdeal.Gen
open Idealize.ShloMosaic
open scoped BigOperators

local notation "EI" => Elt Ideal

/-- The slope of a row's input gradient along the normalised row. -/
def slope (x h W : Fin 1152 → ℝ) (s d : ℝ) : ℝ :=
  dev x s * dev x s * (dev x s * s * (d * ((∑ l, W l * (x l * h l)) - (∑ l, x l) * (1 / 1152) * (∑ l, W l * h l))) * (1 / 1152))

/-- A row's input gradient without the incoming gradient's share: `x` the row, `s` its scale, `h` the other gradient's row, `d` its
    scale, `W` the sample's weights. -/
def dxReal (x h W : Fin 1152 → ℝ) (s d : ℝ) (l : Fin 1152) : ℝ :=
  dev x s * d * (h l * W l)
    + ((0 - slope x h W s d * s) * x l + (slope x h W s d * ((∑ l, x l) * (1 / 1152) * s) - dev x s * (d * (∑ l, W l * h l) * (1 / 1152))))

theorem coefs_at (a h p s y d r : FVec Ideal S1x256 .f32) (k : Fin 256) {a' h' p' s' d' r' : ℝ} (ea : a (ix2 0 k) = (a' : EReal)) (eh : h (ix2 0 k) = (h' : EReal))
    (ep : p (ix2 0 k) = (p' : EReal)) (es : s (ix2 0 k) = (s' : EReal)) (ed : d (ix2 0 k) = (d' : EReal)) (er : r (ix2 0 k) = (r' : EReal)) :
    coefs a h p s y d r (ix2 k 0) = y (ix2 0 k)
    ∧ coefs a h p s y d r (ix2 k 1) = ((r' * d' : ℝ) : EReal)
    ∧ coefs a h p s y d r (ix2 k 2) = ((0 - r' * r' * (r' * s' * (d' * (p' - a' * (1 / 1152) * h')) * (1 / 1152)) * s' : ℝ) : EReal)
    ∧ coefs a h p s y d r (ix2 k 3) = ((r' * r' * (r' * s' * (d' * (p' - a' * (1 / 1152) * h')) * (1 / 1152)) * (a' * (1 / 1152) * s')
        - r' * (d' * h' * (1 / 1152)) : ℝ) : EReal) := by
  refine ⟨?_, ?_, ?_, ?_⟩
  · pointwise [coefs, k0_pay1747]
  · pointwise [coefs, k0_pay1747, k0_pay1744]
    simp only [ed, er, ← EReal.coe_mul]
  · pointwise [coefs, k0_pay1747, k0_pay1742, k0_pay1743, k0_pay1744]
    simp only [ea, eh, ep, es, ed, er, inv_n, ← EReal.coe_mul, ← EReal.coe_zero, ← EReal.coe_sub]
  · pointwise [coefs, k0_pay1747, k0_pay1742, k0_pay1743, k0_pay1744]
    simp only [ea, eh, ep, es, ed, er, inv_n, ← EReal.coe_mul, ← EReal.coe_zero, ← EReal.coe_sub]

/-- A tile's value at an index. -/
theorem tile_at (co : FVec Ideal S32x8 .f32) (y h : FVec Ideal S32x128 .fp8e5m2) (x : FVec Ideal S32x128 .fp8e4m3) (w : FVec Ideal S1x1x128 .f32) (a : Fin 32) (b : Fin 128) :
    (truncf .bf16 (addf (addf (mulf (along (n := 0) (h := slices_S32x8_o0_0_S32x1) co) (extf .f32 y bitsLt_fp8e5m2_f32)) (mulf (along (n := 1) (h := slices_S32x8_o0_1_S32x1) co)
        (mulf (extf .f32 (shapeCast S32x128 h shapeCasts_S32x128_S32x128) bitsLt_fp8e5m2_f32) (broadcastTo S32x128 (shapeCast S1x128 w shapeCasts_S1x1x128_S1x128) broadcasts_S1x128_S32x128))))
      (addf (mulf (along (n := 2) (h := slices_S32x8_o0_2_S32x1) co) (extf .f32 (shapeCast S32x128 x shapeCasts_S32x128_S32x128) bitsLt_fp8e4m3_f32))
        (along (n := 3) (h := slices_S32x8_o0_3_S32x1) co))) bitsLt_bf16_f32 : FVec Ideal S32x128 .bf16) (ix2 a b)
      = (co (ix2 a 0) * y (ix2 a b) + co (ix2 a 1) * (h (ix2 a b) * w (ix3 0 0 b))) + (co (ix2 a 2) * x (ix2 a b) + co (ix2 a 3)) := by
  pointwise [along]

/-- A store in front: what is read is its payload inside its box, and what was there before outside. -/
theorem store2 {κ : Kind} {sp : Space} {e : EltTy} {n0 n1 m0 m1 o0 o1 : ℕ} (v : View sig κ sp ⟨2, ![n0, n1]⟩ e) (f : v.ty.Contents EI)
    (h : ∀ a, (![o0, o1] : Fin 2 → ℕ) a + (![m0, m1] : Fin 2 → ℕ) a ≤ (![n0, n1] : Fin 2 → ℕ) a)
    (w : (⟨2, ![m0, m1]⟩ : Shape).Idx → EI e) (L : List (View.Piece EI ⟨2, ![n0, n1]⟩ e)) (a : Fin n0) (b : Fin n1) (G : EI e)
    (hin : ∀ (h0 : a.val - o0 < m0) (h1 : b.val - o1 < m1), o0 ≤ a.val → o1 ≤ b.val → w (ix2 ⟨a.val - o0, h0⟩ ⟨b.val - o1, h1⟩) = G)
    (hout : (a.val < o0 ∨ o0 + m0 ≤ a.val) ∨ (b.val < o1 ∨ o1 + m1 ≤ b.val) → v.read EI (v.writes EI f L) (ix2 a b) = G) :
    v.read EI (v.writes EI f (⟨Rect.unit (s := ⟨2, ![n0, n1]⟩) ![o0, o1] ![m0, m1] h, w⟩ :: L)) (ix2 a b) = G := by
  by_cases c0 : a.val < o0 ∨ o0 + m0 ≤ a.val
  · rw [View.read_writes_cons_unit_of_not_mem v f h w L (ix2 a b) rfl 0 c0]; exact hout (.inl c0)
  by_cases c1 : b.val < o1 ∨ o1 + m1 ≤ b.val
  · rw [View.read_writes_cons_unit_of_not_mem v f h w L (ix2 a b) rfl 1 c1]; exact hout (.inr c1)
  have h0 : a.val - o0 < m0 := by omega
  have h1 : b.val - o1 < m1 := by omega
  rw [View.read_writes_cons_unit_of_mem v f h w L (ix2 a b) (ix2 ⟨a.val - o0, h0⟩ ⟨b.val - o1, h1⟩) rfl ?_]
  · exact hin h0 h1 (by omega) (by omega)
  · intro x; fin_cases x
    · show a.val = o0 + (a.val - o0); omega
    · show b.val = o1 + (b.val - o1); omega

section Step

variable {c : Dev nD} {i : grid0.Coords}
  {arg1 : Memref sig .tc .smem S8x128 .i32}
  {arg3 arg4 arg5 : Memref sig .tc .vmem S8x128 .f32}
  {arg6 : Memref sig .tc .vmem S5x1152 .f32}
  {arg7 : Memref sig .tc .vmem S1024x1152 .fp8e4m3}
  {arg9 arg10 : Memref sig .tc .vmem S1024x1152 .fp8e5m2}
  {arg14 : Memref sig .tc .vmem S5x16x1152 .bf16}
  {arg15 : Memref sig .tc .vmem S5x8x1152 .f32}
  {arg17 : Memref sig .tc .vmem S256x8 .f32}
  {f1 : Bf (F := Ideal) c arg1} {f3 : Bf (F := Ideal) c arg3} {f4 : Bf (F := Ideal) c arg4} {f5 : Bf (F := Ideal) c arg5} {f6 : Bf (F := Ideal) c arg6}
  {f7 : Bf (F := Ideal) c arg7} {f9 : Bf (F := Ideal) c arg9} {f10 : Bf (F := Ideal) c arg10} {f14 : Bf (F := Ideal) c arg14} {f15 : Bf (F := Ideal) c arg15}
  {hids : Ids c arg1 f1} (hX : ∀ j, (arg1.view.read EI f1 j).toNat < 5) {M : Fin 5 → Fin 1152 → ℝ}
  (hw : WeightRows M (arg14.view.read EI (wstat c i arg6 arg14 f6 f14)))
  (hs : ScaleRows M (arg15.view.read EI (scales c i arg6 arg15 f6 f15)))
  {x h : Fin 1024 → Fin 1152 → ℝ} {s d : Fin 1024 → ℝ}
  (h7 : ∀ ρ l, arg7.view.read EI f7 (ix2 ρ l) = (x ρ l : EReal)) (h10 : ∀ ρ l, arg10.view.read EI f10 (ix2 ρ l) = (h ρ l : EReal))
  (h3 : ∀ ρ, arg3.view.read EI f3 (lanePos ρ) = (s ρ : EReal)) (h5 : ∀ ρ, arg5.view.read EI f5 (lanePos ρ) = (d ρ : EReal))

/-- A row's weights, of its chunk's first sample. -/
abbrev rowW (M : Fin 5 → Fin 1152 → ℝ) (X : (Shape.Idx S8x128) → BitVec 32) (hX : ∀ j, (X j).toNat < 5) (ρ : Fin 1024) (l : Fin 1152) : ℝ :=
  1 + M (sidOf X hX (ρ.val / 256) (by omega)) l

/-- What the step's window holds: `Y` the incoming gradient's scale of each row, `D` that gradient. -/
def dxVal (M : Fin 5 → Fin 1152 → ℝ) (X : (Shape.Idx S8x128) → BitVec 32) (hX : ∀ j, (X j).toNat < 5) (Y : FVec Ideal S8x128 .f32) (D : FVec Ideal S1024x1152 .fp8e5m2)
    (x h : Fin 1024 → Fin 1152 → ℝ) (s d : Fin 1024 → ℝ) (ρ : Fin 1024) (l : Fin 1152) : EReal :=
  Y (lanePos ρ) * D (ix2 ρ l) + (dxReal (x ρ) (h ρ) (rowW M X hX ρ) (s ρ) (d ρ) l : EReal)

section Chunk

variable {n : ℕ} (hn : n < 4)

include hw in
theorem ones_of : Ones c arg14 (wstat c i arg6 arg14 f6 f14) := fun s l => hw s 0 l

include hX hw h7 h10 h3 h5 in
/-- The coefficients of a chunk's row. -/
theorem coefRow_at (k : Fin 256) (ρ : Fin 1024) (e : ρ.val = 256 * n + k.val) (f : arg17.view.ty.Contents EI) (co : Fin 8 → EReal)
    (hco : ∀ j, co j = arg17.view.read EI (arg17.view.writes EI f (coefStack c i arg1 arg3 arg4 arg5 arg6 arg7 arg10 arg14 f1 f3 f4 f5 f6 f7 f10 f14 hids n hn)) (ix2 k j)) :
    co 0 = arg4.view.read EI f4 (lanePos ρ)
    ∧ co 1 = ((dev (x ρ) (s ρ) * d ρ : ℝ) : EReal)
    ∧ co 2 = ((0 - slope (x ρ) (h ρ) (rowW M (arg1.view.read EI f1) hX ρ) (s ρ) (d ρ) * s ρ : ℝ) : EReal)
    ∧ co 3 = ((slope (x ρ) (h ρ) (rowW M (arg1.view.read EI f1) hX ρ) (s ρ) (d ρ) * ((∑ l, x ρ l) * (1 / 1152) * s ρ)
        - dev (x ρ) (s ρ) * (d ρ * (∑ l, rowW M (arg1.view.read EI f1) hX ρ l * h ρ l) * (1 / 1152)) : ℝ) : EReal) := by
  have eρ : (⟨256 * n + k.val, by omega⟩ : Fin 1024) = ρ := Fin.ext e.symm
  have en : n = ρ.val / 256 := by omega
  have read (j : Fin 8) : arg17.view.read EI (arg17.view.writes EI f (coefStack c i arg1 arg3 arg4 arg5 arg6 arg7 arg10 arg14 f1 f3 f4 f5 f6 f7 f10 f14 hids n hn)) (ix2 k j)
      = coefMat c i arg1 arg3 arg4 arg5 arg6 arg7 arg10 arg14 f1 f3 f4 f5 f6 f7 f10 f14 hids hn (ix2 k j) := by
    cases n <;> exact View.read_writes_cons_unit_of_mem (off' := ![0, 0]) arg17.view f inb_S256x8_S256x8_0_0 _ _ (ix2 k j) (ix2 k j) rfl
      (fun x => by fin_cases x <;> exact (Nat.zero_add _).symm)
  have eW : ∀ l, 1 + M (sidOf (arg1.view.read EI f1) hX n hn) l = rowW M (arg1.view.read EI f1) hX ρ l := by subst en; exact fun _ => rfl
  have hone := ones_of hw
  have ea : s_x c i arg1 arg6 arg7 arg14 f1 f6 f7 f14 hids hn (ix2 0 k) = ((∑ l, x ρ l : ℝ) : EReal) := by
    rw [s_x_at hn hone, eρ]; simp only [h7, coe_sum]
  have eq : s_q c i arg1 arg6 arg7 arg14 f1 f6 f7 f14 hids hn (ix2 0 k) = ((∑ l, x ρ l * x ρ l : ℝ) : EReal) := by
    rw [s_q_at hn hone, eρ]; simp only [h7, coe_sum, EReal.coe_mul]
  have eh : s_h c i arg1 arg6 arg10 arg14 f1 f6 f10 f14 hids hn (ix2 0 k) = ((∑ l, rowW M (arg1.view.read EI f1) hX ρ l * h ρ l : ℝ) : EReal) := by
    rw [s_h_at hX hw hn, eρ]; simp only [h10, coe_sum, EReal.coe_mul, eW]
  have ep : s_p c i arg1 arg6 arg7 arg10 arg14 f1 f6 f7 f10 f14 hids hn (ix2 0 k) = ((∑ l, rowW M (arg1.view.read EI f1) hX ρ l * (x ρ l * h ρ l) : ℝ) : EReal) := by
    rw [s_p_at hX hw hn, eρ]; simp only [h7, h10, coe_sum, EReal.coe_mul, eW]
  have es : lane c arg3 f3 hn (ix2 0 k) = (s ρ : EReal) := by rw [lane_pos hn, eρ, h3]
  have ed : lane c arg5 f5 hn (ix2 0 k) = (d ρ : EReal) := by rw [lane_pos hn, eρ, h5]
  have ey : lane c arg4 f4 hn (ix2 0 k) = arg4.view.read EI f4 (lanePos ρ) := by rw [lane_pos hn, eρ]
  have er : rs c i arg1 arg3 arg6 arg7 arg14 f1 f3 f6 f7 f14 hids hn (ix2 0 k) = (dev (x ρ) (s ρ) : EReal) := by
    rw [rs, rstd_at, ea, eq, es, rE_dev]
  obtain ⟨c0, c1, c2, c3⟩ := coefs_at _ _ _ _ (lane c arg4 f4 hn) _ _ k ea eh ep es ed er
  exact ⟨(hco 0).trans ((read 0).trans (c0.trans ey)), (hco 1).trans ((read 1).trans c1), (hco 2).trans ((read 2).trans c2), (hco 3).trans ((read 3).trans c3)⟩

include hw hs h7 h10 h3 h5 in
/-- A tile's element. -/
theorem dxTile_at {g t : ℕ} (hg : g < 8) (ht : t < 9) (a : Fin 32) (b : Fin 128) (ρ : Fin 1024) (l : Fin 1152) (eρ : ρ.val = 32 * (8 * n + g) + a.val) (el : l.val = 128 * t + b.val) :
    dxTile c i arg1 arg6 arg7 arg9 arg10 arg15 arg17 f1 f6 f7 f9 f10 f15 hids hn (coefStack c i arg1 arg3 arg4 arg5 arg6 arg7 arg10 arg14 f1 f3 f4 f5 f6 f7 f10 f14 hids n hn) hg ht (ix2 a b)
      = dxVal M (arg1.view.read EI f1) hX (arg4.view.read EI f4) (arg9.view.read EI f9) x h s d ρ l := by
  have e2 {e : EltTy} (A : Memref sig .tc .vmem S1024x1152 e) (f : Bf (F := Ideal) c A) :
      (View.readAt EI A.view (Rect.unit (s := S1024x1152) ![32 * (8 * n + g), 128 * t] S32x128.size (inbG (group_lt hn hg) ht)).toLoadRect f : Vec Ideal S32x128 e) (ix2 a b)
      = A.view.read EI f (ix2 ρ l) := by
    refine (readAt2 A.view f _ a b).trans (congrArg (A.view.read EI f) ?_)
    congr 1
    · exact Fin.ext eρ.symm
    · exact Fin.ext el.symm
  have ew : (View.readAt EI arg15.view (Rect.unit (s := S5x8x1152) ![(Scalar.indexCast (sid c arg1 f1 hn)).toNat, 0, 128 * t] S1x1x128.size (inbScaleTile (hids _ _) ht)).toLoadRect
      (scales c i arg6 arg15 f6 f15) : FVec Ideal S1x1x128 .f32) (ix3 0 0 b) = (rowW M (arg1.view.read EI f1) hX ρ l : EReal) := by
    have en : n = ρ.val / 256 := by omega
    refine (readAt3 arg15.view _ _ _ _ _).trans (Eq.trans (congrArg (arg15.view.read EI _) ?_) (hs (sidOf (arg1.view.read EI f1) hX (ρ.val / 256) (by omega)) 0 l))
    subst en
    congr 1
    · exact Fin.ext (by show (sid c arg1 f1 hn).toNat + 0 = _; rw [sid_eq]; rfl)
    · exact Fin.ext el.symm
  obtain ⟨c0, c1, c2, c3⟩ := coefRow_at hX hw h7 h10 h3 h5 hn (hids := hids) (arg4 := arg4) (f4 := f4) ⟨32 * g + a.val, by omega⟩ ρ
    (by show ρ.val = 256 * n + (32 * g + a.val); omega) arg17.view.junk
    (fun j => (arg17.view.readCov (coefStack c i arg1 arg3 arg4 arg5 arg6 arg7 arg10 arg14 f1 f3 f4 f5 f6 f7 f10 f14 hids n hn)
      (Rect.unit (s := S256x8) ![32 * g, 0] S32x8.size (inbCo hg)).toLoadRect : FVec Ideal S32x8 .f32) (ix2 a j))
    (fun j => (readAt2 arg17.view _ _ a j).trans (congrArg (arg17.view.read EI _) (by congr 1; exact Fin.ext (Nat.zero_add _))))
  unfold dxTile
  refine (tile_at _ _ _ _ _ a b).trans ?_
  refine (congrArg₂ (fun p q : EReal => p + q) (congrArg₂ (fun p q : EReal => p + q) (congrArg₂ (fun p q : EReal => p * q) c0 (e2 arg9 f9))
      (congrArg₂ (fun p q : EReal => p * q) c1 (congrArg₂ (fun p q : EReal => p * q) ((e2 arg10 f10).trans (h10 ρ l)) ew)))
    (congrArg₂ (fun p q : EReal => p + q) (congrArg₂ (fun p q : EReal => p * q) c2 ((e2 arg7 f7).trans (h7 ρ l))) c3)).trans ?_
  rw [dxVal, dxReal, add_assoc]
  congr 1

end Chunk

include hw hs h7 h10 h3 h5

theorem dxTiles_at {n : ℕ} (hn : n < 4) {g : ℕ} (hg : g < 8) (v : View sig .tc .vmem S1024x1152 .bf16) (f : v.ty.Contents EI) (L : List (View.Piece EI S1024x1152 .bf16))
    (ρ : Fin 1024) (l : Fin 1152) : ∀ (t : ℕ) (ht : t ≤ 9),
    v.read EI (v.writes EI f (dxTiles c i arg1 arg6 arg7 arg9 arg10 arg15 arg17 f1 f6 f7 f9 f10 f15 hids hn (coefStack c i arg1 arg3 arg4 arg5 arg6 arg7 arg10 arg14 f1 f3 f4 f5 f6 f7 f10 f14 hids n hn) hg L t ht)) (ix2 ρ l)
      = if (32 * (8 * n + g) ≤ ρ.val ∧ ρ.val < 32 * (8 * n + g) + 32) ∧ l.val < 128 * t then
          dxVal M (arg1.view.read EI f1) hX (arg4.view.read EI f4) (arg9.view.read EI f9) x h s d ρ l
        else v.read EI (v.writes EI f L) (ix2 ρ l) := by
  intro t
  induction t with
  | zero => intro ht; rw [if_neg (by omega)]; rfl
  | succ t ih =>
    intro ht
    refine store2 v f _ _ _ ρ l _ (fun a0 a1 b0 b1 => ?_) fun ho => (ih (by omega)).trans ?_
    · rw [if_pos (by omega)]
      exact dxTile_at hX hw hs h7 h10 h3 h5 hn hg ht _ _ ρ l (by show ρ.val = _ + (ρ.val - _); omega) (by show l.val = _ + (l.val - _); omega)
    · refine if_congr ?_ rfl rfl
      omega

theorem dxGroups_at {n : ℕ} (hn : n < 4) (v : View sig .tc .vmem S1024x1152 .bf16) (f : v.ty.Contents EI) (L : List (View.Piece EI S1024x1152 .bf16))
    (ρ : Fin 1024) (l : Fin 1152) : ∀ (g : ℕ) (hg : g ≤ 8),
    v.read EI (v.writes EI f (dxGroups c i arg1 arg6 arg7 arg9 arg10 arg15 arg17 f1 f6 f7 f9 f10 f15 hids hn (coefStack c i arg1 arg3 arg4 arg5 arg6 arg7 arg10 arg14 f1 f3 f4 f5 f6 f7 f10 f14 hids n hn) L g hg)) (ix2 ρ l)
      = if 256 * n ≤ ρ.val ∧ ρ.val < 256 * n + 32 * g then
          dxVal M (arg1.view.read EI f1) hX (arg4.view.read EI f4) (arg9.view.read EI f9) x h s d ρ l
        else v.read EI (v.writes EI f L) (ix2 ρ l) := by
  intro g
  induction g with
  | zero => intro hg; rw [if_neg (by omega)]; rfl
  | succ g ih =>
    intro hg
    refine (dxTiles_at hX hw hs h7 h10 h3 h5 hn hg v f _ ρ l 9 le_rfl).trans ?_
    rw [ih (by omega)]
    have hl := l.isLt
    split_ifs <;> first | rfl | omega

theorem dxStack_at (v : View sig .tc .vmem S1024x1152 .bf16) (f : v.ty.Contents EI) (ρ : Fin 1024) (l : Fin 1152) : ∀ (n : ℕ) (hn : n ≤ 4), ρ.val < 256 * n →
    v.read EI (v.writes EI f (dxStack c i arg1 arg6 arg7 arg9 arg10 arg15 arg17 f1 f6 f7 f9 f10 f15 hids arg3 arg4 arg5 arg14 f3 f4 f5 f14 n hn)) (ix2 ρ l)
      = dxVal M (arg1.view.read EI f1) hX (arg4.view.read EI f4) (arg9.view.read EI f9) x h s d ρ l := by
  intro n
  induction n with
  | zero => intro hn h0; omega
  | succ n ih =>
    intro hn h0
    refine (dxGroups_at hX hw hs h7 h10 h3 h5 hn v f _ ρ l 8 le_rfl).trans ?_
    by_cases h1 : ρ.val < 256 * n
    · rw [if_neg (by omega)]; exact ih (by omega) h1
    · rw [if_pos (by omega)]

end Step

end Cert.Proof.KernelIdeal.Spec

end
-- ==== Proof.KernelIdealDx.lean ====
/-
  What the kernel leaves in the input gradient, over the extended reals: launched on sample numbers below five and operands that
  are real numbers, a step whose first and last sample numbers agree leaves `dxVal` of its operands. The input gradient's window is
  held to that, and the weights and the scales from the first step on; the other outputs and scratch buffers are followed as
  buffers only.
-/
module

public import proofs.«01_k».proof.Proof.KernelIdealValue
public import proofs.«01_k».proof.Proof.DxRows
public import Idealize.ShloMosaic.Lib.Pipeline.DatRel
public import Idealize.ShloMosaic.Lib.Pipeline.ArrRel
public import Idealize.ShloMosaic.Lib.Pipeline.ValueKit

@[expose] public section

set_option maxRecDepth 16384

noncomputable section

namespace Cert.Proof.KernelIdeal.Dx

open Cert.KernelIdeal Cert.KernelIdeal.Gen Cert.Proof.KernelIdeal.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel)

local notation "𝕄" => MT nD τ sig Unit (Elt Ideal) ℕ (UR sig nD τ) ℕ

variable (m : (ℓ : Loc nD τ sig) → Buf (Elt Ideal) ℓ) (ρ : Dev nD → PrngReg) (M : Dev nD → Fin 5 → Fin 1152 → ℝ)
  (x h : Dev nD → Fin cfg0.N → Fin 1024 → Fin 1152 → ℝ) (s d : Dev nD → Fin cfg0.N → Fin 1024 → ℝ)

/-- The operands of every step hold the given real numbers. -/
structure Reals (c : Dev nD) : Prop where
  mod : ∀ t s l, iblk m c 5 t (ix2 s l) = (M c s l : EReal)
  x : ∀ t ρ l, iblk m c 6 t (ix2 ρ l) = (x c t ρ l : EReal)
  h : ∀ t ρ l, iblk m c 9 t (ix2 ρ l) = (h c t ρ l : EReal)
  s : ∀ t ρ, iblk m c 2 t (lanePos ρ) = (s c t ρ : EReal)
  d : ∀ t ρ, iblk m c 4 t (lanePos ρ) = (d c t ρ : EReal)

/-- The output windows: none is followed exactly. -/
def fgt (w : Fin cfg0.W) : Bool := decide (10 ≤ w.val)

/-- What a step whose first and last sample numbers agree leaves in the input gradient's window. -/
def DxStep (c : Dev nD) (t : Fin cfg0.N) (X : (Shape.Idx S1024x1152) → Elt Ideal .bf16) : Prop :=
  ∀ hX : (∀ j, (iblk m c 0 t j).toNat < 5), iblk m c 0 t (ix2 0 0) = iblk m c 0 t (ix2 7 127) → ∀ ρ l,
    X (ix2 ρ l) = dxVal (M c) (iblk m c 0 t) hX (iblk m c 3 t) (iblk m c 8 t) (x c t) (h c t) (s c t) (d c t) ρ l

def Rl (c : Dev nD) (w : Fin cfg0.W) (t : Fin cfg0.N) (X : (cfg0.win w).block.Idx → Elt Ideal (cfg0.win w).elt) : Prop :=
  match w, X with
  | ⟨10, _⟩, X => DxStep m M x h s d c t X
  | _, _ => True

/-- The scratch buffers before step `n`: the weights and the scales are there from the first step on. -/
def inv (c : Dev nD) (n : ℕ) : sProp 𝕄 :=
  iprop(((∃ f : Buf (Elt Ideal) ((c : Thread nD τ).loc cc0_scratch0), ⌜n ≠ 0 → WeightRows (M c) f⌝ ∗ ((c : Thread nD τ).loc cc0_scratch0) ↦{fullShare} f)
    ∗ (∃ f : Buf (Elt Ideal) ((c : Thread nD τ).loc cc0_scratch1), ⌜n ≠ 0 → ScaleRows (M c) f⌝ ∗ ((c : Thread nD τ).loc cc0_scratch1) ↦{fullShare} f)
    ∗ (∃ f : Buf (Elt Ideal) ((c : Thread nD τ).loc cc0_scratch2), ((c : Thread nD τ).loc cc0_scratch2) ↦{fullShare} f)
    ∗ (∃ f : Buf (Elt Ideal) ((c : Thread nD τ).loc cc0_scratch3), ((c : Thread nD τ).loc cc0_scratch3) ↦{fullShare} f)
    ∗ (∃ f : Buf (Elt Ideal) ((c : Thread nD τ).loc cc0_scratch4), ((c : Thread nD τ).loc cc0_scratch4) ↦{fullShare} f)
    ∗ (∃ f : Buf (Elt Ideal) ((c : Thread nD τ).loc cc0_scratch5), ((c : Thread nD τ).loc cc0_scratch5) ↦{fullShare} f))
    ∗ (∃ r, prngReg c r))

/-- The proof data: every input's buffer holds its block after the body; the scratch buffers are the invariant. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
  Φ t := inv M c t.val
  q w := Pipeline.shareOf spec0 w
  owed _ := 0

theorem A_eq (c : Dev nD) (w : Fin cfg0.W) : (dats m M 0 c).A w = V m c (Pipeline.arrRef spec0 w) := by dsimp only [dats]

theorem after_0 (c : Dev nD) (t : Fin cfg0.N) : (dats m M 0 c).after 0 t = iblk m c 0 t := by dsimp only [dats]
theorem after_1 (c : Dev nD) (t : Fin cfg0.N) : (dats m M 0 c).after 1 t = iblk m c 1 t := by dsimp only [dats]
theorem after_2 (c : Dev nD) (t : Fin cfg0.N) : (dats m M 0 c).after 2 t = iblk m c 2 t := by dsimp only [dats]
theorem after_3 (c : Dev nD) (t : Fin cfg0.N) : (dats m M 0 c).after 3 t = iblk m c 3 t := by dsimp only [dats]
theorem after_4 (c : Dev nD) (t : Fin cfg0.N) : (dats m M 0 c).after 4 t = iblk m c 4 t := by dsimp only [dats]
theorem after_5 (c : Dev nD) (t : Fin cfg0.N) : (dats m M 0 c).after 5 t = iblk m c 5 t := by dsimp only [dats]
theorem after_6 (c : Dev nD) (t : Fin cfg0.N) : (dats m M 0 c).after 6 t = iblk m c 6 t := by dsimp only [dats]
theorem after_7 (c : Dev nD) (t : Fin cfg0.N) : (dats m M 0 c).after 7 t = iblk m c 7 t := by dsimp only [dats]
theorem after_8 (c : Dev nD) (t : Fin cfg0.N) : (dats m M 0 c).after 8 t = iblk m c 8 t := by dsimp only [dats]
theorem after_9 (c : Dev nD) (t : Fin cfg0.N) : (dats m M 0 c).after 9 t = iblk m c 9 t := by dsimp only [dats]

theorem before_0 (c : Dev nD) (t : Fin cfg0.N) (d) : (dats m M 0 c).before 0 t d = iblk m c 0 t :=
  before0_0_of m (dats m M 0 c) (A_eq m M c 0) (after_0 m M c) t d
theorem before_1 (c : Dev nD) (t : Fin cfg0.N) (d) : (dats m M 0 c).before 1 t d = iblk m c 1 t :=
  before0_1_of m (dats m M 0 c) (A_eq m M c 1) (after_1 m M c) t d
theorem before_2 (c : Dev nD) (t : Fin cfg0.N) (d) : (dats m M 0 c).before 2 t d = iblk m c 2 t :=
  before0_2_of m (dats m M 0 c) (A_eq m M c 2) (after_2 m M c) t d
theorem before_3 (c : Dev nD) (t : Fin cfg0.N) (d) : (dats m M 0 c).before 3 t d = iblk m c 3 t :=
  before0_3_of m (dats m M 0 c) (A_eq m M c 3) (after_3 m M c) t d
theorem before_4 (c : Dev nD) (t : Fin cfg0.N) (d) : (dats m M 0 c).before 4 t d = iblk m c 4 t :=
  before0_4_of m (dats m M 0 c) (A_eq m M c 4) (after_4 m M c) t d
theorem before_5 (c : Dev nD) (t : Fin cfg0.N) (d) : (dats m M 0 c).before 5 t d = iblk m c 5 t :=
  before0_5_of m (dats m M 0 c) (A_eq m M c 5) (after_5 m M c) t d
theorem before_6 (c : Dev nD) (t : Fin cfg0.N) (d) : (dats m M 0 c).before 6 t d = iblk m c 6 t :=
  before0_6_of m (dats m M 0 c) (A_eq m M c 6) (after_6 m M c) t d
theorem before_7 (c : Dev nD) (t : Fin cfg0.N) (d) : (dats m M 0 c).before 7 t d = iblk m c 7 t :=
  before0_7_of m (dats m M 0 c) (A_eq m M c 7) (after_7 m M c) t d
theorem before_8 (c : Dev nD) (t : Fin cfg0.N) (d) : (dats m M 0 c).before 8 t d = iblk m c 8 t :=
  before0_8_of m (dats m M 0 c) (A_eq m M c 8) (after_8 m M c) t d
theorem before_9 (c : Dev nD) (t : Fin cfg0.N) (d) : (dats m M 0 c).before 9 t d = iblk m c 9 t :=
  before0_9_of m (dats m M 0 c) (A_eq m M c 9) (after_9 m M c) t d

/-- The weights and the scales after a step. -/
theorem weights_step (c : Dev nD) (t : Fin cfg0.N) (hr : Reals m M x h s d c) (arg6 : Memref sig .tc .vmem S5x1152 .f32) (arg14 : Memref sig .tc .vmem S5x16x1152 .bf16)
    (f6 : Bf (F := Ideal) c arg6) (f14 : Bf (F := Ideal) c arg14)
    (h6 : arg6.view.read (Elt Ideal) f6 = iblk m c 5 t) (hp : t.val ≠ 0 → WeightRows (M c) (arg14.view.read (Elt Ideal) f14)) :
    WeightRows (M c) (arg14.view.read (Elt Ideal) (Spec.wstat c (grid0.coords t) arg6 arg14 f6 f14)) :=
  wstat_rows c (grid0.coords t) arg6 arg14 f6 f14 (fun s l => by rw [h6]; exact hr.mod t s l)
    fun h0 => hp fun ht => h0 (by rw [show t = ⟨0, by decide⟩ from Fin.ext ht]; decide)
theorem scales_step (c : Dev nD) (t : Fin cfg0.N) (hr : Reals m M x h s d c) (arg6 : Memref sig .tc .vmem S5x1152 .f32) (arg15 : Memref sig .tc .vmem S5x8x1152 .f32)
    (f6 : Bf (F := Ideal) c arg6) (f15 : Bf (F := Ideal) c arg15)
    (h6 : arg6.view.read (Elt Ideal) f6 = iblk m c 5 t) (hp : t.val ≠ 0 → ScaleRows (M c) (arg15.view.read (Elt Ideal) f15)) :
    ScaleRows (M c) (arg15.view.read (Elt Ideal) (Spec.scales c (grid0.coords t) arg6 arg15 f6 f15)) :=
  scales_rows c (grid0.coords t) arg6 arg15 f6 f15 (fun s l => by rw [h6]; exact hr.mod t s l)
    fun h0 => hp fun ht => h0 (by rw [show t = ⟨0, by decide⟩ from Fin.ext ht]; decide)

/-- Equal first and last sample numbers: the step takes the path followed here. -/
theorem straddle_ne (c : Dev nD) (arg1 : Memref sig .tc .smem S8x128 .i32) (f1 : Bf (F := Ideal) c arg1)
    (e : arg1.view.read (Elt Ideal) f1 (ix2 0 0) = arg1.view.read (Elt Ideal) f1 (ix2 7 127)) : Spec.straddle c arg1 f1 ≠ 1#1 := by
  have e1 : (Shape.Idx.first (Nat.le_of_eq numel1_S1x1.symm) : Shape.Idx S1x1) = ix2 0 0 := by
    funext a; fin_cases a <;> exact Subsingleton.elim (α := Fin 1) _ _
  have e2 : Spec.straddle c arg1 f1 = k0_cond2 (arg1.view.read (Elt Ideal) f1 (ix2 0 0)) (arg1.view.read (Elt Ideal) f1 (ix2 7 127)) := by
    unfold Spec.straddle
    rw [sid_eq, e1]
    exact congrArg (k0_cond2 _) (readAt2 arg1.view f1 _ 0 0)
  rw [e2, e]
  unfold k0_cond2
  simp [Scalar.cmpi, Scalar.extui, IntOp.cmpi]

/-- The step's stores leave the step's value. -/
theorem dx_step (c : Dev nD) (t : Fin cfg0.N) (hr : Reals m M x h s d c)
  (arg1 : Memref sig .tc .smem S8x128 .i32)
  (arg3 arg4 arg5 : Memref sig .tc .vmem S8x128 .f32)
  (arg6 : Memref sig .tc .vmem S5x1152 .f32)
  (arg7 : Memref sig .tc .vmem S1024x1152 .fp8e4m3)
  (arg9 arg10 : Memref sig .tc .vmem S1024x1152 .fp8e5m2)
  (arg11 : Memref sig .tc .vmem S1024x1152 .bf16)
  (arg14 : Memref sig .tc .vmem S5x16x1152 .bf16)
  (arg15 : Memref sig .tc .vmem S5x8x1152 .f32)
  (arg17 : Memref sig .tc .vmem S256x8 .f32)
  (f1 : Bf (F := Ideal) c arg1) (f3 : Bf (F := Ideal) c arg3) (f4 : Bf (F := Ideal) c arg4) (f5 : Bf (F := Ideal) c arg5) (f6 : Bf (F := Ideal) c arg6)
  (f7 : Bf (F := Ideal) c arg7) (f9 : Bf (F := Ideal) c arg9) (f10 : Bf (F := Ideal) c arg10) (f14 : Bf (F := Ideal) c arg14) (f15 : Bf (F := Ideal) c arg15)
  (hids : Ids c arg1 f1) (f11 : Bf (F := Ideal) c arg11)
  (h1 : arg1.view.read (Elt Ideal) f1 = iblk m c 0 t) (h3 : arg3.view.read (Elt Ideal) f3 = iblk m c 2 t) (h4 : arg4.view.read (Elt Ideal) f4 = iblk m c 3 t)
  (h5 : arg5.view.read (Elt Ideal) f5 = iblk m c 4 t) (h7 : arg7.view.read (Elt Ideal) f7 = iblk m c 6 t) (h9 : arg9.view.read (Elt Ideal) f9 = iblk m c 8 t)
  (h10 : arg10.view.read (Elt Ideal) f10 = iblk m c 9 t) (hw : WeightRows (M c) (arg14.view.read (Elt Ideal) (Spec.wstat c (grid0.coords t) arg6 arg14 f6 f14)))
  (hs : ScaleRows (M c) (arg15.view.read (Elt Ideal) (Spec.scales c (grid0.coords t) arg6 arg15 f6 f15)))
  (h11 : Spec.straddle c arg1 f1 ≠ 1#1 → ∃ g, f11 = arg11.view.writes (Elt Ideal) g
    (Spec.dxStack c (grid0.coords t) arg1 arg6 arg7 arg9 arg10 arg15 arg17 f1 f6 f7 f9 f10 f15 hids arg3 arg4 arg5 arg14 f3 f4 f5 f14 4 le_rfl)) :
    DxStep m M x h s d c t (arg11.view.read (Elt Ideal) f11) := by
  intro hX he ρ l
  obtain ⟨g, rfl⟩ := h11 (straddle_ne c arg1 f1 (by rw [h1]; exact he))
  have hX' : ∀ j, (arg1.view.read (Elt Ideal) f1 j).toNat < 5 := by rw [h1]; exact hX
  refine (dxStack_at (arg4 := arg4) (f4 := f4) (arg9 := arg9) (f9 := f9) (hids := hids) hX' hw hs (x := x c t) (h := h c t) (s := s c t) (d := d c t) (fun ρ l => by rw [h7]; exact hr.x t ρ l) (fun ρ l => by rw [h10]; exact hr.h t ρ l)
    (fun ρ => by rw [h3]; exact hr.s t ρ) (fun ρ => by rw [h5]; exact hr.d t ρ) arg11.view g ρ l 4 le_rfl ρ.isLt).trans ?_
  have e {X : (Shape.Idx S8x128) → BitVec 32} (eX : X = iblk m c 0 t) (hX' : ∀ j, (X j).toNat < 5) (Y : FVec Ideal S8x128 .f32) (D : FVec Ideal S1024x1152 .fp8e5m2) :
      dxVal (M c) X hX' Y D (x c t) (h c t) (s c t) (d c t) ρ l = dxVal (M c) (iblk m c 0 t) hX Y D (x c t) (h c t) (s c t) (d c t) ρ l := by subst eX; rfl
  rw [e h1, h4, h9]

def bodyPre (c : Dev nD) (t : Fin cfg0.N) : sProp 𝕄 :=
  iprop((dats m M 0 c).Φ t.castSucc ∗ (dats m M 0 c).owesAt () t.castSucc
    ∗ (∃ d, owns (c : Thread nD τ) (st0_0 t) fullShare ((dats m M 0 c).before 0 t d))
    ∗ (∃ d, owns (c : Thread nD τ) (st0_1 t) fullShare ((dats m M 0 c).before 1 t d))
    ∗ (∃ d, owns (c : Thread nD τ) (st0_2 t) fullShare ((dats m M 0 c).before 2 t d))
    ∗ (∃ d, owns (c : Thread nD τ) (st0_3 t) fullShare ((dats m M 0 c).before 3 t d))
    ∗ (∃ d, owns (c : Thread nD τ) (st0_4 t) fullShare ((dats m M 0 c).before 4 t d))
    ∗ (∃ d, owns (c : Thread nD τ) (st0_5 t) fullShare ((dats m M 0 c).before 5 t d))
    ∗ (∃ d, owns (c : Thread nD τ) (st0_6 t) fullShare ((dats m M 0 c).before 6 t d))
    ∗ (∃ d, owns (c : Thread nD τ) (st0_7 t) fullShare ((dats m M 0 c).before 7 t d))
    ∗ (∃ d, owns (c : Thread nD τ) (st0_8 t) fullShare ((dats m M 0 c).before 8 t d))
    ∗ (∃ d, owns (c : Thread nD τ) (st0_9 t) fullShare ((dats m M 0 c).before 9 t d))
    ∗ (∃ X, ⌜((dats m M 0 c).toRRel fgt (Rl m M x h s d c)).Finds 10 t X⌝ ∗ owns (c : Thread nD τ) (st0_10 t) fullShare X)
    ∗ (∃ X, ⌜((dats m M 0 c).toRRel fgt (Rl m M x h s d c)).Finds 11 t X⌝ ∗ owns (c : Thread nD τ) (st0_11 t) fullShare X)
    ∗ (∃ X, ⌜((dats m M 0 c).toRRel fgt (Rl m M x h s d c)).Finds 12 t X⌝ ∗ owns (c : Thread nD τ) (st0_12 t) fullShare X))

def bodyPost (c : Dev nD) (t : Fin cfg0.N) : sProp 𝕄 :=
  iprop((dats m M 0 c).Φ t.succ ∗ (dats m M 0 c).owesAt () t.succ
    ∗ owns (c : Thread nD τ) (st0_0 t) fullShare ((dats m M 0 c).after 0 t)
    ∗ owns (c : Thread nD τ) (st0_1 t) fullShare ((dats m M 0 c).after 1 t)
    ∗ owns (c : Thread nD τ) (st0_2 t) fullShare ((dats m M 0 c).after 2 t)
    ∗ owns (c : Thread nD τ) (st0_3 t) fullShare ((dats m M 0 c).after 3 t)
    ∗ owns (c : Thread nD τ) (st0_4 t) fullShare ((dats m M 0 c).after 4 t)
    ∗ owns (c : Thread nD τ) (st0_5 t) fullShare ((dats m M 0 c).after 5 t)
    ∗ owns (c : Thread nD τ) (st0_6 t) fullShare ((dats m M 0 c).after 6 t)
    ∗ owns (c : Thread nD τ) (st0_7 t) fullShare ((dats m M 0 c).after 7 t)
    ∗ owns (c : Thread nD τ) (st0_8 t) fullShare ((dats m M 0 c).after 8 t)
    ∗ owns (c : Thread nD τ) (st0_9 t) fullShare ((dats m M 0 c).after 9 t)
    ∗ (∃ X, ⌜DxStep m M x h s d c t X⌝ ∗ owns (c : Thread nD τ) (st0_10 t) fullShare X)
    ∗ (∃ X, ⌜True⌝ ∗ owns (c : Thread nD τ) (st0_11 t) fullShare X)
    ∗ (∃ X, ⌜True⌝ ∗ owns (c : Thread nD τ) (st0_12 t) fullShare X))

/-- The body at any point. -/
theorem sound_body (c : Dev nD) (hm : ∀ i, (m ((c : Thread nD τ).loc main_arg7) i).toNat < 5) (hr : Reals m M x h s d c) (t : Fin cfg0.N) :
    bodyPre m M x h s d c t ⊢ wp Idealize.ShloMosaic.frame (wpE (defs₀ (F := Ideal)) Variants.none c none) Set.univ (bodyAt0 t) (fun _ => bodyPost m M x h s d c t) := by
  unfold bodyPre bodyPost bodyAt0
  simp only [before_0, before_1, before_2, before_3, before_4, before_5, before_6, before_7, before_8, before_9]
  rw [show (dats m M 0 c).Φ t.succ = inv M c (t.val + 1) from rfl, show (dats m M 0 c).Φ t.castSucc = inv M c t.val from rfl,
    show (dats m M 0 c).owesAt () t.succ = (dats m M 0 c).owesAt () t.castSucc from rfl,
    after_0, after_1, after_2, after_3, after_4, after_5, after_6, after_7, after_8, after_9]
  unfold inv
  iintro ⟨⟨⟨⟨%f0, %o0, S0⟩, ⟨%f1, %o1, S1⟩, ⟨%f2, S2⟩, ⟨%f3, S3⟩, ⟨%f4, S4⟩, ⟨%f5, S5⟩⟩, Hρ⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, %_, W10⟩, ⟨%d11, %_, W11⟩, ⟨%d12, %_, W12⟩⟩
  iapply (wp_wand_r Idealize.ShloMosaic.frame (wpE (defs₀ (F := Ideal)) Variants.none (c : Thread nD τ) none) Set.univ)
  isplitl [S0 S1 S2 S3 S4 S5 W0 W1 W2 W3 W4 W5 W6 W7 W8 W9 W10 W11 W12]
  · iapply (body_owns c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (ids_lt m c hm t) (fun X => t.val ≠ 0 → WeightRows (M c) X) (WeightRows (M c)) (fun _ => True) (fun X => t.val ≠ 0 → ScaleRows (M c) X) (ScaleRows (M c)) (DxStep m M x h s d c t) (weights_step m M x h s d c t hr _ _) (fun _ _ _ _ _ _ _ _ _ _ _ _ _ _ _ _ _ _ _ _ => trivial) (scales_step m M x h s d c t hr _ _) (dx_step m M x h s d c t hr _ _ _ _ _ _ _ _ _ _ _ _))
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexists d10; iexact W10
    isplitl [W11]; · iexists d11; iexact W11
    isplitl [W12]; · iexists _; iexact W12
    isplitl [S0]; · iexists f0; isplitr; (ipureintro; exact o0); iapply (owns_of_whole c _ _); iexact S0
    isplitl [S1]; · iexists f1; isplitr; (ipureintro; exact o1); iapply (owns_of_whole c _ _); iexact S1
    isplitl [S2]; · iexists f2; iapply (owns_of_whole c _ _); iexact S2
    isplitl [S3]; · iexists f3; iapply (owns_of_whole c _ _); iexact S3
    isplitl [S4]; · iexists f4; iapply (owns_of_whole c _ _); iexact S4
    iexists f5; iapply (owns_of_whole c _ _); iexact S5
  · iintro %_ ⟨W0, W1, W2, W3, W4, W5, W6, W7, W8, W9, ⟨%d10, %e10, W10⟩, ⟨%d11, W11⟩, ⟨%d12, %_, W12⟩, ⟨%f0, %o0, S0⟩, ⟨%f1, %o1, S1⟩, ⟨%f2, S2⟩, ⟨%f3, S3⟩, ⟨%f4, S4⟩, ⟨%f5, S5⟩⟩
    isplitl [Hρ S0 S1 S2 S3 S4 S5]
    · isplitr [Hρ]
      · isplitl [S0]; · iexists f0; isplitr; (ipureintro; exact fun _ => o0); iapply (whole_of_owns c _ _); iexact S0
        isplitl [S1]; · iexists f1; isplitr; (ipureintro; exact fun _ => o1); iapply (whole_of_owns c _ _); iexact S1
        isplitl [S2]; · iexists f2; iapply (whole_of_owns c _ _); iexact S2
        isplitl [S3]; · iexists f3; iapply (whole_of_owns c _ _); iexact S3
        isplitl [S4]; · iexists f4; iapply (whole_of_owns c _ _); iexact S4
        iexists f5; iapply (whole_of_owns c _ _); iexact S5
      · iexact Hρ
    isplitl [Ho]; · iexact Ho
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexists d10; isplitr; (ipureintro; exact e10); iexact W10
    isplitl [W11]; · iexists d11; isplitr; (ipureintro; trivial); iexact W11
    iexists d12; isplitr; (ipureintro; trivial); iexact W12

theorem body_obligation (c : Dev nD) (hm : ∀ i, (m ((c : Thread nD τ).loc main_arg7) i).toNat < 5) (hr : Reals m M x h s d c) :
    BodyObligationRel (dats m M 0 c) (defs₀ (F := Ideal)) Variants.none () Set.univ fgt (Rl m M x h s d c) := fun t => by
  rw [bigSep_W0, bigSep_W0, defs₀_row]
  exact triple_restated (sound_body m M x h s d c hm hr t) rfl .rfl fun _ => .rfl

theorem inv_zero (c : Dev nD) : (Pipeline.ΦA spec0 c : sProp 𝕄) ⊢ inv M c 0 := by
  unfold Pipeline.ΦA inv
  rw [scopedRest0_eq]
  iintro ⟨⟨⟨%f0, S0⟩, ⟨%f1, S1⟩, S⟩, Hρ⟩
  isplitr [Hρ]
  · isplitl [S0]
    · iexists f0; isplitr; (ipureintro; exact fun h => absurd rfl h); iexact S0
    · isplitl [S1]
      · iexists f1; isplitr; (ipureintro; exact fun h => absurd rfl h); iexact S1
      · iexact S
  · iexact Hρ

theorem inv_out (c : Dev nD) (n : ℕ) : inv M c n ⊢ (Pipeline.ΦA spec0 c : sProp 𝕄) := by
  unfold Pipeline.ΦA inv
  rw [scopedRest0_eq]
  iintro ⟨⟨⟨%f0, %o0, S0⟩, ⟨%f1, %o1, S1⟩, S⟩, Hρ⟩
  isplitr [Hρ]
  · isplitl [S0]
    · iexists f0; iexact S0
    · isplitl [S1]
      · iexists f1; iexact S1
      · iexact S
  · iexact Hρ

set_option backward.isDefEq.respectTransparency.types false in
set_option maxHeartbeats 800000 in
/-- The launch, its post the relational one. -/
theorem run_main (hm : ∀ (c : Dev nD) i, (m ((c : Thread nD τ).loc main_arg7) i).toNat < 5) (hr : ∀ c, Reals m M x h s d c) :
    θ_run defs (onTc (τ := τ) (main (F := Ideal))) (s₀ m ρ)
      (RDat.FramePost cfg0 (fun c => (dats m M 0 c).toRRel fgt (Rl m M x h s d c)) (V m)) :=
  (RDat.θ_run_frame_track_shared cfgs (0 : Fin 1) launch₀0 defs₀ Variants.none (fun c => (dats m M 0 c).toRRel fgt (Rl m M x h s d c)) m ρ main
    (fun c => (body_obligation m M x h s d c (hm c) (hr c)).toRRel) (fun _ _ _ => rfl)
    (fun _ _ => rfl) (V m) (hmain m Variants.none) (A_eq m M) (inv_zero M) (fun c => inv_out M c _) _ (fun _ h => h.1))

/-- The step of a row of the whole array, and the row's place in it. -/
def stepOf (T : Fin 163840) : Fin cfg0.N := ⟨T.val / 1024, by have := T.isLt; show _ < 160; omega⟩
def inStep (T : Fin 163840) : Fin 1024 := ⟨T.val % 1024, Nat.mod_lt _ (by decide)⟩

theorem index_10 : ∀ t : Fin cfg0.N, win0_10.index t = ![t.val, 0] := (by decide +kernel : ∀ t : Fin grid0.N, _)
theorem index_0 : ∀ t : Fin cfg0.N, win0_0.index t = ![t.val, 0] := (by decide +kernel : ∀ t : Fin grid0.N, _)
theorem index_5 : ∀ t : Fin cfg0.N, win0_5.index t = ![0, 0] := (by decide +kernel : ∀ t : Fin grid0.N, _)
theorem flush_10 : ∀ t : Fin cfg0.N, win0_10.flush t = true := (by decide +kernel : ∀ t : Fin grid0.N, _)

theorem blk_0 (c : Dev nD) (t : Fin cfg0.N) (b : Fin 8) (r : Fin 128) : iblk m c 0 t (ix2 b r) = V m c main_v2 (ix2 (Value.rowIn t b) r) := by
  blk_simp [iblk]
  blk_ext [index_0, Value.rowIn]
theorem blk_5 (c : Dev nD) (t : Fin cfg0.N) (s : Fin 5) (l : Fin 1152) : iblk m c 5 t (ix2 s l) = V m c main_arg8 (ix2 s l) := by
  blk_simp [iblk]
  blk_ext [index_5]

/-- The array a run leaves, from what its steps left. -/
theorem arr_10 (c : Dev nD) (after : (w' : Fin cfg0.W) → Fin cfg0.N → (cfg0.win w').block.Idx → Elt Ideal (cfg0.win w').elt) :
    (((dats m M 0 c).toRRel fgt (Rl m M x h s d c)).withAfter after).arrAt 10 cfg0.N
      = fun j : (Shape.Idx S163840x1152) => after 10 (stepOf (j 0)) (ix2 (inStep (j 0)) (j 1)) := by
  have key : ∀ (t : Fin cfg0.N) (z : (Shape.Idx S1024x1152)) (w : (Shape.Idx S163840x1152)), (w 0).val = t.val * 1024 + (z 0).val → (w 1).val = (z 1).val →
      after 10 t z = after 10 (stepOf (w 0)) (ix2 (inStep (w 0)) (w 1)) := by
    intro t z w e0 e1
    have hz : (z 0).val < 1024 := (z 0).isLt
    have ht : stepOf (w 0) = t := Fin.ext (show (w 0).val / 1024 = t.val by omega)
    rw [ht]
    refine congrArg _ (funext fun a => Fin.ext ?_)
    fin_cases a
    · show (z 0).val = (w 0).val % 1024; omega
    · exact e1.symm
  refine (((dats m M 0 c).toRRel fgt (Rl m M x h s d c)).withAfter after).arrAt_eq_of_covers 10 _ (by decide +kernel) fun t hf y => ?_
  blk_simp
  rw [RDat.withAfter_after]
  refine key t y _ ?_ ?_ <;> blk_simp [index_10]

/-- The run leaves its first result array, at the rows of the steps whose first and last sample numbers agree, at `dxVal`. -/
theorem run_dx (hm : ∀ (c : Dev nD) i, (m ((c : Thread nD τ).loc main_arg7) i).toNat < 5) (hr : ∀ c, Reals m M x h s d c) :
    θ_run defs (onTc (τ := τ) (main (F := Ideal))) (s₀ m ρ) (fun r => ∀ (c : Dev nD) (T : Fin 163840) (l : Fin 1152),
      iblk m c 0 (stepOf T) (ix2 0 0) = iblk m c 0 (stepOf T) (ix2 7 127) →
      r.2.mem ((c.tc : Thread nD τ).loc main_v6_0) (ix2 T l) = dxVal (M c) (iblk m c 0 (stepOf T)) (ids_lt m c (hm c) (stepOf T)) (iblk m c 3 (stepOf T)) (iblk m c 8 (stepOf T))
        (x c (stepOf T)) (h c (stepOf T)) (s c (stepOf T)) (d c (stepOf T)) (inStep T) l) :=
  (θ_run defs _ _).mono (fun r hp c T l he => by
    obtain ⟨after, hL, hA⟩ := RDat.FramePost.exists_exact hp c
    have e := (hA 10).trans (arr_10 m M x h s d c after)
    have hl := Dat.toRRel_leaves (dat := dats m M 0 c) (fgt := fgt) (Rl := Rl m M x h s d c) (w := 10) rfl (hL 10 (stepOf T) (flush_10 _))
    exact (congrFun e (ix2 T l)).trans (hl _ he (inStep T) l)) (run_main m ρ M x h s d hm hr)

end Cert.Proof.KernelIdeal.Dx

end
-- ==== Proof.DxAlgebra.lean ====
/-
  A row of the input gradient over the real numbers: what the kernel computes from its sums is the normalisation's gradient.
-/
module

public import proofs.«01_k».proof.Proof.DxRows
public import proofs.«01_k».proof.Proof.RowAlgebra
public import proofs.«01_k».proof.Proof.TokenDx

@[expose] public section

noncomputable section

namespace Cert.Proof.KernelIdeal.Spec

open Cert.Proof.Tokens
open Idealize.ShloMosaic
open scoped BigOperators

theorem rowDev_coe (x : Fin 1152 → ℝ) (s : ℝ) : rowDev (fun l => (x l : EReal)) s = (dev x s : EReal) := by
  have hm : rowMean (fun l => (x l : EReal)) s = (mean x s : EReal) := by
    rw [rowMean, word_1152, Ideal.div_coe (by norm_num : (1152 : ℝ) ≠ 0)]
    simp only [← EReal.coe_mul, ← coe_sum]
    rfl
  have hv : rowVar (fun l => (x l : EReal)) s = (variance x s : EReal) := by
    rw [rowVar, hm, word_1152, Ideal.div_coe (by norm_num : (1152 : ℝ) ≠ 0)]
    simp only [← EReal.coe_mul, ← EReal.coe_sub, ← coe_sum]
    rfl
  rw [rowDev, hv, word_eps, ← EReal.coe_add, rsqrt_pos _ (add_pos_of_nonneg_of_pos (variance_nonneg x s) eps_pos)]
  rfl

/-- The kernel's row from its sums is the gradient through the normalisation. -/
theorem dxReal_eq (x h W : Fin 1152 → ℝ) (s d : ℝ) (l : Fin 1152) :
    dev x s * (h l * d * W l - (∑ l, h l * d * W l) * (1 / 1152)
      - (x l * s - mean x s) * dev x s * ((∑ l, h l * d * W l * ((x l * s - mean x s) * dev x s)) * (1 / 1152))) = dxReal x h W s d l := by
  have e1 : (∑ l, h l * d * W l) = d * ∑ l, W l * h l := by
    rw [Finset.mul_sum]; exact Finset.sum_congr rfl fun _ _ => by ring
  have e2 : (∑ l, h l * d * W l * ((x l * s - mean x s) * dev x s)) =
      dev x s * (d * s * (∑ l, W l * (x l * h l)) - mean x s * d * ∑ l, W l * h l) := by
    rw [Finset.mul_sum, Finset.mul_sum, ← Finset.sum_sub_distrib, Finset.mul_sum]
    exact Finset.sum_congr rfl fun _ _ => by ring
  rw [e1, e2, mean_eq]
  unfold dxReal slope
  ring

/-- A row of real numbers: its gradient through the normalisation. -/
theorem normDx_coe (x h W : Fin 1152 → ℝ) (s d : ℝ) (l : Fin 1152) :
    normDx (rowDev (fun l => (x l : EReal)) s) (rowHat (fun l => (x l : EReal)) s) (fun l => (h l : EReal) * d * (W l : EReal)) l
      = (dxReal x h W s d l : EReal) := by
  unfold normDx
  simp only [rowDev_coe, rowHat_coe, word_1152, ← EReal.coe_mul, ← coe_sum]
  rw [Ideal.div_coe (by norm_num : (1152 : ℝ) ≠ 0), Ideal.div_coe (by norm_num : (1152 : ℝ) ≠ 0)]
  simp only [← EReal.coe_mul, ← EReal.coe_sub]
  rw [← dxReal_eq]

/-- The scale of a sample is its row. -/
theorem modOf_at (M : FVec Ideal (⟨2, ![5, 1152]⟩ : Shape) .f32) (i : BitVec 32) (hi : i.toNat < 5) (l : Fin 1152) :
    modOf M i l = M (ix2 ⟨i.toNat, hi⟩ l) := by
  have key : ∀ n : Fin 5, i.toNat = n.val → modOf M i l = M (ix2 n l) := by
    intro n hn
    have hi' : i = BitVec.ofNat 32 n.val := BitVec.eq_of_toNat_eq (by rw [hn, BitVec.toNat_ofNat]; have := n.isLt; omega)
    subst hi'
    fin_cases n <;> rfl
  exact key ⟨i.toNat, hi⟩ rfl

end Cert.Proof.KernelIdeal.Spec

end
-- ==== Proof.KernelIdealDxResult.lean ====
/-
  The kernel's first result in terms of its arguments, at the rows of the groups whose first and last row belong to one
  sample: each token's row of the input gradient, where every element of the saved rows, of the gradient, of their scales
  and of the samples' scales is a real number.
-/
module

public import proofs.«01_k».proof.Proof.KernelIdealDx
public import proofs.«01_k».proof.Proof.KernelIdealResult
public import proofs.«01_k».proof.Proof.DxAlgebra

@[expose] public section

noncomputable section

namespace Cert.Proof.KernelIdeal.Dx

open Cert.KernelIdeal Cert.KernelIdeal.Gen Cert.Proof.KernelIdeal.Spec Cert.Proof.Tokens
open Cert.Proof.KernelIdeal.Value (argX argH argXs argYs argHs Finite rowIn tokIn)
open Idealize.ShloMosaic Idealize.ShloMosaic.TcCoe Idealize.ShloMosaic.Tactic
open Idealize.SL Idealize.SL.Sem
open Idealize.ShloMosaic.Pipeline (Dat RDat)
open scoped BigOperators

variable (m : (ℓ : Loc nD τ sig) → Buf (Elt Ideal) ℓ)

abbrev argIds (c : Dev nD) : IVec Col 32 := m ((c : Thread nD τ).loc main_arg7)
abbrev argM (c : Dev nD) : FVec Ideal S5x1152 .f32 := m ((c : Thread nD τ).loc main_arg8)

theorem word_lanes_at (v : IVec Col 32) (h : Col.ShapeCasts S1280x128) (B : Fin 1280) (r : Fin 128) :
    shapeCast S1280x128 v h (ix2 B r) = v (ix1 (tok B r)) := by
  pointwise
  rfl

theorem V_v2 (c : Dev nD) (B : Fin 1280) (r : Fin 128) : V m c main_v2 (ix2 B r) = argIds m c (ix1 (tok B r)) := by
  dsimp only [V, hostOps0]
  simp only [StableHlo.after_cons, StableHlo.after_nil]
  repeat rw [StableHlo.reshape_result_ne _ _ _ _ _ _ _ (by decide)]
  rw [StableHlo.reshape_result]
  repeat rw [StableHlo.reshape_result_ne _ _ _ _ _ _ _ (by decide)]
  repeat rw [StableHlo.unary_result_ne _ _ _ _ _ _ (by decide)]
  exact word_lanes_at _ _ B r

theorem ids_at (c : Dev nD) (t : Fin cfg0.N) (b : Fin 8) (r : Fin 128) : iblk m c 0 t (ix2 b r) = argIds m c (ix1 (tok (rowIn t b) r)) := by
  rw [blk_0, V_v2]

/-- Row `ρ`'s place among the rows and lanes of a step's scalars. -/
theorem tok_lane (t : Fin cfg0.N) (ρ : Fin 1024) : tok (rowIn t ⟨ρ.val / 128, by omega⟩) ⟨ρ.val % 128, Nat.mod_lt _ (by decide)⟩ = tokIn t ρ :=
  Fin.ext (show (8 * t.val + ρ.val / 128) * 128 + ρ.val % 128 = 1024 * t.val + ρ.val by omega)

theorem tokIn_step (T : Fin 163840) : tokIn (stepOf T) (inStep T) = T :=
  Fin.ext (show 1024 * (T.val / 1024) + T.val % 1024 = T.val by omega)

/-- The run leaves its first result array, at the rows named, at the token's row of the input gradient. -/
theorem run_result (ρ : Dev nD → PrngReg) (hm : ∀ (c : Dev nD) i, (m ((c : Thread nD τ).loc main_arg7) i).toNat < 5) (hf : ∀ c, Finite m c)
    (hM : ∀ c i, ∃ r : ℝ, argM m c i = (r : EReal)) :
    θ_run defs (onTc (τ := τ) (main (F := Ideal))) ⟨m, fun _ => 0, ρ⟩
      (fun r => ∀ (c : Dev nD) (T : Fin 163840) (l : Fin 1152),
        argIds m c (ix1 (near 1024 0 (by decide) (by decide) T)) = argIds m c (ix1 (near 1024 1023 (by decide) (by decide) T)) →
        argIds m c (ix1 T) = argIds m c (ix1 (near 256 0 (by decide) (by decide) T)) →
        r.2.mem ((c.tc : Thread nD τ).loc main_v6_0) (ix2 T l) =
          dxTok (argX m c) (argXs m c) (m ((c : Thread nD τ).loc main_arg3)) (argYs m c) (argH m c) (argHs m c) (argIds m c) (argM m c) T l) := by
  have hx := fun c => (hf c).x
  have hh := fun c => (hf c).h
  have hs := fun c => (hf c).xs
  have hd := fun c => (hf c).hs
  choose x hx using hx
  choose h hh using hh
  choose s hs using hs
  choose d hd using hd
  choose M hM using hM
  have hr : ∀ c, Reals m (fun c s l => M c (ix2 s l)) (fun c t ρ l => x c (ix2 (tokIn t ρ) l)) (fun c t ρ l => h c (ix2 (tokIn t ρ) l))
      (fun c t ρ => s c (ix1 (tokIn t ρ))) (fun c t ρ => d c (ix1 (tokIn t ρ))) c := fun c =>
    ⟨fun t s l => by rw [blk_5, V_main_arg8]; exact hM c _,
     fun t ρ l => by rw [Value.blk_6, Value.V_v0]; exact hx c _,
     fun t ρ l => by rw [Value.blk_9, Value.V_v1]; exact hh c _,
     fun t ρ => by unfold lanePos; rw [Value.blk_2, Value.V_v3, tok_lane]; exact hs c _,
     fun t ρ => by unfold lanePos; rw [Value.blk_4, Value.V_v5, tok_lane]; exact hd c _⟩
  refine (θ_run defs _ _).mono (fun r hp c T l he ho => ?_) (run_dx m ρ _ _ _ _ _ hm hr)
  have e1 : tok (rowIn (stepOf T) 0) 0 = near 1024 0 (by decide) (by decide) T :=
    Fin.ext (show (8 * (T.val / 1024) + 0) * 128 + 0 = T.val / 1024 * 1024 + 0 by omega)
  have e2 : tok (rowIn (stepOf T) 7) 127 = near 1024 1023 (by decide) (by decide) T :=
    Fin.ext (show (8 * (T.val / 1024) + 7) * 128 + 127 = T.val / 1024 * 1024 + 1023 by omega)
  refine (hp c T l (by rw [ids_at, ids_at, e1, e2]; exact he)).trans ?_
  have hq : (inStep T).val / 256 < 4 := by have := (inStep T).isLt; omega
  have e3 : iblk m c 0 (stepOf T) (ix2 ⟨2 * ((inStep T).val / 256), by omega⟩ 0) = argIds m c (ix1 T) := by
    rw [ids_at, ho]
    refine congrArg _ (congrArg ix1 (Fin.ext ?_))
    show (8 * (T.val / 1024) + 2 * (T.val % 1024 / 256)) * 128 + 0 = T.val / 256 * 256 + 0
    omega
  have hi : (argIds m c (ix1 T)).toNat < 5 := hm c _
  have e4 : sidOf (iblk m c 0 (stepOf T)) (ids_lt m c (hm c) (stepOf T)) ((inStep T).val / 256) hq = ⟨(argIds m c (ix1 T)).toNat, hi⟩ :=
    by
    unfold sidOf
    exact Fin.ext (congrArg (fun v : BitVec 32 => v.toNat) e3)
  unfold dxVal dxTok rowW
  rw [e4]
  beta_reduce
  rw [tokIn_step]
  simp only [hx, hh, hs, hd, modOf_at _ _ hi, hM]
  rw [← normDx_coe]
  have e5 : iblk m c 3 (stepOf T) (lanePos (inStep T)) = argYs m c (ix1 T) := by
    unfold lanePos; rw [Value.blk_3, Value.V_v4, tok_lane, tokIn_step]
  have e6 : iblk m c 8 (stepOf T) (ix2 (inStep T) l) = m ((c : Thread nD τ).loc main_arg3) (ix2 T l) := by
    rw [Value.blk_8, V_main_arg3, tokIn_step]
  rw [e5, e6, mul_comm (argYs m c _)]
  simp only [EReal.coe_add, EReal.coe_one]

end Cert.Proof.KernelIdeal.Dx

end
-- ==== Proof.ReferenceIdealDx.lean ====
/-
  The reference's first result, element by element: each token's row of the input gradient.
-/
module

public import proofs.«01_k».proof.Proof.ReferenceIdealValue
public import proofs.«01_k».proof.Proof.TokenDx

@[expose] public section

noncomputable section

namespace Cert.Proof.ReferenceIdeal.Dx

open Cert.ReferenceIdeal Cert.ReferenceIdeal.Gen
open Cert.Proof.Tokens Cert.Proof.ReferenceIdeal.Value
open Idealize.ShloMosaic Idealize.ShloMosaic.TcCoe Idealize.ShloMosaic.Tactic
open Idealize.SL Idealize.SL.Sem
open Idealize.ShloMosaic.Pipeline (Dat Cfg Window)
open scoped BigOperators

/-- A column of words read as one word for every token. -/
def idsOf (v : IVec S163840x1 32) : IVec Col 32 := fun i => v (ix2 (i 0 : Fin 163840) (0 : Fin 1))

/-- A choice by whether two words are equal. -/
theorem select_eq (a b : BitVec 32) (p q : EReal) : Scalar.select (IntOp.cmpi .eq a b) p q = if a = b then p else q := by
  unfold Scalar.select
  by_cases h : a = b
  · simp [IntOp.cmpi, h]
  · have e : (a == b) = false := beq_eq_false_iff_ne.mpr h
    simp [IntOp.cmpi, h, e]

theorem store_at (v12 v19 : FVec Ideal S163840x1152 .f32) (v21 : IVec S163840x1 32) (v35 : FVec Ideal S163840x1 .f32) (v37 : FVec Ideal S163840x1152 .f32)
    (M : Vec Ideal S5x1152 .f32) (t : Fin 163840) (l : Fin 1152) :
    k0_pay34 (F := Ideal) v12 v19 v21 v35 v37 M (k0_pay31 (F := Ideal) M) (k0_pay32 v21) (k0_pay33 (F := Ideal) M) (ix2 t l)
      = v12 (ix2 t l) + normDx (v35 (ix2 t 0)) (fun l => v37 (ix2 t l))
        (fun l => v19 (ix2 t l) * ((1 : EReal) + modOf M (v21 (ix2 t 0)) l)) l := by
  unfold normDx modOf
  pointwise [k0_pay34, k0_pay33, k0_pay32, k0_pay31]
  simp only [select_eq]

section Payloads

variable (x : Vec Ideal S163840x1152 .fp8e4m3) (s : Vec Ideal S163840x1 .f32)
  (y : Vec Ideal S163840x1152 .fp8e5m2) (ys : Vec Ideal S163840x1 .f32)

theorem dev_at (t : Fin 163840) : k0_pay5 (F := Ideal) x s (ix2 t 0) = rowDev (fun l => x (ix2 t l)) (s (ix2 t 0)) := by
  pointwise [k0_pay5, k0_pay4]
  rfl
theorem hat_at (t : Fin 163840) (l : Fin 1152) : k0_pay6 (F := Ideal) x s (ix2 t l) = rowHat (fun l => x (ix2 t l)) (s (ix2 t 0)) l := by
  pointwise [k0_pay6, k0_pay5, k0_pay4]
  rfl
theorem outer_at (t : Fin 163840) (l : Fin 1152) : k0_pay1 (F := Ideal) y ys (ix2 t l) = y (ix2 t l) * ys (ix2 t 0) := by
  pointwise [k0_pay1]
theorem ids_at (v : Vec Ideal S163840x1 .i32) (t : Fin 163840) : k0_pay3 (F := Ideal) v (ix2 t 0) = v (ix2 t 0) := by
  pointwise [k0_pay3]

end Payloads

theorem ld_mod {e : EltTy} (X : Vec Ideal S5x1152 e) : View.ld X r0_20 = X := View.ld_unit_lit _ X (by decide)

/-- One store of the whole array leaves what it stores. -/
theorem canon_at (p : Vec Ideal S163840x1152 .bf16) (t : Fin 163840) (l : Fin 1152) :
    View.canon (Val := Elt Ideal) [⟨r0_0, p⟩] (ix2 t l) = p (ix2 t l) := by
  refine View.canon_append_of_pieces p [] [⟨r0_0, p⟩] ?_ _ (cover0_9 (F := Ideal) p _)
  intro q hq
  simp only [List.mem_cons, List.not_mem_nil, or_false] at hq
  subst hq
  intro z
  refine congrArg p ?_
  idx_vars z
  funext a
  fin_cases a
  · exact Fin.ext (show z0.val = 0 + 1 * z0.val by omega)
  · exact Fin.ext (show z1.val = 0 + 1 * z1.val by omega)

/-- What the kernel writes to its first output. -/
theorem out_at (x0 : Vec Ideal S163840x1152 .fp8e4m3) (x1 : Vec Ideal S163840x1 .f32) (x2 : Vec Ideal S163840x1152 .bf16)
    (x3 : Vec Ideal S163840x1152 .fp8e5m2) (x4 : Vec Ideal S163840x1 .f32) (x5 : Vec Ideal S163840x1152 .fp8e5m2) (x6 : Vec Ideal S163840x1 .f32)
    (x7 : Vec Ideal S163840x1 .i32) (x8 : Vec Ideal S5x1152 .f32) (t : Fin 163840) (l : Fin 1152) :
    out0_9 (F := Ideal) x0 x1 x2 x3 x4 x5 x6 x7 x8 (ix2 t l) = dxTok x0 (ofCol x1) x3 (ofCol x4) x5 (ofCol x6) (idsOf x7) x8 t l := by
  unfold_out out0_9
  simp only [ld_rows, ld_col, ld_mod]
  refine (canon_at _ t l).trans ((store_at _ _ _ _ _ _ t l).trans ?_)
  simp only [dev_at, hat_at, outer_at, ids_at, shift_at]
  rfl

variable (m : (ℓ : Loc nD τ sig) → Buf (Elt Ideal) ℓ)

theorem ids_col (v : IVec Col 32) (h : Col.ShapeCasts S163840x1) (t : Fin 163840) :
    shapeCast S163840x1 v h (ix2 t 0) = v (ix1 t) := by
  pointwise

theorem V_v5 (c : Dev nD) (t : Fin 163840) :
    V m c main_v5 (ix2 t 0) = m ((c : Thread nD τ).loc main_arg7) (ix1 t) := by
  dsimp only [V, hostOps0]
  simp only [StableHlo.after_cons, StableHlo.after_nil]
  rw [StableHlo.reshape_result]
  repeat rw [StableHlo.reshape_result_ne _ _ _ _ _ _ _ (by decide)]
  repeat rw [StableHlo.unary_result_ne _ _ _ _ _ _ (by decide)]
  exact ids_col _ _ t

theorem index_7 : ∀ t : Fin cfg0.N, win0_7.index t = ![0, 0] := (by decide +kernel : ∀ t : Fin grid0.N, _)
theorem blk_7 (c : Dev nD) (u : Fin cfg0.N) : iblk m c 7 u = V m c main_v5 := by
  funext j
  idx_vars j
  blk_simp [iblk]
  blk_ext [index_7]
theorem index_8 : ∀ t : Fin cfg0.N, win0_8.index t = ![0, 0] := (by decide +kernel : ∀ t : Fin grid0.N, _)
theorem blk_8 (c : Dev nD) (u : Fin cfg0.N) : iblk m c 8 u = V m c main_arg8 := by
  funext j
  idx_vars j
  blk_simp [iblk]
  blk_ext [index_8]

/-- The first result as launched arguments have it. -/
def result (c : Dev nD) (j : S163840x1152.Idx) : EReal :=
  dxTok (bitcastToFloat .fp8e4m3 (m ((c : Thread nD τ).loc main_arg0))) (m ((c : Thread nD τ).loc main_arg1))
    (m ((c : Thread nD τ).loc main_arg3)) (m ((c : Thread nD τ).loc main_arg4)) (bitcastToFloat .fp8e5m2 (m ((c : Thread nD τ).loc main_arg5)))
    (m ((c : Thread nD τ).loc main_arg6)) (m ((c : Thread nD τ).loc main_arg7)) (m ((c : Thread nD τ).loc main_arg8)) (j 0) (j 1)

theorem idsOf_eq {v : IVec S163840x1 32} {w : IVec Col 32} (h : ∀ t, v (ix2 t 0) = w (ix1 t)) : idsOf v = w := by
  funext i
  idx_vars i
  exact h i0

theorem after_9 (c : Dev nD) (u : Fin cfg0.N) (j : S163840x1152.Idx) : (dats m 0 c).after 9 u j = result m c j := by
  idx_vars j
  rw [after0_9, blk_0, blk_1, blk_2, blk_3, blk_4, blk_5, blk_6, blk_7, blk_8, out_at, V_v0, V_v1, ofCol_eq (V_v2 m c), ofCol_eq (V_v3 m c),
    ofCol_eq (V_v4 m c), idsOf_eq (V_v5 m c), V_main_arg3, V_main_arg8]
  rfl

theorem index_9 : ∀ t : Fin cfg0.N, win0_9.index t = ![0, 0] := (by decide +kernel : ∀ t : Fin grid0.N, _)

theorem arr_9 (c : Dev nD) : (dats m 0 c).arrAt 9 cfg0.N = result m c := by
  refine (dats m 0 c).arrAt_eq_of_covers 9 _ (by decide +kernel) fun t _ y => ?_
  refine (after_9 m c t _).trans (congrArg (result m c) ?_)
  funext a
  fin_cases a <;> exact Fin.ext (by blk_simp [index_9])

/-- The run leaves its first result array at `result`. -/
theorem run_result (ρ : Dev nD → PrngReg) : θ_run defs (onTc (τ := τ) (main (F := Ideal))) ⟨m, fun _ => 0, ρ⟩
    (fun r => ∀ c : Dev nD, r.2.mem ((c.tc : Thread nD τ).loc main_v6_0) = result m c) :=
  (θ_run defs _ _).mono (fun _ h c => ((h c).1 9).trans (arr_9 m c)) (run_main m ρ)

end Cert.Proof.ReferenceIdeal.Dx

end
-- ==== Proof.lean ====
/-
  The claims, each from the module that proves it: the kernel's runs under `Run`, the reference's from its generated
  frame, the two named constants against their words, and the values of the third result and of the first, at the rows named,
  from the two programs' `result`s.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.Gen.Pre_finite_rows
public import proofs.«01_k».proof.Proof.Gen.On_block_sums
public import proofs.«01_k».proof.Proof.Gen.Pre_finite_rows_and_scales
public import proofs.«01_k».proof.Proof.Gen.On_one_sample_rows
public import proofs.«01_k».proof.Proof.Pre
public import proofs.«01_k».proof.Proof.PreFinite
public import proofs.«01_k».proof.Proof.PreDx
public import proofs.«01_k».proof.Proof.KernelRun
public import proofs.«01_k».proof.Proof.KernelIdealRun
public import proofs.«01_k».proof.Proof.KernelIdealResult
public import proofs.«01_k».proof.Proof.ReferenceIdealValue
public import proofs.«01_k».proof.Proof.KernelIdealDxResult
public import proofs.«01_k».proof.Proof.ReferenceIdealDx
public import Idealize.ShloMosaic.Adequacy
public import Idealize.ShloMosaic.Init

@[expose] public section

noncomputable section

namespace Cert.Proof

open Idealize.ShloMosaic Idealize.ShloMosaic.Tactic Idealize.SL.Sem

/-- The kernel's two named constants: each has the real the certificate's table gives it, printed as the word the kernel had. -/
theorem preserves : Cert.preserves_Kernel_KernelIdeal :=
  ⟨IdealRules.named_const.statement Cert.KernelIdeal.κ "inv_nn" .f32 0x354A4588#32 ((1 / 1327104 : ℝ) : EReal) rfl,
    IdealRules.named_const.statement Cert.KernelIdeal.κ "inv_n" .f32 0x3A638E39#32 ((1 / 1152 : ℝ) : EReal) rfl⟩

/-- Under `finite_rows` the kernel's arguments hold what the value needs. -/
theorem finite {m} (h : Cert.Pre_KernelIdeal_finite_rows (hPre_finite_rows := Cert.Pre_finite_rows.Gen.facts) m) (c : Dev Cert.KernelIdeal.nD) :
    KernelIdeal.Value.Finite m c := by
  obtain ⟨h0, h5, h1, h6⟩ := Pre.real_of_finite_rows (h c)
  exact ⟨h0, h5, h1, h6⟩

/-- Equal arguments have equal sums. -/
theorem result_eq {m m'} (hf : ∀ c, KernelIdeal.Value.Finite m c)
    (h : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (c : Dev Cert.KernelIdeal.nD) : (ReferenceIdeal.Value.result m' c : Shape.Idx _ → EReal) = KernelIdeal.Value.result m c := by
  funext j
  obtain ⟨e0, e1, e2, e3, e4, e5, e6⟩ := h c
  refine Eq.trans ?_ (KernelIdeal.Value.result_eq (hf c) j).symm
  unfold ReferenceIdeal.Value.result
  rw [e0, e1, e2, e3, e4, e5, e6]

/-- On the block sums the kernel's third result is the reference's, whatever the rounding would have done. -/
theorem algebraic : Cert.algebraic_KernelIdeal_ReferenceIdeal_on_block_sums_pre_finite_rows (hKernelIdeal := Cert.KernelIdeal.Gen.facts)
    (hReferenceIdeal := Cert.ReferenceIdeal.Gen.facts) (hPre_finite_rows := Cert.Pre_finite_rows.Gen.facts)
    (hOn_block_sums := Cert.On_block_sums.Gen.facts) := by
  intro m g m' g' hp ha
  have hids := fun c i => (Pre.finite_rows_at (hp c)).1 i
  have hf := finite hp
  have e := result_eq hf fun c => ⟨(ha c).1, (ha c).2.1, (ha c).2.2.1, (ha c).2.2.2.1, (ha c).2.2.2.2.1, (ha c).2.2.2.2.2.1, (ha c).2.2.2.2.2.2.1⟩
  have no : ¬(0#1 = 1#1) := by decide
  have hk := θ_run_and (KernelIdeal.frame m g hids) (KernelIdeal.Value.run_result g hids hf)
  have hr := θ_run_and (Cert.ReferenceIdeal.Gen.frame m' g') (ReferenceIdeal.Value.run_result m' g')
  exact ⟨fun _ _ => (0 : EReal), fun _ _ => (0 : EReal), fun c => KernelIdeal.Value.result m c,
    (θ_run _ _ _).mono (fun r h c => ⟨fun i hi => absurd hi no, fun i hi => absurd hi no, fun i _ => congrFun (h.2 c) i, h.1.1 c⟩) hk,
    (θ_run _ _ _).mono (fun r h c => ⟨fun i hi => absurd hi no, fun i hi => absurd hi no, fun i _ => congrFun ((h.2 c).trans (e c)) i, h.1.1 c⟩) hr⟩

/-- At the rows `one_sample_rows` names, the kernel's first result is the reference's. -/
theorem algebraic_dx : Cert.algebraic_KernelIdeal_ReferenceIdeal_on_one_sample_rows_pre_finite_rows_and_scales (hKernelIdeal := Cert.KernelIdeal.Gen.facts)
    (hReferenceIdeal := Cert.ReferenceIdeal.Gen.facts) (hPre_finite_rows_and_scales := Cert.Pre_finite_rows_and_scales.Gen.facts)
    (hOn_one_sample_rows := Cert.On_one_sample_rows.Gen.facts) := by
  intro m g m' g' hp ha
  have hids := fun c i => (Pre.finite_scales_at (hp c)).1 i
  have hf : ∀ c, KernelIdeal.Value.Finite m c := fun c =>
    have h := Pre.real_of_finite_scales (hp c)
    ⟨h.1, h.2.1, h.2.2.1, h.2.2.2.1⟩
  have hM : ∀ c i, ∃ r : ℝ, KernelIdeal.Dx.argM m c i = (r : EReal) := fun c i => (Pre.real_of_finite_scales (hp c)).2.2.2.2 i
  have no : ¬(0#1 = 1#1) := by decide
  have hk := θ_run_and (KernelIdeal.frame m g hids) (KernelIdeal.Dx.run_result m g hids hf hM)
  have hr := θ_run_and (Cert.ReferenceIdeal.Gen.frame m' g') (ReferenceIdeal.Dx.run_result m' g')
  have e : ∀ c : Dev Cert.KernelIdeal.nD, (ReferenceIdeal.Dx.result m' c : Shape.Idx _ → EReal) = fun i => Tokens.dxTok (KernelIdeal.Value.argX m c) (KernelIdeal.Value.argXs m c)
      (m ((c.tc : Thread Cert.KernelIdeal.nD Cert.KernelIdeal.τ).loc Cert.KernelIdeal.main_arg3)) (KernelIdeal.Value.argYs m c)
      (KernelIdeal.Value.argH m c) (KernelIdeal.Value.argHs m c) (KernelIdeal.Dx.argIds m c) (KernelIdeal.Dx.argM m c) (i 0) (i 1) := fun c => by
    obtain ⟨e0, e1, _, e3, e4, e5, e6, e7, e8⟩ := ha c
    funext j
    unfold ReferenceIdeal.Dx.result
    rw [e0, e1, e3, e4, e5, e6, e7, e8]
  exact ⟨fun c => (ReferenceIdeal.Dx.result m' c : Shape.Idx _ → EReal), fun _ _ => (0 : EReal), fun _ _ => (0 : EReal),
    (θ_run _ _ _).mono (fun r h c => ⟨fun i hi => by
      have hs := Pre.one_sample_at hi
      refine Eq.trans ?_ (congrFun (e c) i).symm
      idx_vars i
      exact h.2 c i0 i1 hs.1 hs.2, fun i hi => absurd hi no, fun i hi => absurd hi no, h.1.1 c⟩) hk,
    (θ_run _ _ _).mono (fun r h c => ⟨fun i _ => congrFun (h.2 c) i, fun i hi => absurd hi no, fun i hi => absurd hi no, h.1.1 c⟩) hr⟩

theorem claim : Cert.Claim := ⟨Cert.Kernel.Gen.facts, Cert.KernelIdeal.Gen.facts, Cert.ReferenceIdeal.Gen.facts, Cert.Pre_in_range.Gen.facts,
  Cert.Pre_finite_rows.Gen.facts, Cert.Pre_finite_rows_and_scales.Gen.facts, Cert.On_block_sums.Gen.facts, Cert.On_one_sample_rows.Gen.facts,
  fun m ρ h => Kernel.frame m ρ fun c i => Pre.ids_of_in_range _ _ _ _ _ _ _ _ _ (h c) i,
  fun m ρ h => KernelIdeal.frame m ρ fun c i => Pre.ids_of_in_range _ _ _ _ _ _ _ _ _ (h c) i,
  fun m ρ h => KernelIdeal.frame m ρ fun c i => (Pre.finite_rows_at (h c)).1 i,
  fun m ρ h => KernelIdeal.frame m ρ fun c i => (Pre.finite_scales_at (h c)).1 i,
  fun m ρ _ => Cert.ReferenceIdeal.Gen.frame m ρ,
  fun m ρ _ => Cert.ReferenceIdeal.Gen.frame m ρ,
  fun m ρ _ => Cert.ReferenceIdeal.Gen.frame m ρ,
  preserves, algebraic, algebraic_dx⟩

end Cert.Proof

end
